-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15)
      ∧ r.2.mem ((c.tc : Thread Cert.Kernel21.nD Cert.Kernel21.τ).loc Cert.Kernel21.main_arg16) = m ((c.tc : Thread Cert.Kernel21.nD Cert.Kernel21.τ).loc Cert.Kernel21.main_arg16)
      ∧ r.2.mem ((c.tc : Thread Cert.Kernel21.nD Cert.Kernel21.τ).loc Cert.Kernel21.main_arg17) = m ((c.tc : Thread Cert.Kernel21.nD Cert.Kernel21.τ).loc Cert.Kernel21.main_arg17)
      ∧ r.2.mem ((c.tc : Thread Cert.Kernel21.nD Cert.Kernel21.τ).loc Cert.Kernel21.main_arg18) = m ((c.tc : Thread Cert.Kernel21.nD Cert.Kernel21.τ).loc Cert.Kernel21.main_arg18)
      ∧ r.2.mem ((c.tc : Thread Cert.Kernel21.nD Cert.Kernel21.τ).loc Cert.Kernel21.main_arg19) = m ((c.tc : Thread Cert.Kernel21.nD Cert.Kernel21.τ).loc Cert.Kernel21.main_arg19)
      ∧ r.2.mem ((c.tc : Thread Cert.Kernel21.nD Cert.Kernel21.τ).loc Cert.Kernel21.main_arg20) = m ((c.tc : Thread Cert.Kernel21.nD Cert.Kernel21.τ).loc Cert.Kernel21.main_arg20)
      ∧ r.2.mem ((c.tc : Thread Cert.Kernel21.nD Cert.Kernel21.τ).loc Cert.Kernel21.main_arg21) = m ((c.tc : Thread Cert.Kernel21.nD Cert.Kernel21.τ).loc Cert.Kernel21.main_arg21)
      ∧ r.2.mem ((c.tc : Thread Cert.Kernel21.nD Cert.Kernel21.τ).loc Cert.Kernel21.main_arg22) = m ((c.tc : Thread Cert.Kernel21.nD Cert.Kernel21.τ).loc Cert.Kernel21.main_arg22))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
      ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
      ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
      ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
      ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
      ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
      ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
      ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15)
      ∧ r.2.mem ((c.tc : Thread Cert.Reference21Ideal.nD Cert.Reference21Ideal.τ).loc Cert.Reference21Ideal.main_arg16) = m ((c.tc : Thread Cert.Reference21Ideal.nD Cert.Reference21Ideal.τ).loc Cert.Reference21Ideal.main_arg16)
      ∧ r.2.mem ((c.tc : Thread Cert.Reference21Ideal.nD Cert.Reference21Ideal.τ).loc Cert.Reference21Ideal.main_arg17) = m ((c.tc : Thread Cert.Reference21Ideal.nD Cert.Reference21Ideal.τ).loc Cert.Reference21Ideal.main_arg17)
      ∧ r.2.mem ((c.tc : Thread Cert.Reference21Ideal.nD Cert.Reference21Ideal.τ).loc Cert.Reference21Ideal.main_arg18) = m ((c.tc : Thread Cert.Reference21Ideal.nD Cert.Reference21Ideal.τ).loc Cert.Reference21Ideal.main_arg18)
      ∧ r.2.mem ((c.tc : Thread Cert.Reference21Ideal.nD Cert.Reference21Ideal.τ).loc Cert.Reference21Ideal.main_arg19) = m ((c.tc : Thread Cert.Reference21Ideal.nD Cert.Reference21Ideal.τ).loc Cert.Reference21Ideal.main_arg19)
      ∧ r.2.mem ((c.tc : Thread Cert.Reference21Ideal.nD Cert.Reference21Ideal.τ).loc Cert.Reference21Ideal.main_arg20) = m ((c.tc : Thread Cert.Reference21Ideal.nD Cert.Reference21Ideal.τ).loc Cert.Reference21Ideal.main_arg20)
      ∧ r.2.mem ((c.tc : Thread Cert.Reference21Ideal.nD Cert.Reference21Ideal.τ).loc Cert.Reference21Ideal.main_arg21) = m ((c.tc : Thread Cert.Reference21Ideal.nD Cert.Reference21Ideal.τ).loc Cert.Reference21Ideal.main_arg21)
      ∧ r.2.mem ((c.tc : Thread Cert.Reference21Ideal.nD Cert.Reference21Ideal.τ).loc Cert.Reference21Ideal.main_arg22) = m ((c.tc : Thread Cert.Reference21Ideal.nD Cert.Reference21Ideal.τ).loc Cert.Reference21Ideal.main_arg22))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v36) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4)) (v1 : (c : Dev Cert.Kernel14Ideal.nD) → Buf (Elt Ideal) ((c.tc : Thread Cert.Kernel14Ideal.nD Cert.Kernel14Ideal.τ).loc Cert.Kernel14Ideal.main_v5)) (v2 : (c : Dev Cert.Kernel14Ideal.nD) → Buf (Elt Ideal) ((c.tc : Thread Cert.Kernel14Ideal.nD Cert.Kernel14Ideal.τ).loc Cert.Kernel14Ideal.main_v6)) (v3 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_v5) = v1 c
          ∧ r.2.mem ((c.tc : Thread Cert.Kernel14Ideal.nD Cert.Kernel14Ideal.τ).loc Cert.Kernel14Ideal.main_v6) = v2 c
          ∧ r.2.mem ((c.tc : Thread Cert.Kernel14Ideal.nD Cert.Kernel14Ideal.τ).loc Cert.Kernel14Ideal.main_v7) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v5)) (v2 : (c : Dev Cert.Kernel16Ideal.nD) → Buf (Elt Ideal) ((c.tc : Thread Cert.Kernel16Ideal.nD Cert.Kernel16Ideal.τ).loc Cert.Kernel16Ideal.main_v6)) (v3 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_v6) = v2 c
          ∧ r.2.mem ((c.tc : Thread Cert.Kernel16Ideal.nD Cert.Kernel16Ideal.τ).loc Cert.Kernel16Ideal.main_v7) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v95) = v0 c
          ∧ r.2.mem ((c.tc : Thread Cert.Reference10Ideal.nD Cert.Reference10Ideal.τ).loc Cert.Reference10Ideal.main_v96) = v1 c
          ∧ r.2.mem ((c.tc : Thread Cert.Reference10Ideal.nD Cert.Reference10Ideal.τ).loc Cert.Reference10Ideal.main_v94) = v2 c
          ∧ r.2.mem ((c.tc : Thread Cert.Reference10Ideal.nD Cert.Reference10Ideal.τ).loc Cert.Reference10Ideal.main_v98) = v3 c
          ∧ r.2.mem ((c.tc : Thread Cert.Reference10Ideal.nD Cert.Reference10Ideal.τ).loc Cert.Reference10Ideal.main_v78) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)) (v2 : (c : Dev Cert.Kernel19Ideal.nD) → Buf (Elt Ideal) ((c.tc : Thread Cert.Kernel19Ideal.nD Cert.Kernel19Ideal.τ).loc Cert.Kernel19Ideal.main_v8_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_v8_3) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v38) = v0 c
          ∧ r.2.mem ((c.tc : Thread Cert.Reference19Ideal.nD Cert.Reference19Ideal.τ).loc Cert.Reference19Ideal.main_v39) = v1 c
          ∧ r.2.mem ((c.tc : Thread Cert.Reference19Ideal.nD Cert.Reference19Ideal.τ).loc Cert.Reference19Ideal.main_v41) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)) (v1 : (c : Dev Cert.Kernel20Ideal.nD) → Buf (Elt Ideal) ((c.tc : Thread Cert.Kernel20Ideal.nD Cert.Kernel20Ideal.τ).loc Cert.Kernel20Ideal.main_v0)) (v2 : (c : Dev Cert.Kernel20Ideal.nD) → Buf (Elt Ideal) ((c.tc : Thread Cert.Kernel20Ideal.nD Cert.Kernel20Ideal.τ).loc Cert.Kernel20Ideal.main_v9)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_v0) = v1 c
          ∧ r.2.mem ((c.tc : Thread Cert.Kernel20Ideal.nD Cert.Kernel20Ideal.τ).loc Cert.Kernel20Ideal.main_v9) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v0) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)
      ∧ m' ((c.tc : Thread Cert.Reference21Ideal.nD Cert.Reference21Ideal.τ).loc Cert.Reference21Ideal.main_arg16) = m ((c.tc : Thread Cert.Kernel21Ideal.nD Cert.Kernel21Ideal.τ).loc Cert.Kernel21Ideal.main_arg16)
      ∧ m' ((c.tc : Thread Cert.Reference21Ideal.nD Cert.Reference21Ideal.τ).loc Cert.Reference21Ideal.main_arg17) = m ((c.tc : Thread Cert.Kernel21Ideal.nD Cert.Kernel21Ideal.τ).loc Cert.Kernel21Ideal.main_arg17)
      ∧ m' ((c.tc : Thread Cert.Reference21Ideal.nD Cert.Reference21Ideal.τ).loc Cert.Reference21Ideal.main_arg18) = m ((c.tc : Thread Cert.Kernel21Ideal.nD Cert.Kernel21Ideal.τ).loc Cert.Kernel21Ideal.main_arg18)
      ∧ m' ((c.tc : Thread Cert.Reference21Ideal.nD Cert.Reference21Ideal.τ).loc Cert.Reference21Ideal.main_arg19) = m ((c.tc : Thread Cert.Kernel21Ideal.nD Cert.Kernel21Ideal.τ).loc Cert.Kernel21Ideal.main_arg19)
      ∧ m' ((c.tc : Thread Cert.Reference21Ideal.nD Cert.Reference21Ideal.τ).loc Cert.Reference21Ideal.main_arg20) = m ((c.tc : Thread Cert.Kernel21Ideal.nD Cert.Kernel21Ideal.τ).loc Cert.Kernel21Ideal.main_arg20)
      ∧ m' ((c.tc : Thread Cert.Reference21Ideal.nD Cert.Reference21Ideal.τ).loc Cert.Reference21Ideal.main_arg21) = m ((c.tc : Thread Cert.Kernel21Ideal.nD Cert.Kernel21Ideal.τ).loc Cert.Kernel21Ideal.main_arg21)
      ∧ m' ((c.tc : Thread Cert.Reference21Ideal.nD Cert.Reference21Ideal.τ).loc Cert.Reference21Ideal.main_arg22) = m ((c.tc : Thread Cert.Kernel21Ideal.nD Cert.Kernel21Ideal.τ).loc Cert.Kernel21Ideal.main_arg22)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)) (v8 : (c : Dev Cert.Kernel21Ideal.nD) → Buf (Elt Ideal) ((c.tc : Thread Cert.Kernel21Ideal.nD Cert.Kernel21Ideal.τ).loc Cert.Kernel21Ideal.main_v0_8)) (v9 : (c : Dev Cert.Kernel21Ideal.nD) → Buf (Elt Ideal) ((c.tc : Thread Cert.Kernel21Ideal.nD Cert.Kernel21Ideal.τ).loc Cert.Kernel21Ideal.main_v0_9)) (v10 : (c : Dev Cert.Kernel21Ideal.nD) → Buf (Elt Ideal) ((c.tc : Thread Cert.Kernel21Ideal.nD Cert.Kernel21Ideal.τ).loc Cert.Kernel21Ideal.main_v0_10)) (v11 : (c : Dev Cert.Kernel21Ideal.nD) → Buf (Elt Ideal) ((c.tc : Thread Cert.Kernel21Ideal.nD Cert.Kernel21Ideal.τ).loc Cert.Kernel21Ideal.main_v0_11)) (v12 : (c : Dev Cert.Kernel21Ideal.nD) → Buf (Elt Ideal) ((c.tc : Thread Cert.Kernel21Ideal.nD Cert.Kernel21Ideal.τ).loc Cert.Kernel21Ideal.main_v0_12)) (v13 : (c : Dev Cert.Kernel21Ideal.nD) → Buf (Elt Ideal) ((c.tc : Thread Cert.Kernel21Ideal.nD Cert.Kernel21Ideal.τ).loc Cert.Kernel21Ideal.main_v0_13)) (v14 : (c : Dev Cert.Kernel21Ideal.nD) → Buf (Elt Ideal) ((c.tc : Thread Cert.Kernel21Ideal.nD Cert.Kernel21Ideal.τ).loc Cert.Kernel21Ideal.main_v0_14)) (v15 : (c : Dev Cert.Kernel21Ideal.nD) → Buf (Elt Ideal) ((c.tc : Thread Cert.Kernel21Ideal.nD Cert.Kernel21Ideal.τ).loc Cert.Kernel21Ideal.main_v0_15)) (v16 : (c : Dev Cert.Kernel21Ideal.nD) → Buf (Elt Ideal) ((c.tc : Thread Cert.Kernel21Ideal.nD Cert.Kernel21Ideal.τ).loc Cert.Kernel21Ideal.main_v0_16)) (v17 : (c : Dev Cert.Kernel21Ideal.nD) → Buf (Elt Ideal) ((c.tc : Thread Cert.Kernel21Ideal.nD Cert.Kernel21Ideal.τ).loc Cert.Kernel21Ideal.main_v0_17)) (v18 : (c : Dev Cert.Kernel21Ideal.nD) → Buf (Elt Ideal) ((c.tc : Thread Cert.Kernel21Ideal.nD Cert.Kernel21Ideal.τ).loc Cert.Kernel21Ideal.main_v0_18)) (v19 : (c : Dev Cert.Kernel21Ideal.nD) → Buf (Elt Ideal) ((c.tc : Thread Cert.Kernel21Ideal.nD Cert.Kernel21Ideal.τ).loc Cert.Kernel21Ideal.main_v0_19)) (v20 : (c : Dev Cert.Kernel21Ideal.nD) → Buf (Elt Ideal) ((c.tc : Thread Cert.Kernel21Ideal.nD Cert.Kernel21Ideal.τ).loc Cert.Kernel21Ideal.main_v0_20)) (v21 : (c : Dev Cert.Kernel21Ideal.nD) → Buf (Elt Ideal) ((c.tc : Thread Cert.Kernel21Ideal.nD Cert.Kernel21Ideal.τ).loc Cert.Kernel21Ideal.main_v0_21)) (v22 : (c : Dev Cert.Kernel21Ideal.nD) → Buf (Elt Ideal) ((c.tc : Thread Cert.Kernel21Ideal.nD Cert.Kernel21Ideal.τ).loc Cert.Kernel21Ideal.main_v0_22)) (v23 : (c : Dev Cert.Kernel21Ideal.nD) → Buf (Elt Ideal) ((c.tc : Thread Cert.Kernel21Ideal.nD Cert.Kernel21Ideal.τ).loc Cert.Kernel21Ideal.main_v0_23)) (v24 : (c : Dev Cert.Kernel21Ideal.nD) → Buf (Elt Ideal) ((c.tc : Thread Cert.Kernel21Ideal.nD Cert.Kernel21Ideal.τ).loc Cert.Kernel21Ideal.main_v0_24)) (v25 : (c : Dev Cert.Kernel21Ideal.nD) → Buf (Elt Ideal) ((c.tc : Thread Cert.Kernel21Ideal.nD Cert.Kernel21Ideal.τ).loc Cert.Kernel21Ideal.main_v0_25)) (v26 : (c : Dev Cert.Kernel21Ideal.nD) → Buf (Elt Ideal) ((c.tc : Thread Cert.Kernel21Ideal.nD Cert.Kernel21Ideal.τ).loc Cert.Kernel21Ideal.main_v0_26)) (v27 : (c : Dev Cert.Kernel21Ideal.nD) → Buf (Elt Ideal) ((c.tc : Thread Cert.Kernel21Ideal.nD Cert.Kernel21Ideal.τ).loc Cert.Kernel21Ideal.main_v0_27)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_v0_8) = v8 c
          ∧ r.2.mem ((c.tc : Thread Cert.Kernel21Ideal.nD Cert.Kernel21Ideal.τ).loc Cert.Kernel21Ideal.main_v0_9) = v9 c
          ∧ r.2.mem ((c.tc : Thread Cert.Kernel21Ideal.nD Cert.Kernel21Ideal.τ).loc Cert.Kernel21Ideal.main_v0_10) = v10 c
          ∧ r.2.mem ((c.tc : Thread Cert.Kernel21Ideal.nD Cert.Kernel21Ideal.τ).loc Cert.Kernel21Ideal.main_v0_11) = v11 c
          ∧ r.2.mem ((c.tc : Thread Cert.Kernel21Ideal.nD Cert.Kernel21Ideal.τ).loc Cert.Kernel21Ideal.main_v0_12) = v12 c
          ∧ r.2.mem ((c.tc : Thread Cert.Kernel21Ideal.nD Cert.Kernel21Ideal.τ).loc Cert.Kernel21Ideal.main_v0_13) = v13 c
          ∧ r.2.mem ((c.tc : Thread Cert.Kernel21Ideal.nD Cert.Kernel21Ideal.τ).loc Cert.Kernel21Ideal.main_v0_14) = v14 c
          ∧ r.2.mem ((c.tc : Thread Cert.Kernel21Ideal.nD Cert.Kernel21Ideal.τ).loc Cert.Kernel21Ideal.main_v0_15) = v15 c
          ∧ r.2.mem ((c.tc : Thread Cert.Kernel21Ideal.nD Cert.Kernel21Ideal.τ).loc Cert.Kernel21Ideal.main_v0_16) = v16 c
          ∧ r.2.mem ((c.tc : Thread Cert.Kernel21Ideal.nD Cert.Kernel21Ideal.τ).loc Cert.Kernel21Ideal.main_v0_17) = v17 c
          ∧ r.2.mem ((c.tc : Thread Cert.Kernel21Ideal.nD Cert.Kernel21Ideal.τ).loc Cert.Kernel21Ideal.main_v0_18) = v18 c
          ∧ r.2.mem ((c.tc : Thread Cert.Kernel21Ideal.nD Cert.Kernel21Ideal.τ).loc Cert.Kernel21Ideal.main_v0_19) = v19 c
          ∧ r.2.mem ((c.tc : Thread Cert.Kernel21Ideal.nD Cert.Kernel21Ideal.τ).loc Cert.Kernel21Ideal.main_v0_20) = v20 c
          ∧ r.2.mem ((c.tc : Thread Cert.Kernel21Ideal.nD Cert.Kernel21Ideal.τ).loc Cert.Kernel21Ideal.main_v0_21) = v21 c
          ∧ r.2.mem ((c.tc : Thread Cert.Kernel21Ideal.nD Cert.Kernel21Ideal.τ).loc Cert.Kernel21Ideal.main_v0_22) = v22 c
          ∧ r.2.mem ((c.tc : Thread Cert.Kernel21Ideal.nD Cert.Kernel21Ideal.τ).loc Cert.Kernel21Ideal.main_v0_23) = v23 c
          ∧ r.2.mem ((c.tc : Thread Cert.Kernel21Ideal.nD Cert.Kernel21Ideal.τ).loc Cert.Kernel21Ideal.main_v0_24) = v24 c
          ∧ r.2.mem ((c.tc : Thread Cert.Kernel21Ideal.nD Cert.Kernel21Ideal.τ).loc Cert.Kernel21Ideal.main_v0_25) = v25 c
          ∧ r.2.mem ((c.tc : Thread Cert.Kernel21Ideal.nD Cert.Kernel21Ideal.τ).loc Cert.Kernel21Ideal.main_v0_26) = v26 c
          ∧ r.2.mem ((c.tc : Thread Cert.Kernel21Ideal.nD Cert.Kernel21Ideal.τ).loc Cert.Kernel21Ideal.main_v0_27) = v27 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
          ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
          ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
          ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
          ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
          ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
          ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
          ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v2) = v1 c
          ∧ r.2.mem ((c.tc : Thread Cert.Reference21Ideal.nD Cert.Reference21Ideal.τ).loc Cert.Reference21Ideal.main_v3) = v2 c
          ∧ r.2.mem ((c.tc : Thread Cert.Reference21Ideal.nD Cert.Reference21Ideal.τ).loc Cert.Reference21Ideal.main_v4) = v3 c
          ∧ r.2.mem ((c.tc : Thread Cert.Reference21Ideal.nD Cert.Reference21Ideal.τ).loc Cert.Reference21Ideal.main_v5) = v4 c
          ∧ r.2.mem ((c.tc : Thread Cert.Reference21Ideal.nD Cert.Reference21Ideal.τ).loc Cert.Reference21Ideal.main_arg1) = v5 c
          ∧ r.2.mem ((c.tc : Thread Cert.Reference21Ideal.nD Cert.Reference21Ideal.τ).loc Cert.Reference21Ideal.main_v6) = v6 c
          ∧ r.2.mem ((c.tc : Thread Cert.Reference21Ideal.nD Cert.Reference21Ideal.τ).loc Cert.Reference21Ideal.main_v30) = v7 c
          ∧ r.2.mem ((c.tc : Thread Cert.Reference21Ideal.nD Cert.Reference21Ideal.τ).loc Cert.Reference21Ideal.main_v54) = v8 c
          ∧ r.2.mem ((c.tc : Thread Cert.Reference21Ideal.nD Cert.Reference21Ideal.τ).loc Cert.Reference21Ideal.main_v78) = v9 c
          ∧ r.2.mem ((c.tc : Thread Cert.Reference21Ideal.nD Cert.Reference21Ideal.τ).loc Cert.Reference21Ideal.main_v102) = v10 c
          ∧ r.2.mem ((c.tc : Thread Cert.Reference21Ideal.nD Cert.Reference21Ideal.τ).loc Cert.Reference21Ideal.main_v126) = v11 c
          ∧ r.2.mem ((c.tc : Thread Cert.Reference21Ideal.nD Cert.Reference21Ideal.τ).loc Cert.Reference21Ideal.main_v150) = v12 c
          ∧ r.2.mem ((c.tc : Thread Cert.Reference21Ideal.nD Cert.Reference21Ideal.τ).loc Cert.Reference21Ideal.main_v174) = v13 c
          ∧ r.2.mem ((c.tc : Thread Cert.Reference21Ideal.nD Cert.Reference21Ideal.τ).loc Cert.Reference21Ideal.main_v11) = v14 c
          ∧ r.2.mem ((c.tc : Thread Cert.Reference21Ideal.nD Cert.Reference21Ideal.τ).loc Cert.Reference21Ideal.main_v35) = v15 c
          ∧ r.2.mem ((c.tc : Thread Cert.Reference21Ideal.nD Cert.Reference21Ideal.τ).loc Cert.Reference21Ideal.main_v59) = v16 c
          ∧ r.2.mem ((c.tc : Thread Cert.Reference21Ideal.nD Cert.Reference21Ideal.τ).loc Cert.Reference21Ideal.main_v83) = v17 c
          ∧ r.2.mem ((c.tc : Thread Cert.Reference21Ideal.nD Cert.Reference21Ideal.τ).loc Cert.Reference21Ideal.main_v107) = v18 c
          ∧ r.2.mem ((c.tc : Thread Cert.Reference21Ideal.nD Cert.Reference21Ideal.τ).loc Cert.Reference21Ideal.main_v131) = v19 c
          ∧ r.2.mem ((c.tc : Thread Cert.Reference21Ideal.nD Cert.Reference21Ideal.τ).loc Cert.Reference21Ideal.main_v155) = v20 c
          ∧ r.2.mem ((c.tc : Thread Cert.Reference21Ideal.nD Cert.Reference21Ideal.τ).loc Cert.Reference21Ideal.main_v17) = v21 c
          ∧ r.2.mem ((c.tc : Thread Cert.Reference21Ideal.nD Cert.Reference21Ideal.τ).loc Cert.Reference21Ideal.main_v41) = v22 c
          ∧ r.2.mem ((c.tc : Thread Cert.Reference21Ideal.nD Cert.Reference21Ideal.τ).loc Cert.Reference21Ideal.main_v65) = v23 c
          ∧ r.2.mem ((c.tc : Thread Cert.Reference21Ideal.nD Cert.Reference21Ideal.τ).loc Cert.Reference21Ideal.main_v89) = v24 c
          ∧ r.2.mem ((c.tc : Thread Cert.Reference21Ideal.nD Cert.Reference21Ideal.τ).loc Cert.Reference21Ideal.main_v113) = v25 c
          ∧ r.2.mem ((c.tc : Thread Cert.Reference21Ideal.nD Cert.Reference21Ideal.τ).loc Cert.Reference21Ideal.main_v137) = v26 c
          ∧ r.2.mem ((c.tc : Thread Cert.Reference21Ideal.nD Cert.Reference21Ideal.τ).loc Cert.Reference21Ideal.main_v161) = v27 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15)
          ∧ r.2.mem ((c.tc : Thread Cert.Reference21Ideal.nD Cert.Reference21Ideal.τ).loc Cert.Reference21Ideal.main_arg16) = m' ((c.tc : Thread Cert.Reference21Ideal.nD Cert.Reference21Ideal.τ).loc Cert.Reference21Ideal.main_arg16)
          ∧ r.2.mem ((c.tc : Thread Cert.Reference21Ideal.nD Cert.Reference21Ideal.τ).loc Cert.Reference21Ideal.main_arg17) = m' ((c.tc : Thread Cert.Reference21Ideal.nD Cert.Reference21Ideal.τ).loc Cert.Reference21Ideal.main_arg17)
          ∧ r.2.mem ((c.tc : Thread Cert.Reference21Ideal.nD Cert.Reference21Ideal.τ).loc Cert.Reference21Ideal.main_arg18) = m' ((c.tc : Thread Cert.Reference21Ideal.nD Cert.Reference21Ideal.τ).loc Cert.Reference21Ideal.main_arg18)
          ∧ r.2.mem ((c.tc : Thread Cert.Reference21Ideal.nD Cert.Reference21Ideal.τ).loc Cert.Reference21Ideal.main_arg19) = m' ((c.tc : Thread Cert.Reference21Ideal.nD Cert.Reference21Ideal.τ).loc Cert.Reference21Ideal.main_arg19)
          ∧ r.2.mem ((c.tc : Thread Cert.Reference21Ideal.nD Cert.Reference21Ideal.τ).loc Cert.Reference21Ideal.main_arg20) = m' ((c.tc : Thread Cert.Reference21Ideal.nD Cert.Reference21Ideal.τ).loc Cert.Reference21Ideal.main_arg20)
          ∧ r.2.mem ((c.tc : Thread Cert.Reference21Ideal.nD Cert.Reference21Ideal.τ).loc Cert.Reference21Ideal.main_arg21) = m' ((c.tc : Thread Cert.Reference21Ideal.nD Cert.Reference21Ideal.τ).loc Cert.Reference21Ideal.main_arg21)
          ∧ r.2.mem ((c.tc : Thread Cert.Reference21Ideal.nD Cert.Reference21Ideal.τ).loc Cert.Reference21Ideal.main_arg22) = m' ((c.tc : Thread Cert.Reference21Ideal.nD Cert.Reference21Ideal.τ).loc Cert.Reference21Ideal.main_arg22))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)) (v4 : (c : Dev Cert.Kernel12Ideal.nD) → Buf (Elt Ideal) ((c.tc : Thread Cert.Kernel12Ideal.nD Cert.Kernel12Ideal.τ).loc Cert.Kernel12Ideal.main_v1_4)) (v5 : (c : Dev Cert.Kernel12Ideal.nD) → Buf (Elt Ideal) ((c.tc : Thread Cert.Kernel12Ideal.nD Cert.Kernel12Ideal.τ).loc Cert.Kernel12Ideal.main_v1_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_v1_4) = v4 c
          ∧ r.2.mem ((c.tc : Thread Cert.Kernel12Ideal.nD Cert.Kernel12Ideal.τ).loc Cert.Kernel12Ideal.main_v1_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v54) = v0 c
          ∧ r.2.mem ((c.tc : Thread Cert.Reference12Ideal.nD Cert.Reference12Ideal.τ).loc Cert.Reference12Ideal.main_v55) = v1 c
          ∧ r.2.mem ((c.tc : Thread Cert.Reference12Ideal.nD Cert.Reference12Ideal.τ).loc Cert.Reference12Ideal.main_v56) = v2 c
          ∧ r.2.mem ((c.tc : Thread Cert.Reference12Ideal.nD Cert.Reference12Ideal.τ).loc Cert.Reference12Ideal.main_v57) = v3 c
          ∧ r.2.mem ((c.tc : Thread Cert.Reference12Ideal.nD Cert.Reference12Ideal.τ).loc Cert.Reference12Ideal.main_v58) = v4 c
          ∧ r.2.mem ((c.tc : Thread Cert.Reference12Ideal.nD Cert.Reference12Ideal.τ).loc Cert.Reference12Ideal.main_v59) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel10 : Cert.Kernel10.Facts) (hKernel10Ideal : Cert.Kernel10Ideal.Facts) (hReference10Ideal : Cert.Reference10Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel10_Kernel10Ideal
    ∧ algebraic_Kernel10Ideal_Reference10Ideal (hKernel10Ideal := hKernel10Ideal) (hReference10Ideal := hReference10Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel12_Kernel12Ideal
    ∧ algebraic_Kernel12Ideal_Reference12Ideal (hKernel12Ideal := hKernel12Ideal) (hReference12Ideal := hReference12Ideal)
-- ==== Kernel.lean ====
abbrev S8192x1024 : Shape := ⟨2, ![8192, 1024]⟩
abbrev S8192x6656 : Shape := ⟨2, ![8192, 6656]⟩
abbrev S3x1024 : Shape := ⟨2, ![3, 1024]⟩
abbrev S_ : Shape := ⟨0, ![]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S1x1024 : Shape := ⟨2, ![1, 1024]⟩
abbrev S504x1024 : Shape := ⟨2, ![504, 1024]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S3x1024, .f32⟩
  | .hbm, ⟨3, _⟩ => ⟨S8192x6656, .bf16⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S8192x6656, .bf16⟩
  | .hbm, ⟨8, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S8192x6656 : Shape := ⟨2, ![8192, 6656]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8192x3584 : Shape := ⟨2, ![8192, 3584]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S3x1024, .f32⟩
  | .hbm, ⟨3, _⟩ => ⟨S8192x6656, .bf16⟩
  | .hbm, ⟨4, _⟩ => ⟨S8192x6656, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S2x1024, .f32⟩
  | .hbm, ⟨11, _⟩ => ⟨S8194x1024, .f32⟩
  | .hbm, ⟨12, _⟩ => ⟨S_, .f32⟩
  | .hbm, ⟨13, _⟩ => ⟨S2x1024, .f32⟩
  | .hbm, ⟨14, _⟩ => ⟨S8192x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S3x1024, .f32⟩
  | .hbm, ⟨49, _⟩ => ⟨S_, .f32⟩
  | .hbm, ⟨50, _⟩ => ⟨S8194x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S_, .f32⟩
  | .hbm, ⟨64, _⟩ => ⟨S8194x1024, .f32⟩
  | .hbm, ⟨65, _⟩ => ⟨S8194x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S_, .f32⟩
  | .hbm, ⟨79, _⟩ => ⟨S8194x1024, .f32⟩
  | .hbm, ⟨80, _⟩ => ⟨S8194x1024, .f32⟩
  | .hbm, ⟨81, _⟩ => ⟨S2x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x6656, .f32⟩
  | .hbm, ⟨86, _⟩ => ⟨S8192x3584, .f32⟩
  | .hbm, ⟨87, _⟩ => ⟨S8192x6656, .f32⟩
  | .hbm, ⟨88, _⟩ => ⟨S8192x6656, .bf16⟩
  | .hbm, ⟨89, _⟩ => ⟨S_, .i32⟩
  | .hbm, ⟨90, _⟩ => ⟨S_, .f32⟩
  | .hbm, ⟨91, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c : Ref sig .tc := ⟨.hbm, 89, rfl⟩
abbrev main_call0_v0 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel2.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x2816 : Shape := ⟨2, ![1024, 2816]⟩
abbrev S8192x2816 : Shape := ⟨2, ![8192, 2816]⟩
abbrev S1x8192x2816 : Shape := ⟨3, ![1, 8192, 2816]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S5632x1024, .f32⟩
  | .hbm, ⟨7, _⟩ => ⟨S2x8192x2816, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S2816x1024, .f32⟩
  | .hbm, ⟨37, _⟩ => ⟨S1024x2816, .f32⟩
  | .hbm, ⟨38, _⟩ => ⟨S8192x2816, .f32⟩
  | .hbm, ⟨39, _⟩ => ⟨S2816x1024, .f32⟩
  | .hbm, ⟨40, _⟩ => ⟨S1024x2816, .f32⟩
  | .hbm, ⟨41, _⟩ => ⟨S8192x2816, .f32⟩
  | .hbm, ⟨42, _⟩ => ⟨S1x8192x2816, .f32⟩
  | .hbm, ⟨43, _⟩ => ⟨S8192x2816, .f32⟩
  | .hbm, ⟨44, _⟩ => ⟨S1x8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel5.lean ====
abbrev S8192x6656 : Shape := ⟨2, ![8192, 6656]⟩
abbrev S6656x1024 : Shape := ⟨2, ![6656, 1024]⟩
abbrev S8192x1024 : Shape := ⟨2, ![8192, 1024]⟩
abbrev S1x1024 : Shape := ⟨2, ![1, 1024]⟩
abbrev S1x8192x6656 : Shape := ⟨3, ![1, 8192, 6656]⟩
abbrev S1x512x6656 : Shape := ⟨3, ![1, 512, 6656]⟩
abbrev S512x1024 : Shape := ⟨2, ![512, 1024]⟩
abbrev S512x6656 : Shape := ⟨2, ![512, 6656]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x6656, .bf16⟩
  | .hbm, ⟨1, _⟩ => ⟨S6656x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x8192x6656, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x512x6656, .bf16⟩
  | .local _ .vmem, ⟨1, _⟩ => ⟨S1x512x6656, .bf16⟩
  | .local _ .vmem, ⟨2, _⟩ => ⟨S6656x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x6656 : Shape := ⟨2, ![8192, 6656]⟩
abbrev S6656x1024 : Shape := ⟨2, ![6656, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x6656 : Shape := ⟨2, ![1024, 6656]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S6656x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S6656x1024, .f32⟩
  | .hbm, ⟨35, _⟩ => ⟨S1024x6656, .f32⟩
  | .hbm, ⟨36, _⟩ => ⟨S8192x6656, .f32⟩
  | .hbm, ⟨37, _⟩ => ⟨S8192x6656, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel4.lean ====
abbrev S2x8192x2816 : Shape := ⟨3, ![2, 8192, 2816]⟩
abbrev S8192x1024 : Shape := ⟨2, ![8192, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2x8192x2816 : Shape := ⟨3, ![2, 8192, 2816]⟩
abbrev S8192x1024 : Shape := ⟨2, ![8192, 1024]⟩
abbrev S_ : Shape := ⟨0, ![]⟩
abbrev S1024x2816 : Shape := ⟨2, ![1024, 2816]⟩
abbrev S8192x2816 : Shape := ⟨2, ![8192, 2816]⟩
abbrev S1x8192x2816 : Shape := ⟨3, ![1, 8192, 2816]⟩
abbrev S2816x1024 : Shape := ⟨2, ![2816, 1024]⟩
abbrev S1024x5632 : Shape := ⟨2, ![1024, 5632]⟩
abbrev S5632x1024 : Shape := ⟨2, ![5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S2x8192x2816, .f32⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S8192x2816, .f32⟩
  | .hbm, ⟨10, _⟩ => ⟨S1x8192x2816, .f32⟩
  | .hbm, ⟨11, _⟩ => ⟨S8192x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S1024x5632, .f32⟩
  | .hbm, ⟨17, _⟩ => ⟨S5632x1024, .f32⟩
  | .hbm, ⟨18, _⟩ => ⟨S5632x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S8192x6656 : Shape := ⟨2, ![8192, 6656]⟩
abbrev S8192x1024 : Shape := ⟨2, ![8192, 1024]⟩
abbrev S1x8192x6656 : Shape := ⟨3, ![1, 8192, 6656]⟩
abbrev S6656x1024 : Shape := ⟨2, ![6656, 1024]⟩
abbrev S1x2048x1664 : Shape := ⟨3, ![1, 2048, 1664]⟩
abbrev S2048x1024 : Shape := ⟨2, ![2048, 1024]⟩
abbrev S1664x1024 : Shape := ⟨2, ![1664, 1024]⟩
abbrev S2048x1664 : Shape := ⟨2, ![2048, 1664]⟩

abbrev nBuf : Space → Nat
  | .hbm => 4
  | .vmem => 7
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S1x8192x6656, .bf16⟩
  | .hbm, ⟨3, _⟩ => ⟨S6656x1024, .bf16⟩
  | .local _ .vmem, ⟨0, _⟩ => ⟨S1x2048x1664, .bf16⟩
  | .local _ .vmem, ⟨1, _⟩ => ⟨S1x2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x6656 : Shape := ⟨2, ![8192, 6656]⟩
abbrev S8192x1024 : Shape := ⟨2, ![8192, 1024]⟩
abbrev S_ : Shape := ⟨0, ![]⟩
abbrev S1024x6656 : Shape := ⟨2, ![1024, 6656]⟩
abbrev S6656x1024 : Shape := ⟨2, ![6656, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S_, .f32⟩
  | .hbm, ⟨3, _⟩ => ⟨S1024x6656, .f32⟩
  | .hbm, ⟨4, _⟩ => ⟨S8192x1024, .f32⟩
  | .hbm, ⟨5, _⟩ => ⟨S8192x6656, .f32⟩
  | .hbm, ⟨6, _⟩ => ⟨S8192x6656, .f32⟩
  | .hbm, ⟨7, _⟩ => ⟨S6656x1024, .f32⟩
  | .hbm, ⟨8, _⟩ => ⟨S1024x6656, .f32⟩
  | .hbm, ⟨9, _⟩ => ⟨S6656x1024, .f32⟩
  | .hbm, ⟨10, _⟩ => ⟨S6656x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1x8192x1024 : Shape := ⟨3, ![1, 8192, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S5632x1024 : Shape := ⟨2, ![5632, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S8192x1024, .bf16⟩
  | .hbm, ⟨6, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S5632x1024, .bf16⟩
  | .local _ .vmem, ⟨6, _⟩ => ⟨S512x1024, .bf16⟩
  | .local _ .vmem, ⟨7, _⟩ => ⟨S512x1024, .bf16⟩
  | .local _ .vmem, ⟨8, _⟩ => ⟨S512x5632, .bf16⟩
  | .local _ .vmem, ⟨9, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S5632x1024, .f32⟩
  | .hbm, ⟨29, _⟩ => ⟨S1024x5632, .f32⟩
  | .hbm, ⟨30, _⟩ => ⟨S8192x5632, .f32⟩
  | .hbm, ⟨31, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel9.lean ====
abbrev S8192x5632 : Shape := ⟨2, ![8192, 5632]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512x256 : Shape := ⟨2, ![512, 256]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x5632 : Shape := ⟨2, ![8192, 5632]⟩
abbrev S2816x1024 : Shape := ⟨2, ![2816, 1024]⟩
abbrev S8192x1024 : Shape := ⟨2, ![8192, 1024]⟩
abbrev S1x1024 : Shape := ⟨2, ![1, 1024]⟩
abbrev S8192x2816 : Shape := ⟨2, ![8192, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel14.lean ====
abbrev S1x1024x704 : Shape := ⟨3, ![1, 1024, 704]⟩
abbrev S8x704x1024 : Shape := ⟨3, ![8, 704, 1024]⟩
abbrev S1x704x1024 : Shape := ⟨3, ![1, 704, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 15
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S8x704x1024, .bf16⟩
  | .hbm, ⟨2, _⟩ => ⟨S1x1024x704, .f32⟩
  | .hbm, ⟨3, _⟩ => ⟨S1x1024x704, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x1024x704, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .local _ .vmem, ⟨0, _⟩ => ⟨S1x176x1024, .f32⟩
  | .local _ .vmem, ⟨1, _⟩ => ⟨S1x176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x1024x704 : Shape := ⟨3, ![1, 1024, 704]⟩
abbrev S8x704x1024 : Shape := ⟨3, ![8, 704, 1024]⟩
abbrev S_ : Shape := ⟨0, ![]⟩
abbrev S704x1024 : Shape := ⟨2, ![704, 1024]⟩
abbrev S1024x704 : Shape := ⟨2, ![1024, 704]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S8x704x1024, .bf16⟩
  | .hbm, ⟨2, _⟩ => ⟨S1x1024x704, .f32⟩
  | .hbm, ⟨3, _⟩ => ⟨S1x1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x1024x704, .f32⟩
  | .hbm, ⟨39, _⟩ => ⟨S_, .f32⟩
  | .hbm, ⟨40, _⟩ => ⟨S1x1024x704, .f32⟩
  | .hbm, ⟨41, _⟩ => ⟨S1x1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel15.lean ====
abbrev S1x352x1024 : Shape := ⟨3, ![1, 352, 1024]⟩
abbrev S8x352x1024 : Shape := ⟨3, ![8, 352, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S1x1024x832 : Shape := ⟨3, ![1, 1024, 832]⟩
abbrev S8x832x1024 : Shape := ⟨3, ![8, 832, 1024]⟩
abbrev S1x832x1024 : Shape := ⟨3, ![1, 832, 1024]⟩
abbrev S1x208x1024 : Shape := ⟨3, ![1, 208, 1024]⟩
abbrev S8x208x1024 : Shape := ⟨3, ![8, 208, 1024]⟩
abbrev S208x1024 : Shape := ⟨2, ![208, 1024]⟩

abbrev nBuf : Space → Nat
  | .hbm => 15
  | .vmem => 16
  | .smem => 0
  | _ => 0

abbrev bufTy : (tb : Table) → Fin (tcTables nBuf tb) → BufTy
  | .hbm, ⟨0, _⟩ => ⟨S1x1024x832, .f32⟩
  | .hbm, ⟨1, _⟩ => ⟨S8x832x1024, .bf16⟩
  | .hbm, ⟨2, _⟩ => ⟨S1x1024x832, .f32⟩
  | .hbm, ⟨3, _⟩ => ⟨S1x1024x832, .f32⟩
  | .hbm, ⟨4, _⟩ => ⟨S1x832x1024, .f32⟩
  | .hbm, ⟨5, _⟩ => ⟨S1x832x1024, .f32⟩
  | .hbm, ⟨6, _⟩ => ⟨S1x832x1024, .f32⟩
  | .hbm, ⟨7, _⟩ => ⟨S1x832x1024, .f32⟩
  | .hbm, ⟨8, _⟩ => ⟨S1x832x1024, .f32⟩
  | .hbm, ⟨9, _⟩ => ⟨S1x832x1024, .f32⟩
  | .hbm, ⟨10, _⟩ => ⟨S1x832x1024, .f32⟩
  | .hbm, ⟨11, _⟩ => ⟨S1x1024x832, .f32⟩
  | .hbm, ⟨12, _⟩ => ⟨S1x1024x832, .f32⟩
  | .hbm, ⟨13, _⟩ => ⟨S1x1024x832, .f32⟩
  | .hbm, ⟨14, _⟩ => ⟨S1x1024x832, .f32⟩
  | .local _ .vmem, ⟨0, _⟩ => ⟨S1x208x1024, .f32⟩
  | .local _ .vmem, ⟨1, _⟩ => ⟨S1x208x1024, .f32⟩
  | .local _ .vmem, ⟨2, _⟩ => ⟨S8x208x1024, .bf16⟩
  | .local _ .vmem, ⟨3, _⟩ => ⟨S8x208x1024, .bf16⟩
  | .local _ .vmem, ⟨4, _⟩ => ⟨S1x208x1024, .f32⟩
  | .local _ .vmem, ⟨5, _⟩ => ⟨S1x208x1024, .f32⟩
  | .local _ .vmem, ⟨6, _⟩ => ⟨S1x208x1024, .f32⟩
  | .local _ .vmem, ⟨7, _⟩ => ⟨S1x208x1024, .f32⟩
  | .local _ .vmem, ⟨8, _⟩ => ⟨S1x208x1024, .f32⟩
  | .local _ .vmem, ⟨9, _⟩ => ⟨S1x208x1024, .f32⟩
  | .local _ .vmem, ⟨10, _⟩ => ⟨S1x208x1024, .f32⟩
  | .local _ .vmem, ⟨11, _⟩ => ⟨S1x208x1024, .f32⟩
  | .local _ .vmem, ⟨12, _⟩ => ⟨S1x208x1024, .f32⟩
  | .local _ .vmem, ⟨13, _⟩ => ⟨S1x208x1024, .f32⟩
  | .local _ .vmem, ⟨14, _⟩ => ⟨S1x208x1024, .f32⟩
  | .local _ .vmem, ⟨15, _⟩ => ⟨S1x208x1024, .f32⟩
  | _, _ => ⟨S1x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x208x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1x1024x832 : Shape := ⟨3, ![1, 1024, 832]⟩
abbrev S8x832x1024 : Shape := ⟨3, ![8, 832, 1024]⟩
abbrev S_ : Shape := ⟨0, ![]⟩
abbrev S832x1024 : Shape := ⟨2, ![832, 1024]⟩
abbrev S1024x832 : Shape := ⟨2, ![1024, 832]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x832, .f32⟩
  | .hbm, ⟨1, _⟩ => ⟨S8x832x1024, .bf16⟩
  | .hbm, ⟨2, _⟩ => ⟨S1x1024x832, .f32⟩
  | .hbm, ⟨3, _⟩ => ⟨S1x1024x832, .f32⟩
  | .hbm, ⟨4, _⟩ => ⟨S8x832x1024, .f32⟩
  | .hbm, ⟨5, _⟩ => ⟨S_, .f32⟩
  | .hbm, ⟨6, _⟩ => ⟨S832x1024, .f32⟩
  | .hbm, ⟨7, _⟩ => ⟨S1024x832, .f32⟩
  | .hbm, ⟨8, _⟩ => ⟨S1x1024x832, .f32⟩
  | .hbm, ⟨9, _⟩ => ⟨S_, .f32⟩
  | .hbm, ⟨10, _⟩ => ⟨S1x1024x832, .f32⟩
  | .hbm, ⟨11, _⟩ => ⟨S1x1024x832, .f32⟩
  | .hbm, ⟨12, _⟩ => ⟨S_, .f32⟩
  | .hbm, ⟨13, _⟩ => ⟨S1x1024x832, .f32⟩
  | .hbm, ⟨14, _⟩ => ⟨S1x1024x832, .f32⟩
  | .hbm, ⟨15, _⟩ => ⟨S1x1024x832, .f32⟩
  | .hbm, ⟨16, _⟩ => ⟨S_, .f32⟩
  | .hbm, ⟨17, _⟩ => ⟨S1x1024x832, .f32⟩
  | .hbm, ⟨18, _⟩ => ⟨S1x1024x832, .f32⟩
  | .hbm, ⟨19, _⟩ => ⟨S1x1024x832, .f32⟩
  | .hbm, ⟨20, _⟩ => ⟨S_, .f32⟩
  | .hbm, ⟨21, _⟩ => ⟨S1x1024x832, .f32⟩
  | .hbm, ⟨22, _⟩ => ⟨S1x1024x832, .f32⟩
  | .hbm, ⟨23, _⟩ => ⟨S1x1024x832, .f32⟩
  | .hbm, ⟨24, _⟩ => ⟨S_, .f32⟩
  | .hbm, ⟨25, _⟩ => ⟨S1x1024x832, .f32⟩
  | .hbm, ⟨26, _⟩ => ⟨S1x1024x832, .f32⟩
  | .hbm, ⟨27, _⟩ => ⟨S_, .f32⟩
  | .hbm, ⟨28, _⟩ => ⟨S1x1024x832, .f32⟩
  | .hbm, ⟨29, _⟩ => ⟨S1x1024x832, .f32⟩
  | .hbm, ⟨30, _⟩ => ⟨S1x1024x832, .f32⟩
  | .hbm, ⟨31, _⟩ => ⟨S_, .f32⟩
  | .hbm, ⟨32, _⟩ => ⟨S1x1024x832, .f32⟩
  | .hbm, ⟨33, _⟩ => ⟨S1x1024x832, .f32⟩
  | .hbm, ⟨34, _⟩ => ⟨S1x1024x832, .f32⟩
  | .hbm, ⟨35, _⟩ => ⟨S_, .f32⟩
  | .hbm, ⟨36, _⟩ => ⟨S1x1024x832, .f32⟩
  | .hbm, ⟨37, _⟩ => ⟨S1x1024x832, .f32⟩
  | .hbm, ⟨38, _⟩ => ⟨S1x1024x832, .f32⟩
  | .hbm, ⟨39, _⟩ => ⟨S_, .f32⟩
  | .hbm, ⟨40, _⟩ => ⟨S1x1024x832, .f32⟩
  | .hbm, ⟨41, _⟩ => ⟨S1x1024x832, .f32⟩
  | _, _ => ⟨S1x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel17.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S1x1024x1152 : Shape := ⟨3, ![1, 1024, 1152]⟩
abbrev S1024x1152 : Shape := ⟨2, ![1024, 1152]⟩
abbrev S1x256x1152 : Shape := ⟨3, ![1, 256, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1152, .f32⟩
  | .hbm, ⟨1, _⟩ => ⟨S1024x1152, .f32⟩
  | .hbm, ⟨2, _⟩ => ⟨S1x1024x1152, .f32⟩
  | .hbm, ⟨3, _⟩ => ⟨S1x1024x1152, .f32⟩
  | .hbm, ⟨4, _⟩ => ⟨S1x1024x1152, .f32⟩
  | .hbm, ⟨5, _⟩ => ⟨S1x1024x1152, .f32⟩
  | .hbm, ⟨6, _⟩ => ⟨S1x1024x1152, .f32⟩
  | .hbm, ⟨7, _⟩ => ⟨S1x1024x1152, .f32⟩
  | .local _ .vmem, ⟨0, _⟩ => ⟨S1x256x1152, .f32⟩
  | .local _ .vmem, ⟨1, _⟩ => ⟨S1x256x1152, .f32⟩
  | .local _ .vmem, ⟨2, _⟩ => ⟨S256x1152, .f32⟩
  | .local _ .vmem, ⟨3, _⟩ => ⟨S256x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x256x1152, .f32⟩
  | .local _ .vmem, ⟨7, _⟩ => ⟨S1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | .local _ .vmem, ⟨14, _⟩ => ⟨S1x256x1152, .f32⟩
  | .local _ .vmem, ⟨15, _⟩ => ⟨S1x256x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1x1024x1152 : Shape := ⟨3, ![1, 1024, 1152]⟩
abbrev S1024x1152 : Shape := ⟨2, ![1024, 1152]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1152, .f32⟩
  | .hbm, ⟨1, _⟩ => ⟨S1024x1152, .f32⟩
  | .hbm, ⟨2, _⟩ => ⟨S1x1024x1152, .f32⟩
  | .hbm, ⟨3, _⟩ => ⟨S1x1024x1152, .f32⟩
  | .hbm, ⟨4, _⟩ => ⟨S1x1024x1152, .f32⟩
  | .hbm, ⟨5, _⟩ => ⟨S_, .f32⟩
  | .hbm, ⟨6, _⟩ => ⟨S1x1024x1152, .f32⟩
  | .hbm, ⟨7, _⟩ => ⟨S1x1024x1152, .f32⟩
  | .hbm, ⟨8, _⟩ => ⟨S_, .f32⟩
  | .hbm, ⟨9, _⟩ => ⟨S1x1024x1152, .f32⟩
  | .hbm, ⟨10, _⟩ => ⟨S1x1024x1152, .f32⟩
  | .hbm, ⟨11, _⟩ => ⟨S1x1024x1152, .f32⟩
  | .hbm, ⟨12, _⟩ => ⟨S_, .f32⟩
  | .hbm, ⟨13, _⟩ => ⟨S1x1024x1152, .f32⟩
  | .hbm, ⟨14, _⟩ => ⟨S1x1024x1152, .f32⟩
  | .hbm, ⟨15, _⟩ => ⟨S1x1024x1152, .f32⟩
  | .hbm, ⟨16, _⟩ => ⟨S_, .f32⟩
  | .hbm, ⟨17, _⟩ => ⟨S1x1024x1152, .f32⟩
  | .hbm, ⟨18, _⟩ => ⟨S1x1024x1152, .f32⟩
  | .hbm, ⟨19, _⟩ => ⟨S1x1024x1152, .f32⟩
  | .hbm, ⟨20, _⟩ => ⟨S_, .f32⟩
  | .hbm, ⟨21, _⟩ => ⟨S1x1024x1152, .f32⟩
  | .hbm, ⟨22, _⟩ => ⟨S1x1024x1152, .f32⟩
  | .hbm, ⟨23, _⟩ => ⟨S_, .f32⟩
  | .hbm, ⟨24, _⟩ => ⟨S1x1024x1152, .f32⟩
  | .hbm, ⟨25, _⟩ => ⟨S1x1024x1152, .f32⟩
  | .hbm, ⟨26, _⟩ => ⟨S1x1024x1152, .f32⟩
  | .hbm, ⟨27, _⟩ => ⟨S_, .f32⟩
  | .hbm, ⟨28, _⟩ => ⟨S1x1024x1152, .f32⟩
  | .hbm, ⟨29, _⟩ => ⟨S1x1024x1152, .f32⟩
  | .hbm, ⟨30, _⟩ => ⟨S1x1024x1152, .f32⟩
  | .hbm, ⟨31, _⟩ => ⟨S_, .f32⟩
  | .hbm, ⟨32, _⟩ => ⟨S1x1024x1152, .f32⟩
  | .hbm, ⟨33, _⟩ => ⟨S1x1024x1152, .f32⟩
  | .hbm, ⟨34, _⟩ => ⟨S1x1024x1152, .f32⟩
  | .hbm, ⟨35, _⟩ => ⟨S_, .f32⟩
  | .hbm, ⟨36, _⟩ => ⟨S1x1024x1152, .f32⟩
  | .hbm, ⟨37, _⟩ => ⟨S1x1024x1152, .f32⟩
  | _, _ => ⟨S1x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S5632x1024, .bf16⟩
  | .hbm, ⟨6, _⟩ => ⟨S2816x1024, .bf16⟩
  | .hbm, ⟨7, _⟩ => ⟨S8192x1024, .f32⟩
  | .hbm, ⟨8, _⟩ => ⟨S1x1024, .f32⟩
  | .hbm, ⟨9, _⟩ => ⟨S8192x1024, .bf16⟩
  | .hbm, ⟨10, _⟩ => ⟨S8192x5632, .bf16⟩
  | .hbm, ⟨11, _⟩ => ⟨S8192x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S5632x1024, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x5632, .bf16⟩
  | .local _ .vmem, ⟨14, _⟩ => ⟨S512x5632, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S5632x1024, .bf16⟩
  | 6 => ⟨S2816x1024, .bf16⟩
  | 7 => ⟨S8192x1024, .f32⟩
  | 8 => ⟨S1x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S1x1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S5632x1024, .f32⟩
  | 32 => ⟨S1024x5632, .f32⟩
  | 33 => ⟨S8192x5632, .f32⟩
  | 34 => ⟨S8192x2816, .f32⟩
  | 35 => ⟨S8192x2816, .f32⟩
  | 36 => ⟨S_, .f32⟩
  | 37 => ⟨S1x1024, .f32⟩
  | 38 => ⟨S1x1024, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S8192x2816, .f32⟩
  | 48 => ⟨S8192x2816, .f32⟩
  | 49 => ⟨S2816x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192, .f32⟩
  | 97 => ⟨S_, .f32⟩
  | 98 => ⟨S8192, .f32⟩
  | 99 => ⟨S8192, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S8192, .f32⟩
  | 108 => ⟨S_, .f32⟩
  | 109 => ⟨S8192, .f32⟩
  | 110 => ⟨S8192, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .bf16⟩
  | 9 => ⟨S8192x5632, .bf16⟩
  | 10 => ⟨S_, .f32⟩
  | 11 => ⟨S1024, .f32⟩
  | 12 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_cst_16 : Ref sig .tc := ⟨.hbm, 104, rfl⟩
abbrev main_cst_17 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S6656x1024 : Shape := ⟨2, ![6656, 1024]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x6656 : Shape := ⟨2, ![8192, 6656]⟩
abbrev S4x32768x128 : Shape := ⟨3, ![4, 32768, 128]⟩
abbrev S8192x256 : Shape := ⟨2, ![8192, 256]⟩
abbrev S512x1024 : Shape := ⟨2, ![512, 1024]⟩
abbrev S512x128 : Shape := ⟨2, ![512, 128]⟩
abbrev S512x6656 : Shape := ⟨2, ![512, 6656]⟩
abbrev S4x2048x128 : Shape := ⟨3, ![4, 2048, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S1x512x128 : Shape := ⟨3, ![1, 512, 128]⟩
abbrev S128x256 : Shape := ⟨2, ![128, 256]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S6656x1024, .bf16⟩
  | .hbm, ⟨5, _⟩ => ⟨S8192x32, .f32⟩
  | .hbm, ⟨6, _⟩ => ⟨S8192x32, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S8192x32, .f32⟩
  | .hbm, ⟨11, _⟩ => ⟨S8192x64, .f32⟩
  | .hbm, ⟨12, _⟩ => ⟨S1x8192x1x64, .f32⟩
  | .hbm, ⟨13, _⟩ => ⟨S1x8192x2x64, .f32⟩
  | .hbm, ⟨14, _⟩ => ⟨S8192x128, .f32⟩
  | .hbm, ⟨15, _⟩ => ⟨S8192x1024, .bf16⟩
  | .hbm, ⟨16, _⟩ => ⟨S8192x6656, .bf16⟩
  | .hbm, ⟨17, _⟩ => ⟨S4x32768x128, .bf16⟩
  | .hbm, ⟨18, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S6656x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x6656, .bf16⟩
  | .local _ .vmem, ⟨13, _⟩ => ⟨S512x6656, .bf16⟩
  | .local _ .vmem, ⟨14, _⟩ => ⟨S4x2048x128, .bf16⟩
  | .local _ .vmem, ⟨15, _⟩ => ⟨S4x2048x128, .bf16⟩
  | .local _ .vmem, ⟨16, _⟩ => ⟨S512x256, .bf16⟩
  | .local _ .vmem, ⟨17, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6656x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x6656 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference19Ideal.lean ====
abbrev S8192x1024 : Shape := ⟨2, ![8192, 1024]⟩
abbrev S1x1024 : Shape := ⟨2, ![1, 1024]⟩
abbrev S6656x1024 : Shape := ⟨2, ![6656, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1024x6656 : Shape := ⟨2, ![1024, 6656]⟩
abbrev S8192x6656 : Shape := ⟨2, ![8192, 6656]⟩
abbrev S8192x256 : Shape := ⟨2, ![8192, 256]⟩
abbrev S8192x4x64 : Shape := ⟨3, ![8192, 4, 64]⟩
abbrev S8192x4x32 : Shape := ⟨3, ![8192, 4, 32]⟩
abbrev S8192x1x32 : Shape := ⟨3, ![8192, 1, 32]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S6656x1024, .bf16⟩
  | .hbm, ⟨5, _⟩ => ⟨S8192x32, .f32⟩
  | .hbm, ⟨6, _⟩ => ⟨S8192x32, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S6656x1024, .f32⟩
  | .hbm, ⟨30, _⟩ => ⟨S1024x6656, .f32⟩
  | .hbm, ⟨31, _⟩ => ⟨S8192x6656, .f32⟩
  | .hbm, ⟨32, _⟩ => ⟨S8192x256, .f32⟩
  | .hbm, ⟨33, _⟩ => ⟨S8192x4x64, .f32⟩
  | .hbm, ⟨34, _⟩ => ⟨S8192x4x32, .f32⟩
  | .hbm, ⟨35, _⟩ => ⟨S8192x4x32, .f32⟩
  | .hbm, ⟨36, _⟩ => ⟨S8192x1x32, .f32⟩
  | .hbm, ⟨37, _⟩ => ⟨S8192x1x32, .f32⟩
  | .hbm, ⟨38, _⟩ => ⟨S8192x4x32, .f32⟩
  | .hbm, ⟨39, _⟩ => ⟨S8192x4x32, .f32⟩
  | .hbm, ⟨40, _⟩ => ⟨S8192x4x32, .f32⟩
  | .hbm, ⟨41, _⟩ => ⟨S8192x4x32, .f32⟩
  | .hbm, ⟨42, _⟩ => ⟨S8192x4x32, .f32⟩
  | .hbm, ⟨43, _⟩ => ⟨S8192x4x32, .f32⟩
  | .hbm, ⟨44, _⟩ => ⟨S8192x4x32, .f32⟩
  | .hbm, ⟨45, _⟩ => ⟨S8192x4x32, .f32⟩
  | .hbm, ⟨46, _⟩ => ⟨S8192x4x32, .f32⟩
  | .hbm, ⟨47, _⟩ => ⟨S8192x4x32, .f32⟩
  | .hbm, ⟨48, _⟩ => ⟨S8192x4x64, .f32⟩
  | .hbm, ⟨49, _⟩ => ⟨S8192x1024, .bf16⟩
  | .hbm, ⟨50, _⟩ => ⟨S8192x6656, .bf16⟩
  | .hbm, ⟨51, _⟩ => ⟨S8192x256, .f32⟩
  | .hbm, ⟨52, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel20.lean ====
abbrev S8x24x1024 : Shape := ⟨3, ![8, 24, 1024]⟩
abbrev S_ : Shape := ⟨0, ![]⟩
abbrev S24x1024 : Shape := ⟨2, ![24, 1024]⟩
abbrev S1x24x1024 : Shape := ⟨3, ![1, 24, 1024]⟩
abbrev S1x1024 : Shape := ⟨2, ![1, 1024]⟩
abbrev S1024 : Shape := ⟨1, ![1024]⟩
abbrev S3x128 : Shape := ⟨2, ![3, 128]⟩

abbrev nBuf : Space → Nat
  | .hbm => 18
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S_, .i32⟩
  | .hbm, ⟨2, _⟩ => ⟨S24x1024, .f32⟩
  | .hbm, ⟨3, _⟩ => ⟨S1x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S3x128, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference20Ideal.lean ====
abbrev S8x24x1024 : Shape := ⟨3, ![8, 24, 1024]⟩
abbrev S_ : Shape := ⟨0, ![]⟩
abbrev S24x1024 : Shape := ⟨2, ![24, 1024]⟩
abbrev S1x1024 : Shape := ⟨2, ![1, 1024]⟩
abbrev S1024 : Shape := ⟨1, ![1024]⟩
abbrev S3x128 : Shape := ⟨2, ![3, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .i32⟩
  | .hbm, ⟨2, _⟩ => ⟨S_, .f32⟩
  | .hbm, ⟨3, _⟩ => ⟨S24x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S3x128, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_c_4 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel21.lean ====
abbrev S24x1024 : Shape := ⟨2, ![24, 1024]⟩
abbrev S3x128 : Shape := ⟨2, ![3, 128]⟩
abbrev S1x9216 : Shape := ⟨2, ![1, 9216]⟩
abbrev S1x1024 : Shape := ⟨2, ![1, 1024]⟩
abbrev S1x16 : Shape := ⟨2, ![1, 16]⟩

abbrev nBuf : Space → Nat
  | .hbm => 51
  | .vmem => 51
  | .smem => 0
  | _ => 0

abbrev bufTy : (tb : Table) → Fin (tcTables nBuf tb) → BufTy
  | .hbm, ⟨0, _⟩ => ⟨S24x1024, .f32⟩
  | .hbm, ⟨1, _⟩ => ⟨S3x128, .f32⟩
  | .hbm, ⟨2, _⟩ => ⟨S1x9216, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S3x128, .f32⟩
  | .hbm, ⟨8, _⟩ => ⟨S1x16, .f32⟩
  | .hbm, ⟨9, _⟩ => ⟨S1x9216, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S3x128, .f32⟩
  | .hbm, ⟨15, _⟩ => ⟨S1x16, .f32⟩
  | .hbm, ⟨16, _⟩ => ⟨S1x9216, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S3x128, .f32⟩
  | .hbm, ⟨22, _⟩ => ⟨S1x16, .f32⟩
  | .hbm, ⟨23, _⟩ => ⟨S1x9216, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S3x128, .f32⟩
  | .hbm, ⟨29, _⟩ => ⟨S1x16, .f32⟩
  | .hbm, ⟨30, _⟩ => ⟨S1x9216, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S3x128, .f32⟩
  | .hbm, ⟨36, _⟩ => ⟨S1x16, .f32⟩
  | .hbm, ⟨37, _⟩ => ⟨S1x9216, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S3x128, .f32⟩
  | .hbm, ⟨43, _⟩ => ⟨S1x16, .f32⟩
  | .hbm, ⟨44, _⟩ => ⟨S1x9216, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S3x128, .f32⟩
  | .hbm, ⟨50, _⟩ => ⟨S1x16, .f32⟩
  | .local _ .vmem, ⟨0, _⟩ => ⟨S24x1024, .f32⟩
  | .local _ .vmem, ⟨1, _⟩ => ⟨S3x128, .f32⟩
  | .local _ .vmem, ⟨2, _⟩ => ⟨S1x9216, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S3x128, .f32⟩
  | .local _ .vmem, ⟨8, _⟩ => ⟨S1x16, .f32⟩
  | .local _ .vmem, ⟨9, _⟩ => ⟨S1x9216, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S3x128, .f32⟩
  | .local _ .vmem, ⟨15, _⟩ => ⟨S1x16, .f32⟩
  | .local _ .vmem, ⟨16, _⟩ => ⟨S1x9216, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S3x128, .f32⟩
  | .local _ .vmem, ⟨22, _⟩ => ⟨S1x16, .f32⟩
  | .local _ .vmem, ⟨23, _⟩ => ⟨S1x9216, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S3x128, .f32⟩
  | .local _ .vmem, ⟨29, _⟩ => ⟨S1x16, .f32⟩
  | .local _ .vmem, ⟨30, _⟩ => ⟨S1x9216, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S3x128, .f32⟩
  | .local _ .vmem, ⟨36, _⟩ => ⟨S1x16, .f32⟩
  | .local _ .vmem, ⟨37, _⟩ => ⟨S1x9216, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S3x128, .f32⟩
  | .local _ .vmem, ⟨43, _⟩ => ⟨S1x16, .f32⟩
  | .local _ .vmem, ⟨44, _⟩ => ⟨S1x9216, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S3x128, .f32⟩
  | .local _ .vmem, ⟨50, _⟩ => ⟨S1x16, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_v0_4 : Ref sig .tc := ⟨.hbm, 27, rfl⟩
abbrev main_v0_5 : Ref sig .tc := ⟨.hbm, 28, rfl⟩
abbrev main_v0_6 : Ref sig .tc := ⟨.hbm, 29, rfl⟩
abbrev main_v0_7 : Ref sig .tc := ⟨.hbm, 30, rfl⟩
abbrev main_v0_8 : Ref sig .tc := ⟨.hbm, 31, rfl⟩
abbrev main_v0_9 : Ref sig .tc := ⟨.hbm, 32, rfl⟩
abbrev main_v0_10 : Ref sig .tc := ⟨.hbm, 33, rfl⟩
abbrev main_v0_11 : Ref sig .tc := ⟨.hbm, 34, rfl⟩
abbrev main_v0_12 : Ref sig .tc := ⟨.hbm, 35, rfl⟩
abbrev main_v0_13 : Ref sig .tc := ⟨.hbm, 36, rfl⟩
abbrev main_v0_14 : Ref sig .tc := ⟨.hbm, 37, rfl⟩
abbrev main_v0_15 : Ref sig .tc := ⟨.hbm, 38, rfl⟩
abbrev main_v0_16 : Ref sig .tc := ⟨.hbm, 39, rfl⟩
abbrev main_v0_17 : Ref sig .tc := ⟨.hbm, 40, rfl⟩
abbrev main_v0_18 : Ref sig .tc := ⟨.hbm, 41, rfl⟩
abbrev main_v0_19 : Ref sig .tc := ⟨.hbm, 42, rfl⟩
abbrev main_v0_20 : Ref sig .tc := ⟨.hbm, 43, rfl⟩
abbrev main_v0_21 : Ref sig .tc := ⟨.hbm, 44, rfl⟩
abbrev main_v0_22 : Ref sig .tc := ⟨.hbm, 45, rfl⟩
abbrev main_v0_23 : Ref sig .tc := ⟨.hbm, 46, rfl⟩
abbrev main_v0_24 : Ref sig .tc := ⟨.hbm, 47, rfl⟩
abbrev main_v0_25 : Ref sig .tc := ⟨.hbm, 48, rfl⟩
abbrev main_v0_26 : Ref sig .tc := ⟨.hbm, 49, rfl⟩
abbrev main_v0_27 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x9216 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x9216 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x9216 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S3x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x9216 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S3x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x16 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x9216 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S3x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x16 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x9216 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S3x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x16 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
-- ==== Reference21Ideal.lean ====
abbrev S24x1024 : Shape := ⟨2, ![24, 1024]⟩
abbrev S3x128 : Shape := ⟨2, ![3, 128]⟩
abbrev S1x9216 : Shape := ⟨2, ![1, 9216]⟩
abbrev S1x1024 : Shape := ⟨2, ![1, 1024]⟩
abbrev S1x16 : Shape := ⟨2, ![1, 16]⟩
abbrev S9x1024 : Shape := ⟨2, ![9, 1024]⟩
abbrev S_ : Shape := ⟨0, ![]⟩

abbrev nBuf : Space → Nat
  | .hbm => 261
  | .vmem => 0
  | .smem => 0
  | _ => 0

abbrev hbmTy0_0 (i : Nat) : BufTy := match i % 128 with
  | 0 => ⟨S24x1024, .f32⟩
  | 1 => ⟨S3x128, .f32⟩
  | 2 => ⟨S1x9216, .f32⟩
  | 3 => ⟨S1x1024, .f32⟩
  | 4 => ⟨S1x1024, .f32⟩
  | 5 => ⟨S1x1024, .f32⟩
  | 6 => ⟨S1x1024, .f32⟩
  | 7 => ⟨S3x128, .f32⟩
  | 8 => ⟨S1x16, .f32⟩
  | 9 => ⟨S1x9216, .f32⟩
  | 10 => ⟨S1x1024, .f32⟩
  | 11 => ⟨S1x1024, .f32⟩
  | 12 => ⟨S1x1024, .f32⟩
  | 13 => ⟨S1x1024, .f32⟩
  | 14 => ⟨S3x128, .f32⟩
  | 15 => ⟨S1x16, .f32⟩
  | 16 => ⟨S1x9216, .f32⟩
  | 17 => ⟨S1x1024, .f32⟩
  | 18 => ⟨S1x1024, .f32⟩
  | 19 => ⟨S1x1024, .f32⟩
  | 20 => ⟨S1x1024, .f32⟩
  | 21 => ⟨S3x128, .f32⟩
  | 22 => ⟨S1x16, .f32⟩
  | 23 => ⟨S9x1024, .f32⟩
  | 24 => ⟨S1x9216, .f32⟩
  | 25 => ⟨S1x1024, .f32⟩
  | 26 => ⟨S1x1024, .f32⟩
  | 27 => ⟨S1x1024, .f32⟩
  | 28 => ⟨S1x1024, .f32⟩
  | 29 => ⟨S1x16, .f32⟩
  | 30 => ⟨S_, .f32⟩
  | 31 => ⟨S1x9216, .f32⟩
  | 32 => ⟨S1x9216, .f32⟩
  | 33 => ⟨S_, .f32⟩
  | 34 => ⟨S1x9216, .f32⟩
  | 35 => ⟨S1x9216, .f32⟩
  | 36 => ⟨S1x9216, .f32⟩
  | 37 => ⟨S_, .f32⟩
  | 38 => ⟨S1x9216, .f32⟩
  | 39 => ⟨S1x9216, .f32⟩
  | 40 => ⟨S1x9216, .f32⟩
  | 41 => ⟨S_, .f32⟩
  | 42 => ⟨S1x9216, .f32⟩
  | 43 => ⟨S1x9216, .f32⟩
  | 44 => ⟨S1x9216, .f32⟩
  | 45 => ⟨S_, .f32⟩
  | 46 => ⟨S1x9216, .f32⟩
  | 47 => ⟨S1x9216, .f32⟩
  | 48 => ⟨S_, .f32⟩
  | 49 => ⟨S1x9216, .f32⟩
  | 50 => ⟨S1x9216, .f32⟩
  | 51 => ⟨S1x9216, .f32⟩
  | 52 => ⟨S_, .f32⟩
  | 53 => ⟨S1x9216, .f32⟩
  | 54 => ⟨S1x9216, .f32⟩
  | 55 => ⟨S1x9216, .f32⟩
  | 56 => ⟨S_, .f32⟩
  | 57 => ⟨S1x9216, .f32⟩
  | 58 => ⟨S1x9216, .f32⟩
  | 59 => ⟨S1x9216, .f32⟩
  | 60 => ⟨S_, .f32⟩
  | 61 => ⟨S1x9216, .f32⟩
  | 62 => ⟨S1x9216, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S24x1024, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S3x128, .f32⟩
  | 69 => ⟨S3x128, .f32⟩
  | 70 => ⟨S_, .f32⟩
  | 71 => ⟨S3x128, .f32⟩
  | 72 => ⟨S3x128, .f32⟩
  | 73 => ⟨S3x128, .f32⟩
  | 74 => ⟨S_, .f32⟩
  | 75 => ⟨S3x128, .f32⟩
  | 76 => ⟨S3x128, .f32⟩
  | 77 => ⟨S3x128, .f32⟩
  | 78 => ⟨S_, .f32⟩
  | 79 => ⟨S3x128, .f32⟩
  | 80 => ⟨S3x128, .f32⟩
  | 81 => ⟨S3x128, .f32⟩
  | 82 => ⟨S_, .f32⟩
  | 83 => ⟨S3x128, .f32⟩
  | 84 => ⟨S3x128, .f32⟩
  | 85 => ⟨S_, .f32⟩
  | 86 => ⟨S3x128, .f32⟩
  | 87 => ⟨S3x128, .f32⟩
  | 88 => ⟨S3x128, .f32⟩
  | 89 => ⟨S_, .f32⟩
  | 90 => ⟨S3x128, .f32⟩
  | 91 => ⟨S3x128, .f32⟩
  | 92 => ⟨S3x128, .f32⟩
  | 93 => ⟨S_, .f32⟩
  | 94 => ⟨S3x128, .f32⟩
  | 95 => ⟨S3x128, .f32⟩
  | 96 => ⟨S3x128, .f32⟩
  | 97 => ⟨S_, .f32⟩
  | 98 => ⟨S3x128, .f32⟩
  | 99 => ⟨S3x128, .f32⟩
  | 100 => ⟨S_, .f32⟩
  | 101 => ⟨S1x16, .f32⟩
  | 102 => ⟨S1x16, .f32⟩
  | 103 => ⟨S_, .f32⟩
  | 104 => ⟨S1x16, .f32⟩
  | 105 => ⟨S1x16, .f32⟩
  | 106 => ⟨S1x16, .f32⟩
  | 107 => ⟨S_, .f32⟩
  | 108 => ⟨S1x16, .f32⟩
  | 109 => ⟨S1x16, .f32⟩
  | 110 => ⟨S1x16, .f32⟩
  | 111 => ⟨S_, .f32⟩
  | 112 => ⟨S1x16, .f32⟩
  | 113 => ⟨S1x16, .f32⟩
  | 114 => ⟨S1x16, .f32⟩
  | 115 => ⟨S_, .f32⟩
  | 116 => ⟨S1x16, .f32⟩
  | 117 => ⟨S1x16, .f32⟩
  | 118 => ⟨S_, .f32⟩
  | 119 => ⟨S1x16, .f32⟩
  | 120 => ⟨S1x16, .f32⟩
  | 121 => ⟨S1x16, .f32⟩
  | 122 => ⟨S_, .f32⟩
  | 123 => ⟨S1x16, .f32⟩
  | 124 => ⟨S1x16, .f32⟩
  | 125 => ⟨S1x16, .f32⟩
  | 126 => ⟨S_, .f32⟩
  | 127 => ⟨S1x16, .f32⟩
  | _ => ⟨S24x1024, .f32⟩

abbrev hbmTy0_2 (i : Nat) : BufTy := match i % 128 with
  | 0 => ⟨S1x16, .f32⟩
  | 1 => ⟨S1x16, .f32⟩
  | 2 => ⟨S_, .f32⟩
  | 3 => ⟨S1x16, .f32⟩
  | 4 => ⟨S1x16, .f32⟩
  | _ => ⟨S24x1024, .f32⟩

abbrev hbmTy (i : Nat) : BufTy := match i / 128 with
  | 0 => hbmTy0_0 i
  | 1 => hbmTy0_1 i
  | 2 => hbmTy0_2 i
  | _ => ⟨S24x1024, .f32⟩

abbrev bufTy : (tb : Table) → Fin (tcTables nBuf tb) → BufTy
  | .hbm, ⟨i, _⟩ => hbmTy i
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_11 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_12 : Ref sig .tc := ⟨.hbm, 78, rfl⟩
abbrev main_v42 : Ref sig .tc := ⟨.hbm, 79, rfl⟩
abbrev main_v43 : Ref sig .tc := ⟨.hbm, 80, rfl⟩
abbrev main_cst_13 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_14 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_16 : Ref sig .tc := ⟨.hbm, 93, rfl⟩
abbrev main_v53 : Ref sig .tc := ⟨.hbm, 94, rfl⟩
abbrev main_v54 : Ref sig .tc := ⟨.hbm, 95, rfl⟩
abbrev main_cst_17 : Ref sig .tc := ⟨.hbm, 96, rfl⟩
abbrev main_v55 : Ref sig .tc := ⟨.hbm, 97, rfl⟩
abbrev main_v56 : Ref sig .tc := ⟨.hbm, 98, rfl⟩
abbrev main_cst_18 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_19 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_20 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_21 : Ref sig .tc := ⟨.hbm, 111, rfl⟩
abbrev main_v66 : Ref sig .tc := ⟨.hbm, 112, rfl⟩
abbrev main_v67 : Ref sig .tc := ⟨.hbm, 113, rfl⟩
abbrev main_cst_22 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_23 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_24 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_25 : Ref sig .tc := ⟨.hbm, 126, rfl⟩
abbrev main_v77 : Ref sig .tc := ⟨.hbm, 127, rfl⟩
abbrev main_v78 : Ref sig .tc := ⟨.hbm, 128, rfl⟩
abbrev main_cst_26 : Ref sig .tc := ⟨.hbm, 129, rfl⟩
abbrev main_v79 : Ref sig .tc := ⟨.hbm, 130, rfl⟩
abbrev main_v80 : Ref sig .tc := ⟨.hbm, 131, rfl⟩
abbrev main_cst_27 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_28 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_29 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_30 : Ref sig .tc := ⟨.hbm, 144, rfl⟩
abbrev main_v90 : Ref sig .tc := ⟨.hbm, 145, rfl⟩
abbrev main_v91 : Ref sig .tc := ⟨.hbm, 146, rfl⟩
abbrev main_cst_31 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_32 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_33 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_34 : Ref sig .tc := ⟨.hbm, 159, rfl⟩
abbrev main_v101 : Ref sig .tc := ⟨.hbm, 160, rfl⟩
abbrev main_v102 : Ref sig .tc := ⟨.hbm, 161, rfl⟩
abbrev main_cst_35 : Ref sig .tc := ⟨.hbm, 162, rfl⟩
abbrev main_v103 : Ref sig .tc := ⟨.hbm, 163, rfl⟩
abbrev main_v104 : Ref sig .tc := ⟨.hbm, 164, rfl⟩
abbrev main_cst_36 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_37 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_38 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_39 : Ref sig .tc := ⟨.hbm, 177, rfl⟩
abbrev main_v114 : Ref sig .tc := ⟨.hbm, 178, rfl⟩
abbrev main_v115 : Ref sig .tc := ⟨.hbm, 179, rfl⟩
abbrev main_cst_40 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_41 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_42 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_cst_43 : Ref sig .tc := ⟨.hbm, 192, rfl⟩
abbrev main_v125 : Ref sig .tc := ⟨.hbm, 193, rfl⟩
abbrev main_v126 : Ref sig .tc := ⟨.hbm, 194, rfl⟩
abbrev main_cst_44 : Ref sig .tc := ⟨.hbm, 195, rfl⟩
abbrev main_v127 : Ref sig .tc := ⟨.hbm, 196, rfl⟩
abbrev main_v128 : Ref sig .tc := ⟨.hbm, 197, rfl⟩
abbrev main_cst_45 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_cst_46 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_cst_47 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_48 : Ref sig .tc := ⟨.hbm, 210, rfl⟩
abbrev main_v138 : Ref sig .tc := ⟨.hbm, 211, rfl⟩
abbrev main_v139 : Ref sig .tc := ⟨.hbm, 212, rfl⟩
abbrev main_cst_49 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_cst_50 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_51 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_52 : Ref sig .tc := ⟨.hbm, 225, rfl⟩
abbrev main_v149 : Ref sig .tc := ⟨.hbm, 226, rfl⟩
abbrev main_v150 : Ref sig .tc := ⟨.hbm, 227, rfl⟩
abbrev main_cst_53 : Ref sig .tc := ⟨.hbm, 228, rfl⟩
abbrev main_v151 : Ref sig .tc := ⟨.hbm, 229, rfl⟩
abbrev main_v152 : Ref sig .tc := ⟨.hbm, 230, rfl⟩
abbrev main_cst_54 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_55 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_56 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_cst_57 : Ref sig .tc := ⟨.hbm, 243, rfl⟩
abbrev main_v162 : Ref sig .tc := ⟨.hbm, 244, rfl⟩
abbrev main_v163 : Ref sig .tc := ⟨.hbm, 245, rfl⟩
abbrev main_cst_58 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_59 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_cst_60 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_cst_61 : Ref sig .tc := ⟨.hbm, 258, rfl⟩
abbrev main_v173 : Ref sig .tc := ⟨.hbm, 259, rfl⟩
abbrev main_v174 : Ref sig .tc := ⟨.hbm, 260, rfl⟩

abbrev nD : Nat := 1
abbrev τ : Topo := Topo.v7x

variable {F : FTy → Type} [FloatOps F]
-- ==== Kernel22.lean ====
abbrev S8x1024 : Shape := ⟨2, ![8, 1024]⟩
abbrev S8x1152 : Shape := ⟨2, ![8, 1152]⟩
abbrev S1024x8 : Shape := ⟨2, ![1024, 8]⟩
abbrev S1024x1152 : Shape := ⟨2, ![1024, 1152]⟩
abbrev S1024x1 : Shape := ⟨2, ![1024, 1]⟩
abbrev S1x1152 : Shape := ⟨2, ![1, 1152]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x8, .f32⟩
  | .hbm, ⟨3, _⟩ => ⟨S1024x1152, .f32⟩
  | .local _ .vmem, ⟨0, _⟩ => ⟨S1024x8, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference22Ideal.lean ====
abbrev S8x1024 : Shape := ⟨2, ![8, 1024]⟩
abbrev S8x1152 : Shape := ⟨2, ![8, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S_, .f32⟩
  | .hbm, ⟨3, _⟩ => ⟨S1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S1152x1024, .f32⟩
  | .hbm, ⟨15, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel23.lean ====
abbrev S8x1024 : Shape := ⟨2, ![8, 1024]⟩
abbrev S1024x1152 : Shape := ⟨2, ![1024, 1152]⟩
abbrev S1x1152 : Shape := ⟨2, ![1, 1152]⟩
abbrev S8x1152 : Shape := ⟨2, ![8, 1152]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S1x1152, .f32⟩
  | .local _ .vmem, ⟨3, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference23Ideal.lean ====
abbrev S8x1024 : Shape := ⟨2, ![8, 1024]⟩
abbrev S1024x1152 : Shape := ⟨2, ![1024, 1152]⟩
abbrev S1x1152 : Shape := ⟨2, ![1, 1152]⟩
abbrev S_ : Shape := ⟨0, ![]⟩
abbrev S8x1152 : Shape := ⟨2, ![8, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1152, .f32⟩
  | .hbm, ⟨13, _⟩ => ⟨S8x1152, .f32⟩
  | .hbm, ⟨14, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel12.lean ====
abbrev S8192x6656 : Shape := ⟨2, ![8192, 6656]⟩
abbrev S8192x1024 : Shape := ⟨2, ![8192, 1024]⟩
abbrev S1024x1024 : Shape := ⟨2, ![1024, 1024]⟩
abbrev S3x1024 : Shape := ⟨2, ![3, 1024]⟩
abbrev S1x1024 : Shape := ⟨2, ![1, 1024]⟩
abbrev S_ : Shape := ⟨0, ![]⟩
abbrev S8x1024 : Shape := ⟨2, ![8, 1024]⟩
abbrev S512x1024 : Shape := ⟨2, ![512, 1024]⟩
abbrev S16x1024 : Shape := ⟨2, ![16, 1024]⟩
abbrev S512x512 : Shape := ⟨2, ![512, 512]⟩
abbrev S504x1024 : Shape := ⟨2, ![504, 1024]⟩

abbrev nBuf : Space → Nat
  | .hbm => 17
  | .vmem => 39
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S3x1024, .f32⟩
  | .hbm, ⟨6, _⟩ => ⟨S8192x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S8x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference12Ideal.lean ====
abbrev S8192x6656 : Shape := ⟨2, ![8192, 6656]⟩
abbrev S8192x1024 : Shape := ⟨2, ![8192, 1024]⟩
abbrev S1024x1024 : Shape := ⟨2, ![1024, 1024]⟩
abbrev S3x1024 : Shape := ⟨2, ![3, 1024]⟩
abbrev S1x1024 : Shape := ⟨2, ![1, 1024]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S3x1024, .f32⟩
  | .hbm, ⟨6, _⟩ => ⟨S8192x1024, .f32⟩
  | .hbm, ⟨7, _⟩ => ⟨S1x1024, .f32⟩
  | .hbm, ⟨8, _⟩ => ⟨S8192x6656, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S2x1024, .f32⟩
  | .hbm, ⟨15, _⟩ => ⟨S8194x1024, .f32⟩
  | .hbm, ⟨16, _⟩ => ⟨S8192x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1024x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.ConvBwd.lean ====
module

public import proofs.«01_k».proof.Defs
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
namespace Cert.ConvBwd
open Cert.KernelIdeal Cert.KernelIdeal.Gen

/-- A choice on the equality of two small words is a choice on the equality of the numbers. -/
theorem select_word {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

section Spec

variable (G : FVec Ideal S8192x1024 .bf16) (P : FVec Ideal S8192x6656 .bf16) (W : FVec Ideal S3x1024 .f32)

/-- The convolution's input, the product of two columns of the projection, at token `t` (zero past the last token). -/
def cu (t : ℕ) (d : Fin 1024) : EReal :=
  if h : t < 8192 then P (ix2 ⟨t, h⟩ ⟨1024 + d.val, by omega⟩) * P (ix2 ⟨t, h⟩ ⟨2048 + d.val, by omega⟩) else 0

/-- The convolution's input `k` tokens before token `t`, zero before the first token. -/
def cuBack (k t : ℕ) (d : Fin 1024) : EReal := if t < k then 0 else cu P (t - k) d

/-- The cotangent of the convolution's output at token `t` (zero past the last token). -/
def dcv (t : ℕ) (d : Fin 1024) : EReal :=
  if h : t < 8192 then G (ix2 ⟨t, h⟩ d) * P (ix2 ⟨t, h⟩ ⟨d.val, by omega⟩) else 0

/-- The convolution's output at token `t`. -/
def cv (t : ℕ) (d : Fin 1024) : EReal :=
  W (ix2 0 d) * cuBack P 2 t d + W (ix2 1 d) * cuBack P 1 t d + W (ix2 2 d) * cuBack P 0 t d

/-- The cotangent of the convolution's input at token `t`. -/
def dcu (t : ℕ) (d : Fin 1024) : EReal :=
  W (ix2 2 d) * dcv G P t d + W (ix2 1 d) * dcv G P (t + 1) d + W (ix2 0 d) * dcv G P (t + 2) d

end Spec

section Payloads

variable {P : FVec Ideal S8192x6656 .bf16} {G : FVec Ideal S8192x1024 .bf16} {W : FVec Ideal S3x1024 .f32}

variable {i : grid0.Coords} {c u g b : FVec Ideal S512x1024 .bf16} {hc hu ng nb : FVec Ideal S16x1024 .bf16} {w0 w1 w2 : FVec Ideal S1x1024 .f32}

/-- Two blocks hold the convolution's input at the rows of block `i`, and two short blocks hold it at the two rows
    before. -/
structure Input (P : FVec Ideal S8192x6656 .bf16) (i : grid0.Coords) (c u : FVec Ideal S512x1024 .bf16) (hc hu : FVec Ideal S16x1024 .bf16) : Prop where
  row : ∀ r d, c (ix2 r d) * u (ix2 r d) = cu P (512 * (i 0).val + r.val) d
  one : 0 < (i 0).val → ∀ d, hc (ix2 15 d) * hu (ix2 15 d) = cu P (512 * (i 0).val - 1) d
  two : 0 < (i 0).val → ∀ d, hc (ix2 14 d) * hu (ix2 14 d) = cu P (512 * (i 0).val - 2) d

/-- Two blocks hold the output's cotangent at the rows of block `i`, and two short blocks hold it at the two rows
    after. -/
structure Cotangent (G : FVec Ideal S8192x1024 .bf16) (P : FVec Ideal S8192x6656 .bf16) (i : grid0.Coords) (g b : FVec Ideal S512x1024 .bf16) (ng nb : FVec Ideal S16x1024 .bf16) : Prop where
  row : ∀ r d, g (ix2 r d) * b (ix2 r d) = dcv G P (512 * (i 0).val + r.val) d
  one : (i 0).val < 15 → ∀ d, ng (ix2 0 d) * nb (ix2 0 d) = dcv G P (512 * (i 0).val + 512) d
  two : (i 0).val < 15 → ∀ d, ng (ix2 1 d) * nb (ix2 1 d) = dcv G P (512 * (i 0).val + 513) d

theorem cu_congr {a b : ℕ} {d : Fin 1024} (e : a = b) : cu P a d = cu P b d := by rw [e]

theorem dcv_congr {a b : ℕ} {d : Fin 1024} (e : a = b) : dcv G P a d = dcv G P b d := by rw [e]

theorem dcv_past {a : ℕ} {d : Fin 1024} (e : 8192 ≤ a) : dcv G P a d = 0 := dif_neg (by omega)

theorem coord_lt (i : grid0.Coords) : (i 0).val < 16 := (i 0).isLt

/-- The rotated input with its first row replaced is the input one token before. -/
theorem shift_one (h : Input P i c u hc hu) (r d) :
    k0_pay17 (F := Ideal) (k0_pay15 i c u hc hu) (k0_pay16 c u) (ix2 r d) = cuBack P 1 (512 * (i 0).val + r.val) d := by
  have hi := coord_lt i
  pointwise [k0_pay17, k0_pay15, k0_pay16, k0_pay13, k0_pay9, k0_pay5, k0_pay6, k0_pay11, k0_pay10]
  have e0 := select_word (α := EReal) (i 0).val 0 (by omega) (by omega)
  have er := select_word (α := EReal) r.val 0 (by omega) (by omega)
  simp only [Scalar.cmpi, e0, er, h.row, cuBack]
  split_ifs <;> first | (exfalso; omega) | exact (rfl : (0 : EReal) = 0) | exact cu_congr (by omega) | exact (h.one (by omega) d).trans (cu_congr (by omega))

/-- The input rotated by two with its first two rows replaced is the input two tokens before. -/
theorem shift_two (h : Input P i c u hc hu) (r d) :
    k0_pay18 (F := Ideal) (iota .tc S8x1024 32 [0] iota_S8x1024_d0_w32) (k0_pay11 i hc hu) (k0_pay12 i hc hu) (k0_pay14 c u) (ix2 r d)
      = cuBack P 2 (512 * (i 0).val + r.val) d := by
  have hi := coord_lt i
  pointwise [k0_pay18, k0_pay14, k0_pay9, k0_pay5, k0_pay6, k0_pay11, k0_pay12, k0_pay10]
  have e0 := select_word (α := EReal) (i 0).val 0 (by omega) (by omega)
  have er := select_word (α := EReal) r.val 0 (by omega) (by omega)
  have er1 := select_word (α := EReal) r.val 1 (by omega) (by omega)
  simp only [Scalar.cmpi, e0, er, er1, h.row, cuBack]
  split_ifs <;> first | (exfalso; omega) | exact (rfl : (0 : EReal) = 0) | exact cu_congr (by omega) | exact (h.one (by omega) d).trans (cu_congr (by omega)) | exact (h.two (by omega) d).trans (cu_congr (by omega))

/-- The input itself. -/
theorem shift_zero (h : Input P i c u hc hu) (r d) :
    k0_pay9 (F := Ideal) c u (ix2 r d) = cuBack P 0 (512 * (i 0).val + r.val) d := by
  pointwise [k0_pay9, k0_pay5, k0_pay6]
  exact h.row r d

/-- The output's cotangent. -/
theorem cot (h : Cotangent G P i g b ng nb) (r d) :
    k0_pay23 (F := Ideal) (k0_pay7 b) (k0_pay8 g) (ix2 r d) = dcv G P (512 * (i 0).val + r.val) d := by
  pointwise [k0_pay23, k0_pay7, k0_pay8]
  exact h.row r d

/-- The weighted sum of the three shifts is the convolution's output. -/
theorem out_at (h : Input P i c u hc hu) (r d) :
    k0_pay22 (F := Ideal) (k0_pay9 c u) (iota .tc S8x1024 32 [0] iota_S8x1024_d0_w32) (k0_pay11 i hc hu) (k0_pay12 i hc hu) (k0_pay14 c u)
        (k0_pay15 i c u hc hu) (k0_pay16 c u)
        w0 w1
        w2 (ix2 r d)
      = w0 (ix2 0 d) * cuBack P 2 (512 * (i 0).val + r.val) d + w1 (ix2 0 d) * cuBack P 1 (512 * (i 0).val + r.val) d
        + w2 (ix2 0 d) * cuBack P 0 (512 * (i 0).val + r.val) d := by
  rw [← shift_zero h, ← shift_one h, ← shift_two h]
  pointwise [k0_pay22, k0_pay19, k0_pay20, k0_pay21]

set_option maxHeartbeats 1000000 in
/-- The weighted sum of the cotangent's three shifts is the input's cotangent. -/
theorem in_at (h : Cotangent G P i g b ng nb) (r d) :
    k0_pay32 (F := Ideal) (k0_pay19 w0) (k0_pay20 w1)
        (k0_pay21 w2)
        (k0_pay23 (k0_pay7 b) (k0_pay8 g)) (k0_pay25 (k0_pay4 i) ng nb) (k0_pay26 (k0_pay4 i) ng nb)
        (iota Kind.tc S8x1024 32 [0] iota_S8x1024_d0_w32) (k0_pay28 (k0_pay7 b) (k0_pay8 g))
        (k0_pay29 (k0_pay7 b) (k0_pay8 g)) k0_pay30 (k0_pay31 (k0_pay7 b) (k0_pay8 g)) (ix2 r d)
      = w2 (ix2 0 d) * dcv G P (512 * (i 0).val + r.val) d + w1 (ix2 0 d) * dcv G P (512 * (i 0).val + r.val + 1) d
        + w0 (ix2 0 d) * dcv G P (512 * (i 0).val + r.val + 2) d := by
  have hi := coord_lt i
  pointwise [k0_pay32, k0_pay19, k0_pay20, k0_pay21, k0_pay23, k0_pay25, k0_pay26, k0_pay24, k0_pay4, k0_pay28, k0_pay29, k0_pay27, k0_pay30, k0_pay31, k0_pay7, k0_pay8]
  have e0 := select_word (α := EReal) (i 0).val 15 (by omega) (by omega)
  have er := select_word (α := EReal) (r.val - 504) 7 (by omega) (by omega)
  have er1 := select_word (α := EReal) (r.val - 504) 6 (by omega) (by omega)
  simp only [Scalar.cmpi, e0, er, er1, h.row]
  refine congrArg₂ (· + ·) (congrArg₂ (· + ·) rfl (congrArg (w1 (ix2 0 d) * ·) ?_)) (congrArg (w0 (ix2 0 d) * ·) ?_)
  · split_ifs <;> first | (exfalso; omega) | exact (dcv_past (by omega)).symm | exact dcv_congr (by omega) | exact (h.one (by omega) d).trans (dcv_congr (by omega))
  · split_ifs <;> first | (exfalso; omega) | exact (dcv_past (by omega)).symm | exact dcv_congr (by omega) | exact (h.one (by omega) d).trans (dcv_congr (by omega)) | exact (h.two (by omega) d).trans (dcv_congr (by omega))

/-- The first stored piece: the gate's cotangent. -/
theorem piece_gate (h : Input P i c u hc hu) (r d) :
    k0_pay33 (F := Ideal) (k0_pay8 g) (k0_pay22 (k0_pay9 c u) (iota .tc S8x1024 32 [0] iota_S8x1024_d0_w32) (k0_pay11 i hc hu) (k0_pay12 i hc hu) (k0_pay14 c u)
        (k0_pay15 i c u hc hu) (k0_pay16 c u) w0 w1 w2) (ix2 r d)
      = g (ix2 r d) * (w0 (ix2 0 d) * cuBack P 2 (512 * (i 0).val + r.val) d + w1 (ix2 0 d) * cuBack P 1 (512 * (i 0).val + r.val) d
        + w2 (ix2 0 d) * cuBack P 0 (512 * (i 0).val + r.val) d) := by
  rw [← out_at h]
  pointwise [k0_pay33, k0_pay8]

/-- The two other stored pieces: the input's cotangent times the other factor of the input. -/
theorem piece_left (h : Cotangent G P i g b ng nb) (r d) :
    k0_pay34 (F := Ideal) (k0_pay6 u) (k0_pay19 w0) (k0_pay20 w1) (k0_pay21 w2)
        (k0_pay23 (k0_pay7 b) (k0_pay8 g)) (k0_pay25 (k0_pay4 i) ng nb) (k0_pay26 (k0_pay4 i) ng nb)
        (iota Kind.tc S8x1024 32 [0] iota_S8x1024_d0_w32) (k0_pay28 (k0_pay7 b) (k0_pay8 g))
        (k0_pay29 (k0_pay7 b) (k0_pay8 g)) k0_pay30 (k0_pay31 (k0_pay7 b) (k0_pay8 g)) (ix2 r d)
      = (w2 (ix2 0 d) * dcv G P (512 * (i 0).val + r.val) d + w1 (ix2 0 d) * dcv G P (512 * (i 0).val + r.val + 1) d
        + w0 (ix2 0 d) * dcv G P (512 * (i 0).val + r.val + 2) d) * u (ix2 r d) := by
  rw [← in_at h]
  pointwise [k0_pay34, k0_pay6]

theorem piece_right (h : Cotangent G P i g b ng nb) (r d) :
    k0_pay35 (F := Ideal) (k0_pay5 c) (k0_pay19 w0) (k0_pay20 w1) (k0_pay21 w2)
        (k0_pay23 (k0_pay7 b) (k0_pay8 g)) (k0_pay25 (k0_pay4 i) ng nb) (k0_pay26 (k0_pay4 i) ng nb)
        (iota Kind.tc S8x1024 32 [0] iota_S8x1024_d0_w32) (k0_pay28 (k0_pay7 b) (k0_pay8 g))
        (k0_pay29 (k0_pay7 b) (k0_pay8 g)) k0_pay30 (k0_pay31 (k0_pay7 b) (k0_pay8 g)) (ix2 r d)
      = (w2 (ix2 0 d) * dcv G P (512 * (i 0).val + r.val) d + w1 (ix2 0 d) * dcv G P (512 * (i 0).val + r.val + 1) d
        + w0 (ix2 0 d) * dcv G P (512 * (i 0).val + r.val + 2) d) * c (ix2 r d) := by
  rw [← in_at h]
  pointwise [k0_pay35, k0_pay5]

/-- The rows' sum of the products of the output's cotangent with the input `k` tokens back, over the rows of block
    `i`. -/
def part (G : FVec Ideal S8192x1024 .bf16) (P : FVec Ideal S8192x6656 .bf16) (k n : ℕ) (d : Fin 1024) : EReal :=
  ∑ r : Fin 512, dcv G P (512 * n + r.val) d * cuBack P k (512 * n + r.val) d

theorem sum_two (h : Input P i c u hc hu) (h' : Cotangent G P i g b ng nb) (acc : FVec Ideal S1x1024 .f32) (d) :
    k0_pay36 (F := Ideal) (k0_pay18 (iota .tc S8x1024 32 [0] iota_S8x1024_d0_w32) (k0_pay11 i hc hu) (k0_pay12 i hc hu) (k0_pay14 c u))
      (k0_pay23 (k0_pay7 b) (k0_pay8 g)) acc (ix2 0 d) = acc (ix2 0 d) + part G P 2 (i 0).val d := by
  unfold part
  simp only [← shift_two h, ← cot h']
  pointwise [k0_pay36]

theorem sum_one (h : Input P i c u hc hu) (h' : Cotangent G P i g b ng nb) (acc : FVec Ideal S1x1024 .f32) (d) :
    k0_pay1 (F := Ideal) (k0_pay17 (k0_pay15 i c u hc hu) (k0_pay16 c u))
      (k0_pay23 (k0_pay7 b) (k0_pay8 g)) acc (ix2 0 d) = acc (ix2 0 d) + part G P 1 (i 0).val d := by
  unfold part
  simp only [← shift_one h, ← cot h']
  pointwise [k0_pay1]

theorem sum_zero (h : Input P i c u hc hu) (h' : Cotangent G P i g b ng nb) (acc : FVec Ideal S1x1024 .f32) (d) :
    k0_pay2 (F := Ideal) (k0_pay9 c u)
      (k0_pay23 (k0_pay7 b) (k0_pay8 g)) acc (ix2 0 d) = acc (ix2 0 d) + part G P 0 (i 0).val d := by
  unfold part
  simp only [← shift_zero h, ← cot h']
  pointwise [k0_pay2]

end Payloads

section Kernel

variable (m : (ℓ : Loc nD τ sig) → Buf (Elt Ideal) ℓ)

/-- The block each window shows at each point. -/
theorem at_point : ∀ t : Fin cfg0.N, win0_0.index t = ![t.val, 0] ∧ win0_1.index t = ![min ((t.val + 1) * 32) 511, 0]
    ∧ win0_2.index t = ![t.val, 0] ∧ win0_3.index t = ![min ((t.val + 1) * 32) 511, 0] ∧ win0_4.index t = ![t.val, 1]
    ∧ win0_5.index t = ![t.val, 2] ∧ win0_6.index t = ![t.val * 32 - 1, 1] ∧ win0_7.index t = ![t.val * 32 - 1, 2]
    ∧ win0_8.index t = ![0, 0] ∧ win0_9.index t = ![t.val, 0] ∧ win0_10.index t = ![0, 0] ∧ (grid0.coords t 0).val = t.val :=
  (by decide +kernel : ∀ t : Fin grid0.N, _)

/-- The arguments on device `c`. -/
abbrev aG (c : Dev nD) : FVec Ideal S8192x1024 .bf16 := m ((c : Thread nD τ).loc main_arg0)
abbrev aP (c : Dev nD) : FVec Ideal S8192x6656 .bf16 := m ((c : Thread nD τ).loc main_arg1)
abbrev aW (c : Dev nD) : FVec Ideal S3x1024 .f32 := m ((c : Thread nD τ).loc main_arg2)
abbrev aE (c : Dev nD) : FVec Ideal S8192x6656 .bf16 := m ((c : Thread nD τ).loc main_arg3)

/-! The blocks' entries, read from the arguments. -/

theorem read_2 (c : Dev nD) (t : Fin cfg0.N) (r : Fin 512) (d : Fin 1024) :
    X0_2 m c t (ix2 r d) = aP m c (ix2 ⟨512 * t.val + r.val, by have : t.val < 16 := t.isLt; omega⟩ ⟨d.val, by omega⟩) := by
  have ht : t.val < 16 := t.isLt
  unfold X0_2 Pipeline.Window.fill
  rw [dif_pos (moved0_2 t _)]
  blk_point [iblk, V, at_point t]

theorem read_4 (c : Dev nD) (t : Fin cfg0.N) (r : Fin 512) (d : Fin 1024) :
    X0_4 m c t (ix2 r d) = aP m c (ix2 ⟨512 * t.val + r.val, by have : t.val < 16 := t.isLt; omega⟩ ⟨1024 + d.val, by omega⟩) := by
  have ht : t.val < 16 := t.isLt
  unfold X0_4 Pipeline.Window.fill
  rw [dif_pos (moved0_4 t _)]
  blk_point [iblk, V, at_point t]

theorem read_5 (c : Dev nD) (t : Fin cfg0.N) (r : Fin 512) (d : Fin 1024) :
    X0_5 m c t (ix2 r d) = aP m c (ix2 ⟨512 * t.val + r.val, by have : t.val < 16 := t.isLt; omega⟩ ⟨2048 + d.val, by omega⟩) := by
  have ht : t.val < 16 := t.isLt
  unfold X0_5 Pipeline.Window.fill
  rw [dif_pos (moved0_5 t _)]
  blk_point [iblk, V, at_point t]

theorem read_6 (c : Dev nD) (t : Fin cfg0.N) (r : Fin 16) (d : Fin 1024) :
    X0_6 m c t (ix2 r d) = aP m c (ix2 ⟨512 * t.val - 16 + r.val, by have : t.val < 16 := t.isLt; omega⟩ ⟨1024 + d.val, by omega⟩) := by
  have ht : t.val < 16 := t.isLt
  unfold X0_6 Pipeline.Window.fill
  rw [dif_pos (moved0_6 t _)]
  blk_point [iblk, V, at_point t]

theorem read_7 (c : Dev nD) (t : Fin cfg0.N) (r : Fin 16) (d : Fin 1024) :
    X0_7 m c t (ix2 r d) = aP m c (ix2 ⟨512 * t.val - 16 + r.val, by have : t.val < 16 := t.isLt; omega⟩ ⟨2048 + d.val, by omega⟩) := by
  have ht : t.val < 16 := t.isLt
  unfold X0_7 Pipeline.Window.fill
  rw [dif_pos (moved0_7 t _)]
  blk_point [iblk, V, at_point t]

theorem read_3 (c : Dev nD) (t : Fin cfg0.N) (r : Fin 16) (d : Fin 1024) :
    X0_3 m c t (ix2 r d) = aP m c (ix2 ⟨16 * min ((t.val + 1) * 32) 511 + r.val, by have : t.val < 16 := t.isLt; omega⟩ ⟨d.val, by omega⟩) := by
  have ht : t.val < 16 := t.isLt
  unfold X0_3 Pipeline.Window.fill
  rw [dif_pos (moved0_3 t _)]
  blk_point [iblk, V, at_point t]

theorem read_0 (c : Dev nD) (t : Fin cfg0.N) (r : Fin 512) (d : Fin 1024) :
    iblk m c 0 t (ix2 r d) = aG m c (ix2 ⟨512 * t.val + r.val, by have : t.val < 16 := t.isLt; omega⟩ d) := by
  have ht : t.val < 16 := t.isLt
  blk_point [iblk, V, at_point t]

theorem read_1 (c : Dev nD) (t : Fin cfg0.N) (r : Fin 16) (d : Fin 1024) :
    iblk m c 1 t (ix2 r d) = aG m c (ix2 ⟨16 * min ((t.val + 1) * 32) 511 + r.val, by have : t.val < 16 := t.isLt; omega⟩ d) := by
  have ht : t.val < 16 := t.isLt
  blk_point [iblk, V, at_point t]

/-- The padded weights hold the weights in their first three rows and zeros below. -/
theorem entry_w (c : Dev nD) (r : Fin 8) (d : Fin 1024) :
    V m c main_v0 (ix2 r d) = if h : r.val < 3 then aW m c (ix2 ⟨r.val, h⟩ d) else 0 := by
  have e : V m c main_v0 = pad S8x1024 ![0, 0] ![5, 0] ![0, 0] (aW m c) (sitofp .f32 (constantI S_ 32 0#32)) pads_S3x1024_S8x1024_050_000 h_S_ := by
    simp only [V, hostOps0, hostOps0_1, hostOps0_2, List.flatten_cons, List.flatten_nil, List.append_nil, List.cons_append, List.nil_append]
    after_results
    try rfl
  rw [e]
  pointwise []
  split_ifs
  · rfl
  · show (((0#32).toInt : ℝ) : EReal) = 0
    norm_num

theorem read_8 (c : Dev nD) (t : Fin cfg0.N) (r : Fin 8) (d : Fin 1024) :
    iblk m c 8 t (ix2 r d) = if h : r.val < 3 then aW m c (ix2 ⟨r.val, h⟩ d) else 0 := by
  rw [← entry_w]
  unfold iblk
  blk_point [at_point t]

theorem input_at (c : Dev nD) (t : Fin cfg0.N) :
    Input (aP m c) (grid0.coords t) (X0_4 m c t) (X0_5 m c t) (X0_6 m c t) (X0_7 m c t) := by
  have ht : t.val < 16 := t.isLt
  have hn : (grid0.coords t 0).val = t.val := (at_point t).2.2.2.2.2.2.2.2.2.2.2
  refine ⟨fun r d => ?_, fun h0 d => ?_, fun h0 d => ?_⟩
  · rw [read_4, read_5, cu, dif_pos (by omega)]
    simp only [hn]
  · rw [read_6, read_7, cu, dif_pos (by omega)]
    have e : 512 * t.val - 16 + (15 : Fin 16).val = 512 * (grid0.coords t 0).val - 1 := by
      rw [show (15 : Fin 16).val = 15 from rfl]; omega
    simp only [e]
  · rw [read_6, read_7, cu, dif_pos (by omega)]
    have e : 512 * t.val - 16 + (14 : Fin 16).val = 512 * (grid0.coords t 0).val - 2 := by
      rw [show (14 : Fin 16).val = 14 from rfl]; omega
    simp only [e]

theorem cotangent_at (c : Dev nD) (t : Fin cfg0.N) :
    Cotangent (aG m c) (aP m c) (grid0.coords t) (iblk m c 0 t) (X0_2 m c t) (iblk m c 1 t) (X0_3 m c t) := by
  have ht : t.val < 16 := t.isLt
  have hn : (grid0.coords t 0).val = t.val := (at_point t).2.2.2.2.2.2.2.2.2.2.2
  refine ⟨fun r d => ?_, fun h0 d => ?_, fun h0 d => ?_⟩
  · rw [read_0, read_2, dcv, dif_pos (by omega)]
    simp only [hn]
  · rw [read_1, read_3, dcv, dif_pos (by omega)]
    have e : 16 * min ((t.val + 1) * 32) 511 + (0 : Fin 16).val = 512 * (grid0.coords t 0).val + 512 := by
      rw [show (0 : Fin 16).val = 0 from rfl]; omega
    simp only [e]
  · rw [read_1, read_3, dcv, dif_pos (by omega)]
    have e : 16 * min ((t.val + 1) * 32) 511 + (1 : Fin 16).val = 512 * (grid0.coords t 0).val + 513 := by
      rw [show (1 : Fin 16).val = 1 from rfl]; omega
    simp only [e]

/-- The first result: the cotangents of the three convolution columns, the other columns as they were. -/
def dproj (G : FVec Ideal S8192x1024 .bf16) (P : FVec Ideal S8192x6656 .bf16) (W : FVec Ideal S3x1024 .f32)
    (E : FVec Ideal S8192x6656 .bf16) : FVec Ideal S8192x6656 .bf16 := fun i =>
  if h : (i 1).val < 1024 then G (ix2 (i 0) ⟨(i 1).val, h⟩) * cv P W (i 0).val ⟨(i 1).val, h⟩
  else if h : (i 1).val < 2048 then
    dcu G P W (i 0).val ⟨(i 1).val - 1024, by omega⟩ * P (ix2 (i 0) ⟨(i 1).val + 1024, by omega⟩)
  else if h : (i 1).val < 3072 then
    dcu G P W (i 0).val ⟨(i 1).val - 2048, by omega⟩ * P (ix2 (i 0) ⟨(i 1).val - 1024, by omega⟩)
  else E i

/-- The result array starts as the argument it takes over. -/
theorem entry_e (c : Dev nD) : V m c main_v1_0 = aE m c := by
  simp only [V, hostOps0, hostOps0_1, hostOps0_2, List.flatten_cons, List.flatten_nil, List.append_nil, List.cons_append, List.nil_append]
  after_results
  try rfl

section Columns

variable {G : FVec Ideal S8192x1024 .bf16} {P : FVec Ideal S8192x6656 .bf16} {W : FVec Ideal S3x1024 .f32} {E : FVec Ideal S8192x6656 .bf16}

theorem dproj_gate (t : Fin 8192) (e : Fin 6656) (d : Fin 1024) (h : e.val = d.val) :
    dproj G P W E (ix2 t e) = G (ix2 t d) * cv P W t.val d := by
  obtain ⟨e, he⟩ := e
  obtain rfl : e = d.val := h
  exact dif_pos d.isLt

theorem dproj_left (t : Fin 8192) (e : Fin 6656) (d : Fin 1024) (h : e.val = 1024 + d.val) :
    dproj G P W E (ix2 t e) = dcu G P W t.val d * P (ix2 t ⟨2048 + d.val, by omega⟩) := by
  obtain ⟨e, he⟩ := e
  obtain rfl : e = 1024 + d.val := h
  refine (dif_neg (by show ¬ 1024 + d.val < 1024; omega)).trans ((dif_pos (by show 1024 + d.val < 2048; omega)).trans ?_)
  exact congrArg₂ (· * ·) (congrArg (dcu G P W t.val) (Fin.ext (by show 1024 + d.val - 1024 = _; omega)))
    (congrArg (fun e => P (ix2 t e)) (Fin.ext (by show 1024 + d.val + 1024 = 2048 + d.val; omega)))

theorem dproj_right (t : Fin 8192) (e : Fin 6656) (d : Fin 1024) (h : e.val = 2048 + d.val) :
    dproj G P W E (ix2 t e) = dcu G P W t.val d * P (ix2 t ⟨1024 + d.val, by omega⟩) := by
  obtain ⟨e, he⟩ := e
  obtain rfl : e = 2048 + d.val := h
  refine (dif_neg (by show ¬ 2048 + d.val < 1024; omega)).trans ((dif_neg (by show ¬ 2048 + d.val < 2048; omega)).trans
    ((dif_pos (by show 2048 + d.val < 3072; omega)).trans ?_))
  exact congrArg₂ (· * ·) (congrArg (dcu G P W t.val) (Fin.ext (by show 2048 + d.val - 2048 = _; omega)))
    (congrArg (fun e => P (ix2 t e)) (Fin.ext (by show 2048 + d.val - 1024 = 1024 + d.val; omega)))

theorem dproj_rest (t : Fin 8192) (e : Fin 6656) (h : 3072 ≤ e.val) : dproj G P W E (ix2 t e) = E (ix2 t e) :=
  (dif_neg (by show ¬ e.val < 1024; omega)).trans ((dif_neg (by show ¬ e.val < 2048; omega)).trans (dif_neg (by show ¬ e.val < 3072; omega)))

end Columns

/-- What a point writes to its block of the first result. -/
theorem block9 (c : Dev nD) (t : Fin cfg0.N) (r : Fin 512) (d : Fin 3072) :
    (outsAt0 m c t.val t.isLt).1 (ix2 r d) = dproj (aG m c) (aP m c) (aW m c) (aE m c)
      (ix2 ⟨512 * t.val + r.val, by have : t.val < 16 := t.isLt; omega⟩ ⟨d.val, by omega⟩) := by
  have ht : t.val < 16 := t.isLt
  have hn : (grid0.coords t 0).val = t.val := (at_point t).2.2.2.2.2.2.2.2.2.2.2
  have ld0 (d : Fin 1024) : View.ld (iblk m c 8 t) (Rect.unit ![0, 0] ![1, 1024] inb_S8x1024_S1x1024_0_0) (ix2 0 d) = aW m c (ix2 0 d) := by
    rw [← show (if h : (0 : Fin 8).val < 3 then aW m c (ix2 ⟨(0 : Fin 8).val, h⟩ d) else 0) = aW m c (ix2 0 d) from rfl, ← read_8 m c t]
    pointwise []
  have ld1 (d : Fin 1024) : View.ld (iblk m c 8 t) (Rect.unit ![1, 0] ![1, 1024] inb_S8x1024_S1x1024_1_0) (ix2 0 d) = aW m c (ix2 1 d) := by
    rw [← show (if h : (1 : Fin 8).val < 3 then aW m c (ix2 ⟨(1 : Fin 8).val, h⟩ d) else 0) = aW m c (ix2 1 d) from rfl, ← read_8 m c t]
    pointwise []
  have ld2 (d : Fin 1024) : View.ld (iblk m c 8 t) (Rect.unit ![2, 0] ![1, 1024] inb_S8x1024_S1x1024_2_0) (ix2 0 d) = aW m c (ix2 2 d) := by
    rw [← show (if h : (2 : Fin 8).val < 3 then aW m c (ix2 ⟨(2 : Fin 8).val, h⟩ d) else 0) = aW m c (ix2 2 d) from rfl, ← read_8 m c t]
    pointwise []
  by_cases h : t.val % 16 = 0
  on_goal 1 => rw [outsAt0_A m c t h]
  on_goal 2 => rw [outsAt0_B m c t h]
  all_goals frame_out
  all_goals canon_tiles x hx
  all_goals
    obtain ⟨a, b, rfl⟩ : ∃ (a : Fin 512) (b : Fin 1024), x = ix2 a b := ⟨x 0, x 1, (ix2_eta x).symm⟩
    obtain rfl : r = a := Fin.ext hx0
    first
      | rw [piece_right (cotangent_at m c t), ld0, ld1, ld2, read_4, hn, dproj_right _ _ b hx1]; rfl
      | rw [piece_left (cotangent_at m c t), ld0, ld1, ld2, read_5, hn, dproj_left _ _ b hx1]; rfl
      | rw [piece_gate (input_at m c t), ld0, ld1, ld2, read_0, hn, dproj_gate _ _ b hx1]; rfl

/-- The first result array. -/
theorem final9 (c : Dev nD) : (dats m 0 c).arrAt 9 (cfgs 0).N = dproj (aG m c) (aP m c) (aW m c) (aE m c) := by
  refine (dats m 0 c).arrAt_eq_of_coversWhere_of_agree 9 _ (fun β => β (1 : Fin 2) < 1) (by decide +kernel) (fun t hf y => ?_) (fun j hj => ?_)
  · blk_simp
    rw [after0_9]
    obtain ⟨r, d, e⟩ : ∃ (r : Fin 512) (d : Fin 3072), (cfg0.win 9).xinj (cfg0.grid.coords t) y = ix2 r d := ⟨_, _, (ix2_eta _).symm⟩
    rw [e, block9 m c t]
    refine congrArg (dproj (aG m c) (aP m c) (aW m c) (aE m c)) ?_
    blk_ext [at_point t]
    · have e0 : (y 0).val = r.val := congrArg (fun q => (q 0).val) e
      omega
    · exact (congrArg (fun q => (q 1).val) e).symm
  · blk_simp [Pipeline.Window.cell_apply] at hj
    have e : (dats m 0 c).A 9 = aE m c := entry_e m c
    rw [e]
    obtain ⟨t, k, rfl⟩ : ∃ (t : Fin 8192) (k : Fin 6656), j = ix2 t k := ⟨j 0, j 1, (ix2_eta j).symm⟩
    exact (dproj_rest t k (by have : ¬ k.val / 3072 < 1 := hj; omega)).symm

/-- The second result: in its first three rows the gradients of the three weights, zeros below. -/
def dweights (G : FVec Ideal S8192x1024 .bf16) (P : FVec Ideal S8192x6656 .bf16) : FVec Ideal S8x1024 .f32 := fun i =>
  if (i 0).val < 3 then ∑ t : Fin 8192, dcv G P t.val (i 1) * cuBack P (2 - (i 0).val) t.val (i 1) else 0

/-- One block's share of the second result. -/
def share (G : FVec Ideal S8192x1024 .bf16) (P : FVec Ideal S8192x6656 .bf16) (n : ℕ) (j : S8x1024.Idx) : EReal :=
  if (j 0).val < 3 then part G P (2 - (j 0).val) n (j 1) else 0

/-- Three stored rows over earlier contents. -/
theorem three_rows {sp : Space} (v : View sig .tc sp S8x1024 .f32) (f : v.ty.Contents (Elt Ideal)) (x0 x1 x2 : FVec Ideal S1x1024 .f32)
    (L : List (View.Piece (Elt Ideal) S8x1024 .f32)) (r : Fin 8) (d : Fin 1024) :
    v.read (Elt Ideal) (v.writes (Elt Ideal) f (⟨Rect.unit ![2, 0] ![1, 1024] inb_S8x1024_S1x1024_2_0, x2⟩
      :: ⟨Rect.unit ![1, 0] ![1, 1024] inb_S8x1024_S1x1024_1_0, x1⟩ :: ⟨Rect.unit ![0, 0] ![1, 1024] inb_S8x1024_S1x1024_0_0, x0⟩ :: L)) (ix2 r d)
      = if r.val = 2 then x2 (ix2 0 d) else if r.val = 1 then x1 (ix2 0 d) else if r.val = 0 then x0 (ix2 0 d)
        else v.read (Elt Ideal) (v.writes (Elt Ideal) f L) (ix2 r d) := by
  have n2 (h : ¬ r.val = 2) (x L) := View.read_writes_cons_rows_of_not_mem v f inb_S8x1024_S1x1024_2_0 x L (ix2 r d) rfl (W := 1) rfl
    (by show r.val < 2 ∨ 3 ≤ r.val; omega)
  have n1 (h : ¬ r.val = 1) (x L) := View.read_writes_cons_rows_of_not_mem v f inb_S8x1024_S1x1024_1_0 x L (ix2 r d) rfl (W := 1) rfl
    (by show r.val < 1 ∨ 2 ≤ r.val; omega)
  have n0 (h : ¬ r.val = 0) (x L) := View.read_writes_cons_rows_of_not_mem v f inb_S8x1024_S1x1024_0_0 x L (ix2 r d) rfl (W := 1) rfl
    (by show r.val < 0 ∨ 1 ≤ r.val; omega)
  split_ifs with h2 h1 h0
  · exact View.read_writes_cons_rows_of_mem v f _ x2 _ (ix2 r d) (ix2 0 d) rfl h2 rfl
  · exact (n2 h2 _ _).trans (View.read_writes_cons_rows_of_mem v f _ x1 _ (ix2 r d) (ix2 0 d) rfl h1 rfl)
  · exact (n2 h2 _ _).trans ((n1 h1 _ _).trans (View.read_writes_cons_rows_of_mem v f _ x0 _ (ix2 r d) (ix2 0 d) rfl h0 rfl))
  · exact (n2 h2 _ _).trans ((n1 h1 _ _).trans (n0 h0 _ _))

/-- A row of the accumulator. -/
theorem ld_row (x : Vec Ideal S8x1024 .f32) (d : Fin 1024) :
    View.ld x (Rect.unit ![0, 0] ![1, 1024] inb_S8x1024_S1x1024_0_0) (ix2 0 d) = x (ix2 0 d)
    ∧ View.ld x (Rect.unit ![1, 0] ![1, 1024] inb_S8x1024_S1x1024_1_0) (ix2 0 d) = x (ix2 1 d)
    ∧ View.ld x (Rect.unit ![2, 0] ![1, 1024] inb_S8x1024_S1x1024_2_0) (ix2 0 d) = x (ix2 2 d) := by
  refine ⟨?_, ?_, ?_⟩ <;> pointwise []

theorem share_row (G : FVec Ideal S8192x1024 .bf16) (P : FVec Ideal S8192x6656 .bf16) (n : ℕ) (r : Fin 8) (d : Fin 1024) :
    share G P n (ix2 r d) = if r.val = 2 then part G P 0 n d else if r.val = 1 then part G P 1 n d
      else if r.val = 0 then part G P 2 n d else 0 := by
  show (if r.val < 3 then part G P (2 - r.val) n d else 0) = _
  split_ifs with h3 h2 h1 h0 <;> first | omega | rfl | simp [*]

theorem next10 (c : Dev nD) (t : Fin cfg0.N) (h : ¬ t.val % 16 = 0) (j : S8x1024.Idx) :
    (outsAt0 m c t.val t.isLt).2 j = (outsAt0 m c (t.val - 1) (by have := t.isLt; omega)).2 j + share (aG m c) (aP m c) t.val j := by
  have hn : (grid0.coords t 0).val = t.val := (at_point t).2.2.2.2.2.2.2.2.2.2.2
  rw [outsAt0_B m c t h]; frame_out
  obtain ⟨r, d, rfl⟩ : ∃ (r : Fin 8) (d : Fin 1024), j = ix2 r d := ⟨j 0, j 1, (ix2_eta j).symm⟩
  rw [three_rows, share_row, sum_zero (input_at m c t) (cotangent_at m c t), sum_one (input_at m c t) (cotangent_at m c t),
    sum_two (input_at m c t) (cotangent_at m c t), (ld_row _ d).1, (ld_row _ d).2.1, (ld_row _ d).2.2, hn]
  split_ifs with h2 h1 h0
  · rw [show r = 2 from Fin.ext h2]
  · rw [show r = 1 from Fin.ext h1]
  · rw [show r = 0 from Fin.ext h0]
  · rw [add_zero, View.writes_nil]
    exact congrFun (Memref.IsWhole.read_unread _ _) _

theorem first10 (c : Dev nD) (t : Fin cfg0.N) (h : t.val % 16 = 0) (j : S8x1024.Idx) :
    (outsAt0 m c t.val t.isLt).2 j = 0 + share (aG m c) (aP m c) t.val j := by
  have hn : (grid0.coords t 0).val = t.val := (at_point t).2.2.2.2.2.2.2.2.2.2.2
  rw [outsAt0_A m c t h]; frame_out
  obtain ⟨r, d, rfl⟩ : ∃ (r : Fin 8) (d : Fin 1024), j = ix2 r d := ⟨j 0, j 1, (ix2_eta j).symm⟩
  simp (config := { decide := true }) only [↓View.readCov_skip, View.readCov_fill]
  rw [← View.read_writes_junk_eq_canon (ms0_10 t).view, three_rows, share_row, sum_zero (input_at m c t) (cotangent_at m c t), sum_one (input_at m c t) (cotangent_at m c t),
    sum_two (input_at m c t) (cotangent_at m c t), (ld_row _ d).1, (ld_row _ d).2.1, (ld_row _ d).2.2, hn]
  have z (y : S8x1024.Idx) : k0_pay3 (F := Ideal) y = (0 : EReal) := by pointwise [k0_pay3]
  have f : View.read (Elt Ideal) (ms0_10 t).view ((ms0_10 t).view.writes (Elt Ideal) (ms0_10 t).view.junk
      [⟨Rect.unit ![0, 0] ![8, 1024] inb_S8x1024_S8x1024_0_0, k0_pay3 (F := Ideal)⟩]) (ix2 r d) = k0_pay3 (F := Ideal) (ix2 r d) :=
    View.read_writes_cons_rows_of_mem _ _ inb_S8x1024_S8x1024_0_0 _ [] (ix2 r d) (ix2 r d) rfl (Nat.zero_add _).symm rfl
  rw [f, z, z, z, z]
  split_ifs <;> simp

/-- The second result array. -/
theorem final10 (c : Dev nD) : (dats m 0 c).arrAt 10 (cfgs 0).N = dweights (aG m c) (aP m c) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0) _
    (first10 m c) (next10 m c) (le_of_eq N_0) t0_15 rfl j, zero_add]
  obtain ⟨r, d, rfl⟩ : ∃ (r : Fin 8) (d : Fin 1024), j = ix2 r d := ⟨j 0, j 1, (ix2_eta j).symm⟩
  show ∑ p : Fin grid0.N, (if r.val < 3 then part (aG m c) (aP m c) (2 - r.val) p.val d else 0)
    = if r.val < 3 then ∑ t : Fin 8192, dcv (aG m c) (aP m c) t.val d * cuBack (aP m c) (2 - r.val) t.val d else 0
  split_ifs
  · exact Fin.sum_mul_add_congr fun s k hl => by rw [Nat.mul_comm 512]
  · exact Finset.sum_const_zero

end Kernel

section Reference

open Cert.ReferenceIdeal.Read

variable (G : FVec Ideal S8192x1024 .bf16) (P : FVec Ideal S8192x6656 .bf16) (W : FVec Ideal S3x1024 .f32) (E : FVec Ideal S8192x6656 .bf16)

/-- The reference's input of the convolution. -/
theorem ref_in (t : Fin 8192) (d : Fin 1024) : val_main_v4 (F := Ideal) P (ix2 t d) = cu P t.val d := by
  obtain ⟨t, ht⟩ := t
  pointwise [val_main_v4, val_main_v3, val_main_v2, val_main_v0, cu]
  simp only [dif_pos ht]
  first | done | congr 3 <;> exact congrArg _ (Fin.ext (by first | omega | (simp; omega)))

/-- Its padded input read from the first row: the input two positions back. -/
theorem ref_two (t : Fin 8192) (d : Fin 1024) : val_main_v8 (F := Ideal) P (ix2 t d) = cuBack P 2 t.val d := by
  pointwise [val_main_v8, val_main_v6, val_main_v5, val_main_cst, cuBack]
  split_ifs <;> first | rfl | (exfalso; omega) | exact ref_in P _ d

/-- Read from the second row: the input one position back. -/
theorem ref_one (t : Fin 8192) (d : Fin 1024) : val_main_v14 (F := Ideal) P (ix2 t d) = cuBack P 1 t.val d := by
  pointwise [val_main_v14, val_main_v6, val_main_v5, val_main_cst, cuBack]
  by_cases h : t.val < 1
  · simp only [dif_pos (show 1 + t.val < 2 by omega), if_pos h]
  · simp only [dif_neg (show ¬ 1 + t.val < 2 by omega), if_neg h]
    exact (ref_in P _ d).trans (congrArg (cu P · d) (by dsimp only; omega))

/-- Read from the third row: the input itself. -/
theorem ref_zero (t : Fin 8192) (d : Fin 1024) : val_main_v21 (F := Ideal) P (ix2 t d) = cuBack P 0 t.val d := by
  pointwise [val_main_v21, val_main_v6, val_main_v5, val_main_cst, cuBack]
  exact (ref_in P _ d).trans (congrArg (cu P · d) (by dsimp only))

/-- The reference's convolution. -/
theorem ref_cv (t : Fin 8192) (d : Fin 1024) : val_main_v27 (F := Ideal) P W (ix2 t d) = cv P W t.val d := by
  unfold cv
  rw [← ref_zero, ← ref_one, ← ref_two]
  pointwise [val_main_v27, val_main_v26, val_main_v25, val_main_v24, val_main_v23, val_main_v22, val_main_v20, val_main_v19, val_main_v18, val_main_v17, val_main_v16, val_main_v15, val_main_v13, val_main_v12, val_main_v11, val_main_v10, val_main_v9, val_main_v7]
  simp only [mul_comm]

/-- The cotangent of the reference's convolution. -/
theorem ref_dcv (t : Fin 8192) (d : Fin 1024) : val_main_v30 (F := Ideal) G P (ix2 t d) = dcv G P t.val d := by
  obtain ⟨t, ht⟩ := t
  pointwise [val_main_v30, val_main_v29, val_main_v1, val_main_v0, dcv]
  simp only [dif_pos ht]
  exact mul_comm _ _

/-- The cotangent of the convolution's input. -/
theorem ref_dcu (t : Fin 8192) (d : Fin 1024) : val_main_v64 (F := Ideal) G P W (ix2 t d) = dcu G P W t.val d := by
  pointwise [val_main_v64, val_main_v62, val_main_v61, val_main_v56, val_main_v51, val_main_v50, val_main_v45, val_main_v40, val_main_v36, val_main_v35, val_main_v44, val_main_v55, val_main_cst_4, val_main_cst_8, val_main_cst_12, val_main_v24, val_main_v23, val_main_v22, val_main_v17, val_main_v16, val_main_v15, val_main_v11, val_main_v10, val_main_v9, dcu]
  simp only [ref_dcv]
  have one : (if h : 1 ≤ 2 + t.val ∧ 2 + t.val - 1 < 8192 then dcv G P (2 + t.val - 1) d * W (ix2 1 d) else 0) = W (ix2 1 d) * dcv G P (t.val + 1) d := by
    split_ifs with h
    · rw [show 2 + t.val - 1 = t.val + 1 by omega, mul_comm]
    · rw [dcv, dif_neg (by omega), mul_zero]
  have two : (if h : 2 + t.val < 8192 then dcv G P (2 + t.val) d * W (ix2 0 d) else 0) = W (ix2 0 d) * dcv G P (t.val + 2) d := by
    split_ifs with h
    · rw [add_comm 2, mul_comm]
    · rw [dcv, dif_neg (by omega), mul_zero]
  exact congrArg₂ (· + ·) (congrArg₂ (· + ·) (mul_comm _ _) one) two

/-- The gradient of the three weights. -/
theorem ref_dw (r : Fin 3) (d : Fin 1024) : val_main_v60 (F := Ideal) G P (ix2 r d) = ∑ t : Fin 8192, dcv G P t.val d * cuBack P (2 - r.val) t.val d := by
  pointwise [val_main_v60, val_main_v49, val_main_v39, val_main_v48, val_main_v59, val_main_v58, val_main_v54, val_main_v53, val_main_v57, val_main_v52, val_main_v38, val_main_v34, val_main_v33, val_main_v37, val_main_v32, val_main_v43, val_main_v42, val_main_v41, val_main_v47, val_main_v46, val_main_cst_1, val_main_cst_2, val_main_cst_3, val_main_cst_5, val_main_cst_6, val_main_cst_7, val_main_cst_9, val_main_cst_10, val_main_cst_11]
  simp only [ref_dcv, ref_zero, ref_one, ref_two]
  obtain ⟨r, hr⟩ := r
  interval_cases r <;> simp [mul_comm]

/-- The reference's first result. -/
theorem ref_first : val_main_v70 (F := Ideal) G P W E = dproj G P W E := by
  funext i
  idx_vars i
  pointwise [val_main_v70, val_main_v69, val_main_v31, val_main_v29, val_main_v65, val_main_v66, val_main_v68, val_main_v67, val_main_v3, val_main_v2, val_main_v0, val_main_v28, val_main_v1, dproj]
  simp only [ref_dcu, ref_cv]
  have e {a b : Fin 6656} (h : a.val = b.val) : P (ix2 i0 a) = P (ix2 i0 b) := congrArg (fun x => P (ix2 i0 x)) (Fin.ext h)
  have f {a b : Fin 1024} (h : a.val = b.val) : dcu G P W i0.val a = dcu G P W i0.val b := congrArg _ (Fin.ext h)
  by_cases h0 : i1.val < 1024
  · simp only [dif_pos h0]
  by_cases h1 : i1.val < 2048
  · have g1 : i1.val - 1024 < 1024 := by omega
    simp only [dif_neg h0, dif_pos h1, dif_pos g1]
    exact congrArg (_ * ·) (e (by simp only []; omega))
  have g1 : ¬ i1.val - 1024 < 1024 := by omega
  by_cases h2 : i1.val < 3072
  · have g2 : i1.val - 1024 - 1024 < 1024 := by omega
    simp only [dif_neg h0, dif_neg h1, dif_neg g1, dif_pos h2, dif_pos g2]
    exact (mul_comm _ _).trans (congrArg₂ (· * ·) (f (by simp only []; omega)) (e (by simp only []; omega)))
  have g2 : ¬ i1.val - 1024 - 1024 < 1024 := by omega
  simp only [dif_neg h0, dif_neg h1, dif_neg g1, dif_neg h2, dif_neg g2]
  exact congrArg (fun x => E (ix2 i0 x)) (Fin.ext (by simp only []; omega))

/-- The reference's second result. -/
theorem ref_second : val_main_v71 (F := Ideal) G P = dweights G P := by
  funext i
  idx_vars i
  pointwise [val_main_v71, val_main_call0_v0, val_main_c, dweights]
  split_ifs with h
  · exact ref_dw G P ⟨_, h⟩ _
  · show (((0#32).toInt : ℝ) : EReal) = 0
    simp

open Cert.ReferenceIdeal in
/-- The first array the reference returns. -/
theorem result_first (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v70 m' c = dproj (m' (c.tc.loc main_arg0)) (m' (c.tc.loc main_arg1)) (m' (c.tc.loc main_arg2)) (m' (c.tc.loc main_arg3)) :=
  (val_main_v70_eq m' c).trans (ref_first _ _ _ _)

end Reference

/-- From equal arguments the kernel and the reference end with equal results. -/
theorem pair : algebraic_KernelIdeal_ReferenceIdeal := by
  pair_intro
  · run_from Cert.KernelIdeal.Gen.run_main m g
    all_goals
      simp only [hostOps0, hostOps0_1, hostOps0_2, List.flatten_cons, List.flatten_nil, List.append_nil, List.cons_append, List.nil_append]
      after_results
      try rfl
  · run_from Cert.ReferenceIdeal.Value.run m' g'
    · obtain ⟨e0, e1, e2, e3⟩ := hagree c
      refine (result_first m' c).trans ?_
      rw [e0, e1, e2, e3]
      exact (final9 m c).symm
    · obtain ⟨-, e1, -⟩ := hagree c
      rw [e1]
      exact ((Cert.ReferenceIdeal.Read.val_main_v71_eq (F := Ideal) (aG m c) (aP m c)).trans (ref_second (aG m c) (aP m c))).trans (final10 m c).symm

end Cert.ConvBwd
end
-- ==== Proof.NormGrad.lean ====
/- The gradient of a root-mean-square norm in its input: the compact form of a kernel and the terms a plain
   differentiation leaves are one extended real, at every input. -/
module

public import Idealize.ShloMosaic.Lib.Pipeline.ValueKit
public import Idealize.ShloMosaic.Lib.Pointwise

@[expose] public section

noncomputable section

open Idealize.ShloMosaic
open scoped BigOperators

namespace Cert.NormGrad

/-- The number of features as a constant of the program. -/
theorem width : Ideal.ofBits FTy.f32 0x44800000#32 = ((1024 : ℝ) : EReal) := by
  simp [Ideal.ofBits, Ideal.ieee, -EReal.coe_mul]; norm_num

/-- Minus one half as a constant of the program. -/
theorem minus_half : Ideal.ofBits FTy.f32 0xBF000000#32 = ((-(1 / 2) : ℝ) : EReal) := by
  simp [Ideal.ofBits, Ideal.ieee, -EReal.coe_mul]; norm_num

/-- The small constant under the root is a positive real. -/
theorem small : ∃ e : ℝ, 0 < e ∧ Ideal.ofBits FTy.f32 0x358637BD#32 = (e : EReal) := by
  refine ⟨_, ?_, by simp [Ideal.ofBits, Ideal.ieee, -EReal.coe_mul]; rfl⟩
  positivity

/-- A sum of squares is finite with finite terms, and infinite otherwise. -/
theorem squares {n : ℕ} (a : Fin n → EReal) :
    (∃ b : Fin n → ℝ, ∀ e, a e = (b e : EReal)) ∨ ∑ e, a e * a e = ⊤ := by
  by_cases h : ∀ e, a e ≠ ⊤ ∧ a e ≠ ⊥
  · exact .inl ⟨fun e => (a e).toReal, fun e => (EReal.coe_toReal (h e).1 (h e).2).symm⟩
  · right
    push Not at h
    obtain ⟨e, he⟩ := h
    have top : a e * a e = ⊤ := by
      by_cases ht : a e = ⊤
      · simp [ht]
      · simp [he ht]
    have nonneg : ∀ e, 0 ≤ a e * a e := fun e => by
      rcases le_total 0 (a e) with h | h
      · exact mul_nonneg h h
      · exact EReal.mul_nonneg_iff.2 (.inr ⟨h, h⟩)
    exact top_le_iff.1 (top ▸ Finset.single_le_sum (f := fun e => a e * a e) (fun e _ => nonneg e) (Finset.mem_univ e))

/-- Twice a real multiple is the multiple by the double. -/
theorem mul_add_self (S : EReal) (c : ℝ) : S * (c : EReal) + S * (c : EReal) = S * ((2 * c : ℝ) : EReal) := by
  rw [two_mul, EReal.coe_add]
  rcases le_total 0 c with h | h
  · exact (EReal.left_distrib_of_nonneg (EReal.coe_nonneg.2 h) (EReal.coe_nonneg.2 h)).symm
  · obtain ⟨b, rfl⟩ : ∃ b : ℝ, c = -b := ⟨-c, (neg_neg c).symm⟩
    have hb : 0 ≤ b := neg_nonpos.1 h
    have e := EReal.left_distrib_of_nonneg (c := S) (EReal.coe_nonneg.2 hb) (EReal.coe_nonneg.2 hb)
    rw [← EReal.coe_add, ← neg_add, EReal.coe_neg, EReal.coe_neg, mul_neg, mul_neg, EReal.coe_add, e, EReal.neg_add, sub_eq_add_neg]
    · by_cases hx : S * (b : EReal) = ⊥
      · exact .inr (by rw [hx]; exact bot_ne_top)
      · exact .inl hx
    · by_cases hx : S * (b : EReal) = ⊤
      · exact .inr (by rw [hx]; exact top_ne_bot)
      · exact .inl hx

/-- A real factor that is not negative comes out of a sum. -/
theorem sum_mul {n : ℕ} (f : Fin n → EReal) {r : ℝ} (hr : 0 ≤ r) : ∑ e, f e * (r : EReal) = (∑ e, f e) * (r : EReal) := by
  induction n with
  | zero => simp
  | succ n ih => rw [Fin.sum_univ_succ, Fin.sum_univ_succ, ih fun e => f e.succ, EReal.right_distrib_of_nonneg_of_ne_top (EReal.coe_nonneg.2 hr) (EReal.coe_ne_top r)]

/-- A sum of real squares is real. -/
theorem squares_coe {n : ℕ} (b : Fin n → ℝ) : ∑ e, (b e : EReal) * (b e : EReal) = ((∑ e, b e * b e : ℝ) : EReal) := by
  induction n with
  | zero => simp
  | succ n ih => rw [Fin.sum_univ_succ, Fin.sum_univ_succ, ih fun e => b e.succ, EReal.coe_add, EReal.coe_mul]

/-- The mean square, a small constant added. -/
def ms {n : ℕ} (a : Fin n → EReal) : EReal :=
  Ideal.div (∑ e, a e * a e) (Ideal.ofBits FTy.f32 0x44800000#32) + Ideal.ofBits FTy.f32 0x358637BD#32

/-- The input's cotangent, from the compact form to the terms of a plain differentiation. -/
theorem input {n : ℕ} (a h : Fin n → EReal) (o : EReal) (d : Fin n) :
    o + Ideal.rsqrt (ms a) * (h d - a d * Ideal.rsqrt (ms a)
        * Ideal.div (∑ e, h e * (a e * Ideal.rsqrt (ms a))) (Ideal.ofBits FTy.f32 0x44800000#32))
      = o + h d * Ideal.rsqrt (ms a)
        + a d * Ideal.div ((∑ e, a e * h e) * (Ideal.ofBits FTy.f32 0xBF000000#32 * Ideal.div (Ideal.rsqrt (ms a)) (ms a))) (Ideal.ofBits FTy.f32 0x44800000#32)
        + Ideal.div ((∑ e, a e * h e) * (Ideal.ofBits FTy.f32 0xBF000000#32 * Ideal.div (Ideal.rsqrt (ms a)) (ms a))) (Ideal.ofBits FTy.f32 0x44800000#32) * a d := by
  obtain ⟨ε, hε, eε⟩ := small
  rw [width, minus_half]
  rcases squares a with ⟨b, hb⟩ | htop
  · have sq : ∑ e, a e * a e = ((∑ e, b e * b e : ℝ) : EReal) := by
      rw [← squares_coe]
      exact Finset.sum_congr rfl fun e _ => by rw [hb]
    obtain ⟨M, hM, eM⟩ : ∃ M : ℝ, 0 < M ∧ ms a = (M : EReal) := by
      refine ⟨(∑ e, b e * b e) * (1 / 1024) + ε, ?_, ?_⟩
      · have : 0 ≤ ∑ e, b e * b e := Finset.sum_nonneg fun e _ => mul_self_nonneg _
        positivity
      · rw [ms, sq, width, eε, Ideal.div_coe (by norm_num), ← EReal.coe_mul, ← EReal.coe_add]
    have hs : 0 < Real.sqrt M := Real.sqrt_pos.2 hM
    obtain ⟨r, hr, er⟩ : ∃ r : ℝ, r = (Real.sqrt M)⁻¹ ∧ Ideal.rsqrt (ms a) = (r : EReal) := ⟨_, rfl, by
      rw [eM, Ideal.rsqrt_coe, if_neg (not_lt.2 hM.le), if_neg hM.ne']⟩
    have hr0 : 0 ≤ r := hr ▸ (inv_pos.2 hs).le
    have rM : r * (1 / M) = r * r * r := by
      have e : r * r = 1 / M := by rw [hr, ← mul_inv, Real.mul_self_sqrt hM.le, one_div]
      rw [mul_assoc, e]
    have sum : ∑ e, h e * (a e * (r : EReal)) = (∑ e, a e * h e) * (r : EReal) := by
      rw [← sum_mul _ hr0]
      exact Finset.sum_congr rfl fun e _ => by rw [← mul_assoc, mul_comm (h e)]
    rw [er, eM, Ideal.div_coe hM.ne', Ideal.div_coe (by norm_num), Ideal.div_coe (by norm_num), sum, hb d]
    generalize ∑ e, a e * h e = S
    have z : (b d : EReal) * (S * (((-(1 / 2) : ℝ) : EReal) * ((r : EReal) * ((1 / M : ℝ) : EReal))) * ((1 / 1024 : ℝ) : EReal))
        = S * ((b d * (-(1 / 2) * (r * r * r)) * (1 / 1024) : ℝ) : EReal) := by
      rw [← rM]; push_cast; ac_rfl
    rw [mul_comm _ (b d : EReal), z, add_assoc, mul_add_self, sub_eq_add_neg, EReal.left_distrib_of_nonneg_of_ne_top (EReal.coe_nonneg.2 hr0) (EReal.coe_ne_top r), add_assoc,
      mul_comm (h d)]
    refine congrArg (fun w => o + ((r : EReal) * h d + w)) ?_
    have k : (r : EReal) * ((b d : EReal) * (r : EReal) * (S * (r : EReal) * ((1 / 1024 : ℝ) : EReal))) = S * ((r * b d * r * r * (1 / 1024) : ℝ) : EReal) := by
      push_cast; ac_rfl
    rw [mul_neg, k, ← mul_neg, ← EReal.coe_neg]
    refine congrArg (fun w : ℝ => S * (w : EReal)) ?_
    ring
  · have em : ms a = ⊤ := by
      rw [ms, htop, width, eε, Ideal.div_coe (by norm_num), EReal.top_mul_coe_of_pos (by norm_num), EReal.top_add_coe]
    rw [em, Ideal.rsqrt_top]
    simp [Ideal.div]

end Cert.NormGrad
end
-- ==== Proof.UpDx.lean ====
/- The gradient of a normalised, modulated projection in its input: what the tiled product and its norm's backward leave
   in the four result arrays, and the plain gradient's own terms, are the same arrays. -/
module

public import proofs.«01_k».proof.Defs
public import proofs.«01_k».proof.Proof.Gen.Kernel2Ideal.Frame
public import proofs.«01_k».proof.Proof.Gen.Reference2Ideal.Run
public import proofs.«01_k».proof.Proof.Gen.Reference2Ideal.Read
public import proofs.«01_k».proof.Proof.NormGrad
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.UpDx

section Spec

open Cert.Kernel2Ideal

variable (X : FVec Ideal S2x8192x2816 .bf16) (W : FVec Ideal S5632x1024 .bf16) (A : FVec Ideal S8192x1024 .f32)
  (G S : FVec Ideal S1x1024 .f32) (O : FVec Ideal S8192x1024 .f32)

/-- The cotangent of the modulated input: both cotangents through their halves of the weights. -/
def du (t : Fin 8192) (d : Fin 1024) : EReal :=
  ∑ k : Fin 2816, X (ix3 0 t k) * W (ix2 ⟨k.val, by omega⟩ d) + ∑ k : Fin 2816, X (ix3 1 t k) * W (ix2 ⟨2816 + k.val, by omega⟩ d)

/-- The mean square of a token's features, with the small constant added. -/
def ms (t : Fin 8192) : EReal :=
  Ideal.div (∑ d : Fin 1024, A (ix2 t d) * A (ix2 t d)) (Ideal.ofBits FTy.f32 0x44800000#32) + Ideal.ofBits FTy.f32 0x358637BD#32

/-- The reciprocal root mean square. -/
def inv (t : Fin 8192) : EReal := Ideal.rsqrt (ms A t)

/-- The cotangent of the normalised input. -/
def dn (t : Fin 8192) (d : Fin 1024) : EReal := du X W t d * (Ideal.ofBits FTy.f32 0x3F800000#32 + S (ix2 0 d)) * G (ix2 0 d)

/-- The cotangent of the input. -/
def dx (t : Fin 8192) (d : Fin 1024) : EReal :=
  O (ix2 t d) + inv A t * (dn X W G S t d - A (ix2 t d) * inv A t *
    Ideal.div (∑ e : Fin 1024, dn X W G S t e * (A (ix2 t e) * inv A t)) (Ideal.ofBits FTy.f32 0x44800000#32))

/-- A token's term of the gradient of the scale. -/
def dsc (t : Fin 8192) (d : Fin 1024) : EReal := du X W t d * (A (ix2 t d) * inv A t * G (ix2 0 d))

/-- A token's term of the gradient of the gain. -/
def dg (t : Fin 8192) (d : Fin 1024) : EReal :=
  du X W t d * (Ideal.ofBits FTy.f32 0x3F800000#32 + S (ix2 0 d)) * (A (ix2 t d) * inv A t)

/-- A column's sum over the tokens, as a row of one array. -/
def total (f : Fin 8192 → Fin 1024 → EReal) : FVec Ideal S1x1024 .f32 := fun i => ∑ t : Fin 8192, f t (i 1)

end Spec

section Payloads

open Cert.Kernel2Ideal Cert.Kernel2Ideal.Gen

variable {X : FVec Ideal S2x8192x2816 .bf16} {W : FVec Ideal S5632x1024 .bf16} {A : FVec Ideal S8192x1024 .f32}
  {G S : FVec Ideal S1x1024 .f32} {O : FVec Ideal S8192x1024 .f32}

/-- What a half block of 256 tokens loads: the cotangent, the input and the cotangent passed along, `row` naming its tokens. -/
structure Half (X : FVec Ideal S2x8192x2816 .bf16) (W : FVec Ideal S5632x1024 .bf16) (A O : FVec Ideal S8192x1024 .f32)
    (row : Fin 256 → Fin 8192) (u x o : Vec Ideal S256x1024 .f32) : Prop where
  u_eq : ∀ r d, u (ix2 r d) = du X W (row r) d
  x_eq : ∀ r d, x (ix2 r d) = A (ix2 (row r) d)
  o_eq : ∀ r d, o (ix2 r d) = O (ix2 (row r) d)

variable {row row' : Fin 256 → Fin 8192} {u x o u' x' o' : Vec Ideal S256x1024 .f32} {g s : Vec Ideal S1x1024 .f32}

/-- The cotangent a point's product gives. -/
theorem prod_at (v3 v7 : Vec Ideal S1x512x2816 .bf16) (v5 v9 : Vec Ideal S2816x1024 .bf16) (r : Fin 512) (d : Fin 1024) :
    k0_pay6 (F := Ideal) v3 v5 v7 v9 (ix2 r d) = ∑ k, v3 (ix3 0 r k) * v5 (ix2 k d) + ∑ k, v7 (ix3 0 r k) * v9 (ix2 k d) := by
  pointwise [k0_pay6]

/-- The first half's rows of the first result. -/
theorem dx_first (h : Half X W A O row u x o) (hg : ∀ d, g (ix2 0 d) = G (ix2 0 d)) (hs : ∀ d, s (ix2 0 d) = S (ix2 0 d)) (r : Fin 256) (d : Fin 1024) :
    k0_pay18 (F := Ideal) g (k0_pay7 s) u x (k0_pay11 x) (Scalar.ofBits .f32 0x44800000#32) o (ix2 r d) = dx X W A G S O (row r) d := by
  pointwise [k0_pay18, k0_pay13, k0_pay12, k0_pay11, k0_pay16, k0_pay7, dx, dn, inv, ms]
  simp only [h.u_eq, h.x_eq, h.o_eq, hg, hs]
  try rfl

/-- The second half's rows of the first result. -/
theorem dx_second (h : Half X W A O row u x o) (hg : ∀ d, g (ix2 0 d) = G (ix2 0 d)) (hs : ∀ d, s (ix2 0 d) = S (ix2 0 d)) (r : Fin 256) (d : Fin 1024) :
    k0_pay26 (F := Ideal) g (k0_pay7 s) u x (k0_pay19 x) k0_pay20 o (ix2 r d) = dx X W A G S O (row r) d := by
  pointwise [k0_pay26, k0_pay22, k0_pay21, k0_pay19, k0_pay20, k0_pay24, k0_pay7, dx, dn, inv, ms]
  simp only [h.u_eq, h.x_eq, h.o_eq, hg, hs]
  try rfl

/-- Both halves' share of the gradient of the shift. -/
theorem dsh_step (h : Half X W A O row u x o) (h' : Half X W A O row' u' x' o') (acc : Vec Ideal S1x1024 .f32) (d : Fin 1024) :
    k0_pay27 (F := Ideal) (k0_pay14 k0_pay8 u) u' acc (ix2 0 d)
      = acc (ix2 0 d) + (∑ r, du X W (row r) d + ∑ r, du X W (row' r) d) := by
  pointwise [k0_pay27, k0_pay14, k0_pay8]
  simp only [h.u_eq, h'.u_eq]
  try rfl

/-- Both halves' share of the gradient of the scale. -/
theorem dsc_step (h : Half X W A O row u x o) (h' : Half X W A O row' u' x' o') (hg : ∀ d, g (ix2 0 d) = G (ix2 0 d)) (acc : Vec Ideal S1x1024 .f32) (d : Fin 1024) :
    k0_pay1 (F := Ideal) (k0_pay23 g (k0_pay15 g k0_pay9 u x (k0_pay11 x) (Scalar.ofBits .f32 0x44800000#32)) u' x' (k0_pay19 x') k0_pay20) (k0_pay28 acc) (ix2 0 d)
      = acc (ix2 0 d) + (∑ r, dsc X W A G (row r) d + ∑ r, dsc X W A G (row' r) d) := by
  pointwise [k0_pay1, k0_pay23, k0_pay15, k0_pay9, k0_pay28, k0_pay13, k0_pay12, k0_pay11, k0_pay22, k0_pay21, k0_pay19, k0_pay20, dsc, inv, ms]
  simp only [h.u_eq, h'.u_eq, h.x_eq, h'.x_eq, hg]
  try rfl

/-- Both halves' share of the gradient of the gain. -/
theorem dg_step (h : Half X W A O row u x o) (h' : Half X W A O row' u' x' o') (hs : ∀ d, s (ix2 0 d) = S (ix2 0 d)) (acc : Vec Ideal S1x1024 .f32) (d : Fin 1024) :
    k0_pay2 (F := Ideal) (k0_pay25 (k0_pay7 s) (k0_pay17 (k0_pay7 s) k0_pay10 u x (k0_pay11 x) (Scalar.ofBits .f32 0x44800000#32)) u' x' (k0_pay19 x') k0_pay20) acc (ix2 0 d)
      = acc (ix2 0 d) + (∑ r, dg X W A S (row r) d + ∑ r, dg X W A S (row' r) d) := by
  pointwise [k0_pay2, k0_pay25, k0_pay17, k0_pay10, k0_pay24, k0_pay16, k0_pay7, k0_pay13, k0_pay12, k0_pay11, k0_pay22, k0_pay21, k0_pay19, k0_pay20, dg, inv, ms]
  simp only [h.u_eq, h'.u_eq, h.x_eq, h'.x_eq, hs]
  try rfl

end Payloads

section Kernel

open Cert.Kernel2Ideal Cert.Kernel2Ideal.Gen

variable (m : (ℓ : Loc nD τ sig) → Buf (Elt Ideal) ℓ)

abbrev aX (c : Dev nD) : FVec Ideal S2x8192x2816 .bf16 := m ((c : Thread nD τ).loc main_arg0)
abbrev aW (c : Dev nD) : FVec Ideal S5632x1024 .bf16 := m ((c : Thread nD τ).loc main_arg1)
abbrev aA (c : Dev nD) : FVec Ideal S8192x1024 .f32 := m ((c : Thread nD τ).loc main_arg2)
abbrev aG (c : Dev nD) : FVec Ideal S1x1024 .f32 := m ((c : Thread nD τ).loc main_arg3)
abbrev aS (c : Dev nD) : FVec Ideal S1x1024 .f32 := m ((c : Thread nD τ).loc main_arg4)
abbrev aO (c : Dev nD) : FVec Ideal S8192x1024 .f32 := m ((c : Thread nD τ).loc main_arg5)

/-- The block each window shows at each point. -/
theorem at_point : ∀ t : Fin cfg0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The token of a row of a half block. -/
def tok (t : Fin cfg0.N) (h : Fin 2) (r : Fin 256) : Fin 8192 :=
  ⟨512 * t.val + (256 * h.val + r.val), by have : t.val < 16 := t.isLt; omega⟩

theorem read_0 (c : Dev nD) (t : Fin cfg0.N) (s : Fin 2) (r : Fin 512) (k : Fin 2816) :
    iblk m c 0 t (ix3 s r k) = aX m c (ix3 s ⟨512 * t.val + r.val, by have : t.val < 16 := t.isLt; omega⟩ k) := by
  have ht : t.val < 16 := t.isLt
  blk_point [iblk, V, at_point t]

theorem read_1 (c : Dev nD) (t : Fin cfg0.N) (k : Fin 5632) (d : Fin 1024) : iblk m c 1 t (ix2 k d) = aW m c (ix2 k d) := by
  blk_point [iblk, V, at_point t]

theorem read_2 (c : Dev nD) (t : Fin cfg0.N) (r : Fin 512) (d : Fin 1024) :
    iblk m c 2 t (ix2 r d) = aA m c (ix2 ⟨512 * t.val + r.val, by have : t.val < 16 := t.isLt; omega⟩ d) := by
  have ht : t.val < 16 := t.isLt
  blk_point [iblk, V, at_point t]

theorem read_3 (c : Dev nD) (t : Fin cfg0.N) (d : Fin 1024) : iblk m c 3 t (ix2 0 d) = aG m c (ix2 0 d) := by
  blk_point [iblk, V, at_point t]

theorem read_4 (c : Dev nD) (t : Fin cfg0.N) (d : Fin 1024) : iblk m c 4 t (ix2 0 d) = aS m c (ix2 0 d) := by
  blk_point [iblk, V, at_point t]

theorem read_5 (c : Dev nD) (t : Fin cfg0.N) (r : Fin 512) (d : Fin 1024) :
    iblk m c 5 t (ix2 r d) = aO m c (ix2 ⟨512 * t.val + r.val, by have : t.val < 16 := t.isLt; omega⟩ d) := by
  have ht : t.val < 16 := t.isLt
  blk_point [iblk, V, at_point t]

/-- The product a point leaves in the scratch array. -/
abbrev prod (c : Dev nD) (t : Fin cfg0.N) : FVec Ideal S512x1024 .f32 :=
  k0_pay6 (View.ld (iblk m c 0 t) (Rect.unit ![0, 0, 0] ![1, 512, 2816] inb_S2x512x2816_S1x512x2816_0_0_0))
    (View.ld (iblk m c 1 t) (Rect.unit ![0, 0] ![2816, 1024] inb_S5632x1024_S2816x1024_0_0))
    (View.ld (iblk m c 0 t) (Rect.unit ![1, 0, 0] ![1, 512, 2816] inb_S2x512x2816_S1x512x2816_1_0_0))
    (View.ld (iblk m c 1 t) (Rect.unit ![2816, 0] ![2816, 1024] inb_S5632x1024_S2816x1024_2816_0))

theorem prod_du (c : Dev nD) (t : Fin cfg0.N) (r : Fin 512) (d : Fin 1024) :
    prod m c t (ix2 r d) = du (aX m c) (aW m c) ⟨512 * t.val + r.val, by have : t.val < 16 := t.isLt; omega⟩ d := by
  rw [prod, prod_at]
  unfold du
  refine congrArg₂ (· + ·) (Finset.sum_congr rfl fun k _ => congrArg₂ (· * ·) ?_ ?_) (Finset.sum_congr rfl fun k _ => congrArg₂ (· * ·) ?_ ?_)
  · rw [← read_0]; pointwise []
  · rw [← read_1 m c t]; pointwise []
  · rw [← read_0]; pointwise []
  · rw [← read_1 m c t]; pointwise []

theorem half_first (c : Dev nD) (t : Fin cfg0.N) : Half (aX m c) (aW m c) (aA m c) (aO m c) (tok t 0)
    ((View.whole cc0_scratch0).readCov [⟨Rect.unit ![0, 0] ![512, 1024] inb_S512x1024_S512x1024_0_0, prod m c t⟩]
      (Rect.unit ![0, 0] ![256, 1024] inb_S512x1024_S256x1024_0_0).toLoadRect)
    (View.ld (iblk m c 2 t) (Rect.unit ![0, 0] ![256, 1024] inb_S512x1024_S256x1024_0_0))
    (View.ld (iblk m c 5 t) (Rect.unit ![0, 0] ![256, 1024] inb_S512x1024_S256x1024_0_0)) := by
  have ht : t.val < 16 := t.isLt
  refine ⟨fun r d => ?_, fun r d => ?_, fun r d => ?_⟩
  · refine (congrFun (View.readCov_fill _ _ _ _ _ (by decide)) _).trans ?_
    have e := prod_du m c t ⟨r.val, by omega⟩ d
    refine Eq.trans ?_ (e.trans (congrArg (du _ _ · d) (Fin.ext (by simp [tok]))))
    pointwise []
  · refine Eq.trans ?_ ((read_2 m c t ⟨r.val, by omega⟩ d).trans (congrArg (fun q => aA m c (ix2 q d)) (Fin.ext (by simp [tok]))))
    pointwise []
  · refine Eq.trans ?_ ((read_5 m c t ⟨r.val, by omega⟩ d).trans (congrArg (fun q => aO m c (ix2 q d)) (Fin.ext (by simp [tok]))))
    pointwise []

theorem half_second (c : Dev nD) (t : Fin cfg0.N) : Half (aX m c) (aW m c) (aA m c) (aO m c) (tok t 1)
    ((View.whole cc0_scratch0).readCov [⟨Rect.unit ![0, 0] ![512, 1024] inb_S512x1024_S512x1024_0_0, prod m c t⟩]
      (Rect.unit ![256, 0] ![256, 1024] inb_S512x1024_S256x1024_256_0).toLoadRect)
    (View.ld (iblk m c 2 t) (Rect.unit ![256, 0] ![256, 1024] inb_S512x1024_S256x1024_256_0))
    (View.ld (iblk m c 5 t) (Rect.unit ![256, 0] ![256, 1024] inb_S512x1024_S256x1024_256_0)) := by
  have ht : t.val < 16 := t.isLt
  refine ⟨fun r d => ?_, fun r d => ?_, fun r d => ?_⟩
  · refine (congrFun (View.readCov_fill _ _ _ _ _ (by decide)) _).trans ?_
    have e := prod_du m c t ⟨256 + r.val, by omega⟩ d
    refine Eq.trans ?_ (e.trans (congrArg (du _ _ · d) (Fin.ext (by simp [tok]))))
    pointwise []
  · refine Eq.trans ?_ ((read_2 m c t ⟨256 + r.val, by omega⟩ d).trans (congrArg (fun q => aA m c (ix2 q d)) (Fin.ext (by simp [tok]))))
    pointwise []
  · refine Eq.trans ?_ ((read_5 m c t ⟨256 + r.val, by omega⟩ d).trans (congrArg (fun q => aO m c (ix2 q d)) (Fin.ext (by simp [tok]))))
    pointwise []

/-- What a point writes to its block of the first result. -/
theorem block6 (c : Dev nD) (t : Fin cfg0.N) (r : Fin 512) (d : Fin 1024) :
    (outsAt0 m c t.val t.isLt).1 (ix2 r d) = dx (aX m c) (aW m c) (aA m c) (aG m c) (aS m c) (aO m c)
      ⟨512 * t.val + r.val, by have : t.val < 16 := t.isLt; omega⟩ d := by
  have ht : t.val < 16 := t.isLt
  by_cases h : t.val % 16 = 0
  on_goal 1 => rw [outsAt0_A m c t h]
  on_goal 2 => rw [outsAt0_B m c t h]
  all_goals frame_out
  all_goals canon_tiles x hx
  all_goals
    obtain ⟨a, b, rfl⟩ : ∃ (a : Fin 256) (b : Fin 1024), x = ix2 a b := ⟨x 0, x 1, (ix2_eta x).symm⟩
    obtain rfl : d = b := Fin.ext hx1
  all_goals first
    | refine (dx_second (half_second m c t) (read_3 m c t) (read_4 m c t) a d).trans (congrArg (dx _ _ _ _ _ _ · d) (Fin.ext ?_))
      have e : r.val = 256 + a.val := hx0
      show 512 * t.val + (256 * 1 + a.val) = 512 * t.val + r.val
      omega
    | refine (dx_first (half_first m c t) (read_3 m c t) (read_4 m c t) a d).trans (congrArg (dx _ _ _ _ _ _ · d) (Fin.ext ?_))
      have e : r.val = a.val := hx0
      show 512 * t.val + (256 * 0 + a.val) = 512 * t.val + r.val
      omega

/-- The first result: the cotangent of the input. -/
def dxs (X : FVec Ideal S2x8192x2816 .bf16) (W : FVec Ideal S5632x1024 .bf16) (A : FVec Ideal S8192x1024 .f32)
    (G S : FVec Ideal S1x1024 .f32) (O : FVec Ideal S8192x1024 .f32) : FVec Ideal S8192x1024 .f32 := fun i => dx X W A G S O (i 0) (i 1)

theorem block6' (c : Dev nD) (t : Fin cfg0.N) (j : S512x1024.Idx) :
    (outsAt0 m c t.val t.isLt).1 j = dxs (aX m c) (aW m c) (aA m c) (aG m c) (aS m c) (aO m c)
      (ix2 ⟨512 * t.val + (j 0).val, by have : t.val < 16 := t.isLt; have : (j 0).val < 512 := (j 0).isLt; omega⟩ (j 1)) := by
  obtain ⟨r, d, rfl⟩ : ∃ (r : Fin 512) (d : Fin 1024), j = ix2 r d := ⟨j 0, j 1, (ix2_eta j).symm⟩
  exact block6 m c t r d

/-- The first result array. -/
theorem final6 (c : Dev nD) : (dats m 0 c).arrAt 6 (cfgs 0).N = dxs (aX m c) (aW m c) (aA m c) (aG m c) (aS m c) (aO m c) := by
  refine (dats m 0 c).arrAt_eq_of_covers 6 _ (by decide +kernel) fun t hf y => ?_
  blk_simp
  rw [after0_6]
  refine (block6' m c t y).trans (congrArg (dxs (aX m c) (aW m c) (aA m c) (aG m c) (aS m c) (aO m c)) ?_)
  blk_ext [at_point t]

/-- A block's share of a column sum. -/
def share (f : Fin 8192 → Fin 1024 → EReal) (n : ℕ) (d : Fin 1024) : EReal :=
  if h : n < 16 then ∑ r : Fin 512, f ⟨512 * n + r.val, by omega⟩ d else 0

/-- The share is both halves' shares. -/
theorem share_halves (f : Fin 8192 → Fin 1024 → EReal) (t : Fin cfg0.N) (d : Fin 1024) :
    ∑ r, f (tok t 0 r) d + ∑ r, f (tok t 1 r) d = share f t.val d := by
  rw [share, dif_pos (show t.val < 16 from t.isLt), Fin.sum_univ_add (a := 256) (b := 256)]
  refine congrArg₂ (· + ·) (Finset.sum_congr rfl fun r _ => congrArg (f · d) (Fin.ext ?_)) (Finset.sum_congr rfl fun r _ => congrArg (f · d) (Fin.ext ?_))
  · show 512 * t.val + (256 * 0 + r.val) = 512 * t.val + r.val; omega
  · show 512 * t.val + (256 * 1 + r.val) = 512 * t.val + (256 + r.val); omega

theorem sum_shares (f : Fin 8192 → Fin 1024 → EReal) (d : Fin 1024) : ∑ p : Fin grid0.N, share f p.val d = ∑ t : Fin 8192, f t d := by
  refine (Finset.sum_congr rfl fun (p : Fin 16) _ => dif_pos p.isLt).trans ?_
  exact Fin.sum_mul_add_congr (f := fun t => f t d) fun s k hl => congrArg (f · d) (Fin.ext (by show 512 * s.val + k.val = s.val * 512 + k.val; omega))

theorem zero_3 (j : S1x1024.Idx) : k0_pay3 (F := Ideal) j = (0 : EReal) := by pointwise [k0_pay3]
theorem zero_4 (j : S1x1024.Idx) : k0_pay4 (F := Ideal) j = (0 : EReal) := by pointwise [k0_pay4]
theorem zero_5 (j : S1x1024.Idx) : k0_pay5 (F := Ideal) j = (0 : EReal) := by pointwise [k0_pay5]

theorem first7 (c : Dev nD) (t : Fin cfg0.N) (h : t.val % 16 = 0) (d : Fin 1024) :
    (outsAt0 m c t.val t.isLt).2.1 (ix2 0 d) = 0 + share (du (aX m c) (aW m c)) t.val d := by
  rw [outsAt0_A m c t h]; frame_out
  refine (dsh_step (half_first m c t) (half_second m c t) _ d).trans ?_
  rw [zero_3, share_halves]

theorem next7 (c : Dev nD) (t : Fin cfg0.N) (h : ¬ t.val % 16 = 0) (d : Fin 1024) :
    (outsAt0 m c t.val t.isLt).2.1 (ix2 0 d) = (outsAt0 m c (t.val - 1) (by have := t.isLt; omega)).2.1 (ix2 0 d) + share (du (aX m c) (aW m c)) t.val d := by
  rw [outsAt0_B m c t h]; frame_out
  refine (dsh_step (half_first m c t) (half_second m c t) _ d).trans ?_
  rw [share_halves]

theorem first8 (c : Dev nD) (t : Fin cfg0.N) (h : t.val % 16 = 0) (d : Fin 1024) :
    (outsAt0 m c t.val t.isLt).2.2.1 (ix2 0 d) = 0 + share (dsc (aX m c) (aW m c) (aA m c) (aG m c)) t.val d := by
  rw [outsAt0_A m c t h]; frame_out
  refine (dsc_step (half_first m c t) (half_second m c t) (read_3 m c t) _ d).trans ?_
  rw [zero_4, share_halves]

theorem next8 (c : Dev nD) (t : Fin cfg0.N) (h : ¬ t.val % 16 = 0) (d : Fin 1024) :
    (outsAt0 m c t.val t.isLt).2.2.1 (ix2 0 d) = (outsAt0 m c (t.val - 1) (by have := t.isLt; omega)).2.2.1 (ix2 0 d) + share (dsc (aX m c) (aW m c) (aA m c) (aG m c)) t.val d := by
  rw [outsAt0_B m c t h]; frame_out
  refine (dsc_step (half_first m c t) (half_second m c t) (read_3 m c t) _ d).trans ?_
  rw [share_halves]

theorem first9 (c : Dev nD) (t : Fin cfg0.N) (h : t.val % 16 = 0) (d : Fin 1024) :
    (outsAt0 m c t.val t.isLt).2.2.2 (ix2 0 d) = 0 + share (dg (aX m c) (aW m c) (aA m c) (aS m c)) t.val d := by
  rw [outsAt0_A m c t h]; frame_out
  refine (dg_step (half_first m c t) (half_second m c t) (read_4 m c t) _ d).trans ?_
  rw [zero_5, share_halves]

theorem next9 (c : Dev nD) (t : Fin cfg0.N) (h : ¬ t.val % 16 = 0) (d : Fin 1024) :
    (outsAt0 m c t.val t.isLt).2.2.2 (ix2 0 d) = (outsAt0 m c (t.val - 1) (by have := t.isLt; omega)).2.2.2 (ix2 0 d) + share (dg (aX m c) (aW m c) (aA m c) (aS m c)) t.val d := by
  rw [outsAt0_B m c t h]; frame_out
  refine (dg_step (half_first m c t) (half_second m c t) (read_4 m c t) _ d).trans ?_
  rw [share_halves]

/-- The second result array. -/
theorem final7 (c : Dev nD) : (dats m 0 c).arrAt 7 (cfgs 0).N = total (du (aX m c) (aW m c)) := by
  refine (dats m 0 c).arrAt_eq_of_after_last 7 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_7, Pipeline.eq_sum_fin_of_reset_step_apply_last (fun n h (j : Fin 1024) => (outsAt0 m c n h).2.1 (ix2 0 j)) 16 (fun _ => 0) _
    (first7 m c) (next7 m c) (le_of_eq N_0) t0_15 rfl d, zero_add]
  exact sum_shares _ d

/-- The third result array. -/
theorem final8 (c : Dev nD) : (dats m 0 c).arrAt 8 (cfgs 0).N = total (dsc (aX m c) (aW m c) (aA m c) (aG m c)) := by
  refine (dats m 0 c).arrAt_eq_of_after_last 8 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_8, Pipeline.eq_sum_fin_of_reset_step_apply_last (fun n h (j : Fin 1024) => (outsAt0 m c n h).2.2.1 (ix2 0 j)) 16 (fun _ => 0) _
    (first8 m c) (next8 m c) (le_of_eq N_0) t0_15 rfl d, zero_add]
  exact sum_shares _ d

/-- The fourth result array. -/
theorem final9 (c : Dev nD) : (dats m 0 c).arrAt 9 (cfgs 0).N = total (dg (aX m c) (aW m c) (aA m c) (aS m c)) := by
  refine (dats m 0 c).arrAt_eq_of_after_last 9 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_9, Pipeline.eq_sum_fin_of_reset_step_apply_last (fun n h (j : Fin 1024) => (outsAt0 m c n h).2.2.2 (ix2 0 j)) 16 (fun _ => 0) _
    (first9 m c) (next9 m c) (le_of_eq N_0) t0_15 rfl d, zero_add]
  exact sum_shares _ d

end Kernel

section Reference

open Cert.Kernel2Ideal Cert.Reference2Ideal.Read

variable (X : FVec Ideal S2x8192x2816 .bf16) (W : FVec Ideal S5632x1024 .bf16) (A : FVec Ideal S8192x1024 .f32)
  (G S : FVec Ideal S1x1024 .f32) (O : FVec Ideal S8192x1024 .f32)

/-- The reference's cotangent of the modulated input. -/
theorem ref_du (t : Fin 8192) (d : Fin 1024) : val_main_v36 (F := Ideal) X W (ix2 t d) = du X W t d := by
  pointwise [val_main_v36, val_main_v35, val_main_v34, val_main_v33, val_main_v32, val_main_v31, val_main_v30, val_main_v28, val_main_v27, val_main_v25, val_main_v24, val_main_v1, val_main_v0, du]
  exact add_comm _ _

/-- Its mean square. -/
theorem ref_ms (t : Fin 8192) : val_main_v9 (F := Ideal) A (ix2 t 0) = ms A t := by
  pointwise [val_main_v9, val_main_v8, val_main_v7, val_main_v6, val_main_v5, val_main_v4, val_main_v3, val_main_cst_0, val_main_cst_1, val_main_cst_2, ms]

/-- Its normalised input. -/
theorem ref_xh (t : Fin 8192) (d : Fin 1024) : val_main_v15 (F := Ideal) A (ix2 t d) = A (ix2 t d) * inv A t := by
  unfold inv
  rw [← ref_ms]
  pointwise [val_main_v15, val_main_v14, val_main_v10]

/-- Its cotangent of the scaled norm. -/
theorem ref_us (t : Fin 8192) (d : Fin 1024) :
    val_main_v43 (F := Ideal) X W S (ix2 t d) = du X W t d * (Ideal.ofBits FTy.f32 0x3F800000#32 + S (ix2 0 d)) := by
  rw [← ref_du]
  pointwise [val_main_v43, val_main_v42, val_main_v19, val_main_v18, val_main_cst_4]

/-- The first result of the reference. -/
theorem ref_dx : val_main_v63 (F := Ideal) X W A G S O = dxs X W A G S O := by
  funext i
  obtain ⟨t, d, rfl⟩ : ∃ (t : Fin 8192) (d : Fin 1024), i = ix2 t d := ⟨i 0, i 1, (ix2_eta i).symm⟩
  refine Eq.trans ?_ (NormGrad.input (fun e => A (ix2 t e)) (fun e => dn X W G S t e) (O (ix2 t d)) d).symm
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v13, val_main_v12, val_main_v11, val_main_v10, val_main_cst_3, val_main_cst_8, val_main_cst_9, val_main_cst_10]
  simp only [ref_us, Fin.sum_univ_one, Fin.isValue, ref_ms]
  rfl

/-- The second. -/
theorem ref_dsh : val_main_v38 (F := Ideal) X W = total (du X W) := by
  funext i
  obtain ⟨z, d, rfl⟩ : ∃ (z : Fin 1) (d : Fin 1024), i = ix2 z d := ⟨i 0, i 1, (ix2_eta i).symm⟩
  pointwise [val_main_v38, val_main_v37, val_main_cst_5]
  simp only [ref_du]
  rfl

/-- The third. -/
theorem ref_dsc : val_main_v41 (F := Ideal) X W A G = total (dsc X W A G) := by
  funext i
  obtain ⟨z, d, rfl⟩ : ∃ (z : Fin 1) (d : Fin 1024), i = ix2 z d := ⟨i 0, i 1, (ix2_eta i).symm⟩
  pointwise [val_main_v41, val_main_v40, val_main_v39, val_main_cst_6, val_main_v17, val_main_v16]
  simp only [ref_du, ref_xh]
  exact Finset.sum_congr rfl fun t _ => mul_comm _ _

/-- The fourth. -/
theorem ref_dg : val_main_v46 (F := Ideal) X W A S = total (dg X W A S) := by
  funext i
  obtain ⟨z, d, rfl⟩ : ∃ (z : Fin 1) (d : Fin 1024), i = ix2 z d := ⟨i 0, i 1, (ix2_eta i).symm⟩
  pointwise [val_main_v46, val_main_v45, val_main_v44, val_main_cst_7]
  simp only [ref_us, ref_xh]
  exact Finset.sum_congr rfl fun t _ => mul_comm _ _

end Reference

section Pair

open Cert.Reference2Ideal

theorem result_first (m' : (ℓ : Loc nD τ sig) → Buf (Elt Ideal) ℓ) (c : Dev nD) :
    Cert.Reference2Ideal.Value.res_main_v63 m' c
      = dxs (m' (c.tc.loc main_arg0)) (m' (c.tc.loc main_arg1)) (m' (c.tc.loc main_arg2)) (m' (c.tc.loc main_arg3)) (m' (c.tc.loc main_arg4)) (m' (c.tc.loc main_arg5)) :=
  (Cert.Reference2Ideal.Read.val_main_v63_eq m' c).trans (ref_dx _ _ _ _ _ _)

end Pair

/-- The tiled kernel and the plain gradient, on the same arguments, leave the same four results. -/
theorem pair : algebraic_Kernel2Ideal_Reference2Ideal := by
  pair_intro
  · run_from Cert.Kernel2Ideal.Gen.run_main m g
  · refine θ_run_mono (Cert.Reference2Ideal.Value.run m' g') ?_
    intro r hr c
    obtain ⟨h0, h1, h2, h3, rest⟩ := hr c
    obtain ⟨e0, e1, e2, e3, e4, e5⟩ := hagree c
    refine ⟨h0.trans ?_, h1.trans ?_, h2.trans ?_, h3.trans ?_, rest⟩
    · refine (result_first m' c).trans ?_
      rw [e0, e1, e2, e3, e4, e5]
      exact (final6 m c).symm
    · refine ((Cert.Reference2Ideal.Read.val_main_v38_eq (F := Ideal) _ _).trans (ref_dsh _ _)).trans ?_
      rw [e0, e1]
      exact (final7 m c).symm
    · refine ((Cert.Reference2Ideal.Read.val_main_v41_eq (F := Ideal) _ _ _ _).trans (ref_dsc _ _ _ _)).trans ?_
      rw [e0, e1, e2, e3]
      exact (final8 m c).symm
    · refine ((Cert.Reference2Ideal.Read.val_main_v46_eq (F := Ideal) _ _ _ _).trans (ref_dg _ _ _ _)).trans ?_
      rw [e0, e1, e2, e4]
      exact (final9 m c).symm

end Cert.UpDx
end
-- ==== Proof.MixInDx.lean ====
/- The gradient of a normalised, modulated projection in its input: what the tiled product and its norm's backward leave
   in the four result arrays, and the plain gradient's own terms, are the same arrays. -/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import proofs.«01_k».proof.Proof.NormGrad
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixInDx

section Spec

open Cert.Kernel5Ideal

variable (X : FVec Ideal S8192x6656 .bf16) (W : FVec Ideal S6656x1024 .bf16) (A : FVec Ideal S8192x1024 .f32)
  (G S : FVec Ideal S1x1024 .f32) (O : FVec Ideal S8192x1024 .f32)

/-- The cotangent of the modulated input: the cotangent of the projection through the weights. -/
def du (t : Fin 8192) (d : Fin 1024) : EReal := ∑ k : Fin 6656, X (ix2 t k) * W (ix2 k d)

/-- The mean square of a token's features, with the small constant added. -/
def ms (t : Fin 8192) : EReal :=
  Ideal.div (∑ d : Fin 1024, A (ix2 t d) * A (ix2 t d)) (Ideal.ofBits FTy.f32 0x44800000#32) + Ideal.ofBits FTy.f32 0x358637BD#32

/-- The reciprocal root mean square. -/
def inv (t : Fin 8192) : EReal := Ideal.rsqrt (ms A t)

/-- The cotangent of the normalised input. -/
def dn (t : Fin 8192) (d : Fin 1024) : EReal := du X W t d * (Ideal.ofBits FTy.f32 0x3F800000#32 + S (ix2 0 d)) * G (ix2 0 d)

/-- The cotangent of the input. -/
def dx (t : Fin 8192) (d : Fin 1024) : EReal :=
  O (ix2 t d) + inv A t * (dn X W G S t d - A (ix2 t d) * inv A t *
    Ideal.div (∑ e : Fin 1024, dn X W G S t e * (A (ix2 t e) * inv A t)) (Ideal.ofBits FTy.f32 0x44800000#32))

/-- A token's term of the gradient of the scale. -/
def dsc (t : Fin 8192) (d : Fin 1024) : EReal := du X W t d * (A (ix2 t d) * inv A t * G (ix2 0 d))

/-- A token's term of the gradient of the gain. -/
def dg (t : Fin 8192) (d : Fin 1024) : EReal :=
  du X W t d * (Ideal.ofBits FTy.f32 0x3F800000#32 + S (ix2 0 d)) * (A (ix2 t d) * inv A t)

/-- A column's sum over the tokens, as a row of one array. -/
def total (f : Fin 8192 → Fin 1024 → EReal) : FVec Ideal S1x1024 .f32 := fun i => ∑ t : Fin 8192, f t (i 1)

end Spec

section Payloads

open Cert.Kernel5Ideal Cert.Kernel5Ideal.Gen

variable {X : FVec Ideal S8192x6656 .bf16} {W : FVec Ideal S6656x1024 .bf16} {A : FVec Ideal S8192x1024 .f32}
  {G S : FVec Ideal S1x1024 .f32} {O : FVec Ideal S8192x1024 .f32}

/-- What a half block of 256 tokens loads: the cotangent, the input and the cotangent passed along, `row` naming its tokens. -/
structure Half (X : FVec Ideal S8192x6656 .bf16) (W : FVec Ideal S6656x1024 .bf16) (A O : FVec Ideal S8192x1024 .f32)
    (row : Fin 256 → Fin 8192) (u x o : Vec Ideal S256x1024 .f32) : Prop where
  u_eq : ∀ r d, u (ix2 r d) = du X W (row r) d
  x_eq : ∀ r d, x (ix2 r d) = A (ix2 (row r) d)
  o_eq : ∀ r d, o (ix2 r d) = O (ix2 (row r) d)

variable {row row' : Fin 256 → Fin 8192} {u x o u' x' o' : Vec Ideal S256x1024 .f32} {g s : Vec Ideal S1x1024 .f32}

/-- The cotangent a point's product gives. -/
theorem prod_at (v3 : Vec Ideal S1x512x6656 .bf16) (v5 : Vec Ideal S6656x1024 .bf16) (r : Fin 512) (d : Fin 1024) :
    k0_pay4 (F := Ideal) v3 v5 (ix2 r d) = ∑ k, v3 (ix3 0 r k) * v5 (ix2 k d) := by
  pointwise [k0_pay4]

/-- The first half's rows of the first result. -/
theorem dx_first (h : Half X W A O row u x o) (hg : ∀ d, g (ix2 0 d) = G (ix2 0 d)) (hs : ∀ d, s (ix2 0 d) = S (ix2 0 d)) (r : Fin 256) (d : Fin 1024) :
    k0_pay15 (F := Ideal) g (k0_pay5 s) u (k0_pay9 x) (k0_pay10 x) o (ix2 r d) = dx X W A G S O (row r) d := by
  pointwise [k0_pay15, k0_pay13, k0_pay9, k0_pay10, k0_pay5, dx, dn, inv, ms]
  simp only [h.u_eq, h.x_eq, h.o_eq, hg, hs]
  try rfl

/-- The second half's rows of the first result. -/
theorem dx_second (h : Half X W A O row u x o) (hg : ∀ d, g (ix2 0 d) = G (ix2 0 d)) (hs : ∀ d, s (ix2 0 d) = S (ix2 0 d)) (r : Fin 256) (d : Fin 1024) :
    k0_pay20 (F := Ideal) g (k0_pay5 s) u (k0_pay16 x) (k0_pay17 x) o (ix2 r d) = dx X W A G S O (row r) d := by
  pointwise [k0_pay20, k0_pay19, k0_pay16, k0_pay17, k0_pay5, dx, dn, inv, ms]
  simp only [h.u_eq, h.x_eq, h.o_eq, hg, hs]
  try rfl

/-- Both halves' share of the gradient of the shift. -/
theorem dsh_step (h : Half X W A O row u x o) (h' : Half X W A O row' u' x' o') (acc : Vec Ideal S1x1024 .f32) (d : Fin 1024) :
    k0_pay21 (F := Ideal) (k0_pay18 k0_pay6 (k0_pay11 u) u') acc (ix2 0 d)
      = acc (ix2 0 d) + (∑ r, du X W (row r) d + ∑ r, du X W (row' r) d) := by
  pointwise [k0_pay21, k0_pay18, k0_pay11, k0_pay6]
  simp only [h.u_eq, h'.u_eq]
  try rfl

/-- Both halves' share of the gradient of the scale. -/
theorem dsc_step (h : Half X W A O row u x o) (h' : Half X W A O row' u' x' o') (hg : ∀ d, g (ix2 0 d) = G (ix2 0 d)) (acc : Vec Ideal S1x1024 .f32) (d : Fin 1024) :
    k0_pay22 (F := Ideal) g (k0_pay12 g k0_pay7 u (k0_pay10 x)) u' (k0_pay17 x') acc (ix2 0 d)
      = acc (ix2 0 d) + (∑ r, dsc X W A G (row r) d + ∑ r, dsc X W A G (row' r) d) := by
  pointwise [k0_pay22, k0_pay12, k0_pay7, k0_pay9, k0_pay10, k0_pay16, k0_pay17, dsc, inv, ms]
  simp only [h.u_eq, h'.u_eq, h.x_eq, h'.x_eq, hg]
  try rfl

/-- Both halves' share of the gradient of the gain. -/
theorem dg_step (h : Half X W A O row u x o) (h' : Half X W A O row' u' x' o') (hs : ∀ d, s (ix2 0 d) = S (ix2 0 d)) (acc : Vec Ideal S1x1024 .f32) (d : Fin 1024) :
    k0_pay23 (F := Ideal) (k0_pay5 s) (k0_pay14 (k0_pay5 s) k0_pay8 u (k0_pay10 x)) u' (k0_pay17 x') acc (ix2 0 d)
      = acc (ix2 0 d) + (∑ r, dg X W A S (row r) d + ∑ r, dg X W A S (row' r) d) := by
  pointwise [k0_pay23, k0_pay19, k0_pay14, k0_pay13, k0_pay8, k0_pay9, k0_pay10, k0_pay16, k0_pay17, k0_pay5, dg, inv, ms]
  simp only [h.u_eq, h'.u_eq, h.x_eq, h'.x_eq, hs]
  try rfl

end Payloads

section Kernel

open Cert.Kernel5Ideal Cert.Kernel5Ideal.Gen

variable (m : (ℓ : Loc nD τ sig) → Buf (Elt Ideal) ℓ)

abbrev aX (c : Dev nD) : FVec Ideal S8192x6656 .bf16 := m ((c : Thread nD τ).loc main_arg0)
abbrev aW (c : Dev nD) : FVec Ideal S6656x1024 .bf16 := m ((c : Thread nD τ).loc main_arg1)
abbrev aA (c : Dev nD) : FVec Ideal S8192x1024 .f32 := m ((c : Thread nD τ).loc main_arg2)
abbrev aG (c : Dev nD) : FVec Ideal S1x1024 .f32 := m ((c : Thread nD τ).loc main_arg3)
abbrev aS (c : Dev nD) : FVec Ideal S1x1024 .f32 := m ((c : Thread nD τ).loc main_arg4)
abbrev aO (c : Dev nD) : FVec Ideal S8192x1024 .f32 := m ((c : Thread nD τ).loc main_arg5)

/-- The block each window shows at each point. -/
theorem at_point : ∀ t : Fin cfg0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The token of a row of a half block. -/
def tok (t : Fin cfg0.N) (h : Fin 2) (r : Fin 256) : Fin 8192 :=
  ⟨512 * t.val + (256 * h.val + r.val), by have : t.val < 16 := t.isLt; omega⟩

theorem read_0 (c : Dev nD) (t : Fin cfg0.N) (r : Fin 512) (k : Fin 6656) :
    iblk m c 0 t (ix3 0 r k) = aX m c (ix2 ⟨512 * t.val + r.val, by have : t.val < 16 := t.isLt; omega⟩ k) := by
  have ht : t.val < 16 := t.isLt
  blk_point [iblk, V, at_point t]

theorem read_1 (c : Dev nD) (t : Fin cfg0.N) (k : Fin 6656) (d : Fin 1024) : iblk m c 1 t (ix2 k d) = aW m c (ix2 k d) := by
  blk_point [iblk, V, at_point t]

theorem read_2 (c : Dev nD) (t : Fin cfg0.N) (r : Fin 512) (d : Fin 1024) :
    iblk m c 2 t (ix2 r d) = aA m c (ix2 ⟨512 * t.val + r.val, by have : t.val < 16 := t.isLt; omega⟩ d) := by
  have ht : t.val < 16 := t.isLt
  blk_point [iblk, V, at_point t]

theorem read_3 (c : Dev nD) (t : Fin cfg0.N) (d : Fin 1024) : iblk m c 3 t (ix2 0 d) = aG m c (ix2 0 d) := by
  blk_point [iblk, V, at_point t]

theorem read_4 (c : Dev nD) (t : Fin cfg0.N) (d : Fin 1024) : iblk m c 4 t (ix2 0 d) = aS m c (ix2 0 d) := by
  blk_point [iblk, V, at_point t]

theorem read_5 (c : Dev nD) (t : Fin cfg0.N) (r : Fin 512) (d : Fin 1024) :
    iblk m c 5 t (ix2 r d) = aO m c (ix2 ⟨512 * t.val + r.val, by have : t.val < 16 := t.isLt; omega⟩ d) := by
  have ht : t.val < 16 := t.isLt
  blk_point [iblk, V, at_point t]

/-- The product a point leaves in the scratch array. -/
abbrev prod (c : Dev nD) (t : Fin cfg0.N) : FVec Ideal S512x1024 .f32 :=
  k0_pay4 (iblk m c 0 t) (iblk m c 1 t)

theorem prod_du (c : Dev nD) (t : Fin cfg0.N) (r : Fin 512) (d : Fin 1024) :
    prod m c t (ix2 r d) = du (aX m c) (aW m c) ⟨512 * t.val + r.val, by have : t.val < 16 := t.isLt; omega⟩ d := by
  rw [prod, prod_at]
  unfold du
  refine Finset.sum_congr rfl fun k _ => congrArg₂ (· * ·) (read_0 m c t r k) (read_1 m c t k d)

theorem half_first (c : Dev nD) (t : Fin cfg0.N) : Half (aX m c) (aW m c) (aA m c) (aO m c) (tok t 0)
    ((View.whole cc0_scratch0).readCov [⟨Rect.unit ![0, 0] ![512, 1024] inb_S512x1024_S512x1024_0_0, prod m c t⟩]
      (Rect.unit ![0, 0] ![256, 1024] inb_S512x1024_S256x1024_0_0).toLoadRect)
    (View.ld (iblk m c 2 t) (Rect.unit ![0, 0] ![256, 1024] inb_S512x1024_S256x1024_0_0))
    (View.ld (iblk m c 5 t) (Rect.unit ![0, 0] ![256, 1024] inb_S512x1024_S256x1024_0_0)) := by
  have ht : t.val < 16 := t.isLt
  refine ⟨fun r d => ?_, fun r d => ?_, fun r d => ?_⟩
  · refine (congrFun (View.readCov_fill _ _ _ _ _ (by decide)) _).trans ?_
    have e := prod_du m c t ⟨r.val, by omega⟩ d
    refine Eq.trans ?_ (e.trans (congrArg (du _ _ · d) (Fin.ext (by simp [tok]))))
    pointwise []
  · refine Eq.trans ?_ ((read_2 m c t ⟨r.val, by omega⟩ d).trans (congrArg (fun q => aA m c (ix2 q d)) (Fin.ext (by simp [tok]))))
    pointwise []
  · refine Eq.trans ?_ ((read_5 m c t ⟨r.val, by omega⟩ d).trans (congrArg (fun q => aO m c (ix2 q d)) (Fin.ext (by simp [tok]))))
    pointwise []

theorem half_second (c : Dev nD) (t : Fin cfg0.N) : Half (aX m c) (aW m c) (aA m c) (aO m c) (tok t 1)
    ((View.whole cc0_scratch0).readCov [⟨Rect.unit ![0, 0] ![512, 1024] inb_S512x1024_S512x1024_0_0, prod m c t⟩]
      (Rect.unit ![256, 0] ![256, 1024] inb_S512x1024_S256x1024_256_0).toLoadRect)
    (View.ld (iblk m c 2 t) (Rect.unit ![256, 0] ![256, 1024] inb_S512x1024_S256x1024_256_0))
    (View.ld (iblk m c 5 t) (Rect.unit ![256, 0] ![256, 1024] inb_S512x1024_S256x1024_256_0)) := by
  have ht : t.val < 16 := t.isLt
  refine ⟨fun r d => ?_, fun r d => ?_, fun r d => ?_⟩
  · refine (congrFun (View.readCov_fill _ _ _ _ _ (by decide)) _).trans ?_
    have e := prod_du m c t ⟨256 + r.val, by omega⟩ d
    refine Eq.trans ?_ (e.trans (congrArg (du _ _ · d) (Fin.ext (by simp [tok]))))
    pointwise []
  · refine Eq.trans ?_ ((read_2 m c t ⟨256 + r.val, by omega⟩ d).trans (congrArg (fun q => aA m c (ix2 q d)) (Fin.ext (by simp [tok]))))
    pointwise []
  · refine Eq.trans ?_ ((read_5 m c t ⟨256 + r.val, by omega⟩ d).trans (congrArg (fun q => aO m c (ix2 q d)) (Fin.ext (by simp [tok]))))
    pointwise []

/-- What a point writes to its block of the first result. -/
theorem block6 (c : Dev nD) (t : Fin cfg0.N) (r : Fin 512) (d : Fin 1024) :
    (outsAt0 m c t.val t.isLt).1 (ix2 r d) = dx (aX m c) (aW m c) (aA m c) (aG m c) (aS m c) (aO m c)
      ⟨512 * t.val + r.val, by have : t.val < 16 := t.isLt; omega⟩ d := by
  have ht : t.val < 16 := t.isLt
  by_cases h : t.val % 16 = 0
  on_goal 1 => rw [outsAt0_A m c t h]
  on_goal 2 => rw [outsAt0_B m c t h]
  all_goals frame_out
  all_goals canon_tiles x hx
  all_goals
    obtain ⟨a, b, rfl⟩ : ∃ (a : Fin 256) (b : Fin 1024), x = ix2 a b := ⟨x 0, x 1, (ix2_eta x).symm⟩
    obtain rfl : d = b := Fin.ext hx1
  all_goals first
    | refine (dx_second (half_second m c t) (read_3 m c t) (read_4 m c t) a d).trans (congrArg (dx _ _ _ _ _ _ · d) (Fin.ext ?_))
      have e : r.val = 256 + a.val := hx0
      show 512 * t.val + (256 * 1 + a.val) = 512 * t.val + r.val
      omega
    | refine (dx_first (half_first m c t) (read_3 m c t) (read_4 m c t) a d).trans (congrArg (dx _ _ _ _ _ _ · d) (Fin.ext ?_))
      have e : r.val = a.val := hx0
      show 512 * t.val + (256 * 0 + a.val) = 512 * t.val + r.val
      omega

/-- The first result: the cotangent of the input. -/
def dxs (X : FVec Ideal S8192x6656 .bf16) (W : FVec Ideal S6656x1024 .bf16) (A : FVec Ideal S8192x1024 .f32)
    (G S : FVec Ideal S1x1024 .f32) (O : FVec Ideal S8192x1024 .f32) : FVec Ideal S8192x1024 .f32 := fun i => dx X W A G S O (i 0) (i 1)

theorem block6' (c : Dev nD) (t : Fin cfg0.N) (j : S512x1024.Idx) :
    (outsAt0 m c t.val t.isLt).1 j = dxs (aX m c) (aW m c) (aA m c) (aG m c) (aS m c) (aO m c)
      (ix2 ⟨512 * t.val + (j 0).val, by have : t.val < 16 := t.isLt; have : (j 0).val < 512 := (j 0).isLt; omega⟩ (j 1)) := by
  obtain ⟨r, d, rfl⟩ : ∃ (r : Fin 512) (d : Fin 1024), j = ix2 r d := ⟨j 0, j 1, (ix2_eta j).symm⟩
  exact block6 m c t r d

/-- The first result array. -/
theorem final6 (c : Dev nD) : (dats m 0 c).arrAt 6 (cfgs 0).N = dxs (aX m c) (aW m c) (aA m c) (aG m c) (aS m c) (aO m c) := by
  refine (dats m 0 c).arrAt_eq_of_covers 6 _ (by decide +kernel) fun t hf y => ?_
  blk_simp
  rw [after0_6]
  refine (block6' m c t y).trans (congrArg (dxs (aX m c) (aW m c) (aA m c) (aG m c) (aS m c) (aO m c)) ?_)
  blk_ext [at_point t]

/-- A block's share of a column sum. -/
def share (f : Fin 8192 → Fin 1024 → EReal) (n : ℕ) (d : Fin 1024) : EReal :=
  if h : n < 16 then ∑ r : Fin 512, f ⟨512 * n + r.val, by omega⟩ d else 0

/-- The share is both halves' shares. -/
theorem share_halves (f : Fin 8192 → Fin 1024 → EReal) (t : Fin cfg0.N) (d : Fin 1024) :
    ∑ r, f (tok t 0 r) d + ∑ r, f (tok t 1 r) d = share f t.val d := by
  rw [share, dif_pos (show t.val < 16 from t.isLt), Fin.sum_univ_add (a := 256) (b := 256)]
  refine congrArg₂ (· + ·) (Finset.sum_congr rfl fun r _ => congrArg (f · d) (Fin.ext ?_)) (Finset.sum_congr rfl fun r _ => congrArg (f · d) (Fin.ext ?_))
  · show 512 * t.val + (256 * 0 + r.val) = 512 * t.val + r.val; omega
  · show 512 * t.val + (256 * 1 + r.val) = 512 * t.val + (256 + r.val); omega

theorem sum_shares (f : Fin 8192 → Fin 1024 → EReal) (d : Fin 1024) : ∑ p : Fin grid0.N, share f p.val d = ∑ t : Fin 8192, f t d := by
  refine (Finset.sum_congr rfl fun (p : Fin 16) _ => dif_pos p.isLt).trans ?_
  exact Fin.sum_mul_add_congr (f := fun t => f t d) fun s k hl => congrArg (f · d) (Fin.ext (by show 512 * s.val + k.val = s.val * 512 + k.val; omega))

theorem zero_dsh (j : S1x1024.Idx) : k0_pay1 (F := Ideal) j = (0 : EReal) := by pointwise [k0_pay1]
theorem zero_dsc (j : S1x1024.Idx) : k0_pay2 (F := Ideal) j = (0 : EReal) := by pointwise [k0_pay2]
theorem zero_dg (j : S1x1024.Idx) : k0_pay3 (F := Ideal) j = (0 : EReal) := by pointwise [k0_pay3]

theorem first7 (c : Dev nD) (t : Fin cfg0.N) (h : t.val % 16 = 0) (d : Fin 1024) :
    (outsAt0 m c t.val t.isLt).2.1 (ix2 0 d) = 0 + share (du (aX m c) (aW m c)) t.val d := by
  rw [outsAt0_A m c t h]; frame_out
  refine (dsh_step (half_first m c t) (half_second m c t) _ d).trans ?_
  rw [zero_dsh, share_halves]

theorem next7 (c : Dev nD) (t : Fin cfg0.N) (h : ¬ t.val % 16 = 0) (d : Fin 1024) :
    (outsAt0 m c t.val t.isLt).2.1 (ix2 0 d) = (outsAt0 m c (t.val - 1) (by have := t.isLt; omega)).2.1 (ix2 0 d) + share (du (aX m c) (aW m c)) t.val d := by
  rw [outsAt0_B m c t h]; frame_out
  refine (dsh_step (half_first m c t) (half_second m c t) _ d).trans ?_
  rw [share_halves]

theorem first8 (c : Dev nD) (t : Fin cfg0.N) (h : t.val % 16 = 0) (d : Fin 1024) :
    (outsAt0 m c t.val t.isLt).2.2.1 (ix2 0 d) = 0 + share (dsc (aX m c) (aW m c) (aA m c) (aG m c)) t.val d := by
  rw [outsAt0_A m c t h]; frame_out
  refine (dsc_step (half_first m c t) (half_second m c t) (read_3 m c t) _ d).trans ?_
  rw [zero_dsc, share_halves]

theorem next8 (c : Dev nD) (t : Fin cfg0.N) (h : ¬ t.val % 16 = 0) (d : Fin 1024) :
    (outsAt0 m c t.val t.isLt).2.2.1 (ix2 0 d) = (outsAt0 m c (t.val - 1) (by have := t.isLt; omega)).2.2.1 (ix2 0 d) + share (dsc (aX m c) (aW m c) (aA m c) (aG m c)) t.val d := by
  rw [outsAt0_B m c t h]; frame_out
  refine (dsc_step (half_first m c t) (half_second m c t) (read_3 m c t) _ d).trans ?_
  rw [share_halves]

theorem first9 (c : Dev nD) (t : Fin cfg0.N) (h : t.val % 16 = 0) (d : Fin 1024) :
    (outsAt0 m c t.val t.isLt).2.2.2 (ix2 0 d) = 0 + share (dg (aX m c) (aW m c) (aA m c) (aS m c)) t.val d := by
  rw [outsAt0_A m c t h]; frame_out
  refine (dg_step (half_first m c t) (half_second m c t) (read_4 m c t) _ d).trans ?_
  rw [zero_dg, share_halves]

theorem next9 (c : Dev nD) (t : Fin cfg0.N) (h : ¬ t.val % 16 = 0) (d : Fin 1024) :
    (outsAt0 m c t.val t.isLt).2.2.2 (ix2 0 d) = (outsAt0 m c (t.val - 1) (by have := t.isLt; omega)).2.2.2 (ix2 0 d) + share (dg (aX m c) (aW m c) (aA m c) (aS m c)) t.val d := by
  rw [outsAt0_B m c t h]; frame_out
  refine (dg_step (half_first m c t) (half_second m c t) (read_4 m c t) _ d).trans ?_
  rw [share_halves]

/-- The second result array. -/
theorem final7 (c : Dev nD) : (dats m 0 c).arrAt 7 (cfgs 0).N = total (du (aX m c) (aW m c)) := by
  refine (dats m 0 c).arrAt_eq_of_after_last 7 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_7, Pipeline.eq_sum_fin_of_reset_step_apply_last (fun n h (j : Fin 1024) => (outsAt0 m c n h).2.1 (ix2 0 j)) 16 (fun _ => 0) _
    (first7 m c) (next7 m c) (le_of_eq N_0) t0_15 rfl d, zero_add]
  exact sum_shares _ d

/-- The third result array. -/
theorem final8 (c : Dev nD) : (dats m 0 c).arrAt 8 (cfgs 0).N = total (dsc (aX m c) (aW m c) (aA m c) (aG m c)) := by
  refine (dats m 0 c).arrAt_eq_of_after_last 8 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_8, Pipeline.eq_sum_fin_of_reset_step_apply_last (fun n h (j : Fin 1024) => (outsAt0 m c n h).2.2.1 (ix2 0 j)) 16 (fun _ => 0) _
    (first8 m c) (next8 m c) (le_of_eq N_0) t0_15 rfl d, zero_add]
  exact sum_shares _ d

/-- The fourth result array. -/
theorem final9 (c : Dev nD) : (dats m 0 c).arrAt 9 (cfgs 0).N = total (dg (aX m c) (aW m c) (aA m c) (aS m c)) := by
  refine (dats m 0 c).arrAt_eq_of_after_last 9 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_9, Pipeline.eq_sum_fin_of_reset_step_apply_last (fun n h (j : Fin 1024) => (outsAt0 m c n h).2.2.2 (ix2 0 j)) 16 (fun _ => 0) _
    (first9 m c) (next9 m c) (le_of_eq N_0) t0_15 rfl d, zero_add]
  exact sum_shares _ d

end Kernel

section Reference

open Cert.Kernel5Ideal Cert.Reference5Ideal.Read

variable (X : FVec Ideal S8192x6656 .bf16) (W : FVec Ideal S6656x1024 .bf16) (A : FVec Ideal S8192x1024 .f32)
  (G S : FVec Ideal S1x1024 .f32) (O : FVec Ideal S8192x1024 .f32)

/-- The reference's cotangent of the modulated input. -/
theorem ref_du (t : Fin 8192) (d : Fin 1024) : val_main_v26 (F := Ideal) X W (ix2 t d) = du X W t d := by
  pointwise [val_main_v26, val_main_v25, val_main_v23, val_main_v22, du]

/-- Its mean square. -/
theorem ref_ms (t : Fin 8192) : val_main_v7 (F := Ideal) A (ix2 t 0) = ms A t := by
  pointwise [val_main_v7, val_main_v8, val_main_v7, val_main_v6, val_main_v5, val_main_v4, val_main_v3, val_main_v2, val_main_v1, val_main_cst_0, val_main_cst_1, val_main_cst_2, ms]

/-- Its normalised input. -/
theorem ref_xh (t : Fin 8192) (d : Fin 1024) : val_main_v13 (F := Ideal) A (ix2 t d) = A (ix2 t d) * inv A t := by
  unfold inv
  rw [← ref_ms]
  pointwise [val_main_v13, val_main_v12, val_main_v8]

/-- Its cotangent of the scaled norm. -/
theorem ref_us (t : Fin 8192) (d : Fin 1024) :
    val_main_v33 (F := Ideal) X W S (ix2 t d) = du X W t d * (Ideal.ofBits FTy.f32 0x3F800000#32 + S (ix2 0 d)) := by
  rw [← ref_du]
  pointwise [val_main_v33, val_main_v32, val_main_v17, val_main_v16, val_main_cst_4]

/-- The first result of the reference. -/
theorem ref_dx : val_main_v53 (F := Ideal) X W A G S O = dxs X W A G S O := by
  funext i
  obtain ⟨t, d, rfl⟩ : ∃ (t : Fin 8192) (d : Fin 1024), i = ix2 t d := ⟨i 0, i 1, (ix2_eta i).symm⟩
  refine Eq.trans ?_ (NormGrad.input (fun e => A (ix2 t e)) (fun e => dn X W G S t e) (O (ix2 t d)) d).symm
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v11, val_main_v10, val_main_v9, val_main_v8, val_main_cst_3, val_main_cst_8, val_main_cst_9, val_main_cst_10]
  simp only [ref_us, Fin.sum_univ_one, Fin.isValue, ref_ms]
  rfl

/-- The second. -/
theorem ref_dsh : val_main_v28 (F := Ideal) X W = total (du X W) := by
  funext i
  obtain ⟨z, d, rfl⟩ : ∃ (z : Fin 1) (d : Fin 1024), i = ix2 z d := ⟨i 0, i 1, (ix2_eta i).symm⟩
  pointwise [val_main_v28, val_main_v27, val_main_cst_5]
  simp only [ref_du]
  rfl

/-- The third. -/
theorem ref_dsc : val_main_v31 (F := Ideal) X W A G = total (dsc X W A G) := by
  funext i
  obtain ⟨z, d, rfl⟩ : ∃ (z : Fin 1) (d : Fin 1024), i = ix2 z d := ⟨i 0, i 1, (ix2_eta i).symm⟩
  pointwise [val_main_v31, val_main_v30, val_main_v29, val_main_cst_6, val_main_v15, val_main_v14]
  simp only [ref_du, ref_xh]
  exact Finset.sum_congr rfl fun t _ => mul_comm _ _

/-- The fourth. -/
theorem ref_dg : val_main_v36 (F := Ideal) X W A S = total (dg X W A S) := by
  funext i
  obtain ⟨z, d, rfl⟩ : ∃ (z : Fin 1) (d : Fin 1024), i = ix2 z d := ⟨i 0, i 1, (ix2_eta i).symm⟩
  pointwise [val_main_v36, val_main_v35, val_main_v34, val_main_cst_7]
  simp only [ref_us, ref_xh]
  exact Finset.sum_congr rfl fun t _ => mul_comm _ _

end Reference

section Pair

open Cert.Reference5Ideal

theorem result_first (m' : (ℓ : Loc nD τ sig) → Buf (Elt Ideal) ℓ) (c : Dev nD) :
    Cert.Reference5Ideal.Value.res_main_v53 m' c
      = dxs (m' (c.tc.loc main_arg0)) (m' (c.tc.loc main_arg1)) (m' (c.tc.loc main_arg2)) (m' (c.tc.loc main_arg3)) (m' (c.tc.loc main_arg4)) (m' (c.tc.loc main_arg5)) :=
  (Cert.Reference5Ideal.Read.val_main_v53_eq m' c).trans (ref_dx _ _ _ _ _ _)

end Pair

/-- The tiled kernel and the plain gradient, on the same arguments, leave the same four results. -/
theorem pair : algebraic_Kernel5Ideal_Reference5Ideal := by
  pair_intro
  · run_from Cert.Kernel5Ideal.Gen.run_main m g
  · refine θ_run_mono (Cert.Reference5Ideal.Value.run m' g') ?_
    intro r hr c
    obtain ⟨h0, h1, h2, h3, rest⟩ := hr c
    obtain ⟨e0, e1, e2, e3, e4, e5⟩ := hagree c
    refine ⟨h0.trans ?_, h1.trans ?_, h2.trans ?_, h3.trans ?_, rest⟩
    · refine (result_first m' c).trans ?_
      rw [e0, e1, e2, e3, e4, e5]
      exact (final6 m c).symm
    · refine ((Cert.Reference5Ideal.Read.val_main_v28_eq (F := Ideal) _ _).trans (ref_dsh _ _)).trans ?_
      rw [e0, e1]
      exact (final7 m c).symm
    · refine ((Cert.Reference5Ideal.Read.val_main_v31_eq (F := Ideal) _ _ _ _).trans (ref_dsc _ _ _ _)).trans ?_
      rw [e0, e1, e2, e3]
      exact (final8 m c).symm
    · refine ((Cert.Reference5Ideal.Read.val_main_v36_eq (F := Ideal) _ _ _ _).trans (ref_dg _ _ _ _)).trans ?_
      rw [e0, e1, e2, e4]
      exact (final9 m c).symm

end Cert.MixInDx
end
-- ==== Proof.UpDw.lean ====
/- The weight gradient of a gated projection: what the tiled product leaves in its result array, and the plain
   gradient's own term, are both the sum over all tokens of cotangent times input. -/
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.UpDw

/-- The gradient of both weights of the gated projection, one above the other: row `r` of matrix `s` and column `d`
    hold the sum over the tokens of the cotangent `X s t r` times the input `H t d`. -/
def dW (X : FVec Ideal Cert.Kernel4Ideal.S2x8192x2816 .bf16) (H : FVec Ideal Cert.Kernel4Ideal.S8192x1024 .bf16) :
    FVec Ideal Cert.Kernel4Ideal.S5632x1024 .bf16 := fun i =>
  ∑ t : Fin 8192, X (ix3 ⟨(i 0).val / 2816, by have : (i 0).val < 5632 := (i 0).isLt; omega⟩ t ⟨(i 0).val % 2816, Nat.mod_lt _ (by decide)⟩) * H (ix2 t (i 1))

section Kernel

open Cert.Kernel4Ideal Cert.Kernel4Ideal.Gen

variable (m : (ℓ : Loc nD τ sig) → Buf (Elt Ideal) ℓ)

/-- The accumulator is filled with zeros at the first point of a run. -/
theorem fill_zero (j) : k0_pay1 (F := Ideal) j = 0 := by pointwise [k0_pay1]

/-- A point adds its 2048 tokens' products to the accumulator. -/
theorem step_sum (acc x1 x0 j) : k0_pay2 (F := Ideal) acc x1 x0 j
    = acc j + ∑ k : Fin 2048, x1 (ix3 0 k (j 0)) * x0 (ix2 k (j 1)) := by pointwise [k0_pay2]

/-- The block each window shows at each point. -/
theorem at_point : ∀ t : Fin cfg0.N, win0_0.index t = ![t.val / 4 / 2, t.val % 4, t.val / 4 % 2]
    ∧ win0_1.index t = ![t.val % 4, 0] ∧ win0_2.index t = ![t.val / 4, 0] :=
  (by decide +kernel : ∀ t : Fin grid0.N, _)

/-- At the last point of a run the block written is the accumulator. -/
theorem out_acc (c : Dev nD) (t : Fin cfg0.N) (h : t.val % 4 = 3) (j) :
    (outsAt0 m c t.val t.isLt).1 j = (outsAt0 m c t.val t.isLt).2 j := by
  rw [outsAt0_C m c t (by omega) h]
  frame_out
  pointwise [k0_pay3]

/-- The result array holds the weight gradient. -/
theorem final (c : Dev nD) : (dats m 0 c).arrAt 2 (cfgs 0).N
    = dW (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_acc m c t hr, Pipeline.eq_sum_fin_of_reset_step_apply_of_flush (fun n h => (outsAt0 m c n h).2) 4 (fun _ => 0) _
    (fun t h j => by rw [outsAt0_A m c t h (by omega)]; frame_out; rw [step_sum, fill_zero])
    (fun t h j => by
      by_cases h3 : t.val % 4 = 3
      · rw [outsAt0_C m c t h h3]; frame_out; rw [step_sum, read_unread_whole]
      · rw [outsAt0_B m c t h h3]; frame_out; rw [step_sum, read_unread_whole])
    t hr _, zero_add]
  unfold dW
  refine Fin.sum_mul_add_congr fun s k hl => ?_
  blk_point [iblk, V, at_point t, at_point ⟨_, Pipeline.run_point_lt_of_flush t hr s⟩]

end Kernel

section Reference

open Cert.Reference4Ideal Cert.Reference4Ideal.Gen

/-- The plain gradient's composed term is the weight gradient. -/
theorem ref (X : FVec Ideal S2x8192x2816 .bf16) (H : FVec Ideal S8192x1024 .bf16) :
    truncf .bf16 (transpose S5632x1024 [1, 0] (concatenate S1024x5632 1 [⟨S1024x2816, (transpose S1024x2816 [1, 0] (Host.dotGeneral dot_S8192x2816_S8192x1024_S2816x1024_0_0_1_1_n_n none (shapeCast _ (extractStridedSlice S1x8192x2816 ![0, 0, 0] (extf .f32 X bitsLt_bf16_f32) slices_S2x8192x2816_S1x8192x2816_0_0_0) shapeCasts_S1x8192x2816_S8192x2816) (extf .f32 H bitsLt_bf16_f32)) transposes_S2816x1024_S1024x2816_1_0)⟩, ⟨S1024x2816, (transpose S1024x2816 [1, 0] (Host.dotGeneral dot_S8192x2816_S8192x1024_S2816x1024_0_0_1_1_n_n none (shapeCast _ (extractStridedSlice S1x8192x2816 ![1, 0, 0] (extf .f32 X bitsLt_bf16_f32) slices_S2x8192x2816_S1x8192x2816_1_0_0) shapeCasts_S1x8192x2816_S8192x2816) (extf .f32 H bitsLt_bf16_f32)) transposes_S2816x1024_S1024x2816_1_0)⟩] concatenates_S1024x2816_S1024x2816_S1024x5632_d1) transposes_S1024x5632_S5632x1024_1_0) bitsLt_bf16_f32
      = dW X H := by
  funext i
  idx_vars i
  pointwise [dW]
  by_cases h : (i0 : ℕ) < 2816
  · simp only [dif_pos h, Nat.div_eq_of_lt h, Nat.mod_eq_of_lt h]
    rfl
  · have hq : (i0 : ℕ) / 2816 = 1 := by omega
    have hm : (i0 : ℕ) % 2816 = i0 - 2816 := by omega
    simp only [dif_neg h, hq, hm]
    rfl

end Reference

/-- Tiled and plain gradient end with the same array. -/
theorem pair : algebraic_Kernel4Ideal_Reference4Ideal := by
  pair_intro
  · run_from Cert.Kernel4Ideal.Gen.run_main m g
  · run_from Cert.Reference4Ideal.Value.run m' g'
    exact (ref _ _).trans (final m c).symm

end Cert.UpDw

end
-- ==== Proof.MixInDw.lean ====
/- The weight gradient of the mixer's input projection: what the tiled product leaves in its result array, and the
   plain gradient's own term, are both the sum over all tokens of cotangent times input. -/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixInDw

/-- The gradient of the input projection, transposed: row `r` and column `d` hold the sum over the tokens of the
    cotangent `X t r` times the input `H t d`. -/
def dW (X : FVec Ideal Cert.Kernel6Ideal.S8192x6656 .bf16) (H : FVec Ideal Cert.Kernel6Ideal.S8192x1024 .bf16) :
    FVec Ideal Cert.Kernel6Ideal.S6656x1024 .bf16 := fun i =>
  ∑ t : Fin 8192, X (ix2 t (i 0)) * H (ix2 t (i 1))

section Kernel

open Cert.Kernel6Ideal Cert.Kernel6Ideal.Gen

variable (m : (ℓ : Loc nD τ sig) → Buf (Elt Ideal) ℓ)

/-- The accumulator is filled with zeros at the first point of a run. -/
theorem fill_zero (j) : k0_pay1 (F := Ideal) j = 0 := by pointwise [k0_pay1]

/-- A point adds its 2048 tokens' products to the accumulator. -/
theorem step_sum (acc x1 x0 j) : k0_pay2 (F := Ideal) acc x1 x0 j
    = acc j + ∑ k : Fin 2048, x1 (ix3 0 k (j 0)) * x0 (ix2 k (j 1)) := by pointwise [k0_pay2]

/-- The block each window shows at each point. -/
theorem at_point : ∀ t : Fin cfg0.N, win0_0.index t = ![0, t.val % 4, t.val / 4]
    ∧ win0_1.index t = ![t.val % 4, 0] ∧ win0_2.index t = ![t.val / 4, 0] :=
  (by decide +kernel : ∀ t : Fin grid0.N, _)

/-- At the last point of a run the block written is the accumulator. -/
theorem out_acc (c : Dev nD) (t : Fin cfg0.N) (h : t.val % 4 = 3) (j) :
    (outsAt0 m c t.val t.isLt).1 j = (outsAt0 m c t.val t.isLt).2 j := by
  rw [outsAt0_C m c t (by omega) h]
  frame_out
  pointwise [k0_pay3]

/-- The result array holds the weight gradient. -/
theorem final (c : Dev nD) : (dats m 0 c).arrAt 2 (cfgs 0).N
    = dW (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_acc m c t hr, Pipeline.eq_sum_fin_of_reset_step_apply_of_flush (fun n h => (outsAt0 m c n h).2) 4 (fun _ => 0) _
    (fun t h j => by rw [outsAt0_A m c t h (by omega)]; frame_out; rw [step_sum, fill_zero])
    (fun t h j => by
      by_cases h3 : t.val % 4 = 3
      · rw [outsAt0_C m c t h h3]; frame_out; rw [step_sum, read_unread_whole]
      · rw [outsAt0_B m c t h h3]; frame_out; rw [step_sum, read_unread_whole])
    t hr _, zero_add]
  unfold dW
  refine Fin.sum_mul_add_congr fun s k hl => ?_
  blk_point [iblk, V, at_point t, at_point ⟨_, Pipeline.run_point_lt_of_flush t hr s⟩]

end Kernel

section Reference

open Cert.Reference6Ideal Cert.Reference6Ideal.Gen

/-- The plain gradient's composed term is the weight gradient. -/
theorem ref (X : FVec Ideal S8192x6656 .bf16) (H : FVec Ideal S8192x1024 .bf16) :
    truncf .bf16 (transpose S6656x1024 [1, 0] (transpose S1024x6656 [1, 0] (Host.dotGeneral dot_S8192x6656_S8192x1024_S6656x1024_0_0_1_1_n_n none (extf .f32 X bitsLt_bf16_f32) (extf .f32 H bitsLt_bf16_f32)) transposes_S6656x1024_S1024x6656_1_0) transposes_S1024x6656_S6656x1024_1_0) bitsLt_bf16_f32
      = dW X H := by
  funext i
  idx_vars i
  pointwise [dW]

end Reference

/-- Tiled and plain gradient end with the same array. -/
theorem pair : algebraic_Kernel6Ideal_Reference6Ideal := by
  pair_intro
  · run_from Cert.Kernel6Ideal.Gen.run_main m g
  · run_from Cert.Reference6Ideal.Value.run m' g'
    exact (ref _ _).trans (final m c).symm

end Cert.MixInDw

end
-- ==== Proof.MixOutDw.lean ====
/- The weight gradient of the mixer's output projection: what the tiled product leaves in its result array, and the
   plain gradient's own term, are both the sum over all tokens of input times cotangent. -/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixOutDw

/-- The gradient of the output projection: row `r` and column `d` hold the sum over the tokens of the input `X t r`
    times the cotangent `H t d`. -/
def dW (X : FVec Ideal Cert.Kernel7Ideal.S8192x1024 .bf16) (H : FVec Ideal Cert.Kernel7Ideal.S8192x1024 .bf16) :
    FVec Ideal Cert.Kernel7Ideal.S1024x1024 .bf16 := fun i =>
  ∑ t : Fin 8192, X (ix2 t (i 0)) * H (ix2 t (i 1))

section Kernel

open Cert.Kernel7Ideal Cert.Kernel7Ideal.Gen

variable (m : (ℓ : Loc nD τ sig) → Buf (Elt Ideal) ℓ)

/-- The accumulator is filled with zeros at the first point of a run. -/
theorem fill_zero (j) : k0_pay1 (F := Ideal) j = 0 := by pointwise [k0_pay1]

/-- A point adds its 2048 tokens' products to the accumulator. -/
theorem step_sum (acc x1 x0 j) : k0_pay2 (F := Ideal) acc x1 x0 j
    = acc j + ∑ k : Fin 2048, x1 (ix3 0 k (j 0)) * x0 (ix2 k (j 1)) := by pointwise [k0_pay2]

/-- The block each window shows at each point. -/
theorem at_point : ∀ t : Fin cfg0.N, win0_0.index t = ![0, t.val % 4, 0]
    ∧ win0_1.index t = ![t.val % 4, 0] ∧ win0_2.index t = ![0, 0] :=
  (by decide +kernel : ∀ t : Fin grid0.N, _)

/-- At the last point of a run the block written is the accumulator. -/
theorem out_acc (c : Dev nD) (t : Fin cfg0.N) (h : t.val % 4 = 3) (j) :
    (outsAt0 m c t.val t.isLt).1 j = (outsAt0 m c t.val t.isLt).2 j := by
  rw [outsAt0_C m c t (by omega) h]
  frame_out
  pointwise [k0_pay3]

/-- The result array holds the weight gradient. -/
theorem final (c : Dev nD) : (dats m 0 c).arrAt 2 (cfgs 0).N
    = dW (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_acc m c t hr, Pipeline.eq_sum_fin_of_reset_step_apply_of_flush (fun n h => (outsAt0 m c n h).2) 4 (fun _ => 0) _
    (fun t h j => by rw [outsAt0_A m c t h (by omega)]; frame_out; rw [step_sum, fill_zero])
    (fun t h j => by
      by_cases h3 : t.val % 4 = 3
      · rw [outsAt0_C m c t h h3]; frame_out; rw [step_sum, read_unread_whole]
      · rw [outsAt0_B m c t h h3]; frame_out; rw [step_sum, read_unread_whole])
    t hr _, zero_add]
  unfold dW
  refine Fin.sum_mul_add_congr fun s k hl => ?_
  blk_point [iblk, V, at_point t, at_point ⟨_, Pipeline.run_point_lt_of_flush t hr s⟩]

end Kernel

section Reference

open Cert.Reference7Ideal Cert.Reference7Ideal.Gen

/-- The plain gradient's composed term is the weight gradient. -/
theorem ref (X : FVec Ideal S8192x1024 .bf16) (H : FVec Ideal S8192x1024 .bf16) :
    truncf .bf16 (transpose S1024x1024 [1, 0] (Host.dotGeneral dot_S8192x1024_S8192x1024_S1024x1024_0_0_1_1_n_n none (extf .f32 H bitsLt_bf16_f32) (extf .f32 X bitsLt_bf16_f32)) transposes_S1024x1024_S1024x1024_1_0) bitsLt_bf16_f32
      = dW X H := by
  funext i
  idx_vars i
  pointwise [dW]
  exact Finset.sum_congr rfl fun t _ => mul_comm _ _

end Reference

/-- Tiled and plain gradient end with the same array. -/
theorem pair : algebraic_Kernel7Ideal_Reference7Ideal := by
  pair_intro
  · run_from Cert.Kernel7Ideal.Gen.run_main m g
  · run_from Cert.Reference7Ideal.Value.run m' g'
    exact (ref _ _).trans (final m c).symm

end Cert.MixOutDw

end
-- ==== Proof.UpFwd.lean ====
/- The normalised, modulated input and its projection: what the tiled kernel leaves in its two result arrays, chunk of
   columns by chunk of columns, and the plain forward lines' own terms, are the same arrays. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.UpFwd

section Spec

open Cert.Kernel8Ideal

variable (A : FVec Ideal S8192x1024 .f32) (G S H : FVec Ideal S1x1024 .f32) (W : FVec Ideal S5632x1024 .bf16)

/-- A feature of a token after the norm, its gain, the scale and the shift. -/
def mod (t : Fin 8192) (d : Fin 1024) : EReal :=
  A (ix2 t d) * Ideal.rsqrt (Ideal.div (∑ e : Fin 1024, A (ix2 t e) * A (ix2 t e)) (Ideal.ofBits FTy.f32 0x44800000#32)
    + Ideal.ofBits FTy.f32 0x358637BD#32) * G (ix2 0 d) * (Ideal.ofBits FTy.f32 0x3F800000#32 + S (ix2 0 d)) + H (ix2 0 d)

/-- All of them, as an array. -/
def mods : FVec Ideal S8192x1024 .bf16 := fun i => mod A G S H (i 0) (i 1)

/-- The projection of the modulated input. -/
def proj : FVec Ideal S8192x5632 .bf16 := fun i => ∑ d : Fin 1024, mod A G S H (i 0) d * W (ix2 (i 1) d)

end Spec

section Kernel

open Cert.Kernel8Ideal Cert.Kernel8Ideal.Gen

variable (m : (ℓ : Loc nD τ sig) → Buf (Elt Ideal) ℓ)

abbrev aA (c : Dev nD) : FVec Ideal S8192x1024 .f32 := m ((c : Thread nD τ).loc main_arg0)
abbrev aG (c : Dev nD) : FVec Ideal S1x1024 .f32 := m ((c : Thread nD τ).loc main_arg1)
abbrev aS (c : Dev nD) : FVec Ideal S1x1024 .f32 := m ((c : Thread nD τ).loc main_arg2)
abbrev aH (c : Dev nD) : FVec Ideal S1x1024 .f32 := m ((c : Thread nD τ).loc main_arg3)
abbrev aW (c : Dev nD) : FVec Ideal S5632x1024 .bf16 := m ((c : Thread nD τ).loc main_arg4)

/-- The block each window shows at each point. -/
theorem at_point : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The token of a row of a block. -/
def tok (t : Fin cfg0.N) (r : Fin 512) : Fin 8192 := ⟨512 * t.val + r.val, by have : t.val < 16 := t.isLt; omega⟩

theorem read_0 (c : Dev nD) (t : Fin cfg0.N) (r : Fin 512) (d : Fin 1024) : iblk m c 0 t (ix2 r d) = aA m c (ix2 (tok t r) d) := by
  have ht : t.val < 16 := t.isLt
  unfold tok
  blk_point [iblk, V, at_point t]

theorem read_1 (c : Dev nD) (t : Fin cfg0.N) (d : Fin 1024) : iblk m c 1 t (ix2 0 d) = aG m c (ix2 0 d) := by
  blk_point [iblk, V, at_point t]

theorem read_2 (c : Dev nD) (t : Fin cfg0.N) (d : Fin 1024) : iblk m c 2 t (ix2 0 d) = aS m c (ix2 0 d) := by
  blk_point [iblk, V, at_point t]

theorem read_3 (c : Dev nD) (t : Fin cfg0.N) (d : Fin 1024) : iblk m c 3 t (ix2 0 d) = aH m c (ix2 0 d) := by
  blk_point [iblk, V, at_point t]

theorem read_4 (c : Dev nD) (t : Fin cfg0.N) (n : Fin 5632) (d : Fin 1024) : iblk m c 4 t (ix2 n d) = aW m c (ix2 n d) := by
  blk_point [iblk, V, at_point t]

/-- The modulated block, as the body's first store has it. -/
theorem hb_at (c : Dev nD) (t : Fin cfg0.N) (r : Fin 512) (d : Fin 1024) :
    k0_pay4 (iblk m c 0 t) (iblk m c 1 t) (iblk m c 2 t) (iblk m c 3 t) (ix2 r d) = mod (aA m c) (aG m c) (aS m c) (aH m c) (tok t r) d := by
  pointwise [k0_pay4, mod]
  simp only [read_0, read_1, read_2, read_3]

/-- The same block, as the products read it. -/
theorem hb_at' (c : Dev nD) (t : Fin cfg0.N) (r : Fin 512) (d : Fin 1024) :
    k0_pay13 (iblk m c 0 t) (iblk m c 1 t) (iblk m c 2 t) (iblk m c 3 t) (iblk m c 4 t) (ix2 r d) = mod (aA m c) (aG m c) (aS m c) (aH m c) (tok t r) d := by
  refine Eq.trans ?_ (hb_at m c t r d)
  pointwise [k0_pay13, k0_pay4]

/-- What a point writes to its block of the second result. -/
theorem block6 (c : Dev nD) (t : Fin cfg0.N) (r : Fin 512) (n : Fin 5632) :
    out0_6 (iblk m c 0 t) (iblk m c 1 t) (iblk m c 2 t) (iblk m c 3 t) (iblk m c 4 t) (ix2 r n)
      = proj (aA m c) (aG m c) (aS m c) (aH m c) (aW m c) (ix2 (tok t r) n) := by
  frame_out
  canon_tiles x hx
  all_goals
    obtain ⟨a, b, rfl⟩ : ∃ (a : Fin 512) (b : Fin 512), x = ix2 a b := ⟨x 0, x 1, (ix2_eta x).symm⟩
    obtain rfl : r = a := Fin.ext hx0
    pointwise [k0_pay1, k0_pay2, k0_pay3, k0_pay12, k0_pay11, k0_pay10, k0_pay9, k0_pay8, k0_pay7, k0_pay6, k0_pay5]
    simp only [hb_at, hb_at']
    refine Finset.sum_congr rfl fun d _ => congrArg₂ (· * ·) rfl ?_
    exact (read_4 m c t _ d).trans (congrArg (fun q => aW m c (ix2 q d)) (Fin.ext hx1.symm))

/-- What a point writes to its block of the first result. -/
theorem block5 (c : Dev nD) (t : Fin cfg0.N) (r : Fin 512) (d : Fin 1024) :
    out0_5 (iblk m c 0 t) (iblk m c 1 t) (iblk m c 2 t) (iblk m c 3 t) (iblk m c 4 t) (ix2 r d)
      = mods (aA m c) (aG m c) (aS m c) (aH m c) (ix2 (tok t r) d) := by
  frame_out
  exact hb_at m c t r d

/-- The first result array. -/
theorem final5 (c : Dev nD) : (dats m 0 c).arrAt 5 (cfgs 0).N = mods (aA m c) (aG m c) (aS m c) (aH m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, (ix2_eta y).symm⟩
  refine (block5 m c t r d).trans (congrArg (mods (aA m c) (aG m c) (aS m c) (aH m c)) ?_)
  unfold tok
  blk_ext [at_point t]

/-- The second result array. -/
theorem final6 (c : Dev nD) : (dats m 0 c).arrAt 6 (cfgs 0).N = proj (aA m c) (aG m c) (aS m c) (aH m c) (aW m c) := by
  refine (dats m 0 c).arrAt_eq_of_covers 6 _ (by decide +kernel) fun t hf y => ?_
  blk_simp
  rw [after0_6]
  obtain ⟨r, d, rfl⟩ : ∃ (r : Fin 512) (d : Fin 5632), y = ix2 r d := ⟨y 0, y 1, (ix2_eta y).symm⟩
  refine (block6 m c t r d).trans (congrArg (proj (aA m c) (aG m c) (aS m c) (aH m c) (aW m c)) ?_)
  unfold tok
  blk_ext [at_point t]

end Kernel

section Reference

open Cert.Kernel8Ideal Cert.Reference8Ideal.Read

variable (A : FVec Ideal S8192x1024 .f32) (G S H : FVec Ideal S1x1024 .f32) (W : FVec Ideal S5632x1024 .bf16)

/-- The reference's modulated input. -/
theorem ref_mod (t : Fin 8192) (d : Fin 1024) : val_main_v17 (F := Ideal) A G S H (ix2 t d) = mod A G S H t d := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, mod]

/-- The first result of the reference. -/
theorem ref_mods : val_main_v18 (F := Ideal) A G S H = mods A G S H := by
  funext i
  obtain ⟨t, d, rfl⟩ : ∃ (t : Fin 8192) (d : Fin 1024), i = ix2 t d := ⟨i 0, i 1, (ix2_eta i).symm⟩
  refine Eq.trans ?_ (ref_mod A G S H t d)
  pointwise [val_main_v18]

/-- The second. -/
theorem ref_proj : val_main_v22 (F := Ideal) A G S H W = proj A G S H W := by
  funext i
  obtain ⟨t, n, rfl⟩ : ∃ (t : Fin 8192) (n : Fin 5632), i = ix2 t n := ⟨i 0, i 1, (ix2_eta i).symm⟩
  pointwise [val_main_v22, val_main_v21, val_main_v20, val_main_v19]
  simp only [ref_mod]
  rfl

end Reference

/-- The tiled kernel and the plain forward lines, on the same arguments, leave the same two results. -/
theorem pair : algebraic_Kernel8Ideal_Reference8Ideal := by
  pair_intro
  · run_from Cert.Kernel8Ideal.Gen.run_main m g
  · refine θ_run_mono (Cert.Reference8Ideal.Value.run m' g') ?_
    intro r hr c
    obtain ⟨h0, h1, rest⟩ := hr c
    obtain ⟨e0, e1, e2, e3, e4⟩ := hagree c
    refine ⟨h0.trans ?_, h1.trans ?_, rest⟩
    · refine ((Cert.Reference8Ideal.Read.val_main_v18_eq (F := Ideal) _ _ _ _).trans (ref_mods _ _ _ _)).trans ?_
      rw [e0, e1, e2, e3]
      exact (final5 m c).symm
    · refine ((Cert.Reference8Ideal.Read.val_main_v22_eq (F := Ideal) _ _ _ _ _).trans (ref_proj _ _ _ _ _)).trans ?_
      rw [e0, e1, e2, e3, e4]
      exact (final6 m c).symm

end Cert.UpFwd
end
-- ==== Proof.Silu.lean ====
/- The logistic function written with a hyperbolic tangent, and the same function as a quotient. -/
module

public import Idealize.ShloMosaic.PureOps.Ideal
public import Idealize.ShloMosaic.Lib.Pointwise
public import Mathlib.Analysis.SpecialFunctions.Trigonometric.Basic

@[expose] public section

noncomputable section

open Idealize.ShloMosaic

namespace Cert.Silu

/-- The constant one half. -/
abbrev half : EReal := Ideal.ofBits FTy.f32 0x3F000000#32

/-- It is a half. -/
theorem half_eq : half = ((1 / 2 : ℝ) : EReal) := by
  simp [half, Ideal.ofBits, Ideal.ieee, -EReal.coe_mul]; norm_num

/-- The logistic function as the kernels have it. -/
def gate (a : EReal) : EReal := half * Ideal.tanh (half * a) + half

/-- On a number it is the logistic function. -/
theorem gate_coe (r : ℝ) : gate (r : EReal) = ((1 / (1 + Real.exp (-r)) : ℝ) : EReal) := by
  rw [gate, half_eq, ← EReal.coe_mul, Ideal.tanh_coe, ← EReal.coe_mul, ← EReal.coe_add]
  congr 1
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  have h1 := Real.exp_pos (1 / 2 * r)
  have h2 := Real.exp_pos (-(1 / 2 * r))
  rw [Real.tanh_eq_sinh_div_cosh, Real.sinh_eq, Real.cosh_eq, e]
  generalize Real.exp (1 / 2 * r) = u at *
  generalize Real.exp (-(1 / 2 * r)) = v at *
  field_simp
  nlinarith [p]

/-- The quotient the plain lines have is the same function, at the infinities too. -/
theorem gate_eq (a : EReal) : Ideal.div 1 (1 + Ideal.exp (-a)) = gate a := by
  induction a using EReal.rec with
  | bot =>
    have e : Ideal.tanh ⊥ = ((-1 : ℝ) : EReal) := by simp
    rw [gate, half_eq, EReal.coe_mul_bot_of_pos (by norm_num), e, ← EReal.coe_mul, ← EReal.coe_add, EReal.neg_bot,
      Ideal.exp_top, EReal.add_top_of_ne_bot (by decide), Ideal.div, if_neg (by simp), EReal.inv_top, mul_zero]
    norm_num
  | top =>
    have e : Ideal.tanh ⊤ = ((1 : ℝ) : EReal) := by simp
    rw [gate, half_eq, EReal.coe_mul_top_of_pos (by norm_num), e, ← EReal.coe_mul, ← EReal.coe_add, EReal.neg_top,
      Ideal.exp_bot, add_zero, ← EReal.coe_one, Ideal.div_coe one_ne_zero, ← EReal.coe_mul]
    norm_num
  | coe r =>
    rw [gate_coe, ← EReal.coe_neg, Ideal.exp_coe, ← EReal.coe_one, ← EReal.coe_add, Ideal.div_coe (by positivity),
      EReal.coe_one, one_mul]

end Cert.Silu
end
-- ==== Proof.DownFwd.lean ====
/- The down projection of the gated feed-forward with its residual: what the tiled kernel leaves in its result array, the
   hidden features taken in eleven chunks, and the plain forward lines' own terms, are the same array. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.Silu
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DownFwd

open Cert.Silu (gate half gate_eq)

section Spec

open Cert.Kernel9Ideal

variable (B : FVec Ideal S8192x5632 .bf16) (W : FVec Ideal S2816x1024 .bf16) (X : FVec Ideal S8192x1024 .f32) (G : FVec Ideal S1x1024 .f32)

/-- A hidden feature of a token: the first half of the projection through the gate, times the second half. -/
def act (t : Fin 8192) (k : Fin 2816) : EReal :=
  B (ix2 t (⟨k.val, by omega⟩ : Fin 5632)) * gate (B (ix2 t (⟨k.val, by omega⟩ : Fin 5632))) * B (ix2 t (⟨2816 + k.val, by omega⟩ : Fin 5632))

/-- The token after its feed-forward, with half the gain. -/
def outs : FVec Ideal S8192x1024 .f32 := fun i =>
  X i + half * G (ix2 0 (i 1)) * ∑ k : Fin 2816, act B (i 0) k * W (ix2 k (i 1))

end Spec

section Kernel

open Cert.Kernel9Ideal Cert.Kernel9Ideal.Gen

variable (m : (ℓ : Loc nD τ sig) → Buf (Elt Ideal) ℓ)

abbrev aB (c : Dev nD) : FVec Ideal S8192x5632 .bf16 := m ((c : Thread nD τ).loc main_arg0)
abbrev aW (c : Dev nD) : FVec Ideal S2816x1024 .bf16 := m ((c : Thread nD τ).loc main_arg1)
abbrev aX (c : Dev nD) : FVec Ideal S8192x1024 .f32 := m ((c : Thread nD τ).loc main_arg2)
abbrev aG (c : Dev nD) : FVec Ideal S1x1024 .f32 := m ((c : Thread nD τ).loc main_arg3)

/-- The block each window shows at each point. -/
theorem at_point : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![t.val, 0] :=
  (by decide +kernel : ∀ t : Fin grid0.N, _)

/-- The token of a row of a block. -/
def tok (t : Fin cfg0.N) (r : Fin 512) : Fin 8192 := ⟨512 * t.val + r.val, by have : t.val < 16 := t.isLt; omega⟩

theorem read_0 (c : Dev nD) (t : Fin cfg0.N) (r : Fin 512) (k : Fin 2816) :
    iblk m c 0 t (ix2 r k) = aB m c (ix2 (tok t r) (⟨k.val, by omega⟩ : Fin 5632)) := by
  have ht : t.val < 16 := t.isLt
  unfold tok
  blk_point [iblk, V, at_point t]

theorem read_1 (c : Dev nD) (t : Fin cfg0.N) (r : Fin 512) (k : Fin 2816) :
    iblk m c 1 t (ix2 r k) = aB m c (ix2 (tok t r) (⟨2816 + k.val, by omega⟩ : Fin 5632)) := by
  have ht : t.val < 16 := t.isLt
  unfold tok
  blk_point [iblk, V, at_point t]

theorem read_2 (c : Dev nD) (t : Fin cfg0.N) (k : Fin 2816) (d : Fin 1024) : iblk m c 2 t (ix2 k d) = aW m c (ix2 k d) := by
  blk_point [iblk, V, at_point t]

theorem read_3 (c : Dev nD) (t : Fin cfg0.N) (r : Fin 512) (d : Fin 1024) : iblk m c 3 t (ix2 r d) = aX m c (ix2 (tok t r) d) := by
  have ht : t.val < 16 := t.isLt
  unfold tok
  blk_point [iblk, V, at_point t]

theorem read_4 (c : Dev nD) (t : Fin cfg0.N) (d : Fin 1024) : iblk m c 4 t (ix2 0 d) = aG m c (ix2 0 d) := by
  blk_point [iblk, V, at_point t]

/-- The part of a sum over the hidden features that a chunk has. -/
def part (f : Fin 2816 → EReal) (s : Fin 11) : EReal := ∑ k : Fin 256, f ⟨s.val * 256 + k.val, by omega⟩

/-- A sum over the hidden features, chunk after chunk. -/
theorem chunks (f : Fin 2816 → EReal) : (∑ k, f k)
    = part f 0 + part f 1 + part f 2 + part f 3 + part f 4 + part f 5 + part f 6 + part f 7 + part f 8 + part f 9 + part f 10 := by
  rw [← Fin.sum_mul_add_fin 11 256 f]
  show (∑ s : Fin 11, part f s) = _
  simp only [Fin.sum_univ_castSucc, Fin.sum_univ_zero, zero_add]
  rfl

/-- A chunk of the body's product, at the columns `p` of the blocks, is its part of the sum. -/
theorem part_eq (B : FVec Ideal S8192x5632 .bf16) (W : FVec Ideal S2816x1024 .bf16) (x0 x1 : FVec Ideal S512x2816 .bf16)
    (x2 : FVec Ideal S2816x1024 .bf16) (T : Fin 8192) (r : Fin 512) (d : Fin 1024)
    (h0 : ∀ k : Fin 2816, x0 (ix2 r k) = B (ix2 T (⟨k.val, by omega⟩ : Fin 5632)))
    (h1 : ∀ k : Fin 2816, x1 (ix2 r k) = B (ix2 T (⟨2816 + k.val, by omega⟩ : Fin 5632)))
    (h2 : ∀ k : Fin 2816, x2 (ix2 k d) = W (ix2 k d)) (s : Fin 11) (p : Fin 256 → Fin 2816)
    (hp : ∀ x, (p x).val = s.val * 256 + x.val) :
    (∑ x, x0 (ix2 r (p x)) * (half * Ideal.tanh (half * x0 (ix2 r (p x))) + half) * x1 (ix2 r (p x)) * x2 (ix2 (p x) d))
      = part (fun k => act B T k * W (ix2 k d)) s := by
  refine Finset.sum_congr rfl fun x _ => ?_
  have e : p x = ⟨s.val * 256 + x.val, by omega⟩ := Fin.ext (hp x)
  rw [h0, h1, h2, e]
  rfl

/-- What a point writes to its block. -/
theorem block5 (c : Dev nD) (t : Fin cfg0.N) (r : Fin 512) (d : Fin 1024) :
    out0_5 (iblk m c 0 t) (iblk m c 1 t) (iblk m c 2 t) (iblk m c 3 t) (iblk m c 4 t) (ix2 r d)
      = outs (aB m c) (aW m c) (aX m c) (aG m c) (ix2 (tok t r) d) := by
  rw [outs, chunks]
  frame_out
  pointwise [k0_pay1, k0_pay2, k0_pay3, k0_pay4, k0_pay5, k0_pay6, k0_pay7, k0_pay8, k0_pay9, k0_pay10, k0_pay11, k0_pay12]
  refine congrArg₂ (· + ·) (read_3 m c t r d) (congrArg₂ (· * ·) (congrArg (half * ·) (read_4 m c t d)) ?_)
  have q (s : Fin 11) (p : Fin 256 → Fin 2816) (hp : ∀ x, (p x).val = s.val * 256 + x.val) :=
    part_eq (aB m c) (aW m c) (iblk m c 0 t) (iblk m c 1 t) (iblk m c 2 t) (tok t r) r d (read_0 m c t r) (read_1 m c t r)
      (fun k => read_2 m c t k d) s p hp
  iterate 10 refine congrArg₂ (· + ·) ?_ (q _ _ (by intro x; rfl))
  exact q 0 _ (by intro x; simp)

/-- The result array. -/
theorem final5 (c : Dev nD) : (dats m 0 c).arrAt 5 (cfgs 0).N = outs (aB m c) (aW m c) (aX m c) (aG m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, (ix2_eta y).symm⟩
  refine (block5 m c t r d).trans (congrArg (outs (aB m c) (aW m c) (aX m c) (aG m c)) ?_)
  unfold tok
  blk_ext [at_point t]

end Kernel

section Reference

open Cert.Kernel9Ideal Cert.Reference9Ideal.Read

variable (B : FVec Ideal S8192x5632 .bf16) (W : FVec Ideal S2816x1024 .bf16) (X : FVec Ideal S8192x1024 .f32) (G : FVec Ideal S1x1024 .f32)

/-- The reference's hidden feature. -/
theorem ref_act (t : Fin 8192) (k : Fin 2816) : val_main_v6 (F := Ideal) B (ix2 t k) = act B t k := by
  rw [act, ← gate_eq]
  pointwise [val_main_v6, val_main_v5, val_main_call0_v5, val_main_call0_v4, val_main_call0_v3, val_main_call0_v2, val_main_call0_v1, val_main_call0_v0, val_main_call0_cst, val_main_call0_cst_0, val_main_v2, val_main_v1, val_main_v0]

/-- The result of the reference. -/
theorem ref_outs : val_main_v11 (F := Ideal) B W X G = outs B W X G := by
  funext i
  obtain ⟨t, d, rfl⟩ : ∃ (t : Fin 8192) (d : Fin 1024), i = ix2 t d := ⟨i 0, i 1, (ix2_eta i).symm⟩
  pointwise [val_main_v11, val_main_v10, val_main_v9, val_main_v8, val_main_v7, val_main_v4, val_main_v3, val_main_cst]
  simp only [ref_act]
  rfl

end Reference

/-- The tiled kernel and the plain forward lines, on the same arguments, leave the same result. -/
theorem pair : algebraic_Kernel9Ideal_Reference9Ideal := by
  pair_intro
  · run_from Cert.Kernel9Ideal.Gen.run_main m g
  · refine θ_run_mono (Cert.Reference9Ideal.Value.run m' g') ?_
    intro r hr c
    obtain ⟨h0, rest⟩ := hr c
    obtain ⟨e0, e1, e2, e3⟩ := hagree c
    refine ⟨h0.trans ?_, rest⟩
    refine ((Cert.Reference9Ideal.Read.val_main_v11_eq (F := Ideal) _ _ _ _).trans (ref_outs _ _ _ _)).trans ?_
    rw [e0, e1, e2, e3]
    exact (final5 m c).symm

end Cert.DownFwd
end
-- ==== Proof.AdamW.lean ====
/- One weight's step of the optimiser, as numbers: its two moments and its update. -/
module

public import Idealize.ShloMosaic.PureOps.Ideal

@[expose] public section

noncomputable section

open Idealize.ShloMosaic

namespace Cert.AdamW

/-- The first moment after the step: nine tenths of it, and a tenth of the gradient. -/
def mean (g m : EReal) : EReal := Ideal.ofBits FTy.f32 0x3F666666#32 * m + Ideal.ofBits FTy.f32 0x3DCCCCCD#32 * g

/-- The second moment after the step. -/
def var (g v : EReal) : EReal := Ideal.ofBits FTy.f32 0x3F7FBE77#32 * v + Ideal.ofBits FTy.f32 0x3A83126F#32 * (g * g)

/-- The update: the quotient of the two moments, each divided by its bias, with the decay of the weight itself, times
    minus the rate. -/
def step (w g m v : EReal) : EReal :=
  Ideal.ofBits FTy.f32 0xBA83126F#32 * (Ideal.div (Ideal.div (mean g m) (Ideal.ofBits FTy.f32 0x3F26BD02#32))
      (Ideal.sqrt (Ideal.div (var g v) (Ideal.ofBits FTy.f32 0x3C231ACC#32)) + Ideal.ofBits FTy.f32 0x322BCC77#32)
    + Ideal.ofBits FTy.f32 0x3C23D70A#32 * w)

end Cert.AdamW
end
-- ==== Proof.AdamUp.lean ====
/- The optimiser's step of the up projections: the tiled kernel sums the eight devices' parts of the gradient and steps the weights
   block by block; the plain lines' own terms are the same arrays. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamUp

open Cert.AdamW (mean var step)

section Spec

open Cert.Kernel14Ideal

variable (W : FVec Ideal S1x704x1024 .f32) (P : FVec Ideal S8x704x1024 .bf16) (M V : FVec Ideal S1x704x1024 .f32)

/-- The gradient: the parts' sum. -/
def grad : FVec Ideal S1x704x1024 .f32 := fun i => ∑ q : Fin 8, P (ix3 q (i 1) (i 2))

/-- The updates. -/
def steps : FVec Ideal S1x704x1024 .f32 := fun i => step (W i) (grad P i) (M i) (V i)

/-- The first moments. -/
def means : FVec Ideal S1x704x1024 .f32 := fun i => mean (grad P i) (M i)

/-- The second moments. -/
def vars : FVec Ideal S1x704x1024 .f32 := fun i => var (grad P i) (V i)

/-- An array with its last two axes exchanged, as the kernel takes it. -/
def turn (A : FVec Ideal S1x1024x704 .f32) : FVec Ideal S1x704x1024 .f32 := fun i => A (ix3 0 (i 2) (i 1))

/-- And back, as it is handed over. -/
def back (A : FVec Ideal S1x704x1024 .f32) : FVec Ideal S1x1024x704 .f32 := fun i => A (ix3 0 (i 2) (i 1))

end Spec

section Kernel

open Cert.Kernel14Ideal Cert.Kernel14Ideal.Gen

variable (m : (ℓ : Loc nD τ sig) → Buf (Elt Ideal) ℓ)

abbrev aW (c : Dev nD) : FVec Ideal S1x704x1024 .f32 := turn (m ((c : Thread nD τ).loc main_arg0))
abbrev aP (c : Dev nD) : FVec Ideal S8x704x1024 .bf16 := m ((c : Thread nD τ).loc main_arg1)
abbrev aM (c : Dev nD) : FVec Ideal S1x704x1024 .f32 := turn (m ((c : Thread nD τ).loc main_arg2))
abbrev aV (c : Dev nD) : FVec Ideal S1x704x1024 .f32 := turn (m ((c : Thread nD τ).loc main_arg3))

/-- The block each window shows at each point. -/
theorem at_point : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weights a row of a block is. -/
def row (t : Fin cfg0.N) (r : Fin 176) : Fin 704 := ⟨176 * t.val + r.val, by have : t.val < 4 := t.isLt; omega⟩

theorem V_0 (c : Dev nD) : V m c main_v0 = aW m c := by
  simp only [V, V0, hostOps0, List.flatten_cons, List.flatten_nil, List.append_nil]
  after_results
  funext i
  obtain ⟨z, t, k, rfl⟩ : ∃ (z : Fin 1) (t : Fin 704) (k : Fin 1024), i = ix3 z t k := ⟨i 0, i 1, i 2, (ix3_eta i).symm⟩
  obtain rfl : z = 0 := Subsingleton.elim _ _
  pointwise [turn]

theorem read_0 (c : Dev nD) (t : Fin cfg0.N) (r : Fin 176) (k : Fin 1024) : iblk m c 0 t (ix3 0 r k) = aW m c (ix3 0 (row t r) k) := by
  have ht : t.val < 4 := t.isLt
  unfold row
  refine (congrArg (fun A => ((cfg0.win 0).blk t).view.read (Elt Ideal) A (ix3 0 r k)) (V_0 m c)).trans ?_
  blk_point [iblk, V, at_point t]

theorem V_2 (c : Dev nD) : V m c main_v1 = aM m c := by
  simp only [V, V0, hostOps0, List.flatten_cons, List.flatten_nil, List.append_nil]
  after_results
  funext i
  obtain ⟨z, t, k, rfl⟩ : ∃ (z : Fin 1) (t : Fin 704) (k : Fin 1024), i = ix3 z t k := ⟨i 0, i 1, i 2, (ix3_eta i).symm⟩
  obtain rfl : z = 0 := Subsingleton.elim _ _
  pointwise [turn]

theorem read_2 (c : Dev nD) (t : Fin cfg0.N) (r : Fin 176) (k : Fin 1024) : iblk m c 2 t (ix3 0 r k) = aM m c (ix3 0 (row t r) k) := by
  have ht : t.val < 4 := t.isLt
  unfold row
  refine (congrArg (fun A => ((cfg0.win 2).blk t).view.read (Elt Ideal) A (ix3 0 r k)) (V_2 m c)).trans ?_
  blk_point [iblk, V, at_point t]

theorem V_3 (c : Dev nD) : V m c main_v2 = aV m c := by
  simp only [V, V0, hostOps0, List.flatten_cons, List.flatten_nil, List.append_nil]
  after_results
  funext i
  obtain ⟨z, t, k, rfl⟩ : ∃ (z : Fin 1) (t : Fin 704) (k : Fin 1024), i = ix3 z t k := ⟨i 0, i 1, i 2, (ix3_eta i).symm⟩
  obtain rfl : z = 0 := Subsingleton.elim _ _
  pointwise [turn]

theorem read_3 (c : Dev nD) (t : Fin cfg0.N) (r : Fin 176) (k : Fin 1024) : iblk m c 3 t (ix3 0 r k) = aV m c (ix3 0 (row t r) k) := by
  have ht : t.val < 4 := t.isLt
  unfold row
  refine (congrArg (fun A => ((cfg0.win 3).blk t).view.read (Elt Ideal) A (ix3 0 r k)) (V_3 m c)).trans ?_
  blk_point [iblk, V, at_point t]

theorem read_1 (c : Dev nD) (t : Fin cfg0.N) (q : Fin 8) (r : Fin 176) (k : Fin 1024) : iblk m c 1 t (ix3 q r k) = aP m c (ix3 q (row t r) k) := by
  have ht : t.val < 4 := t.isLt
  unfold row
  blk_point [iblk, V, at_point t]

/-- The body's sum of the parts. -/
theorem sum_at (c : Dev nD) (t : Fin cfg0.N) (r : Fin 176) (k : Fin 1024) :
    k0_pay8 (iblk m c 0 t) (iblk m c 1 t) (iblk m c 2 t) (iblk m c 3 t) (ix2 r k) = grad (aP m c) (ix3 0 (row t r) k) := by
  rw [grad, Fin.sum_univ_eight]
  pointwise [k0_pay8, k0_pay3]
  iterate 7 refine congrArg₂ (· + ·) ?_ (read_1 m c t _ r k)
  exact read_1 m c t 0 r k

/-- The windows' arrays are different ones. -/
theorem arrays : Function.Injective (Pipeline.arrRef (cfgs 0).spec) := by
  intro a b h
  revert a b
  decide

theorem block4 (c : Dev nD) (t : Fin cfg0.N) (r : Fin 176) (k : Fin 1024) :
    out0_4 (iblk m c 0 t) (iblk m c 1 t) (iblk m c 2 t) (iblk m c 3 t) (ix3 0 r k) = grad (aP m c) (ix3 0 (row t r) k) := by
  frame_out
  pointwise [k0_pay4]
  simp only [sum_at, read_0, read_2, read_3]

/-- Result array 0. -/
theorem final4 (c : Dev nD) : (dats m 0 c).arrAt 4 (cfgs 0).N = grad (aP m c) := by
  refine (dats m 0 c).arrAt_eq_of_covers 4 _ (by decide +kernel) fun t hf y => ?_
  blk_simp
  rw [after0_4]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block4 m c t r k).trans (congrArg (grad (aP m c)) ?_)
  unfold row
  blk_ext [at_point t]

/-- The same array, turned back. -/
theorem tail4 (c : Dev nD) : Pipeline.afterTail₀ cfgs (dats m) 0 (V0 m) [hostOps1] c main_v4 = back (grad (aP m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_0) = _
    from (Pipeline.withArrays_arr _ arrays c _ _ 4).trans (final4 m c)]
  funext i
  obtain ⟨z, k, t, rfl⟩ : ∃ (z : Fin 1) (k : Fin 1024) (t : Fin 704), i = ix3 z k t := ⟨i 0, i 1, i 2, (ix3_eta i).symm⟩
  obtain rfl : z = 0 := Subsingleton.elim _ _
  pointwise [back]

theorem block5 (c : Dev nD) (t : Fin cfg0.N) (r : Fin 176) (k : Fin 1024) :
    out0_5 (iblk m c 0 t) (iblk m c 1 t) (iblk m c 2 t) (iblk m c 3 t) (ix3 0 r k) = steps (aW m c) (aP m c) (aM m c) (aV m c) (ix3 0 (row t r) k) := by
  frame_out
  pointwise [k0_pay7, k0_pay6, k0_pay5, steps, step, mean, var]
  simp only [sum_at, read_0, read_2, read_3]

/-- Result array 1. -/
theorem final5 (c : Dev nD) : (dats m 0 c).arrAt 5 (cfgs 0).N = steps (aW m c) (aP m c) (aM m c) (aV m c) := by
  refine (dats m 0 c).arrAt_eq_of_covers 5 _ (by decide +kernel) fun t hf y => ?_
  blk_simp
  rw [after0_5]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block5 m c t r k).trans (congrArg (steps (aW m c) (aP m c) (aM m c) (aV m c)) ?_)
  unfold row
  blk_ext [at_point t]

/-- The same array, turned back. -/
theorem tail5 (c : Dev nD) : Pipeline.afterTail₀ cfgs (dats m) 0 (V0 m) [hostOps1] c main_v5 = back (steps (aW m c) (aP m c) (aM m c) (aV m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_1) = _
    from (Pipeline.withArrays_arr _ arrays c _ _ 5).trans (final5 m c)]
  funext i
  obtain ⟨z, k, t, rfl⟩ : ∃ (z : Fin 1) (k : Fin 1024) (t : Fin 704), i = ix3 z k t := ⟨i 0, i 1, i 2, (ix3_eta i).symm⟩
  obtain rfl : z = 0 := Subsingleton.elim _ _
  pointwise [back]

theorem block6 (c : Dev nD) (t : Fin cfg0.N) (r : Fin 176) (k : Fin 1024) :
    out0_6 (iblk m c 0 t) (iblk m c 1 t) (iblk m c 2 t) (iblk m c 3 t) (ix3 0 r k) = means (aP m c) (aM m c) (ix3 0 (row t r) k) := by
  frame_out
  pointwise [k0_pay1, k0_pay5, means, mean]
  simp only [sum_at, read_0, read_2, read_3]

/-- Result array 2. -/
theorem final6 (c : Dev nD) : (dats m 0 c).arrAt 6 (cfgs 0).N = means (aP m c) (aM m c) := by
  refine (dats m 0 c).arrAt_eq_of_covers 6 _ (by decide +kernel) fun t hf y => ?_
  blk_simp
  rw [after0_6]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block6 m c t r k).trans (congrArg (means (aP m c) (aM m c)) ?_)
  unfold row
  blk_ext [at_point t]

/-- The same array, turned back. -/
theorem tail6 (c : Dev nD) : Pipeline.afterTail₀ cfgs (dats m) 0 (V0 m) [hostOps1] c main_v6 = back (means (aP m c) (aM m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_2) = _
    from (Pipeline.withArrays_arr _ arrays c _ _ 6).trans (final6 m c)]
  funext i
  obtain ⟨z, k, t, rfl⟩ : ∃ (z : Fin 1) (k : Fin 1024) (t : Fin 704), i = ix3 z k t := ⟨i 0, i 1, i 2, (ix3_eta i).symm⟩
  obtain rfl : z = 0 := Subsingleton.elim _ _
  pointwise [back]

theorem block7 (c : Dev nD) (t : Fin cfg0.N) (r : Fin 176) (k : Fin 1024) :
    out0_7 (iblk m c 0 t) (iblk m c 1 t) (iblk m c 2 t) (iblk m c 3 t) (ix3 0 r k) = vars (aP m c) (aV m c) (ix3 0 (row t r) k) := by
  frame_out
  pointwise [k0_pay2, k0_pay6, vars, var]
  simp only [sum_at, read_0, read_2, read_3]

/-- Result array 3. -/
theorem final7 (c : Dev nD) : (dats m 0 c).arrAt 7 (cfgs 0).N = vars (aP m c) (aV m c) := by
  refine (dats m 0 c).arrAt_eq_of_covers 7 _ (by decide +kernel) fun t hf y => ?_
  blk_simp
  rw [after0_7]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block7 m c t r k).trans (congrArg (vars (aP m c) (aV m c)) ?_)
  unfold row
  blk_ext [at_point t]

/-- The same array, turned back. -/
theorem tail7 (c : Dev nD) : Pipeline.afterTail₀ cfgs (dats m) 0 (V0 m) [hostOps1] c main_v7 = back (vars (aP m c) (aV m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_3) = _
    from (Pipeline.withArrays_arr _ arrays c _ _ 7).trans (final7 m c)]
  funext i
  obtain ⟨z, k, t, rfl⟩ : ∃ (z : Fin 1) (k : Fin 1024) (t : Fin 704), i = ix3 z k t := ⟨i 0, i 1, i 2, (ix3_eta i).symm⟩
  obtain rfl : z = 0 := Subsingleton.elim _ _
  pointwise [back]

end Kernel

section Reference

open Cert.Kernel14Ideal Cert.Reference14Ideal.Read

variable (W : FVec Ideal S1x1024x704 .f32) (P : FVec Ideal S8x704x1024 .bf16) (M V : FVec Ideal S1x1024x704 .f32)

/-- The reference's gradient. -/
theorem ref_grad : val_main_v3 (F := Ideal) P = back (grad P) := by
  funext i
  obtain ⟨z, t, k, rfl⟩ : ∃ (z : Fin 1) (t : Fin 1024) (k : Fin 704), i = ix3 z t k := ⟨i 0, i 1, i 2, (ix3_eta i).symm⟩
  obtain rfl : z = 0 := Subsingleton.elim _ _
  pointwise [val_main_v3, val_main_v2, val_main_v1, val_main_v0, val_main_cst, grad, back]

/-- Its first moments. -/
theorem ref_means : val_main_v8 (F := Ideal) P M = back (means P (turn M)) := by
  funext i
  obtain ⟨z, t, k, rfl⟩ : ∃ (z : Fin 1) (t : Fin 1024) (k : Fin 704), i = ix3 z t k := ⟨i 0, i 1, i 2, (ix3_eta i).symm⟩
  obtain rfl : z = 0 := Subsingleton.elim _ _
  pointwise [val_main_v8, val_main_v7, val_main_v6, val_main_v5, val_main_v4, val_main_cst, val_main_cst_0, val_main_cst_1, val_main_cst_2, val_main_cst_3, val_main_cst_4, val_main_cst_5, val_main_cst_6, val_main_cst_7, val_main_cst_8]
  rw [ref_grad]
  rfl

/-- Its second moments. -/
theorem ref_vars : val_main_v14 (F := Ideal) P V = back (vars P (turn V)) := by
  funext i
  obtain ⟨z, t, k, rfl⟩ : ∃ (z : Fin 1) (t : Fin 1024) (k : Fin 704), i = ix3 z t k := ⟨i 0, i 1, i 2, (ix3_eta i).symm⟩
  obtain rfl : z = 0 := Subsingleton.elim _ _
  pointwise [val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]
  rw [ref_grad]
  rfl

/-- Its updates. -/
theorem ref_steps : val_main_v27 (F := Ideal) W P M V = back (steps (turn W) P (turn M) (turn V)) := by
  funext i
  obtain ⟨z, t, k, rfl⟩ : ∃ (z : Fin 1) (t : Fin 1024) (k : Fin 704), i = ix3 z t k := ⟨i 0, i 1, i 2, (ix3_eta i).symm⟩
  obtain rfl : z = 0 := Subsingleton.elim _ _
  pointwise [val_main_v27, val_main_v26, val_main_v25, val_main_v24, val_main_v23, val_main_v22, val_main_v21, val_main_v20, val_main_v19, val_main_v18, val_main_v17, val_main_v16, val_main_v15, val_main_cst, val_main_cst_0, val_main_cst_1, val_main_cst_2, val_main_cst_3, val_main_cst_4, val_main_cst_5, val_main_cst_6, val_main_cst_7, val_main_cst_8]
  rw [ref_means, ref_vars]
  rfl

end Reference

/-- The tiled kernel and the plain optimiser's lines, on the same arguments, leave the same four results. -/
theorem pair : algebraic_Kernel14Ideal_Reference14Ideal := by
  pair_intro
  · run_from Cert.Kernel14Ideal.Gen.run_main m g
    · exact Cert.Kernel14Ideal.Gen.W_main_arg0 m (Cert.Kernel14Ideal.Gen.dats m) c
    · exact Cert.Kernel14Ideal.Gen.W_main_arg2 m (Cert.Kernel14Ideal.Gen.dats m) c
    · exact Cert.Kernel14Ideal.Gen.W_main_arg3 m (Cert.Kernel14Ideal.Gen.dats m) c
  · refine θ_run_mono (Cert.Reference14Ideal.Value.run m' g') ?_
    intro r hr c
    obtain ⟨h0, h1, h2, h3, rest⟩ := hr c
    obtain ⟨e0, e1, e2, e3⟩ := hagree c
    refine ⟨h0.trans ?_, h1.trans ?_, h2.trans ?_, h3.trans ?_, rest⟩
    · refine ((Cert.Reference14Ideal.Read.val_main_v3_eq (F := Ideal) _).trans (ref_grad _)).trans ?_
      simp only [e0, e1, e2, e3]
      exact (tail4 m c).symm
    · refine ((Cert.Reference14Ideal.Read.val_main_v27_eq (F := Ideal) _ _ _ _).trans (ref_steps _ _ _ _)).trans ?_
      simp only [e0, e1, e2, e3]
      exact (tail5 m c).symm
    · refine ((Cert.Reference14Ideal.Read.val_main_v8_eq (F := Ideal) _ _).trans (ref_means _ _)).trans ?_
      simp only [e0, e1, e2, e3]
      exact (tail6 m c).symm
    · refine ((Cert.Reference14Ideal.Read.val_main_v14_eq (F := Ideal) _ _).trans (ref_vars _ _)).trans ?_
      simp only [e0, e1, e2, e3]
      exact (tail7 m c).symm

end Cert.AdamUp
end
-- ==== Proof.AdamDown.lean ====
/- The optimiser's step of the down projections: the tiled kernel sums the eight devices' parts of the gradient and steps the weights
   block by block; the plain lines' own terms are the same arrays. -/
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamDown

open Cert.AdamW (mean var step)

section Spec

open Cert.Kernel15Ideal

variable (W : FVec Ideal S1x352x1024 .f32) (P : FVec Ideal S8x352x1024 .bf16) (M V : FVec Ideal S1x352x1024 .f32)

/-- The gradient: the parts' sum. -/
def grad : FVec Ideal S1x352x1024 .f32 := fun i => ∑ q : Fin 8, P (ix3 q (i 1) (i 2))

/-- The updates. -/
def steps : FVec Ideal S1x352x1024 .f32 := fun i => step (W i) (grad P i) (M i) (V i)

/-- The first moments. -/
def means : FVec Ideal S1x352x1024 .f32 := fun i => mean (grad P i) (M i)

/-- The second moments. -/
def vars : FVec Ideal S1x352x1024 .f32 := fun i => var (grad P i) (V i)

end Spec

section Kernel

open Cert.Kernel15Ideal Cert.Kernel15Ideal.Gen

variable (m : (ℓ : Loc nD τ sig) → Buf (Elt Ideal) ℓ)

abbrev aW (c : Dev nD) : FVec Ideal S1x352x1024 .f32 := m ((c : Thread nD τ).loc main_arg0)
abbrev aP (c : Dev nD) : FVec Ideal S8x352x1024 .bf16 := m ((c : Thread nD τ).loc main_arg1)
abbrev aM (c : Dev nD) : FVec Ideal S1x352x1024 .f32 := m ((c : Thread nD τ).loc main_arg2)
abbrev aV (c : Dev nD) : FVec Ideal S1x352x1024 .f32 := m ((c : Thread nD τ).loc main_arg3)

/-- The block each window shows at each point. -/
theorem at_point : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weights a row of a block is. -/
def row (t : Fin cfg0.N) (r : Fin 176) : Fin 352 := ⟨176 * t.val + r.val, by have : t.val < 2 := t.isLt; omega⟩

theorem read_0 (c : Dev nD) (t : Fin cfg0.N) (r : Fin 176) (k : Fin 1024) : iblk m c 0 t (ix3 0 r k) = aW m c (ix3 0 (row t r) k) := by
  have ht : t.val < 2 := t.isLt
  unfold row
  blk_point [iblk, V, at_point t]

theorem read_2 (c : Dev nD) (t : Fin cfg0.N) (r : Fin 176) (k : Fin 1024) : iblk m c 2 t (ix3 0 r k) = aM m c (ix3 0 (row t r) k) := by
  have ht : t.val < 2 := t.isLt
  unfold row
  blk_point [iblk, V, at_point t]

theorem read_3 (c : Dev nD) (t : Fin cfg0.N) (r : Fin 176) (k : Fin 1024) : iblk m c 3 t (ix3 0 r k) = aV m c (ix3 0 (row t r) k) := by
  have ht : t.val < 2 := t.isLt
  unfold row
  blk_point [iblk, V, at_point t]

theorem read_1 (c : Dev nD) (t : Fin cfg0.N) (q : Fin 8) (r : Fin 176) (k : Fin 1024) : iblk m c 1 t (ix3 q r k) = aP m c (ix3 q (row t r) k) := by
  have ht : t.val < 2 := t.isLt
  unfold row
  blk_point [iblk, V, at_point t]

/-- The body's sum of the parts. -/
theorem sum_at (c : Dev nD) (t : Fin cfg0.N) (r : Fin 176) (k : Fin 1024) :
    k0_pay8 (iblk m c 0 t) (iblk m c 1 t) (iblk m c 2 t) (iblk m c 3 t) (ix2 r k) = grad (aP m c) (ix3 0 (row t r) k) := by
  rw [grad, Fin.sum_univ_eight]
  pointwise [k0_pay8, k0_pay3]
  iterate 7 refine congrArg₂ (· + ·) ?_ (read_1 m c t _ r k)
  exact read_1 m c t 0 r k

theorem block4 (c : Dev nD) (t : Fin cfg0.N) (r : Fin 176) (k : Fin 1024) :
    out0_4 (iblk m c 0 t) (iblk m c 1 t) (iblk m c 2 t) (iblk m c 3 t) (ix3 0 r k) = grad (aP m c) (ix3 0 (row t r) k) := by
  frame_out
  pointwise [k0_pay4]
  simp only [sum_at, read_0, read_2, read_3]

/-- Result array 0. -/
theorem final4 (c : Dev nD) : (dats m 0 c).arrAt 4 (cfgs 0).N = grad (aP m c) := by
  refine (dats m 0 c).arrAt_eq_of_covers 4 _ (by decide +kernel) fun t hf y => ?_
  blk_simp
  rw [after0_4]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block4 m c t r k).trans (congrArg (grad (aP m c)) ?_)
  unfold row
  blk_ext [at_point t]

theorem block5 (c : Dev nD) (t : Fin cfg0.N) (r : Fin 176) (k : Fin 1024) :
    out0_5 (iblk m c 0 t) (iblk m c 1 t) (iblk m c 2 t) (iblk m c 3 t) (ix3 0 r k) = steps (aW m c) (aP m c) (aM m c) (aV m c) (ix3 0 (row t r) k) := by
  frame_out
  pointwise [k0_pay7, k0_pay6, k0_pay5, steps, step, mean, var]
  simp only [sum_at, read_0, read_2, read_3]

/-- Result array 1. -/
theorem final5 (c : Dev nD) : (dats m 0 c).arrAt 5 (cfgs 0).N = steps (aW m c) (aP m c) (aM m c) (aV m c) := by
  refine (dats m 0 c).arrAt_eq_of_covers 5 _ (by decide +kernel) fun t hf y => ?_
  blk_simp
  rw [after0_5]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block5 m c t r k).trans (congrArg (steps (aW m c) (aP m c) (aM m c) (aV m c)) ?_)
  unfold row
  blk_ext [at_point t]

theorem block6 (c : Dev nD) (t : Fin cfg0.N) (r : Fin 176) (k : Fin 1024) :
    out0_6 (iblk m c 0 t) (iblk m c 1 t) (iblk m c 2 t) (iblk m c 3 t) (ix3 0 r k) = means (aP m c) (aM m c) (ix3 0 (row t r) k) := by
  frame_out
  pointwise [k0_pay1, k0_pay5, means, mean]
  simp only [sum_at, read_0, read_2, read_3]

/-- Result array 2. -/
theorem final6 (c : Dev nD) : (dats m 0 c).arrAt 6 (cfgs 0).N = means (aP m c) (aM m c) := by
  refine (dats m 0 c).arrAt_eq_of_covers 6 _ (by decide +kernel) fun t hf y => ?_
  blk_simp
  rw [after0_6]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block6 m c t r k).trans (congrArg (means (aP m c) (aM m c)) ?_)
  unfold row
  blk_ext [at_point t]

theorem block7 (c : Dev nD) (t : Fin cfg0.N) (r : Fin 176) (k : Fin 1024) :
    out0_7 (iblk m c 0 t) (iblk m c 1 t) (iblk m c 2 t) (iblk m c 3 t) (ix3 0 r k) = vars (aP m c) (aV m c) (ix3 0 (row t r) k) := by
  frame_out
  pointwise [k0_pay2, k0_pay6, vars, var]
  simp only [sum_at, read_0, read_2, read_3]

/-- Result array 3. -/
theorem final7 (c : Dev nD) : (dats m 0 c).arrAt 7 (cfgs 0).N = vars (aP m c) (aV m c) := by
  refine (dats m 0 c).arrAt_eq_of_covers 7 _ (by decide +kernel) fun t hf y => ?_
  blk_simp
  rw [after0_7]
  obtain ⟨z, r, k, rfl⟩ : ∃ (z : Fin 1) (r : Fin 176) (k : Fin 1024), y = ix3 z r k := ⟨y 0, y 1, y 2, (ix3_eta y).symm⟩
  obtain rfl : z = 0 := Subsingleton.elim _ _
  refine (block7 m c t r k).trans (congrArg (vars (aP m c) (aV m c)) ?_)
  unfold row
  blk_ext [at_point t]

end Kernel

section Reference

open Cert.Kernel15Ideal Cert.Reference15Ideal.Read

variable (W : FVec Ideal S1x352x1024 .f32) (P : FVec Ideal S8x352x1024 .bf16) (M V : FVec Ideal S1x352x1024 .f32)

/-- The reference's gradient. -/
theorem ref_grad : val_main_v2 (F := Ideal) P = grad P := by
  funext i
  obtain ⟨z, t, k, rfl⟩ : ∃ (z : Fin 1) (t : Fin 352) (k : Fin 1024), i = ix3 z t k := ⟨i 0, i 1, i 2, (ix3_eta i).symm⟩
  obtain rfl : z = 0 := Subsingleton.elim _ _
  pointwise [val_main_v2, val_main_v1, val_main_v0, val_main_cst, grad]

/-- Its first moments. -/
theorem ref_means : val_main_v7 (F := Ideal) P M = means P M := by
  funext i
  obtain ⟨z, t, k, rfl⟩ : ∃ (z : Fin 1) (t : Fin 352) (k : Fin 1024), i = ix3 z t k := ⟨i 0, i 1, i 2, (ix3_eta i).symm⟩
  obtain rfl : z = 0 := Subsingleton.elim _ _
  pointwise [val_main_v7, val_main_v6, val_main_v5, val_main_v4, val_main_v3, val_main_cst, val_main_cst_0, val_main_cst_1, val_main_cst_2, val_main_cst_3, val_main_cst_4, val_main_cst_5, val_main_cst_6, val_main_cst_7, val_main_cst_8]
  rw [ref_grad]
  rfl

/-- Its second moments. -/
theorem ref_vars : val_main_v13 (F := Ideal) P V = vars P V := by
  funext i
  obtain ⟨z, t, k, rfl⟩ : ∃ (z : Fin 1) (t : Fin 352) (k : Fin 1024), i = ix3 z t k := ⟨i 0, i 1, i 2, (ix3_eta i).symm⟩
  obtain rfl : z = 0 := Subsingleton.elim _ _
  pointwise [val_main_v13, val_main_v12, val_main_v11, val_main_v10, val_main_v9, val_main_v8, val_main_cst, val_main_cst_0, val_main_cst_1, val_main_cst_2, val_main_cst_3, val_main_cst_4, val_main_cst_5, val_main_cst_6, val_main_cst_7, val_main_cst_8]
  rw [ref_grad]
  rfl

/-- Its updates. -/
theorem ref_steps : val_main_v26 (F := Ideal) W P M V = steps W P M V := by
  funext i
  obtain ⟨z, t, k, rfl⟩ : ∃ (z : Fin 1) (t : Fin 352) (k : Fin 1024), i = ix3 z t k := ⟨i 0, i 1, i 2, (ix3_eta i).symm⟩
  obtain rfl : z = 0 := Subsingleton.elim _ _
  pointwise [val_main_v26, val_main_v25, val_main_v24, val_main_v23, val_main_v22, val_main_v21, val_main_v20, val_main_v19, val_main_v18, val_main_v17, val_main_v16, val_main_v15, val_main_v14, val_main_cst, val_main_cst_0, val_main_cst_1, val_main_cst_2, val_main_cst_3, val_main_cst_4, val_main_cst_5, val_main_cst_6, val_main_cst_7, val_main_cst_8]
  rw [ref_means, ref_vars]
  rfl

end Reference

/-- The tiled kernel and the plain optimiser's lines, on the same arguments, leave the same four results. -/
theorem pair : algebraic_Kernel15Ideal_Reference15Ideal := by
  pair_intro
  · run_from Cert.Kernel15Ideal.Gen.run_main m g
  · refine θ_run_mono (Cert.Reference15Ideal.Value.run m' g') ?_
    intro r hr c
    obtain ⟨h0, h1, h2, h3, rest⟩ := hr c
    obtain ⟨e0, e1, e2, e3⟩ := hagree c
    refine ⟨h0.trans ?_, h1.trans ?_, h2.trans ?_, h3.trans ?_, rest⟩
    · refine ((Cert.Reference15Ideal.Read.val_main_v2_eq (F := Ideal) _).trans (ref_grad _)).trans ?_
      simp only [e0, e1, e2, e3]
      exact (final4 m c).symm
    · refine ((Cert.Reference15Ideal.Read.val_main_v26_eq (F := Ideal) _ _ _ _).trans (ref_steps _ _ _ _)).trans ?_
      simp only [e0, e1, e2, e3]
      exact (final5 m c).symm
    · refine ((Cert.Reference15Ideal.Read.val_main_v7_eq (F := Ideal) _ _).trans (ref_means _ _)).trans ?_
      simp only [e0, e1, e2, e3]
      exact (final6 m c).symm
    · refine ((Cert.Reference15Ideal.Read.val_main_v13_eq (F := Ideal) _ _).trans (ref_vars _ _)).trans ?_
      simp only [e0, e1, e2, e3]
      exact (final7 m c).symm

end Cert.AdamDown
end
-- ==== Proof.AdamIn.lean ====
/- The optimiser's step of the input projection: the tiled kernel sums the eight devices' parts of the gradient and steps the weights
   block by block; the plain lines' own terms are the same arrays. -/
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamIn

open Cert.AdamW (mean var step)

section Spec

open Cert.Kernel16Ideal

variable (W : FVec Ideal S1x832x1024 .f32) (P : FVec Ideal S8x832x1024 .bf16) (M V : FVec Ideal S1x832x1024 .f32)

/-- The gradient: the parts' sum. -/
def grad : FVec Ideal S1x832x1024 .f32 := fun i => ∑ q : Fin 8, P (ix3 q (i 1) (i 2))

/-- The updates. -/
def steps : FVec Ideal S1x832x1024 .f32 := fun i => step (W i) (grad P i) (M i) (V i)

/-- The first moments. -/
def means : FVec Ideal S1x832x1024 .f32 := fun i => mean (grad P i) (M i)

/-- The second moments. -/
def vars : FVec Ideal S1x832x1024 .f32 := fun i => var (grad P i) (V i)

/-- An array with its last two axes exchanged, as the kernel takes it. -/
def turn (A : FVec Ideal S1x1024x832 .f32) : FVec Ideal S1x832x1024 .f32 := fun i => A (ix3 0 (i 2) (i 1))

/-- And back, as it is handed over. -/
def back (A : FVec Ideal S1x832x1024 .f32) : FVec Ideal S1x1024x832 .f32 := fun i => A (ix3 0 (i 2) (i 1))

end Spec

section Kernel

open Cert.Kernel16Ideal Cert.Kernel16Ideal.Gen

variable (m : (ℓ : Loc nD τ sig) → Buf (Elt Ideal) ℓ)

abbrev aW (c : Dev nD) : FVec Ideal S1x832x1024 .f32 := turn (m ((c : Thread nD τ).loc main_arg0))
abbrev aP (c : Dev nD) : FVec Ideal S8x832x1024 .bf16 := m ((c : Thread nD τ).loc main_arg1)
abbrev aM (c : Dev nD) : FVec Ideal S1x832x1024 .f32 := turn (m ((c : Thread nD τ).loc main_arg2))
abbrev aV (c : Dev nD) : FVec Ideal S1x832x1024 .f32 := turn (m ((c : Thread nD τ).loc main_arg3))

/-- The block each window shows at each point. -/
theorem at_point : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weights a row of a block is. -/
def row (t : Fin cfg0.N) (r : Fin 208) : Fin 832 := ⟨208 * t.val + r.val, by have : t.val < 4 := t.isLt; omega⟩

theorem V_0 (c : Dev nD) : V m c main_v0 = aW m c := by
  simp only [V, V0, hostOps0, List.flatten_cons, List.flatten_nil, List.append_nil]
  after_results
  funext i
  obtain ⟨z, t, k, rfl⟩ : ∃ (z : Fin 1) (t : Fin 832) (k : Fin 1024), i = ix3 z t k := ⟨i 0, i 1, i 2, (ix3_eta i).symm⟩
  obtain rfl : z = 0 := Subsingleton.elim _ _
  pointwise [turn]

theorem read_0 (c : Dev nD) (t : Fin cfg0.N) (r : Fin 208) (k : Fin 1024) : iblk m c 0 t (ix3 0 r k) = aW m c (ix3 0 (row t r) k) := by
  have ht : t.val < 4 := t.isLt
  unfold row
  refine (congrArg (fun A => ((cfg0.win 0).blk t).view.read (Elt Ideal) A (ix3 0 r k)) (V_0 m c)).trans ?_
  blk_point [iblk, V, at_point t]

theorem V_2 (c : Dev nD) : V m c main_v1 = aM m c := by
  simp only [V, V0, hostOps0, List.flatten_cons, List.flatten_nil, List.append_nil]
  after_results
  funext i
  obtain ⟨z, t, k, rfl⟩ : ∃ (z : Fin 1) (t : Fin 832) (k : Fin 1024), i = ix3 z t k := ⟨i 0, i 1, i 2, (ix3_eta i).symm⟩
  obtain rfl : z = 0 := Subsingleton.elim _ _
  pointwise [turn]

theorem read_2 (c : Dev nD) (t : Fin cfg0.N) (r : Fin 208) (k : Fin 1024) : iblk m c 2 t (ix3 0 r k) = aM m c (ix3 0 (row t r) k) := by
  have ht : t.val < 4 := t.isLt
  unfold row
  refine (congrArg (fun A => ((cfg0.win 2).blk t).view.read (Elt Ideal) A (ix3 0 r k)) (V_2 m c)).trans ?_
  blk_point [iblk, V, at_point t]

theorem V_3 (c : Dev nD) : V m c main_v2 = aV m c := by
  simp only [V, V0, hostOps0, List.flatten_cons, List.flatten_nil, List.append_nil]
  after_results
  funext i
  obtain ⟨z, t, k, rfl⟩ : ∃ (z : Fin 1) (t : Fin 832) (k : Fin 1024), i = ix3 z t k := ⟨i 0, i 1, i 2, (ix3_eta i).symm⟩
  obtain rfl : z = 0 := Subsingleton.elim _ _
  pointwise [turn]

theorem read_3 (c : Dev nD) (t : Fin cfg0.N) (r : Fin 208) (k : Fin 1024) : iblk m c 3 t (ix3 0 r k) = aV m c (ix3 0 (row t r) k) := by
  have ht : t.val < 4 := t.isLt
  unfold row
  refine (congrArg (fun A => ((cfg0.win 3).blk t).view.read (Elt Ideal) A (ix3 0 r k)) (V_3 m c)).trans ?_
  blk_point [iblk, V, at_point t]

theorem read_1 (c : Dev nD) (t : Fin cfg0.N) (q : Fin 8) (r : Fin 208) (k : Fin 1024) : iblk m c 1 t (ix3 q r k) = aP m c (ix3 q (row t r) k) := by
  have ht : t.val < 4 := t.isLt
  unfold row
  blk_point [iblk, V, at_point t]

/-- The body's sum of the parts. -/
theorem sum_at (c : Dev nD) (t : Fin cfg0.N) (r : Fin 208) (k : Fin 1024) :
    k0_pay8 (iblk m c 0 t) (iblk m c 1 t) (iblk m c 2 t) (iblk m c 3 t) (ix2 r k) = grad (aP m c) (ix3 0 (row t r) k) := by
  rw [grad, Fin.sum_univ_eight]
  pointwise [k0_pay8, k0_pay3]
  iterate 7 refine congrArg₂ (· + ·) ?_ (read_1 m c t _ r k)
  exact read_1 m c t 0 r k

/-- The windows' arrays are different ones. -/
theorem arrays : Function.Injective (Pipeline.arrRef (cfgs 0).spec) := by
  intro a b h
  revert a b
  decide

theorem block4 (c : Dev nD) (t : Fin cfg0.N) (r : Fin 208) (k : Fin 1024) :
    out0_4 (iblk m c 0 t) (iblk m c 1 t) (iblk m c 2 t) (iblk m c 3 t) (ix3 0 r k) = grad (aP m c) (ix3 0 (row t r) k) := by
  frame_out
  pointwise [k0_pay4]
  simp only [sum_at, read_0, read_2, read_3]

/-- Result array 0. -/
theorem final4 (c : Dev nD) : (dats m 0 c).arrAt 4 (cfgs 0).N = grad (aP m c) := by
  refine (dats m 0 c).arrAt_eq_of_covers 4 _ (by decide +kernel) fun t hf y => ?_
  blk_simp
  rw [after0_4]
  obtain ⟨z, r, k, rfl⟩ : ∃ (z : Fin 1) (r : Fin 208) (k : Fin 1024), y = ix3 z r k := ⟨y 0, y 1, y 2, (ix3_eta y).symm⟩
  obtain rfl : z = 0 := Subsingleton.elim _ _
  refine (block4 m c t r k).trans (congrArg (grad (aP m c)) ?_)
  unfold row
  blk_ext [at_point t]

/-- The same array, turned back. -/
theorem tail4 (c : Dev nD) : Pipeline.afterTail₀ cfgs (dats m) 0 (V0 m) [hostOps1] c main_v4 = back (grad (aP m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_0) = _
    from (Pipeline.withArrays_arr _ arrays c _ _ 4).trans (final4 m c)]
  funext i
  obtain ⟨z, k, t, rfl⟩ : ∃ (z : Fin 1) (k : Fin 1024) (t : Fin 832), i = ix3 z k t := ⟨i 0, i 1, i 2, (ix3_eta i).symm⟩
  obtain rfl : z = 0 := Subsingleton.elim _ _
  pointwise [back]

theorem block5 (c : Dev nD) (t : Fin cfg0.N) (r : Fin 208) (k : Fin 1024) :
    out0_5 (iblk m c 0 t) (iblk m c 1 t) (iblk m c 2 t) (iblk m c 3 t) (ix3 0 r k) = steps (aW m c) (aP m c) (aM m c) (aV m c) (ix3 0 (row t r) k) := by
  frame_out
  pointwise [k0_pay7, k0_pay6, k0_pay5, steps, step, mean, var]
  simp only [sum_at, read_0, read_2, read_3]

/-- Result array 1. -/
theorem final5 (c : Dev nD) : (dats m 0 c).arrAt 5 (cfgs 0).N = steps (aW m c) (aP m c) (aM m c) (aV m c) := by
  refine (dats m 0 c).arrAt_eq_of_covers 5 _ (by decide +kernel) fun t hf y => ?_
  blk_simp
  rw [after0_5]
  obtain ⟨z, r, k, rfl⟩ : ∃ (z : Fin 1) (r : Fin 208) (k : Fin 1024), y = ix3 z r k := ⟨y 0, y 1, y 2, (ix3_eta y).symm⟩
  obtain rfl : z = 0 := Subsingleton.elim _ _
  refine (block5 m c t r k).trans (congrArg (steps (aW m c) (aP m c) (aM m c) (aV m c)) ?_)
  unfold row
  blk_ext [at_point t]

/-- The same array, turned back. -/
theorem tail5 (c : Dev nD) : Pipeline.afterTail₀ cfgs (dats m) 0 (V0 m) [hostOps1] c main_v5 = back (steps (aW m c) (aP m c) (aM m c) (aV m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_1) = _
    from (Pipeline.withArrays_arr _ arrays c _ _ 5).trans (final5 m c)]
  funext i
  obtain ⟨z, k, t, rfl⟩ : ∃ (z : Fin 1) (k : Fin 1024) (t : Fin 832), i = ix3 z k t := ⟨i 0, i 1, i 2, (ix3_eta i).symm⟩
  obtain rfl : z = 0 := Subsingleton.elim _ _
  pointwise [back]

theorem block6 (c : Dev nD) (t : Fin cfg0.N) (r : Fin 208) (k : Fin 1024) :
    out0_6 (iblk m c 0 t) (iblk m c 1 t) (iblk m c 2 t) (iblk m c 3 t) (ix3 0 r k) = means (aP m c) (aM m c) (ix3 0 (row t r) k) := by
  frame_out
  pointwise [k0_pay1, k0_pay5, means, mean]
  simp only [sum_at, read_0, read_2, read_3]

/-- Result array 2. -/
theorem final6 (c : Dev nD) : (dats m 0 c).arrAt 6 (cfgs 0).N = means (aP m c) (aM m c) := by
  refine (dats m 0 c).arrAt_eq_of_covers 6 _ (by decide +kernel) fun t hf y => ?_
  blk_simp
  rw [after0_6]
  obtain ⟨z, r, k, rfl⟩ : ∃ (z : Fin 1) (r : Fin 208) (k : Fin 1024), y = ix3 z r k := ⟨y 0, y 1, y 2, (ix3_eta y).symm⟩
  obtain rfl : z = 0 := Subsingleton.elim _ _
  refine (block6 m c t r k).trans (congrArg (means (aP m c) (aM m c)) ?_)
  unfold row
  blk_ext [at_point t]

/-- The same array, turned back. -/
theorem tail6 (c : Dev nD) : Pipeline.afterTail₀ cfgs (dats m) 0 (V0 m) [hostOps1] c main_v6 = back (means (aP m c) (aM m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_2) = _
    from (Pipeline.withArrays_arr _ arrays c _ _ 6).trans (final6 m c)]
  funext i
  obtain ⟨z, k, t, rfl⟩ : ∃ (z : Fin 1) (k : Fin 1024) (t : Fin 832), i = ix3 z k t := ⟨i 0, i 1, i 2, (ix3_eta i).symm⟩
  obtain rfl : z = 0 := Subsingleton.elim _ _
  pointwise [back]

theorem block7 (c : Dev nD) (t : Fin cfg0.N) (r : Fin 208) (k : Fin 1024) :
    out0_7 (iblk m c 0 t) (iblk m c 1 t) (iblk m c 2 t) (iblk m c 3 t) (ix3 0 r k) = vars (aP m c) (aV m c) (ix3 0 (row t r) k) := by
  frame_out
  pointwise [k0_pay2, k0_pay6, vars, var]
  simp only [sum_at, read_0, read_2, read_3]

/-- Result array 3. -/
theorem final7 (c : Dev nD) : (dats m 0 c).arrAt 7 (cfgs 0).N = vars (aP m c) (aV m c) := by
  refine (dats m 0 c).arrAt_eq_of_covers 7 _ (by decide +kernel) fun t hf y => ?_
  blk_simp
  rw [after0_7]
  obtain ⟨z, r, k, rfl⟩ : ∃ (z : Fin 1) (r : Fin 208) (k : Fin 1024), y = ix3 z r k := ⟨y 0, y 1, y 2, (ix3_eta y).symm⟩
  obtain rfl : z = 0 := Subsingleton.elim _ _
  refine (block7 m c t r k).trans (congrArg (vars (aP m c) (aV m c)) ?_)
  unfold row
  blk_ext [at_point t]

/-- The same array, turned back. -/
theorem tail7 (c : Dev nD) : Pipeline.afterTail₀ cfgs (dats m) 0 (V0 m) [hostOps1] c main_v7 = back (vars (aP m c) (aV m c)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v3_3) = _
    from (Pipeline.withArrays_arr _ arrays c _ _ 7).trans (final7 m c)]
  funext i
  obtain ⟨z, k, t, rfl⟩ : ∃ (z : Fin 1) (k : Fin 1024) (t : Fin 832), i = ix3 z k t := ⟨i 0, i 1, i 2, (ix3_eta i).symm⟩
  obtain rfl : z = 0 := Subsingleton.elim _ _
  pointwise [back]

end Kernel

section Reference

open Cert.Kernel16Ideal Cert.Reference16Ideal.Read

variable (W : FVec Ideal S1x1024x832 .f32) (P : FVec Ideal S8x832x1024 .bf16) (M V : FVec Ideal S1x1024x832 .f32)

/-- The reference's gradient. -/
theorem ref_grad : val_main_v3 (F := Ideal) P = back (grad P) := by
  funext i
  obtain ⟨z, t, k, rfl⟩ : ∃ (z : Fin 1) (t : Fin 1024) (k : Fin 832), i = ix3 z t k := ⟨i 0, i 1, i 2, (ix3_eta i).symm⟩
  obtain rfl : z = 0 := Subsingleton.elim _ _
  pointwise [val_main_v3, val_main_v2, val_main_v1, val_main_v0, val_main_cst, grad, back]

/-- Its first moments. -/
theorem ref_means : val_main_v8 (F := Ideal) P M = back (means P (turn M)) := by
  funext i
  obtain ⟨z, t, k, rfl⟩ : ∃ (z : Fin 1) (t : Fin 1024) (k : Fin 832), i = ix3 z t k := ⟨i 0, i 1, i 2, (ix3_eta i).symm⟩
  obtain rfl : z = 0 := Subsingleton.elim _ _
  pointwise [val_main_v8, val_main_v7, val_main_v6, val_main_v5, val_main_v4, val_main_cst, val_main_cst_0, val_main_cst_1, val_main_cst_2, val_main_cst_3, val_main_cst_4, val_main_cst_5, val_main_cst_6, val_main_cst_7, val_main_cst_8]
  rw [ref_grad]
  rfl

/-- Its second moments. -/
theorem ref_vars : val_main_v14 (F := Ideal) P V = back (vars P (turn V)) := by
  funext i
  obtain ⟨z, t, k, rfl⟩ : ∃ (z : Fin 1) (t : Fin 1024) (k : Fin 832), i = ix3 z t k := ⟨i 0, i 1, i 2, (ix3_eta i).symm⟩
  obtain rfl : z = 0 := Subsingleton.elim _ _
  pointwise [val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]
  rw [ref_grad]
  rfl

/-- Its updates. -/
theorem ref_steps : val_main_v27 (F := Ideal) W P M V = back (steps (turn W) P (turn M) (turn V)) := by
  funext i
  obtain ⟨z, t, k, rfl⟩ : ∃ (z : Fin 1) (t : Fin 1024) (k : Fin 832), i = ix3 z t k := ⟨i 0, i 1, i 2, (ix3_eta i).symm⟩
  obtain rfl : z = 0 := Subsingleton.elim _ _
  pointwise [val_main_v27, val_main_v26, val_main_v25, val_main_v24, val_main_v23, val_main_v22, val_main_v21, val_main_v20, val_main_v19, val_main_v18, val_main_v17, val_main_v16, val_main_v15, val_main_cst, val_main_cst_0, val_main_cst_1, val_main_cst_2, val_main_cst_3, val_main_cst_4, val_main_cst_5, val_main_cst_6, val_main_cst_7, val_main_cst_8]
  rw [ref_means, ref_vars]
  rfl

end Reference

/-- The tiled kernel and the plain optimiser's lines, on the same arguments, leave the same four results. -/
theorem pair : algebraic_Kernel16Ideal_Reference16Ideal := by
  pair_intro
  · run_from Cert.Kernel16Ideal.Gen.run_main m g
    · exact Cert.Kernel16Ideal.Gen.W_main_arg0 m (Cert.Kernel16Ideal.Gen.dats m) c
    · exact Cert.Kernel16Ideal.Gen.W_main_arg2 m (Cert.Kernel16Ideal.Gen.dats m) c
    · exact Cert.Kernel16Ideal.Gen.W_main_arg3 m (Cert.Kernel16Ideal.Gen.dats m) c
  · refine θ_run_mono (Cert.Reference16Ideal.Value.run m' g') ?_
    intro r hr c
    obtain ⟨h0, h1, h2, h3, rest⟩ := hr c
    obtain ⟨e0, e1, e2, e3⟩ := hagree c
    refine ⟨h0.trans ?_, h1.trans ?_, h2.trans ?_, h3.trans ?_, rest⟩
    · refine ((Cert.Reference16Ideal.Read.val_main_v3_eq (F := Ideal) _).trans (ref_grad _)).trans ?_
      simp only [e0, e1, e2, e3]
      exact (tail4 m c).symm
    · refine ((Cert.Reference16Ideal.Read.val_main_v27_eq (F := Ideal) _ _ _ _).trans (ref_steps _ _ _ _)).trans ?_
      simp only [e0, e1, e2, e3]
      exact (tail5 m c).symm
    · refine ((Cert.Reference16Ideal.Read.val_main_v8_eq (F := Ideal) _ _).trans (ref_means _ _)).trans ?_
      simp only [e0, e1, e2, e3]
      exact (tail6 m c).symm
    · refine ((Cert.Reference16Ideal.Read.val_main_v14_eq (F := Ideal) _ _).trans (ref_vars _ _)).trans ?_
      simp only [e0, e1, e2, e3]
      exact (tail7 m c).symm

end Cert.AdamIn
end
-- ==== Proof.AdamOut.lean ====
/- The optimiser's step of the square output projections: the tiled kernel sums the eight devices' parts of the gradient and steps the weights
   block by block; the plain lines' own terms are the same arrays. -/
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamOut

open Cert.AdamW (mean var step)

section Spec

open Cert.Kernel17Ideal

variable (W : FVec Ideal S1x128x1024 .f32) (P : FVec Ideal S8x128x1024 .bf16) (M V : FVec Ideal S1x128x1024 .f32)

/-- The gradient: the parts' sum. -/
def grad : FVec Ideal S1x128x1024 .f32 := fun i => ∑ q : Fin 8, P (ix3 q (i 1) (i 2))

/-- The updates. -/
def steps : FVec Ideal S1x128x1024 .f32 := fun i => step (W i) (grad P i) (M i) (V i)

/-- The first moments. -/
def means : FVec Ideal S1x128x1024 .f32 := fun i => mean (grad P i) (M i)

/-- The second moments. -/
def vars : FVec Ideal S1x128x1024 .f32 := fun i => var (grad P i) (V i)

end Spec

section Kernel

open Cert.Kernel17Ideal Cert.Kernel17Ideal.Gen

variable (m : (ℓ : Loc nD τ sig) → Buf (Elt Ideal) ℓ)

abbrev aW (c : Dev nD) : FVec Ideal S1x128x1024 .f32 := m ((c : Thread nD τ).loc main_arg0)
abbrev aP (c : Dev nD) : FVec Ideal S8x128x1024 .bf16 := m ((c : Thread nD τ).loc main_arg1)
abbrev aM (c : Dev nD) : FVec Ideal S1x128x1024 .f32 := m ((c : Thread nD τ).loc main_arg2)
abbrev aV (c : Dev nD) : FVec Ideal S1x128x1024 .f32 := m ((c : Thread nD τ).loc main_arg3)

/-- The block each window shows at each point. -/
theorem at_point : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weights a row of a block is. -/
def row (t : Fin cfg0.N) (r : Fin 128) : Fin 128 := ⟨128 * t.val + r.val, by have : t.val < 1 := t.isLt; omega⟩

theorem read_0 (c : Dev nD) (t : Fin cfg0.N) (r : Fin 128) (k : Fin 1024) : iblk m c 0 t (ix3 0 r k) = aW m c (ix3 0 (row t r) k) := by
  have ht : t.val < 1 := t.isLt
  unfold row
  blk_point [iblk, V, at_point t]

theorem read_2 (c : Dev nD) (t : Fin cfg0.N) (r : Fin 128) (k : Fin 1024) : iblk m c 2 t (ix3 0 r k) = aM m c (ix3 0 (row t r) k) := by
  have ht : t.val < 1 := t.isLt
  unfold row
  blk_point [iblk, V, at_point t]

theorem read_3 (c : Dev nD) (t : Fin cfg0.N) (r : Fin 128) (k : Fin 1024) : iblk m c 3 t (ix3 0 r k) = aV m c (ix3 0 (row t r) k) := by
  have ht : t.val < 1 := t.isLt
  unfold row
  blk_point [iblk, V, at_point t]

theorem read_1 (c : Dev nD) (t : Fin cfg0.N) (q : Fin 8) (r : Fin 128) (k : Fin 1024) : iblk m c 1 t (ix3 q r k) = aP m c (ix3 q (row t r) k) := by
  have ht : t.val < 1 := t.isLt
  unfold row
  blk_point [iblk, V, at_point t]

/-- The body's sum of the parts. -/
theorem sum_at (c : Dev nD) (t : Fin cfg0.N) (r : Fin 128) (k : Fin 1024) :
    k0_pay8 (iblk m c 0 t) (iblk m c 1 t) (iblk m c 2 t) (iblk m c 3 t) (ix2 r k) = grad (aP m c) (ix3 0 (row t r) k) := by
  rw [grad, Fin.sum_univ_eight]
  pointwise [k0_pay8, k0_pay3]
  iterate 7 refine congrArg₂ (· + ·) ?_ (read_1 m c t _ r k)
  exact read_1 m c t 0 r k

theorem block4 (c : Dev nD) (t : Fin cfg0.N) (r : Fin 128) (k : Fin 1024) :
    out0_4 (iblk m c 0 t) (iblk m c 1 t) (iblk m c 2 t) (iblk m c 3 t) (ix3 0 r k) = grad (aP m c) (ix3 0 (row t r) k) := by
  frame_out
  pointwise [k0_pay4]
  simp only [sum_at, read_0, read_2, read_3]

/-- Result array 0. -/
theorem final4 (c : Dev nD) : (dats m 0 c).arrAt 4 (cfgs 0).N = grad (aP m c) := by
  refine (dats m 0 c).arrAt_eq_of_covers 4 _ (by decide +kernel) fun t hf y => ?_
  blk_simp
  rw [after0_4]
  obtain ⟨z, r, k, rfl⟩ : ∃ (z : Fin 1) (r : Fin 128) (k : Fin 1024), y = ix3 z r k := ⟨y 0, y 1, y 2, (ix3_eta y).symm⟩
  obtain rfl : z = 0 := Subsingleton.elim _ _
  refine (block4 m c t r k).trans (congrArg (grad (aP m c)) ?_)
  unfold row
  blk_ext [at_point t]

theorem block5 (c : Dev nD) (t : Fin cfg0.N) (r : Fin 128) (k : Fin 1024) :
    out0_5 (iblk m c 0 t) (iblk m c 1 t) (iblk m c 2 t) (iblk m c 3 t) (ix3 0 r k) = steps (aW m c) (aP m c) (aM m c) (aV m c) (ix3 0 (row t r) k) := by
  frame_out
  pointwise [k0_pay7, k0_pay6, k0_pay5, steps, step, mean, var]
  simp only [sum_at, read_0, read_2, read_3]

/-- Result array 1. -/
theorem final5 (c : Dev nD) : (dats m 0 c).arrAt 5 (cfgs 0).N = steps (aW m c) (aP m c) (aM m c) (aV m c) := by
  refine (dats m 0 c).arrAt_eq_of_covers 5 _ (by decide +kernel) fun t hf y => ?_
  blk_simp
  rw [after0_5]
  obtain ⟨z, r, k, rfl⟩ : ∃ (z : Fin 1) (r : Fin 128) (k : Fin 1024), y = ix3 z r k := ⟨y 0, y 1, y 2, (ix3_eta y).symm⟩
  obtain rfl : z = 0 := Subsingleton.elim _ _
  refine (block5 m c t r k).trans (congrArg (steps (aW m c) (aP m c) (aM m c) (aV m c)) ?_)
  unfold row
  blk_ext [at_point t]

theorem block6 (c : Dev nD) (t : Fin cfg0.N) (r : Fin 128) (k : Fin 1024) :
    out0_6 (iblk m c 0 t) (iblk m c 1 t) (iblk m c 2 t) (iblk m c 3 t) (ix3 0 r k) = means (aP m c) (aM m c) (ix3 0 (row t r) k) := by
  frame_out
  pointwise [k0_pay1, k0_pay5, means, mean]
  simp only [sum_at, read_0, read_2, read_3]

/-- Result array 2. -/
theorem final6 (c : Dev nD) : (dats m 0 c).arrAt 6 (cfgs 0).N = means (aP m c) (aM m c) := by
  refine (dats m 0 c).arrAt_eq_of_covers 6 _ (by decide +kernel) fun t hf y => ?_
  blk_simp
  rw [after0_6]
  obtain ⟨z, r, k, rfl⟩ : ∃ (z : Fin 1) (r : Fin 128) (k : Fin 1024), y = ix3 z r k := ⟨y 0, y 1, y 2, (ix3_eta y).symm⟩
  obtain rfl : z = 0 := Subsingleton.elim _ _
  refine (block6 m c t r k).trans (congrArg (means (aP m c) (aM m c)) ?_)
  unfold row
  blk_ext [at_point t]

theorem block7 (c : Dev nD) (t : Fin cfg0.N) (r : Fin 128) (k : Fin 1024) :
    out0_7 (iblk m c 0 t) (iblk m c 1 t) (iblk m c 2 t) (iblk m c 3 t) (ix3 0 r k) = vars (aP m c) (aV m c) (ix3 0 (row t r) k) := by
  frame_out
  pointwise [k0_pay2, k0_pay6, vars, var]
  simp only [sum_at, read_0, read_2, read_3]

/-- Result array 3. -/
theorem final7 (c : Dev nD) : (dats m 0 c).arrAt 7 (cfgs 0).N = vars (aP m c) (aV m c) := by
  refine (dats m 0 c).arrAt_eq_of_covers 7 _ (by decide +kernel) fun t hf y => ?_
  blk_simp
  rw [after0_7]
  obtain ⟨z, r, k, rfl⟩ : ∃ (z : Fin 1) (r : Fin 128) (k : Fin 1024), y = ix3 z r k := ⟨y 0, y 1, y 2, (ix3_eta y).symm⟩
  obtain rfl : z = 0 := Subsingleton.elim _ _
  refine (block7 m c t r k).trans (congrArg (vars (aP m c) (aV m c)) ?_)
  unfold row
  blk_ext [at_point t]

end Kernel

section Reference

open Cert.Kernel17Ideal Cert.Reference17Ideal.Read

variable (W : FVec Ideal S1x128x1024 .f32) (P : FVec Ideal S8x128x1024 .bf16) (M V : FVec Ideal S1x128x1024 .f32)

/-- The reference's gradient. -/
theorem ref_grad : val_main_v2 (F := Ideal) P = grad P := by
  funext i
  obtain ⟨z, t, k, rfl⟩ : ∃ (z : Fin 1) (t : Fin 128) (k : Fin 1024), i = ix3 z t k := ⟨i 0, i 1, i 2, (ix3_eta i).symm⟩
  obtain rfl : z = 0 := Subsingleton.elim _ _
  pointwise [val_main_v2, val_main_v1, val_main_v0, val_main_cst, grad]

/-- Its first moments. -/
theorem ref_means : val_main_v7 (F := Ideal) P M = means P M := by
  funext i
  obtain ⟨z, t, k, rfl⟩ : ∃ (z : Fin 1) (t : Fin 128) (k : Fin 1024), i = ix3 z t k := ⟨i 0, i 1, i 2, (ix3_eta i).symm⟩
  obtain rfl : z = 0 := Subsingleton.elim _ _
  pointwise [val_main_v7, val_main_v6, val_main_v5, val_main_v4, val_main_v3, val_main_cst, val_main_cst_0, val_main_cst_1, val_main_cst_2, val_main_cst_3, val_main_cst_4, val_main_cst_5, val_main_cst_6, val_main_cst_7, val_main_cst_8]
  rw [ref_grad]
  rfl

/-- Its second moments. -/
theorem ref_vars : val_main_v13 (F := Ideal) P V = vars P V := by
  funext i
  obtain ⟨z, t, k, rfl⟩ : ∃ (z : Fin 1) (t : Fin 128) (k : Fin 1024), i = ix3 z t k := ⟨i 0, i 1, i 2, (ix3_eta i).symm⟩
  obtain rfl : z = 0 := Subsingleton.elim _ _
  pointwise [val_main_v13, val_main_v12, val_main_v11, val_main_v10, val_main_v9, val_main_v8, val_main_cst, val_main_cst_0, val_main_cst_1, val_main_cst_2, val_main_cst_3, val_main_cst_4, val_main_cst_5, val_main_cst_6, val_main_cst_7, val_main_cst_8]
  rw [ref_grad]
  rfl

/-- Its updates. -/
theorem ref_steps : val_main_v26 (F := Ideal) W P M V = steps W P M V := by
  funext i
  obtain ⟨z, t, k, rfl⟩ : ∃ (z : Fin 1) (t : Fin 128) (k : Fin 1024), i = ix3 z t k := ⟨i 0, i 1, i 2, (ix3_eta i).symm⟩
  obtain rfl : z = 0 := Subsingleton.elim _ _
  pointwise [val_main_v26, val_main_v25, val_main_v24, val_main_v23, val_main_v22, val_main_v21, val_main_v20, val_main_v19, val_main_v18, val_main_v17, val_main_v16, val_main_v15, val_main_v14, val_main_cst, val_main_cst_0, val_main_cst_1, val_main_cst_2, val_main_cst_3, val_main_cst_4, val_main_cst_5, val_main_cst_6, val_main_cst_7, val_main_cst_8]
  rw [ref_means, ref_vars]
  rfl

end Reference

/-- The tiled kernel and the plain optimiser's lines, on the same arguments, leave the same four results. -/
theorem pair : algebraic_Kernel17Ideal_Reference17Ideal := by
  pair_intro
  · run_from Cert.Kernel17Ideal.Gen.run_main m g
  · refine θ_run_mono (Cert.Reference17Ideal.Value.run m' g') ?_
    intro r hr c
    obtain ⟨h0, h1, h2, h3, rest⟩ := hr c
    obtain ⟨e0, e1, e2, e3⟩ := hagree c
    refine ⟨h0.trans ?_, h1.trans ?_, h2.trans ?_, h3.trans ?_, rest⟩
    · refine ((Cert.Reference17Ideal.Read.val_main_v2_eq (F := Ideal) _).trans (ref_grad _)).trans ?_
      simp only [e0, e1, e2, e3]
      exact (final4 m c).symm
    · refine ((Cert.Reference17Ideal.Read.val_main_v26_eq (F := Ideal) _ _ _ _).trans (ref_steps _ _ _ _)).trans ?_
      simp only [e0, e1, e2, e3]
      exact (final5 m c).symm
    · refine ((Cert.Reference17Ideal.Read.val_main_v7_eq (F := Ideal) _ _).trans (ref_means _ _)).trans ?_
      simp only [e0, e1, e2, e3]
      exact (final6 m c).symm
    · refine ((Cert.Reference17Ideal.Read.val_main_v13_eq (F := Ideal) _ _).trans (ref_vars _ _)).trans ?_
      simp only [e0, e1, e2, e3]
      exact (final7 m c).symm

end Cert.AdamOut
end
-- ==== Proof.AdamAda.lean ====
/- The optimiser's step of the modulation's weights: the tiled kernel steps the weights block by block, from their gradient; the plain lines' own terms are the same arrays. -/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamAda

open Cert.AdamW (mean var step)

section Spec

open Cert.Kernel18Ideal

variable (W : FVec Ideal S1x1024x1152 .f32) (P : FVec Ideal S1024x1152 .f32) (M V : FVec Ideal S1x1024x1152 .f32)

/-- The gradient. -/
def grad : FVec Ideal S1x1024x1152 .f32 := fun i => P (ix2 (i 1) (i 2))

/-- The updates. -/
def steps : FVec Ideal S1x1024x1152 .f32 := fun i => step (W i) (grad P i) (M i) (V i)

/-- The first moments. -/
def means : FVec Ideal S1x1024x1152 .f32 := fun i => mean (grad P i) (M i)

/-- The second moments. -/
def vars : FVec Ideal S1x1024x1152 .f32 := fun i => var (grad P i) (V i)

end Spec

section Kernel

open Cert.Kernel18Ideal Cert.Kernel18Ideal.Gen

variable (m : (ℓ : Loc nD τ sig) → Buf (Elt Ideal) ℓ)

abbrev aW (c : Dev nD) : FVec Ideal S1x1024x1152 .f32 := m ((c : Thread nD τ).loc main_arg0)
abbrev aP (c : Dev nD) : FVec Ideal S1024x1152 .f32 := m ((c : Thread nD τ).loc main_arg1)
abbrev aM (c : Dev nD) : FVec Ideal S1x1024x1152 .f32 := m ((c : Thread nD τ).loc main_arg2)
abbrev aV (c : Dev nD) : FVec Ideal S1x1024x1152 .f32 := m ((c : Thread nD τ).loc main_arg3)

/-- The block each window shows at each point. -/
theorem at_point : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weights a row of a block is. -/
def row (t : Fin cfg0.N) (r : Fin 256) : Fin 1024 := ⟨256 * t.val + r.val, by have : t.val < 4 := t.isLt; omega⟩

theorem read_0 (c : Dev nD) (t : Fin cfg0.N) (r : Fin 256) (k : Fin 1152) : iblk m c 0 t (ix3 0 r k) = aW m c (ix3 0 (row t r) k) := by
  have ht : t.val < 4 := t.isLt
  unfold row
  blk_point [iblk, V, at_point t]

theorem read_2 (c : Dev nD) (t : Fin cfg0.N) (r : Fin 256) (k : Fin 1152) : iblk m c 2 t (ix3 0 r k) = aM m c (ix3 0 (row t r) k) := by
  have ht : t.val < 4 := t.isLt
  unfold row
  blk_point [iblk, V, at_point t]

theorem read_3 (c : Dev nD) (t : Fin cfg0.N) (r : Fin 256) (k : Fin 1152) : iblk m c 3 t (ix3 0 r k) = aV m c (ix3 0 (row t r) k) := by
  have ht : t.val < 4 := t.isLt
  unfold row
  blk_point [iblk, V, at_point t]

theorem read_1 (c : Dev nD) (t : Fin cfg0.N) (r : Fin 256) (k : Fin 1152) : iblk m c 1 t (ix2 r k) = aP m c (ix2 (row t r) k) := by
  have ht : t.val < 4 := t.isLt
  unfold row
  blk_point [iblk, V, at_point t]

theorem block4 (c : Dev nD) (t : Fin cfg0.N) (r : Fin 256) (k : Fin 1152) :
    out0_4 (iblk m c 0 t) (iblk m c 1 t) (iblk m c 2 t) (iblk m c 3 t) (ix3 0 r k) = grad (aP m c) (ix3 0 (row t r) k) := by
  frame_out
  pointwise [k0_pay4, grad]
  simp only [read_1, read_0, read_2, read_3]

/-- Result array 0. -/
theorem final4 (c : Dev nD) : (dats m 0 c).arrAt 4 (cfgs 0).N = grad (aP m c) := by
  refine (dats m 0 c).arrAt_eq_of_covers 4 _ (by decide +kernel) fun t hf y => ?_
  blk_simp
  rw [after0_4]
  obtain ⟨z, r, k, rfl⟩ : ∃ (z : Fin 1) (r : Fin 256) (k : Fin 1152), y = ix3 z r k := ⟨y 0, y 1, y 2, (ix3_eta y).symm⟩
  obtain rfl : z = 0 := Subsingleton.elim _ _
  refine (block4 m c t r k).trans (congrArg (grad (aP m c)) ?_)
  unfold row
  blk_ext [at_point t]

theorem block5 (c : Dev nD) (t : Fin cfg0.N) (r : Fin 256) (k : Fin 1152) :
    out0_5 (iblk m c 0 t) (iblk m c 1 t) (iblk m c 2 t) (iblk m c 3 t) (ix3 0 r k) = steps (aW m c) (aP m c) (aM m c) (aV m c) (ix3 0 (row t r) k) := by
  frame_out
  pointwise [k0_pay1, k0_pay7, k0_pay6, k0_pay5, steps, step, mean, var, grad]
  simp only [read_1, read_0, read_2, read_3]

/-- Result array 1. -/
theorem final5 (c : Dev nD) : (dats m 0 c).arrAt 5 (cfgs 0).N = steps (aW m c) (aP m c) (aM m c) (aV m c) := by
  refine (dats m 0 c).arrAt_eq_of_covers 5 _ (by decide +kernel) fun t hf y => ?_
  blk_simp
  rw [after0_5]
  obtain ⟨z, r, k, rfl⟩ : ∃ (z : Fin 1) (r : Fin 256) (k : Fin 1152), y = ix3 z r k := ⟨y 0, y 1, y 2, (ix3_eta y).symm⟩
  obtain rfl : z = 0 := Subsingleton.elim _ _
  refine (block5 m c t r k).trans (congrArg (steps (aW m c) (aP m c) (aM m c) (aV m c)) ?_)
  unfold row
  blk_ext [at_point t]

theorem block6 (c : Dev nD) (t : Fin cfg0.N) (r : Fin 256) (k : Fin 1152) :
    out0_6 (iblk m c 0 t) (iblk m c 1 t) (iblk m c 2 t) (iblk m c 3 t) (ix3 0 r k) = means (aP m c) (aM m c) (ix3 0 (row t r) k) := by
  frame_out
  pointwise [k0_pay2, k0_pay5, means, mean, grad]
  simp only [read_1, read_0, read_2, read_3]

/-- Result array 2. -/
theorem final6 (c : Dev nD) : (dats m 0 c).arrAt 6 (cfgs 0).N = means (aP m c) (aM m c) := by
  refine (dats m 0 c).arrAt_eq_of_covers 6 _ (by decide +kernel) fun t hf y => ?_
  blk_simp
  rw [after0_6]
  obtain ⟨z, r, k, rfl⟩ : ∃ (z : Fin 1) (r : Fin 256) (k : Fin 1152), y = ix3 z r k := ⟨y 0, y 1, y 2, (ix3_eta y).symm⟩
  obtain rfl : z = 0 := Subsingleton.elim _ _
  refine (block6 m c t r k).trans (congrArg (means (aP m c) (aM m c)) ?_)
  unfold row
  blk_ext [at_point t]

theorem block7 (c : Dev nD) (t : Fin cfg0.N) (r : Fin 256) (k : Fin 1152) :
    out0_7 (iblk m c 0 t) (iblk m c 1 t) (iblk m c 2 t) (iblk m c 3 t) (ix3 0 r k) = vars (aP m c) (aV m c) (ix3 0 (row t r) k) := by
  frame_out
  pointwise [k0_pay3, k0_pay6, vars, var, grad]
  simp only [read_1, read_0, read_2, read_3]

/-- Result array 3. -/
theorem final7 (c : Dev nD) : (dats m 0 c).arrAt 7 (cfgs 0).N = vars (aP m c) (aV m c) := by
  refine (dats m 0 c).arrAt_eq_of_covers 7 _ (by decide +kernel) fun t hf y => ?_
  blk_simp
  rw [after0_7]
  obtain ⟨z, r, k, rfl⟩ : ∃ (z : Fin 1) (r : Fin 256) (k : Fin 1152), y = ix3 z r k := ⟨y 0, y 1, y 2, (ix3_eta y).symm⟩
  obtain rfl : z = 0 := Subsingleton.elim _ _
  refine (block7 m c t r k).trans (congrArg (vars (aP m c) (aV m c)) ?_)
  unfold row
  blk_ext [at_point t]

end Kernel

section Reference

open Cert.Kernel18Ideal Cert.Reference18Ideal.Read

variable (W : FVec Ideal S1x1024x1152 .f32) (P : FVec Ideal S1024x1152 .f32) (M V : FVec Ideal S1x1024x1152 .f32)

/-- The reference's gradient. -/
theorem ref_grad : val_main_v0 (F := Ideal) P = grad P := by
  funext i
  obtain ⟨z, t, k, rfl⟩ : ∃ (z : Fin 1) (t : Fin 1024) (k : Fin 1152), i = ix3 z t k := ⟨i 0, i 1, i 2, (ix3_eta i).symm⟩
  obtain rfl : z = 0 := Subsingleton.elim _ _
  pointwise [val_main_v0, grad]

/-- Its first moments. -/
theorem ref_means : val_main_v5 (F := Ideal) P M = means P M := by
  funext i
  obtain ⟨z, t, k, rfl⟩ : ∃ (z : Fin 1) (t : Fin 1024) (k : Fin 1152), i = ix3 z t k := ⟨i 0, i 1, i 2, (ix3_eta i).symm⟩
  obtain rfl : z = 0 := Subsingleton.elim _ _
  pointwise [val_main_v5, val_main_v4, val_main_v3, val_main_v2, val_main_v1, val_main_cst, val_main_cst_0, val_main_cst_1, val_main_cst_2, val_main_cst_3, val_main_cst_4, val_main_cst_5, val_main_cst_6, val_main_cst_7]
  rw [ref_grad]
  rfl

/-- Its second moments. -/
theorem ref_vars : val_main_v11 (F := Ideal) P V = vars P V := by
  funext i
  obtain ⟨z, t, k, rfl⟩ : ∃ (z : Fin 1) (t : Fin 1024) (k : Fin 1152), i = ix3 z t k := ⟨i 0, i 1, i 2, (ix3_eta i).symm⟩
  obtain rfl : z = 0 := Subsingleton.elim _ _
  pointwise [val_main_v11, val_main_v10, val_main_v9, val_main_v8, val_main_v7, val_main_v6, val_main_cst, val_main_cst_0, val_main_cst_1, val_main_cst_2, val_main_cst_3, val_main_cst_4, val_main_cst_5, val_main_cst_6, val_main_cst_7]
  rw [ref_grad]
  rfl

/-- Its updates. -/
theorem ref_steps : val_main_v24 (F := Ideal) W P M V = steps W P M V := by
  funext i
  obtain ⟨z, t, k, rfl⟩ : ∃ (z : Fin 1) (t : Fin 1024) (k : Fin 1152), i = ix3 z t k := ⟨i 0, i 1, i 2, (ix3_eta i).symm⟩
  obtain rfl : z = 0 := Subsingleton.elim _ _
  pointwise [val_main_v24, val_main_v23, val_main_v22, val_main_v21, val_main_v20, val_main_v19, val_main_v18, val_main_v17, val_main_v16, val_main_v15, val_main_v14, val_main_v13, val_main_v12, val_main_cst, val_main_cst_0, val_main_cst_1, val_main_cst_2, val_main_cst_3, val_main_cst_4, val_main_cst_5, val_main_cst_6, val_main_cst_7]
  rw [ref_means, ref_vars]
  rfl

end Reference

/-- The tiled kernel and the plain optimiser's lines, on the same arguments, leave the same four results. -/
theorem pair : algebraic_Kernel18Ideal_Reference18Ideal := by
  pair_intro
  · run_from Cert.Kernel18Ideal.Gen.run_main m g
  · refine θ_run_mono (Cert.Reference18Ideal.Value.run m' g') ?_
    intro r hr c
    obtain ⟨h0, h1, h2, h3, rest⟩ := hr c
    obtain ⟨e0, e1, e2, e3⟩ := hagree c
    refine ⟨h0.trans ?_, h1.trans ?_, h2.trans ?_, h3.trans ?_, rest⟩
    · refine ((Cert.Reference18Ideal.Read.val_main_v0_eq (F := Ideal) _).trans (ref_grad _)).trans ?_
      simp only [e0, e1, e2, e3]
      exact (final4 m c).symm
    · refine ((Cert.Reference18Ideal.Read.val_main_v24_eq (F := Ideal) _ _ _ _).trans (ref_steps _ _ _ _)).trans ?_
      simp only [e0, e1, e2, e3]
      exact (final5 m c).symm
    · refine ((Cert.Reference18Ideal.Read.val_main_v5_eq (F := Ideal) _ _).trans (ref_means _ _)).trans ?_
      simp only [e0, e1, e2, e3]
      exact (final6 m c).symm
    · refine ((Cert.Reference18Ideal.Read.val_main_v11_eq (F := Ideal) _ _).trans (ref_vars _ _)).trans ?_
      simp only [e0, e1, e2, e3]
      exact (final7 m c).symm

end Cert.AdamAda
end
-- ==== Proof.FinalFfn.lean ====
/- The last feed-forward with its norm before and the loss head after: what the tiled kernel leaves in its five result
   arrays, the hidden features taken in eleven chunks and the sums over the tokens block after block, and the plain forward
   lines' own terms, are the same arrays. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import proofs.«01_k».proof.Proof.Silu
public import proofs.«01_k».proof.Proof.NormGrad
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FinalFfn

open Cert.Silu (gate half gate_eq)

section Spec

open Cert.Kernel10Ideal

/-- What the kernel is given: the tokens, the norm's gain, scale and shift, the residual's gain, both weights, the target and
    the last norm's gain. -/
structure Args where
  A : FVec Ideal S8192x1024 .f32
  G : FVec Ideal S1x1024 .f32
  S : FVec Ideal S1x1024 .f32
  H : FVec Ideal S1x1024 .f32
  R : FVec Ideal S1x1024 .f32
  U : FVec Ideal S5632x1024 .bf16
  W : FVec Ideal S2816x1024 .bf16
  Y : FVec Ideal S8192x1024 .f32
  Z : FVec Ideal S1x1024 .f32

variable (a : Args)

/-- A feature of a token after the norm, its gain, the scale and the shift. -/
def mod (t : Fin 8192) (d : Fin 1024) : EReal :=
  a.A (ix2 t d) * Ideal.rsqrt (NormGrad.ms fun e : Fin 1024 => a.A (ix2 t e)) * a.G (ix2 0 d)
    * (Ideal.ofBits FTy.f32 0x3F800000#32 + a.S (ix2 0 d)) + a.H (ix2 0 d)

/-- The projection of the modulated input. -/
def proj (t : Fin 8192) (n : Fin 5632) : EReal := ∑ d : Fin 1024, mod a t d * a.U (ix2 n d)

/-- A hidden feature of a token: the first half of the projection through the gate, times the second half. -/
def act (t : Fin 8192) (k : Fin 2816) : EReal :=
  proj a t ⟨k.val, by omega⟩ * gate (proj a t ⟨k.val, by omega⟩) * proj a t ⟨2816 + k.val, by omega⟩

/-- The token after its feed-forward, with half the gain. -/
def strm (t : Fin 8192) (d : Fin 1024) : EReal :=
  a.A (ix2 t d) + half * a.R (ix2 0 d) * ∑ k : Fin 2816, act a t k * a.W (ix2 k d)

/-- The last norm of it. -/
def xh (t : Fin 8192) (d : Fin 1024) : EReal := strm a t d * Ideal.rsqrt (NormGrad.ms (strm a t))

/-- The last norm, with its gain, against the target. -/
def err (t : Fin 8192) (d : Fin 1024) : EReal := xh a t d * a.Z (ix2 0 d) - a.Y (ix2 t d)

/-- The cotangent the mean over the features gives it. -/
def dy (t : Fin 8192) (d : Fin 1024) : EReal := err a t d * Ideal.ofBits FTy.f32 0x3A800000#32

/-- The cotangent of the stream. -/
def dx (t : Fin 8192) (d : Fin 1024) : EReal :=
  Ideal.rsqrt (NormGrad.ms (strm a t)) * (dy a t d * a.Z (ix2 0 d) - xh a t d *
    Ideal.div (∑ e : Fin 1024, dy a t e * a.Z (ix2 0 e) * xh a t e) (Ideal.ofBits FTy.f32 0x44800000#32))

/-- An array of the tokens' features. -/
def rows (f : Fin 8192 → Fin 1024 → EReal) : FVec Ideal S8192x1024 .f32 := fun i => f (i 0) (i 1)

/-- A column's sum over the tokens, as a row of one array. -/
def total (f : Fin 8192 → Fin 1024 → EReal) : FVec Ideal S1x1024 .f32 := fun i => ∑ t : Fin 8192, f t (i 1)

/-- The first result: the modulated input. -/
def mods : FVec Ideal S8192x1024 .bf16 := fun i => mod a (i 0) (i 1)

/-- The second: its projection. -/
def projs : FVec Ideal S8192x5632 .bf16 := fun i => proj a (i 0) (i 1)

theorem rows_at (f : Fin 8192 → Fin 1024 → EReal) (t : Fin 8192) (d : Fin 1024) : rows f (ix2 t d) = f t d := rfl
theorem mods_at (t : Fin 8192) (d : Fin 1024) : mods a (ix2 t d) = mod a t d := rfl
theorem projs_at (t : Fin 8192) (n : Fin 5632) : projs a (ix2 t n) = proj a t n := rfl

end Spec

section Kernel

open Cert.Kernel10Ideal Cert.Kernel10Ideal.Gen

variable (m : (ℓ : Loc nD τ sig) → Buf (Elt Ideal) ℓ)

/-- The arguments as the memory has them. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

/-- The block each window shows at each point. -/
theorem at_point : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- The token of a row of a block. -/
def tok (t : Fin cfg0.N) (r : Fin 512) : Fin 8192 := ⟨512 * t.val + r.val, by have : t.val < 16 := t.isLt; omega⟩

theorem read_0 (c : Dev nD) (t : Fin cfg0.N) (r : Fin 512) (d : Fin 1024) : iblk m c 0 t (ix2 r d) = (args m c).A (ix2 (tok t r) d) := by
  have ht : t.val < 16 := t.isLt
  unfold tok args
  blk_point [iblk, V, at_point t]

theorem read_1 (c : Dev nD) (t : Fin cfg0.N) (d : Fin 1024) : iblk m c 1 t (ix2 0 d) = (args m c).G (ix2 0 d) := by
  unfold args
  blk_point [iblk, V, at_point t]

theorem read_2 (c : Dev nD) (t : Fin cfg0.N) (d : Fin 1024) : iblk m c 2 t (ix2 0 d) = (args m c).S (ix2 0 d) := by
  unfold args
  blk_point [iblk, V, at_point t]

theorem read_3 (c : Dev nD) (t : Fin cfg0.N) (d : Fin 1024) : iblk m c 3 t (ix2 0 d) = (args m c).H (ix2 0 d) := by
  unfold args
  blk_point [iblk, V, at_point t]

theorem read_4 (c : Dev nD) (t : Fin cfg0.N) (d : Fin 1024) : iblk m c 4 t (ix2 0 d) = (args m c).R (ix2 0 d) := by
  unfold args
  blk_point [iblk, V, at_point t]

theorem read_5 (c : Dev nD) (t : Fin cfg0.N) (n : Fin 5632) (d : Fin 1024) : iblk m c 5 t (ix2 n d) = (args m c).U (ix2 n d) := by
  unfold args
  blk_point [iblk, V, at_point t]

theorem read_6 (c : Dev nD) (t : Fin cfg0.N) (k : Fin 2816) (d : Fin 1024) : iblk m c 6 t (ix2 k d) = (args m c).W (ix2 k d) := by
  unfold args
  blk_point [iblk, V, at_point t]

theorem read_7 (c : Dev nD) (t : Fin cfg0.N) (r : Fin 512) (d : Fin 1024) : iblk m c 7 t (ix2 r d) = (args m c).Y (ix2 (tok t r) d) := by
  have ht : t.val < 16 := t.isLt
  unfold tok args
  blk_point [iblk, V, at_point t]

theorem read_8 (c : Dev nD) (t : Fin cfg0.N) (d : Fin 1024) : iblk m c 8 t (ix2 0 d) = (args m c).Z (ix2 0 d) := by
  unfold args
  blk_point [iblk, V, at_point t]

/-- The modulated block. -/
theorem hb_at (c : Dev nD) (t : Fin cfg0.N) (r : Fin 512) (d : Fin 1024) :
    k0_pay4 (iblk m c 0 t) (iblk m c 1 t) (iblk m c 2 t) (iblk m c 3 t) (ix2 r d) = mod (args m c) (tok t r) d := by
  pointwise [k0_pay4, mod, NormGrad.ms]
  simp only [read_0, read_1, read_2, read_3]

/-- The part of a sum over the hidden features that a chunk has. -/
def part (f : Fin 2816 → EReal) (s : Fin 11) : EReal := ∑ k : Fin 256, f ⟨s.val * 256 + k.val, by omega⟩

/-- A sum over the hidden features, chunk after chunk. -/
theorem chunks (f : Fin 2816 → EReal) : (∑ k, f k)
    = part f 0 + part f 1 + part f 2 + part f 3 + part f 4 + part f 5 + part f 6 + part f 7 + part f 8 + part f 9 + part f 10 := by
  rw [← Fin.sum_mul_add_fin 11 256 f]
  show (∑ s : Fin 11, part f s) = _
  simp only [Fin.sum_univ_castSucc, Fin.sum_univ_zero, zero_add]
  rfl

/-- A chunk of the body's second product, at the rows `p`, `q` of the first weights and `w` of the second, is its part of the
    sum. -/
theorem part_eq (a : Args) (hb : FVec Ideal S512x1024 .bf16) (x5 : FVec Ideal S5632x1024 .bf16) (x6 : FVec Ideal S2816x1024 .bf16)
    (T : Fin 8192) (r : Fin 512) (d : Fin 1024) (h4 : ∀ e, hb (ix2 r e) = mod a T e) (h5 : ∀ n e, x5 (ix2 n e) = a.U (ix2 n e))
    (h6 : ∀ k, x6 (ix2 k d) = a.W (ix2 k d)) (s : Fin 11) (p q : Fin 256 → Fin 5632) (w : Fin 256 → Fin 2816)
    (hp : ∀ x, (p x).val = s.val * 256 + x.val) (hq : ∀ x, (q x).val = 2816 + (s.val * 256 + x.val)) (hw : ∀ x, (w x).val = s.val * 256 + x.val) :
    (∑ x, (∑ e, hb (ix2 r e) * x5 (ix2 (p x) e)) * (half * Ideal.tanh (half * ∑ e, hb (ix2 r e) * x5 (ix2 (p x) e)) + half)
        * (∑ e, hb (ix2 r e) * x5 (ix2 (q x) e)) * x6 (ix2 (w x) d))
      = part (fun k => act a T k * a.W (ix2 k d)) s := by
  refine Finset.sum_congr rfl fun x _ => ?_
  have ep : p x = ⟨s.val * 256 + x.val, by omega⟩ := Fin.ext (hp x)
  have eq : q x = ⟨2816 + (s.val * 256 + x.val), by omega⟩ := Fin.ext (hq x)
  have ew : w x = ⟨s.val * 256 + x.val, by omega⟩ := Fin.ext (hw x)
  simp only [h4, h5, h6, ep, eq, ew]
  rfl

/-- The stream after the feed-forward, as the body's stores read it. -/
theorem strm_at (c : Dev nD) (t : Fin cfg0.N) (r : Fin 512) (d : Fin 1024) :
  k0_pay39 (iblk m c 0 t)
        (k0_pay34
          (k0_pay31 (k0_pay4 (iblk m c 0 t) (iblk m c 1 t) (iblk m c 2 t) (iblk m c 3 t))
            (k0_pay25
              (k0_pay22 (k0_pay4 (iblk m c 0 t) (iblk m c 1 t) (iblk m c 2 t) (iblk m c 3 t))
                (k0_pay16
                  (k0_pay13 (k0_pay4 (iblk m c 0 t) (iblk m c 1 t) (iblk m c 2 t) (iblk m c 3 t))
                    (k0_pay7
                      (k0_pay5 (iblk m c 0 t) (iblk m c 1 t) (iblk m c 2 t) (iblk m c 3 t)
                        (View.ld (iblk m c 5 t) (Rect.unit ![0, 0] ![256, 1024] inb_S5632x1024_S256x1024_0_0)))
                      (k0_pay6 (iblk m c 0 t) (iblk m c 1 t) (iblk m c 2 t) (iblk m c 3 t)
                        (View.ld (iblk m c 5 t) (Rect.unit ![2816, 0] ![256, 1024] inb_S5632x1024_S256x1024_2816_0)))
                      (View.ld (iblk m c 6 t) (Rect.unit ![0, 0] ![256, 1024] inb_S2816x1024_S256x1024_0_0)))
                    (k0_pay10 (k0_pay4 (iblk m c 0 t) (iblk m c 1 t) (iblk m c 2 t) (iblk m c 3 t))
                      (View.ld (iblk m c 5 t) (Rect.unit ![256, 0] ![256, 1024] inb_S5632x1024_S256x1024_256_0))
                      (View.ld (iblk m c 5 t) (Rect.unit ![3072, 0] ![256, 1024] inb_S5632x1024_S256x1024_3072_0))
                      (View.ld (iblk m c 6 t) (Rect.unit ![256, 0] ![256, 1024] inb_S2816x1024_S256x1024_256_0)))
                    (View.ld (iblk m c 5 t) (Rect.unit ![512, 0] ![256, 1024] inb_S5632x1024_S256x1024_512_0))
                    (View.ld (iblk m c 5 t) (Rect.unit ![3328, 0] ![256, 1024] inb_S5632x1024_S256x1024_3328_0))
                    (View.ld (iblk m c 6 t) (Rect.unit ![512, 0] ![256, 1024] inb_S2816x1024_S256x1024_512_0)))
                  (k0_pay14 (k0_pay4 (iblk m c 0 t) (iblk m c 1 t) (iblk m c 2 t) (iblk m c 3 t))
                    (View.ld (iblk m c 5 t) (Rect.unit ![768, 0] ![256, 1024] inb_S5632x1024_S256x1024_768_0)))
                  (k0_pay15 (k0_pay4 (iblk m c 0 t) (iblk m c 1 t) (iblk m c 2 t) (iblk m c 3 t))
                    (View.ld (iblk m c 5 t) (Rect.unit ![3584, 0] ![256, 1024] inb_S5632x1024_S256x1024_3584_0)))
                  (View.ld (iblk m c 6 t) (Rect.unit ![768, 0] ![256, 1024] inb_S2816x1024_S256x1024_768_0)))
                (k0_pay19 (k0_pay4 (iblk m c 0 t) (iblk m c 1 t) (iblk m c 2 t) (iblk m c 3 t))
                  (View.ld (iblk m c 5 t) (Rect.unit ![1024, 0] ![256, 1024] inb_S5632x1024_S256x1024_1024_0))
                  (View.ld (iblk m c 5 t) (Rect.unit ![3840, 0] ![256, 1024] inb_S5632x1024_S256x1024_3840_0)))
                (View.ld (iblk m c 6 t) (Rect.unit ![1024, 0] ![256, 1024] inb_S2816x1024_S256x1024_1024_0))
                (View.ld (iblk m c 5 t) (Rect.unit ![1280, 0] ![256, 1024] inb_S5632x1024_S256x1024_1280_0))
                (View.ld (iblk m c 5 t) (Rect.unit ![4096, 0] ![256, 1024] inb_S5632x1024_S256x1024_4096_0))
                (View.ld (iblk m c 6 t) (Rect.unit ![1280, 0] ![256, 1024] inb_S2816x1024_S256x1024_1280_0)))
              (k0_pay23 (k0_pay4 (iblk m c 0 t) (iblk m c 1 t) (iblk m c 2 t) (iblk m c 3 t))
                (View.ld (iblk m c 5 t) (Rect.unit ![1536, 0] ![256, 1024] inb_S5632x1024_S256x1024_1536_0)))
              (k0_pay24 (k0_pay4 (iblk m c 0 t) (iblk m c 1 t) (iblk m c 2 t) (iblk m c 3 t))
                (View.ld (iblk m c 5 t) (Rect.unit ![4352, 0] ![256, 1024] inb_S5632x1024_S256x1024_4352_0)))
              (View.ld (iblk m c 6 t) (Rect.unit ![1536, 0] ![256, 1024] inb_S2816x1024_S256x1024_1536_0)))
            (k0_pay28 (k0_pay4 (iblk m c 0 t) (iblk m c 1 t) (iblk m c 2 t) (iblk m c 3 t))
              (View.ld (iblk m c 5 t) (Rect.unit ![1792, 0] ![256, 1024] inb_S5632x1024_S256x1024_1792_0))
              (View.ld (iblk m c 5 t) (Rect.unit ![4608, 0] ![256, 1024] inb_S5632x1024_S256x1024_4608_0)))
            (View.ld (iblk m c 6 t) (Rect.unit ![1792, 0] ![256, 1024] inb_S2816x1024_S256x1024_1792_0))
            (View.ld (iblk m c 5 t) (Rect.unit ![2048, 0] ![256, 1024] inb_S5632x1024_S256x1024_2048_0))
            (View.ld (iblk m c 5 t) (Rect.unit ![4864, 0] ![256, 1024] inb_S5632x1024_S256x1024_4864_0))
            (View.ld (iblk m c 6 t) (Rect.unit ![2048, 0] ![256, 1024] inb_S2816x1024_S256x1024_2048_0)))
          (k0_pay32 (k0_pay4 (iblk m c 0 t) (iblk m c 1 t) (iblk m c 2 t) (iblk m c 3 t))
            (View.ld (iblk m c 5 t) (Rect.unit ![2304, 0] ![256, 1024] inb_S5632x1024_S256x1024_2304_0)))
          (k0_pay33 (k0_pay4 (iblk m c 0 t) (iblk m c 1 t) (iblk m c 2 t) (iblk m c 3 t))
            (View.ld (iblk m c 5 t) (Rect.unit ![5120, 0] ![256, 1024] inb_S5632x1024_S256x1024_5120_0)))
          (View.ld (iblk m c 6 t) (Rect.unit ![2304, 0] ![256, 1024] inb_S2816x1024_S256x1024_2304_0)))
        (k0_pay36 (k0_pay4 (iblk m c 0 t) (iblk m c 1 t) (iblk m c 2 t) (iblk m c 3 t))
          (View.ld (iblk m c 5 t) (Rect.unit ![5376, 0] ![256, 1024] inb_S5632x1024_S256x1024_5376_0)))
        (k0_pay37 (k0_pay4 (iblk m c 0 t) (iblk m c 1 t) (iblk m c 2 t) (iblk m c 3 t))
          (View.ld (iblk m c 5 t) (Rect.unit ![2560, 0] ![256, 1024] inb_S5632x1024_S256x1024_2560_0)))
        (k0_pay38 (k0_pay4 (iblk m c 0 t) (iblk m c 1 t) (iblk m c 2 t) (iblk m c 3 t))
          (View.ld (iblk m c 5 t) (Rect.unit ![2560, 0] ![256, 1024] inb_S5632x1024_S256x1024_2560_0)))
        (View.ld (iblk m c 6 t) (Rect.unit ![2560, 0] ![256, 1024] inb_S2816x1024_S256x1024_2560_0)) (iblk m c 4 t)
      (ix2 r d) = strm (args m c) (tok t r) d := by
  rw [strm, chunks]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  refine congrArg₂ (· + ·) (read_0 m c t r d) (congrArg₂ (· * ·) (congrArg (half * ·) (read_4 m c t d)) ?_)
  have h4 := hb_at m c t r
  have h5 := read_5 m c t
  have h6 (k : Fin 2816) := read_6 m c t k d
  generalize k0_pay4 (iblk m c 0 t) (iblk m c 1 t) (iblk m c 2 t) (iblk m c 3 t) = hb at h4 ⊢
  generalize iblk m c 5 t = x5 at h5 ⊢
  generalize iblk m c 6 t = x6 at h6 ⊢
  have q := part_eq (args m c) hb x5 x6 (tok t r) r d h4 h5 h6
  iterate 10 refine congrArg₂ (· + ·) ?_ (q _ _ _ _ (by intro x; rfl) (by intro x; simp; omega) (by intro x; rfl))
  exact q 0 _ _ _ (by intro x; simp) (by intro x; simp) (by intro x; simp)

section Steps

variable {a : Args} {row : Fin 512 → Fin 8192} {v0 v298 : Vec Ideal S512x1024 .f32} {v252 : FVec Ideal S512x1024 .f32} {v258 : FVec Ideal S512x256 .bf16}
  {v261 v268 : FVec Ideal S512x256 .f32} {v273 : Vec Ideal S256x1024 .bf16} {v276 v285 : Vec Ideal S1x1024 .f32}

/-- A block's rows of the third result. -/
theorem dx_step (h : ∀ r d, k0_pay39 v0 v252 v258 v261 v268 v273 v276 (ix2 r d) = strm a (row r) d)
    (h7 : ∀ r d, v298 (ix2 r d) = a.Y (ix2 (row r) d)) (h8 : ∀ d, v285 (ix2 0 d) = a.Z (ix2 0 d)) (r : Fin 512) (d : Fin 1024) :
    k0_pay3 (F := Ideal) v285 (k0_pay42 v0 v252 v258 v261 v268 v273 v276) (k0_pay43 v0 v252 v258 v261 v268 v273 v276)
      (k0_pay44 v0 v252 v258 v261 v268 v273 v276 v285 v298) (ix2 r d) = dx a (row r) d := by
  pointwise [k0_pay3, k0_pay1, k0_pay44, k0_pay43, k0_pay42, dx, dy, err, xh, NormGrad.ms]
  simp only [h, h7, h8]
  try rfl

/-- A block's share of the fourth result. -/
theorem ls_step (h : ∀ r d, k0_pay39 v0 v252 v258 v261 v268 v273 v276 (ix2 r d) = strm a (row r) d)
    (h7 : ∀ r d, v298 (ix2 r d) = a.Y (ix2 (row r) d)) (h8 : ∀ d, v285 (ix2 0 d) = a.Z (ix2 0 d)) (acc : Vec Ideal S1x1024 .f32) (d : Fin 1024) :
    k0_pay45 (F := Ideal) v0 v252 v258 v261 v268 v273 v276 v285 v298 acc (ix2 0 d)
      = acc (ix2 0 d) + ∑ r, err a (row r) d * err a (row r) d := by
  pointwise [k0_pay45, k0_pay44, k0_pay43, k0_pay42, err, xh, NormGrad.ms]
  simp only [h, h7, h8]
  try rfl

/-- A block's share of the fifth. -/
theorem dgf_step (h : ∀ r d, k0_pay39 v0 v252 v258 v261 v268 v273 v276 (ix2 r d) = strm a (row r) d)
    (h7 : ∀ r d, v298 (ix2 r d) = a.Y (ix2 (row r) d)) (h8 : ∀ d, v285 (ix2 0 d) = a.Z (ix2 0 d)) (acc : Vec Ideal S1x1024 .f32) (d : Fin 1024) :
    k0_pay2 (F := Ideal) (k0_pay43 v0 v252 v258 v261 v268 v273 v276) (k0_pay44 v0 v252 v258 v261 v268 v273 v276 v285 v298) acc (ix2 0 d)
      = acc (ix2 0 d) + ∑ r, dy a (row r) d * xh a (row r) d := by
  pointwise [k0_pay2, k0_pay1, k0_pay44, k0_pay43, k0_pay42, dy, err, xh, NormGrad.ms]
  simp only [h, h7, h8]
  try rfl

end Steps

/-- What a point writes to its block of the first result. -/
theorem block9 (c : Dev nD) (t : Fin cfg0.N) (r : Fin 512) (d : Fin 1024) :
    (outsAt0 m c t.val t.isLt).1 (ix2 r d) = mod (args m c) (tok t r) d := by
  by_cases h : t.val % 16 = 0
  on_goal 1 => rw [outsAt0_A m c t h]
  on_goal 2 => rw [outsAt0_B m c t h]
  all_goals frame_out
  all_goals exact hb_at m c t r d

/-- The first result array. -/
theorem final9 (c : Dev nD) : (dats m 0 c).arrAt 9 (cfgs 0).N = mods (args m c) := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, (ix2_eta y).symm⟩
  refine ((block9 m c t r d).trans (mods_at _ _ _).symm).trans (congrArg (mods (args m c)) (?_ : ix2 (tok t r) d = _))
  unfold tok
  blk_ext [at_point t]

/-- What a point writes to its block of the second result. -/
theorem block10 (c : Dev nD) (t : Fin cfg0.N) (r : Fin 512) (d : Fin 5632) :
    (outsAt0 m c t.val t.isLt).2.1 (ix2 r d) = proj (args m c) (tok t r) d := by
  by_cases h : t.val % 16 = 0
  on_goal 1 => rw [outsAt0_A m c t h]
  on_goal 2 => rw [outsAt0_B m c t h]
  all_goals frame_out
  all_goals canon_tiles x hx
  all_goals
    obtain ⟨a, b, rfl⟩ : ∃ (a : Fin 512) (b : Fin 256), x = ix2 a b := ⟨x 0, x 1, (ix2_eta x).symm⟩
    obtain rfl : r = a := Fin.ext hx0
    pointwise [k0_pay5, k0_pay6, k0_pay8, k0_pay9, k0_pay11, k0_pay12, k0_pay14, k0_pay15, k0_pay17, k0_pay18, k0_pay20, k0_pay21, k0_pay23, k0_pay24, k0_pay26, k0_pay27, k0_pay29, k0_pay30, k0_pay32, k0_pay33, k0_pay35, k0_pay36]
    simp only [hb_at]
    refine Finset.sum_congr rfl fun e _ => congrArg₂ (· * ·) rfl ?_
    exact (read_5 m c t _ e).trans (congrArg (fun q => (args m c).U (ix2 q e)) (Fin.ext hx1.symm))

/-- The second result array. -/
theorem final10 (c : Dev nD) : (dats m 0 c).arrAt 10 (cfgs 0).N = projs (args m c) := by
  refine (dats m 0 c).arrAt_eq_of_covers 10 _ (by decide +kernel) fun t hf y => ?_
  blk_simp
  rw [after0_10]
  obtain ⟨r, d, rfl⟩ : ∃ (r : Fin 512) (d : Fin 5632), y = ix2 r d := ⟨y 0, y 1, (ix2_eta y).symm⟩
  refine ((block10 m c t r d).trans (projs_at _ _ _).symm).trans (congrArg (projs (args m c)) (?_ : ix2 (tok t r) d = _))
  unfold tok
  blk_ext [at_point t]

/-- What a point writes to its block of the third result. -/
theorem block11 (c : Dev nD) (t : Fin cfg0.N) (r : Fin 512) (d : Fin 1024) :
    (outsAt0 m c t.val t.isLt).2.2.1 (ix2 r d) = dx (args m c) (tok t r) d := by
  by_cases h : t.val % 16 = 0
  on_goal 1 => rw [outsAt0_A m c t h]
  on_goal 2 => rw [outsAt0_B m c t h]
  all_goals frame_out
  all_goals exact dx_step (strm_at m c t) (read_7 m c t) (read_8 m c t) r d

/-- The third result array. -/
theorem final11 (c : Dev nD) : (dats m 0 c).arrAt 11 (cfgs 0).N = rows (dx (args m c)) := by
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, (ix2_eta y).symm⟩
  refine ((block11 m c t r d).trans (rows_at _ _ _).symm).trans (congrArg (rows (dx (args m c))) (?_ : ix2 (tok t r) d = _))
  unfold tok
  blk_ext [at_point t]

/-- A block's share of a column sum. -/
def share (f : Fin 8192 → Fin 1024 → EReal) (n : ℕ) (d : Fin 1024) : EReal :=
  if h : n < 16 then ∑ r : Fin 512, f ⟨512 * n + r.val, by omega⟩ d else 0

theorem share_eq (f : Fin 8192 → Fin 1024 → EReal) (t : Fin cfg0.N) (d : Fin 1024) : ∑ r, f (tok t r) d = share f t.val d := by
  rw [share, dif_pos (show t.val < 16 from t.isLt)]; rfl

theorem sum_shares (f : Fin 8192 → Fin 1024 → EReal) (d : Fin 1024) : ∑ p : Fin grid0.N, share f p.val d = ∑ t : Fin 8192, f t d := by
  refine (Finset.sum_congr rfl fun (p : Fin 16) _ => dif_pos p.isLt).trans ?_
  exact Fin.sum_mul_add_congr (f := fun t => f t d) fun s k hl => congrArg (f · d) (Fin.ext (by show 512 * s.val + k.val = s.val * 512 + k.val; omega))

theorem zero_40 (j : S1x1024.Idx) : k0_pay40 (F := Ideal) j = (0 : EReal) := by pointwise [k0_pay40]
theorem zero_41 (j : S1x1024.Idx) : k0_pay41 (F := Ideal) j = (0 : EReal) := by pointwise [k0_pay41]

/-- A token's term of the fourth result: the squared error. -/
def sq (a : Args) (t : Fin 8192) (d : Fin 1024) : EReal := err a t d * err a t d

/-- A token's term of the fifth: the gradient of the last gain. -/
def dgf (a : Args) (t : Fin 8192) (d : Fin 1024) : EReal := dy a t d * xh a t d

theorem first12 (c : Dev nD) (t : Fin cfg0.N) (h : t.val % 16 = 0) (d : Fin 1024) :
    (outsAt0 m c t.val t.isLt).2.2.2.1 (ix2 0 d) = 0 + share (sq (args m c)) t.val d := by
  rw [outsAt0_A m c t h]; frame_out
  refine (ls_step (strm_at m c t) (read_7 m c t) (read_8 m c t) _ d).trans ?_
  rw [zero_40, ← share_eq]
  rfl

theorem next12 (c : Dev nD) (t : Fin cfg0.N) (h : ¬ t.val % 16 = 0) (d : Fin 1024) :
    (outsAt0 m c t.val t.isLt).2.2.2.1 (ix2 0 d) = (outsAt0 m c (t.val - 1) (by have := t.isLt; omega)).2.2.2.1 (ix2 0 d) + share (sq (args m c)) t.val d := by
  rw [outsAt0_B m c t h]; frame_out
  refine (ls_step (strm_at m c t) (read_7 m c t) (read_8 m c t) _ d).trans ?_
  rw [← share_eq]
  rfl

/-- The fourth result array. -/
theorem final12 (c : Dev nD) : (dats m 0 c).arrAt 12 (cfgs 0).N = total (sq (args m c)) := by
  refine (dats m 0 c).arrAt_eq_of_after_last 12 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_12, Pipeline.eq_sum_fin_of_reset_step_apply_last (fun n h (j : Fin 1024) => (outsAt0 m c n h).2.2.2.1 (ix2 0 j)) 16 (fun _ => 0) _
    (first12 m c) (next12 m c) (le_of_eq N_0) t0_15 rfl d, zero_add]
  exact sum_shares _ d

theorem first13 (c : Dev nD) (t : Fin cfg0.N) (h : t.val % 16 = 0) (d : Fin 1024) :
    (outsAt0 m c t.val t.isLt).2.2.2.2 (ix2 0 d) = 0 + share (dgf (args m c)) t.val d := by
  rw [outsAt0_A m c t h]; frame_out
  refine (dgf_step (strm_at m c t) (read_7 m c t) (read_8 m c t) _ d).trans ?_
  rw [zero_41, ← share_eq]
  rfl

theorem next13 (c : Dev nD) (t : Fin cfg0.N) (h : ¬ t.val % 16 = 0) (d : Fin 1024) :
    (outsAt0 m c t.val t.isLt).2.2.2.2 (ix2 0 d) = (outsAt0 m c (t.val - 1) (by have := t.isLt; omega)).2.2.2.2 (ix2 0 d) + share (dgf (args m c)) t.val d := by
  rw [outsAt0_B m c t h]; frame_out
  refine (dgf_step (strm_at m c t) (read_7 m c t) (read_8 m c t) _ d).trans ?_
  rw [← share_eq]
  rfl

/-- The fifth result array. -/
theorem final13 (c : Dev nD) : (dats m 0 c).arrAt 13 (cfgs 0).N = total (dgf (args m c)) := by
  refine (dats m 0 c).arrAt_eq_of_after_last 13 t0_15 (by decide +kernel) _ fun j => ?_
  blk_simp
  obtain ⟨r, d, rfl⟩ : ∃ (r : Fin 1) (d : Fin 1024), j = ix2 r d := ⟨j 0, j 1, (ix2_eta j).symm⟩
  obtain rfl : r = 0 := Subsingleton.elim _ _
  rw [after0_13, Pipeline.eq_sum_fin_of_reset_step_apply_last (fun n h (j : Fin 1024) => (outsAt0 m c n h).2.2.2.2 (ix2 0 j)) 16 (fun _ => 0) _
    (first13 m c) (next13 m c) (le_of_eq N_0) t0_15 rfl d, zero_add]
  exact sum_shares _ d

end Kernel

section Reference

open Cert.Kernel10Ideal Cert.Reference10Ideal.Read

variable (a : Args)

/-- Half the reciprocal width, times twice a number, is the number by the kernel's constant. -/
theorem dy_const (e : EReal) :
    Ideal.div (half * Ideal.ofBits FTy.f32 0x3F800000#32) (Ideal.ofBits FTy.f32 0x44800000#32) * (Ideal.ofBits FTy.f32 0x40000000#32 * e)
      = e * Ideal.ofBits FTy.f32 0x3A800000#32 := by
  have h1 : Ideal.ofBits FTy.f32 0x3F800000#32 = ((1 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have h3 : Ideal.ofBits FTy.f32 0x3A800000#32 = ((1 / 1024 : ℝ) : EReal) := by
    simp [Ideal.ofBits, Ideal.ieee, -EReal.coe_mul]; norm_num
  have hh : half = ((1 / 2 : ℝ) : EReal) := by simp [half, Ideal.ofBits, Ideal.ieee, -EReal.coe_mul]; norm_num
  rw [h1, h2, h3, hh, NormGrad.width, Ideal.div_coe (by norm_num), ← mul_assoc, mul_comm e, ← EReal.coe_mul, ← EReal.coe_mul, ← EReal.coe_mul]
  norm_num

/-- The reference's modulated input. -/
theorem ref_mod (t : Fin 8192) (d : Fin 1024) : val_main_v17 (F := Ideal) a.A a.G a.S a.H (ix2 t d) = mod a t d := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, mod, NormGrad.ms]

/-- Its projection. -/
theorem ref_proj (t : Fin 8192) (n : Fin 5632) : val_main_v20 (F := Ideal) a.A a.G a.S a.H a.U (ix2 t n) = proj a t n := by
  pointwise [val_main_v20, val_main_v19, val_main_v18, proj]
  simp only [ref_mod]

/-- Its hidden feature. -/
theorem ref_act (t : Fin 8192) (k : Fin 2816) : val_main_v26 (F := Ideal) a.A a.G a.S a.H a.U (ix2 t k) = act a t k := by
  rw [act, ← gate_eq]
  pointwise [val_main_v26, val_main_v25, val_main_call0_v5, val_main_call0_v4, val_main_call0_v3, val_main_call0_v2, val_main_call0_v1, val_main_call0_v0, val_main_call0_cst, val_main_call0_cst_0, val_main_v22, val_main_v21]
  simp only [ref_proj]

/-- Its stream after the feed-forward. -/
theorem ref_strm (t : Fin 8192) (d : Fin 1024) : val_main_v31 (F := Ideal) a.A a.G a.S a.H a.R a.U a.W (ix2 t d) = strm a t d := by
  pointwise [val_main_v31, val_main_v30, val_main_v29, val_main_v28, val_main_v27, val_main_v24, val_main_v23, val_main_cst_3, strm]
  simp only [ref_act]

/-- Its mean square. -/
theorem ref_ms (t : Fin 8192) : val_main_v52 (F := Ideal) a.A a.G a.S a.H a.R a.U a.W (ix2 t 0) = NormGrad.ms (strm a t) := by
  pointwise [val_main_v52, val_main_v51, val_main_v50, val_main_v49, val_main_v48, val_main_v47, val_main_v46, val_main_cst_7, val_main_cst_8, val_main_cst_9, NormGrad.ms]
  simp only [ref_strm]

/-- Its last norm, in the loss's value. -/
theorem ref_xh' (t : Fin 8192) (d : Fin 1024) : val_main_v41 (F := Ideal) a.A a.G a.S a.H a.R a.U a.W (ix2 t d) = xh a t d := by
  pointwise [val_main_v41, val_main_v40, val_main_v39, val_main_v38, val_main_v37, val_main_v36, val_main_v35, val_main_v34, val_main_v33, val_main_v32, val_main_cst_4, val_main_cst_5, val_main_cst_6, xh, NormGrad.ms]
  simp only [ref_strm]

/-- Its last norm, in the loss's gradient. -/
theorem ref_xh (t : Fin 8192) (d : Fin 1024) : val_main_v58 (F := Ideal) a.A a.G a.S a.H a.R a.U a.W (ix2 t d) = xh a t d := by
  pointwise [val_main_v58, val_main_v57, val_main_v53, xh]
  simp only [ref_ms, ref_strm]

/-- Its error, in the loss's value. -/
theorem ref_err' (t : Fin 8192) (d : Fin 1024) : val_main_v44 (F := Ideal) a.A a.G a.S a.H a.R a.U a.W a.Y a.Z (ix2 t d) = err a t d := by
  pointwise [val_main_v44, val_main_v43, val_main_v42, err]
  simp only [ref_xh']

/-- Its error, in the loss's gradient. -/
theorem ref_err (t : Fin 8192) (d : Fin 1024) : val_main_v61 (F := Ideal) a.A a.G a.S a.H a.R a.U a.W a.Y a.Z (ix2 t d) = err a t d := by
  pointwise [val_main_v61, val_main_v60, val_main_v59, err]
  simp only [ref_xh]

/-- The cotangent of its last norm. -/
theorem ref_dy (t : Fin 8192) (d : Fin 1024) : val_main_v75 (F := Ideal) a.A a.G a.S a.H a.R a.U a.W a.Y a.Z (ix2 t d) = dy a t d := by
  rw [dy, ← dy_const]
  pointwise [val_main_v75, val_main_v74, val_main_v73, val_main_v72, val_main_v71, val_main_v70, val_main_v64, val_main_v63, val_main_cst_11, val_main_cst_16, val_main_cst_17, val_main_cst_18]
  simp only [ref_err]

/-- The cotangent of its last norm before the gain. -/
theorem ref_dyz (t : Fin 8192) (d : Fin 1024) : val_main_v80 (F := Ideal) a.A a.G a.S a.H a.R a.U a.W a.Y a.Z (ix2 t d) = dy a t d * a.Z (ix2 0 d) := by
  rw [← ref_dy]
  pointwise [val_main_v80, val_main_v79]

/-- The first result of the reference. -/
theorem ref_0 : val_main_v95 (F := Ideal) a.A a.G a.S a.H = mods a := by
  funext i
  obtain ⟨t, d, rfl⟩ : ∃ (t : Fin 8192) (d : Fin 1024), i = ix2 t d := ⟨i 0, i 1, (ix2_eta i).symm⟩
  rw [mods_at, ← ref_mod]
  pointwise [val_main_v95]

/-- The second. -/
theorem ref_1 : val_main_v96 (F := Ideal) a.A a.G a.S a.H a.U = projs a := by
  funext i
  obtain ⟨t, n, rfl⟩ : ∃ (t : Fin 8192) (n : Fin 5632), i = ix2 t n := ⟨i 0, i 1, (ix2_eta i).symm⟩
  rw [projs_at, ← ref_proj]
  pointwise [val_main_v96]

/-- The third. -/
theorem ref_2 : val_main_v94 (F := Ideal) a.A a.G a.S a.H a.R a.U a.W a.Y a.Z = rows (dx a) := by
  funext i
  obtain ⟨t, d, rfl⟩ : ∃ (t : Fin 8192) (d : Fin 1024), i = ix2 t d := ⟨i 0, i 1, (ix2_eta i).symm⟩
  have e := (NormGrad.input (strm a t) (fun e => dy a t e * a.Z (ix2 0 e)) 0 d).symm
  simp only [zero_add] at e
  rw [rows_at]
  refine Eq.trans ?_ e
  pointwise [val_main_v94, val_main_v93, val_main_v92, val_main_v91, val_main_v90, val_main_v89, val_main_v88, val_main_v87, val_main_v86, val_main_v85, val_main_v84, val_main_v83, val_main_v82, val_main_v81, val_main_v53, val_main_v56, val_main_v55, val_main_v54, val_main_cst_10, val_main_cst_20, val_main_cst_21, val_main_cst_22]
  simp only [ref_dyz, ref_strm, Fin.sum_univ_one, Fin.isValue, ref_ms]
  try rfl

/-- The fourth. -/
theorem ref_3 : val_main_v98 (F := Ideal) a.A a.G a.S a.H a.R a.U a.W a.Y a.Z = total (sq a) := by
  funext i
  obtain ⟨z, d, rfl⟩ : ∃ (z : Fin 1) (d : Fin 1024), i = ix2 z d := ⟨i 0, i 1, (ix2_eta i).symm⟩
  pointwise [val_main_v98, val_main_v97, val_main_v45, val_main_cst_23]
  simp only [ref_err']
  rfl

/-- The fifth. -/
theorem ref_4 : val_main_v78 (F := Ideal) a.A a.G a.S a.H a.R a.U a.W a.Y a.Z = total (dgf a) := by
  funext i
  obtain ⟨z, d, rfl⟩ : ∃ (z : Fin 1) (d : Fin 1024), i = ix2 z d := ⟨i 0, i 1, (ix2_eta i).symm⟩
  pointwise [val_main_v78, val_main_v77, val_main_v76, val_main_cst_19]
  simp only [ref_xh, ref_dy]
  exact Finset.sum_congr rfl fun t _ => mul_comm _ _

end Reference

section Pair

open Cert.Reference10Ideal

/-- The arguments as the reference's memory has them. -/
def rargs (m : (ℓ : Loc nD τ sig) → Buf (Elt Ideal) ℓ) (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

end Pair

set_option maxHeartbeats 2000000 in
/-- The tiled kernel and the plain forward lines, on the same arguments, leave the same five results. -/
theorem pair : algebraic_Kernel10Ideal_Reference10Ideal := by
  pair_intro
  · run_from Cert.Kernel10Ideal.Gen.run_main m g
  · refine θ_run_mono (Cert.Reference10Ideal.Value.run m' g') ?_
    intro r hr c
    obtain ⟨h0, h1, h2, h3, h4, rest⟩ := hr c
    obtain ⟨e0, e1, e2, e3, e4, e5, e6, e7, e8⟩ := hagree c
    have e : rargs m' c = args m c := by
      unfold rargs args
      rw [e0, e1, e2, e3, e4, e5, e6, e7, e8]
    refine ⟨h0.trans ?_, h1.trans ?_, h2.trans ?_, h3.trans ?_, h4.trans ?_, rest⟩
    · exact (Cert.Reference10Ideal.Read.val_main_v95_eq (F := Ideal) (StableHlo.launchContents m' c)).trans ((ref_0 (rargs m' c)).trans ((congrArg (mods) e).trans (final9 m c).symm))
    · exact (Cert.Reference10Ideal.Read.val_main_v96_eq (F := Ideal) (StableHlo.launchContents m' c)).trans ((ref_1 (rargs m' c)).trans ((congrArg (projs) e).trans (final10 m c).symm))
    · exact (Cert.Reference10Ideal.Read.val_main_v94_eq (F := Ideal) (StableHlo.launchContents m' c)).trans ((ref_2 (rargs m' c)).trans ((congrArg (fun a => rows (dx a)) e).trans (final11 m c).symm))
    · exact (Cert.Reference10Ideal.Read.val_main_v98_eq (F := Ideal) (StableHlo.launchContents m' c)).trans ((ref_3 (rargs m' c)).trans ((congrArg (fun a => total (sq a)) e).trans (final12 m c).symm))
    · exact (Cert.Reference10Ideal.Read.val_main_v78_eq (F := Ideal) (StableHlo.launchContents m' c)).trans ((ref_4 (rargs m' c)).trans ((congrArg (fun a => total (dgf a)) e).trans (final13 m c).symm))

end Cert.FinalFfn
end
-- ==== Proof.MixInFwd.lean ====
/- The mixer's input projection: the normalised, modulated tokens, their projection to queries, keys, values and gates,
   and the keys turned by their rotary angles. What the tiled kernel leaves in those three result arrays, and the plain
   forward lines' own terms, are the same arrays. -/
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.FrameBody
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixInFwd

section Spec

open Cert.Kernel19Ideal

variable (A : FVec Ideal S8192x1024 .f32) (G S H : FVec Ideal S1x1024 .f32) (W : FVec Ideal S6656x1024 .bf16)

/-- A feature of a token after the norm, its gain, the scale and the shift. -/
def mod (t : Fin 8192) (d : Fin 1024) : EReal :=
  A (ix2 t d) * Ideal.rsqrt (Ideal.div (∑ e : Fin 1024, A (ix2 t e) * A (ix2 t e)) (Ideal.ofBits FTy.f32 0x44800000#32)
    + Ideal.ofBits FTy.f32 0x358637BD#32) * G (ix2 0 d) * (Ideal.ofBits FTy.f32 0x3F800000#32 + S (ix2 0 d)) + H (ix2 0 d)

/-- All of them, as an array. -/
def mods : FVec Ideal S8192x1024 .bf16 := fun i => mod A G S H (i 0) (i 1)

/-- The projection of the modulated input. -/
def proj : FVec Ideal S8192x6656 .bf16 := fun i => ∑ d : Fin 1024, mod A G S H (i 0) d * W (ix2 (i 1) d)

variable (P : FVec Ideal S8192x6656 .bf16) (C R : FVec Ideal S8192x32 .f32)

/-- A key feature of a token turned by its angle: the first half of a head takes the second with a minus, the second half
    the first with a plus. -/
def rope (t : Fin 8192) (n : Fin 256) : EReal :=
  if n.val % 64 < 32 then
    P (ix2 t ⟨4096 + n.val, by omega⟩) * C (ix2 t ⟨n.val % 32, by omega⟩) + P (ix2 t ⟨4128 + n.val, by omega⟩) * -R (ix2 t ⟨n.val % 32, by omega⟩)
  else
    P (ix2 t ⟨4096 + n.val, by omega⟩) * C (ix2 t ⟨n.val % 32, by omega⟩) + P (ix2 t ⟨4064 + n.val, by omega⟩) * R (ix2 t ⟨n.val % 32, by omega⟩)

/-- All the keys, as an array. -/
def ropes : FVec Ideal S8192x256 .bf16 := fun i => rope P C R (i 0) (i 1)

/-- A lane of a group of two heads turned: the lane by its cosine and its partner in the head by its signed sine. -/
def turn (k c s : Fin 128 → EReal) (l : Fin 128) : EReal :=
  k l * c l + (if l.val % 64 < 32 then k ⟨(l.val + 128 - 96) % 128, by omega⟩ else k ⟨(l.val + 128 - 32) % 128, by omega⟩) * s l

/-- The two groups of heads side by side. -/
def turns (k0 k1 c s : Fin 128 → EReal) (n : Fin 256) : EReal :=
  if h : n.val < 128 then turn k0 c s ⟨n.val, h⟩ else turn k1 c s ⟨n.val - 128, by omega⟩

/-- Turning the two groups by the tables laid out over the lanes is turning the keys by their angles. -/
theorem turns_eq {k0 k1 c s : Fin 128 → EReal} {T : Fin 8192} (h0 : ∀ l : Fin 128, k0 l = P (ix2 T ⟨4096 + l.val, by omega⟩))
    (h1 : ∀ l : Fin 128, k1 l = P (ix2 T ⟨4224 + l.val, by omega⟩)) (hc : ∀ l : Fin 128, c l = C (ix2 T ⟨l.val % 32, by omega⟩))
    (hs : ∀ l : Fin 128, s l = if l.val % 64 < 32 then -R (ix2 T ⟨l.val % 32, by omega⟩) else R (ix2 T ⟨l.val % 32, by omega⟩))
    (n : Fin 256) : turns k0 k1 c s n = rope P C R T n := by
  have col {a b : Fin 6656} (e : a.val = b.val) : P (ix2 T a) = P (ix2 T b) := by rw [Fin.ext e]
  have ang {a b : Fin 32} (A : FVec Ideal S8192x32 .f32) (e : a.val = b.val) : A (ix2 T a) = A (ix2 T b) := by rw [Fin.ext e]
  unfold turns rope
  by_cases h : n.val < 128
  · rw [dif_pos h]
    unfold turn
    by_cases g : n.val % 64 < 32
    · simp only [h0, hc, hs, if_pos g]
      exact congrArg₂ (· + ·) rfl (congrArg₂ (· * ·) (col (by dsimp only; omega)) rfl)
    · simp only [h0, hc, hs, if_neg g]
      exact congrArg₂ (· + ·) rfl (congrArg₂ (· * ·) (col (by dsimp only; omega)) rfl)
  · rw [dif_neg h]
    unfold turn
    by_cases g : n.val % 64 < 32
    · have g' : (n.val - 128) % 64 < 32 := by omega
      simp only [h1, hc, hs, if_pos g, if_pos g']
      exact congrArg₂ (· + ·) (congrArg₂ (· * ·) (col (by dsimp only; omega)) (ang C (by dsimp only; omega)))
        (congrArg₂ (· * ·) (col (by dsimp only; omega)) (congrArg Neg.neg (ang R (by dsimp only; omega))))
    · have g' : ¬ (n.val - 128) % 64 < 32 := by omega
      simp only [h1, hc, hs, if_neg g, if_neg g']
      exact congrArg₂ (· + ·) (congrArg₂ (· * ·) (col (by dsimp only; omega)) (ang C (by dsimp only; omega)))
        (congrArg₂ (· * ·) (col (by dsimp only; omega)) (ang R (by dsimp only; omega)))

end Spec

section Kernel

open Cert.Kernel19Ideal Cert.Kernel19Ideal.Gen

variable (m : (ℓ : Loc nD τ sig) → Buf (Elt Ideal) ℓ)

abbrev aA (c : Dev nD) : FVec Ideal S8192x1024 .f32 := m ((c : Thread nD τ).loc main_arg0)
abbrev aG (c : Dev nD) : FVec Ideal S1x1024 .f32 := m ((c : Thread nD τ).loc main_arg1)
abbrev aS (c : Dev nD) : FVec Ideal S1x1024 .f32 := m ((c : Thread nD τ).loc main_arg2)
abbrev aH (c : Dev nD) : FVec Ideal S1x1024 .f32 := m ((c : Thread nD τ).loc main_arg3)
abbrev aW (c : Dev nD) : FVec Ideal S6656x1024 .bf16 := m ((c : Thread nD τ).loc main_arg4)

abbrev aC (c : Dev nD) : FVec Ideal S8192x32 .f32 := m ((c : Thread nD τ).loc main_arg5)
abbrev aR (c : Dev nD) : FVec Ideal S8192x32 .f32 := m ((c : Thread nD τ).loc main_arg6)

/-- The block each window shows at each point. -/
theorem at_point : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_10.index t = ![t.val, 0] :=
  (by decide +kernel : ∀ t : Fin grid0.N, _)

/-- The token of a row of a block. -/
def tok (t : Fin cfg0.N) (r : Fin 512) : Fin 8192 := ⟨512 * t.val + r.val, by have : t.val < 16 := t.isLt; omega⟩

/-- The block of the tokens at a point. -/
theorem read_0 (c : Dev nD) (t : Fin cfg0.N) (r : Fin 512) (d : Fin 1024) : iblk m c 0 t (ix2 r d) = aA m c (ix2 (tok t r) d) := by
  have ht : t.val < 16 := t.isLt
  unfold tok
  blk_point [iblk, V, at_point t]

/-- The block of the gain at a point. -/
theorem read_1 (c : Dev nD) (t : Fin cfg0.N) (d : Fin 1024) : iblk m c 1 t (ix2 0 d) = aG m c (ix2 0 d) := by
  blk_point [iblk, V, at_point t]

/-- The block of the scale at a point. -/
theorem read_2 (c : Dev nD) (t : Fin cfg0.N) (d : Fin 1024) : iblk m c 2 t (ix2 0 d) = aS m c (ix2 0 d) := by
  blk_point [iblk, V, at_point t]

/-- The block of the shift at a point. -/
theorem read_3 (c : Dev nD) (t : Fin cfg0.N) (d : Fin 1024) : iblk m c 3 t (ix2 0 d) = aH m c (ix2 0 d) := by
  blk_point [iblk, V, at_point t]

/-- The block of the weights at a point. -/
theorem read_4 (c : Dev nD) (t : Fin cfg0.N) (n : Fin 6656) (d : Fin 1024) : iblk m c 4 t (ix2 n d) = aW m c (ix2 n d) := by
  blk_point [iblk, V, at_point t]

/-- The cosines laid out over the lanes, as the host leaves them. -/
theorem table_5 (c : Dev nD) (t : Fin 8192) (l : Fin 128) : V m c main_v2 (ix2 t l) = aC m c (ix2 t ⟨l.val % 32, by omega⟩) := by
  simp only [V, hostOps0, List.flatten_cons, List.flatten_nil, List.append_nil]
  after_results
  pointwise []

/-- The signed sines laid out over the lanes. -/
theorem table_6 (c : Dev nD) (t : Fin 8192) (l : Fin 128) : (V m c main_v7 : FVec Ideal S8192x128 .f32) (ix2 t l)
    = if l.val % 64 < 32 then -(aR m c (ix2 t ⟨l.val % 32, by omega⟩) : EReal) else aR m c (ix2 t ⟨l.val % 32, by omega⟩) := by
  have ang {a b : Fin 32} (e : a.val = b.val) : aR m c (ix2 t a) = aR m c (ix2 t b) := by rw [Fin.ext e]
  simp only [V, hostOps0, List.flatten_cons, List.flatten_nil, List.append_nil]
  after_results
  pointwise []
  split_ifs with h
  all_goals first
    | exact congrArg (fun x : EReal => -x) (ang (by show l.val % 64 = l.val % 32; omega))
    | exact ang (by show l.val % 64 - 32 = l.val % 32; omega)

/-- The block of the cosines at a point. -/
theorem read_5 (c : Dev nD) (t : Fin cfg0.N) (r : Fin 512) (l : Fin 128) :
    iblk m c 5 t (ix2 r l) = aC m c (ix2 (tok t r) ⟨l.val % 32, by omega⟩) := by
  have ht : t.val < 16 := t.isLt
  refine Eq.trans ?_ (table_5 m c (tok t r) l)
  generalize hX : V m c main_v2 = X
  unfold tok
  subst hX
  blk_point [iblk, at_point t]

/-- The block of the sines at a point. -/
theorem read_6 (c : Dev nD) (t : Fin cfg0.N) (r : Fin 512) (l : Fin 128) : iblk m c 6 t (ix2 r l)
    = if l.val % 64 < 32 then -(aR m c (ix2 (tok t r) ⟨l.val % 32, by omega⟩) : EReal) else aR m c (ix2 (tok t r) ⟨l.val % 32, by omega⟩) := by
  have ht : t.val < 16 := t.isLt
  refine Eq.trans ?_ (table_6 m c (tok t r) l)
  unfold tok
  blk_point [iblk, at_point t]

/-- The modulated block. -/
theorem hb_at (c : Dev nD) (t : Fin cfg0.N) (r : Fin 512) (d : Fin 1024) :
    k0_pay2 (iblk m c 0 t) (iblk m c 1 t) (iblk m c 2 t) (iblk m c 3 t) (ix2 r d) = mod (aA m c) (aG m c) (aS m c) (aH m c) (tok t r) d := by
  pointwise [k0_pay2, mod]
  simp only [read_0, read_1, read_2, read_3]

/-- What a point writes to its block of the second result. -/
theorem block8 (c : Dev nD) (t : Fin cfg0.N) (r : Fin 512) (n : Fin 6656) :
    (outsAt0 m c t).2.1 (ix2 r n) = proj (aA m c) (aG m c) (aS m c) (aH m c) (aW m c) (ix2 (tok t r) n) := by
  frame_out
  have hb := hb_at m c t
  canon_tiles x hx
  all_goals
    obtain ⟨a, b, rfl⟩ : ∃ (a : Fin 512) (b : Fin 512), x = ix2 a b := ⟨x 0, x 1, (ix2_eta x).symm⟩
    obtain rfl : r = a := Fin.ext hx0
    pointwise [k0_pay1, k0_pay3, k0_pay4, k0_pay11, k0_pay10, k0_pay9, k0_pay8, k0_pay7, k0_pay6, k0_pay5, k0_pay99, k0_pay100, k0_pay101]
    simp only [hb]
    refine Finset.sum_congr rfl fun d _ => congrArg₂ (· * ·) rfl ?_
    exact (read_4 m c t _ d).trans (congrArg (fun q => aW m c (ix2 q d)) (Fin.ext hx1.symm))

/-- What a point writes to its block of the first result. -/
theorem block7 (c : Dev nD) (t : Fin cfg0.N) (r : Fin 512) (d : Fin 1024) :
    (outsAt0 m c t).1 (ix2 r d) = mods (aA m c) (aG m c) (aS m c) (aH m c) (ix2 (tok t r) d) := by
  unfold outsAt0 out0_A_7
  frame_out
  exact hb_at m c t r d

/-- The columns of the keys, as the turning reads them back from the projection just stored. -/
theorem back (c : Dev nD) (t : Fin cfg0.N) (L : List (View.Piece (Elt Ideal) S512x6656 .bf16)) (p q : ℕ) (hp : p + 128 ≤ 512) (hq : 4096 ≤ q) (hq' : q + 128 ≤ 4608)
    (inb : ∀ a, (![p, q] : Fin S512x6656.rank → ℕ) a + (![128, 128] : Fin S512x6656.rank → ℕ) a ≤ S512x6656.size a) (r l : Fin 128) :
    (ms0_8 t).view.readCov (⟨Rect.unit (s := S512x6656) ![0, 4096] ![512, 512] inb_S512x6656_S512x512_0_4096,
        k0_pay11 (k0_pay2 (iblk m c 0 t) (iblk m c 1 t) (iblk m c 2 t) (iblk m c 3 t)) (View.ld (iblk m c 4 t) (Rect.unit ![4096, 0] ![512, 1024] inb_S6656x1024_S512x1024_4096_0))⟩ :: L)
      (Rect.unit (s := S512x6656) ![p, q] ![128, 128] inb).toLoadRect (ix2 r l : S128x128.Idx)
      = proj (aA m c) (aG m c) (aS m c) (aH m c) (aW m c) (ix2 (tok t ⟨p + r.val, by omega⟩) ⟨q + l.val, by omega⟩) := by
  rw [View.readCov_eq_canon']
  have e : (Rect.unit (s := S512x6656) ![p, q] ![128, 128] inb).toLoadRect.idx (ix2 r l : S128x128.Idx)
      = (Rect.unit (s := S512x6656) ![0, 4096] ![512, 512] inb_S512x6656_S512x512_0_4096).emb
        (ix2 (⟨p + r.val, by omega⟩ : Fin 512) (⟨q - 4096 + l.val, by omega⟩ : Fin 512)) := by
    funext a
    refine Fin.ext ?_
    match a with
    | ⟨0, _⟩ => show p + 1 * r.val = 0 + 1 * (p + r.val); omega
    | ⟨1, _⟩ => show q + 1 * l.val = 4096 + 1 * (q - 4096 + l.val); omega
  dsimp only
  rw [e]
  refine (View.canon_cons_emb _ _ _ _).trans ?_
  have hb := hb_at m c t
  pointwise [k0_pay11]
  simp only [hb]
  refine Finset.sum_congr rfl fun d _ => congrArg₂ (· * ·) rfl ?_
  exact (read_4 m c t _ d).trans (congrArg (fun q => aW m c (ix2 q d)) (Fin.ext (by show 4096 + (q - 4096 + l.val) = q + l.val; omega)))

/-- The lanes of the first half of a head. -/
theorem lanes : ∀ l : Fin 128, k0_pay12 (ix2 0 l) = if l.val % 64 < 32 then 1#1 else 0#1 := by
  decide +kernel

/-- The same in every row. -/
theorem lanes_at (r l : Fin 128) : k0_pay12 (ix2 r l) = if l.val % 64 < 32 then 1#1 else 0#1 := lanes l

/-- The choice between a lane's two partners. -/
theorem pick (x y : EReal) (r l : Fin 128) : Scalar.select (k0_pay12 (ix2 r l)) x y = if l.val % 64 < 32 then x else y := by
  rw [lanes_at]
  split_ifs <;> rfl

section Pieces

variable (k0 k1 : Vec Ideal S128x128 .bf16) (c1 s1 : Vec Ideal S128x128 .f32) (r : Fin 128) (n : Fin 256)

/-- The second block of 128 rows the body stores, entry by entry. -/
theorem piece_1 : k0_pay64 k0_pay12 c1 (k0_pay42 s1) k0 k1 (ix2 r n)
    = turns (fun l => k0 (ix2 r l)) (fun l => k1 (ix2 r l)) (fun l => c1 (ix2 r l)) (fun l => s1 (ix2 r l)) n := by
  pointwise [k0_pay64, k0_pay42, turns, turn]
  simp only [pick]

/-- The third block of 128 rows the body stores, entry by entry. -/
theorem piece_2 : k0_pay82 k0_pay12 c1 (k0_pay65 s1) k0 k1 (ix2 r n)
    = turns (fun l => k0 (ix2 r l)) (fun l => k1 (ix2 r l)) (fun l => c1 (ix2 r l)) (fun l => s1 (ix2 r l)) n := by
  pointwise [k0_pay82, k0_pay65, turns, turn]
  simp only [pick]

/-- The fourth block of 128 rows the body stores, entry by entry. -/
theorem piece_3 : k0_pay98 k0_pay12 c1 (k0_pay83 s1) k0 k1 (ix2 r n)
    = turns (fun l => k0 (ix2 r l)) (fun l => k1 (ix2 r l)) (fun l => c1 (ix2 r l)) (fun l => s1 (ix2 r l)) n := by
  pointwise [k0_pay98, k0_pay83, turns, turn]
  simp only [pick]

/-- The first block of 128 rows the body stores, entry by entry. -/
theorem piece_0 : k0_pay41 c1 (k0_pay15 s1) (k0_pay38 k0_pay12 c1 (k0_pay15 s1) k0) (k0_pay39 k1) (k0_pay40 k0_pay12 k1) (ix2 r n)
    = turns (fun l => k0 (ix2 r l)) (fun l => k1 (ix2 r l)) (fun l => c1 (ix2 r l)) (fun l => s1 (ix2 r l)) n := by
  pointwise [k0_pay41, k0_pay38, k0_pay39, k0_pay40, k0_pay15, turns, turn]
  simp only [pick]

end Pieces

/-- The row of a block of 512 that a row of its block of 128 at `o` is. -/
def row (o : ℕ) (ho : o + 128 ≤ 512) (a : Fin 128) : Fin 512 := ⟨o + a.val, by omega⟩

/-- A block of 128 rows of a table, at an index. -/
theorem ld_at (X : Vec Ideal S512x128 .f32) (p : ℕ) (hp : p + 128 ≤ 512)
    (inb : ∀ a, (![p, 0] : Fin S512x128.rank → ℕ) a + (![128, 128] : Fin S512x128.rank → ℕ) a ≤ S512x128.size a) (r l : Fin 128) :
    View.ld (Val := Elt Ideal) (e' := .f32) X (Rect.unit (s := S512x128) ![p, 0] ![128, 128] inb) (ix2 r l : S128x128.Idx) = X (ix2 ⟨p + r.val, by omega⟩ l) := by
  pointwise []

section Quarters

variable {c : Dev nD} {t : Fin cfg0.N} {k0 k1 : Vec Ideal S128x128 .bf16} {c1 s1 : Vec Ideal S128x128 .f32} {o : ℕ} (ho : o + 128 ≤ 512)

/-- A block of 128 rows of the keys, turned, given what the turning reads. -/
theorem quarter (a : Fin 128) (n : Fin 256) (h0 : ∀ l : Fin 128, k0 (ix2 a l) = (proj (aA m c) (aG m c) (aS m c) (aH m c) (aW m c)) (ix2 (tok t (row o ho a)) ⟨4096 + l.val, by omega⟩))
    (h1 : ∀ l : Fin 128, k1 (ix2 a l) = (proj (aA m c) (aG m c) (aS m c) (aH m c) (aW m c)) (ix2 (tok t (row o ho a)) ⟨4224 + l.val, by omega⟩))
    (hc : ∀ l : Fin 128, c1 (ix2 a l) = iblk m c 5 t (ix2 (row o ho a) l)) (hs : ∀ l : Fin 128, s1 (ix2 a l) = iblk m c 6 t (ix2 (row o ho a) l)) :
    turns (fun l => k0 (ix2 a l)) (fun l => k1 (ix2 a l)) (fun l => c1 (ix2 a l)) (fun l => s1 (ix2 a l)) n
      = ropes (proj (aA m c) (aG m c) (aS m c) (aH m c) (aW m c)) (aC m c) (aR m c) (ix2 (tok t (row o ho a)) n) :=
  turns_eq (proj (aA m c) (aG m c) (aS m c) (aH m c) (aW m c)) (aC m c) (aR m c) h0 h1 (fun l => (hc l).trans (read_5 m c t _ l)) (fun l => (hs l).trans (read_6 m c t _ l)) n

end Quarters

/-- What a point writes to its block of the keys: four blocks of 128 rows, each turned on its own. -/
theorem block10 (c : Dev nD) (t : Fin cfg0.N) (r : Fin 512) (n : Fin 256) :
    (outsAt0 m c t).2.2.2 (ix2 r n) = ropes (proj (aA m c) (aG m c) (aS m c) (aH m c) (aW m c)) (aC m c) (aR m c) (ix2 (tok t r) n) := by
  frame_out
  have b := back m c t
  generalize k0_pay11 (k0_pay2 (iblk m c 0 t) (iblk m c 1 t) (iblk m c 2 t) (iblk m c 3 t)) (View.ld (iblk m c 4 t) (Rect.unit ![4096, 0] ![512, 1024] inb_S6656x1024_S512x1024_4096_0)) = hp at b ⊢
  canon_tiles x hx
  all_goals
    obtain ⟨a, d, rfl⟩ : ∃ (a : Fin 128) (d : Fin 256), x = ix2 a d := ⟨x 0, x 1, (ix2_eta x).symm⟩
    obtain rfl : n = d := Fin.ext hx1
  · have e : r = row 384 (by decide) a := Fin.ext (show r.val = 384 + a.val from hx0)
    rw [e]
    exact (piece_3 _ _ _ _ a n).trans (quarter m (by decide) a n (fun l => b _ 384 4096 (by decide) (by decide) (by decide) _ a l)
      (fun l => b _ 384 4224 (by decide) (by decide) (by decide) _ a l) (fun l => ld_at _ 384 (by decide) _ a l) (fun l => ld_at _ 384 (by decide) _ a l))
  · have e : r = row 256 (by decide) a := Fin.ext (show r.val = 256 + a.val from hx0)
    rw [e]
    exact (piece_2 _ _ _ _ a n).trans (quarter m (by decide) a n (fun l => b _ 256 4096 (by decide) (by decide) (by decide) _ a l)
      (fun l => b _ 256 4224 (by decide) (by decide) (by decide) _ a l) (fun l => ld_at _ 256 (by decide) _ a l) (fun l => ld_at _ 256 (by decide) _ a l))
  · have e : r = row 128 (by decide) a := Fin.ext (show r.val = 128 + a.val from hx0)
    rw [e]
    exact (piece_1 _ _ _ _ a n).trans (quarter m (by decide) a n (fun l => b _ 128 4096 (by decide) (by decide) (by decide) _ a l)
      (fun l => b _ 128 4224 (by decide) (by decide) (by decide) _ a l) (fun l => ld_at _ 128 (by decide) _ a l) (fun l => ld_at _ 128 (by decide) _ a l))
  · have e : r = row 0 (by decide) a := Fin.ext (show r.val = 0 + a.val from hx0.trans (Nat.zero_add _).symm)
    rw [e]
    exact (piece_0 _ _ _ _ a n).trans (quarter m (by decide) a n (fun l => b _ 0 4096 (by decide) (by decide) (by decide) _ a l)
      (fun l => b _ 0 4224 (by decide) (by decide) (by decide) _ a l) (fun l => ld_at _ 0 (by decide) _ a l) (fun l => ld_at _ 0 (by decide) _ a l))

/-- The first result array. -/
theorem final7 (c : Dev nD) : (dats m 0 c).arrAt 7 (cfgs 0).N = mods (aA m c) (aG m c) (aS m c) (aH m c) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, (ix2_eta y).symm⟩
  refine (block7 m c t r d).trans (congrArg (mods (aA m c) (aG m c) (aS m c) (aH m c)) ?_)
  unfold tok
  blk_ext [at_point t]

/-- The second result array. -/
theorem final8 (c : Dev nD) : (dats m 0 c).arrAt 8 (cfgs 0).N = proj (aA m c) (aG m c) (aS m c) (aH m c) (aW m c) := by
  refine (dats m 0 c).arrAt_eq_of_covers 8 _ (by decide +kernel) fun t hf y => ?_
  blk_simp
  rw [after0_8]
  obtain ⟨r, d, rfl⟩ : ∃ (r : Fin 512) (d : Fin 6656), y = ix2 r d := ⟨y 0, y 1, (ix2_eta y).symm⟩
  refine (block8 m c t r d).trans (congrArg (proj (aA m c) (aG m c) (aS m c) (aH m c) (aW m c)) ?_)
  unfold tok
  blk_ext [at_point t]

/-- The third result array. -/
theorem final10 (c : Dev nD) : (dats m 0 c).arrAt 10 (cfgs 0).N = ropes (proj (aA m c) (aG m c) (aS m c) (aH m c) (aW m c)) (aC m c) (aR m c) := by
  refine (dats m 0 c).arrAt_eq_of_covers 10 _ (by decide +kernel) fun t hf y => ?_
  blk_simp
  rw [after0_10]
  obtain ⟨r, d, rfl⟩ : ∃ (r : Fin 512) (d : Fin 256), y = ix2 r d := ⟨y 0, y 1, (ix2_eta y).symm⟩
  refine (block10 m c t r d).trans (congrArg (ropes (proj (aA m c) (aG m c) (aS m c) (aH m c) (aW m c)) (aC m c) (aR m c)) ?_)
  unfold tok
  blk_ext [at_point t]

end Kernel

section Reference

open Cert.Kernel19Ideal Cert.Reference19Ideal.Read

variable (A : FVec Ideal S8192x1024 .f32) (G S H : FVec Ideal S1x1024 .f32) (W : FVec Ideal S6656x1024 .bf16) (C R : FVec Ideal S8192x32 .f32)

/-- The reference's modulated input. -/
theorem ref_mod (t : Fin 8192) (d : Fin 1024) : val_main_v17 (F := Ideal) A G S H (ix2 t d) = mod A G S H t d := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, mod]

/-- The first result of the reference. -/
theorem ref_mods : val_main_v38 (F := Ideal) A G S H = mods A G S H := by
  funext i
  obtain ⟨t, d, rfl⟩ : ∃ (t : Fin 8192) (d : Fin 1024), i = ix2 t d := ⟨i 0, i 1, (ix2_eta i).symm⟩
  refine Eq.trans ?_ (ref_mod A G S H t d)
  pointwise [val_main_v38]

/-- The reference's projection. -/
theorem ref_prod (t : Fin 8192) (n : Fin 6656) : val_main_v20 (F := Ideal) A G S H W (ix2 t n) = proj A G S H W (ix2 t n) := by
  pointwise [val_main_v20, val_main_v19, val_main_v18]
  simp only [ref_mod]
  rfl

/-- The second result. -/
theorem ref_proj : val_main_v39 (F := Ideal) A G S H W = proj A G S H W := by
  funext i
  obtain ⟨t, n, rfl⟩ : ∃ (t : Fin 8192) (n : Fin 6656), i = ix2 t n := ⟨i 0, i 1, (ix2_eta i).symm⟩
  refine Eq.trans ?_ (ref_prod A G S H W t n)
  pointwise [val_main_v39]

/-- The third: the keys turned. -/
theorem ref_rope : val_main_v41 (F := Ideal) A G S H W C R = ropes (proj A G S H W) C R := by
  funext i
  obtain ⟨t, n, rfl⟩ : ∃ (t : Fin 8192) (n : Fin 256), i = ix2 t n := ⟨i 0, i 1, (ix2_eta i).symm⟩
  show _ = rope (proj A G S H W) C R t n
  pointwise [val_main_v41, val_main_v40, val_main_v37, val_main_v36, val_main_v35, val_main_v34, val_main_v33, val_main_v32, val_main_v31, val_main_v30, val_main_v29, val_main_v28, val_main_v27, val_main_v26, val_main_v25, val_main_v24, val_main_v23, val_main_v22, val_main_v21]
  simp only [ref_prod]
  generalize proj A G S H W = P
  have col {a b : Fin 6656} (e : a.val = b.val) : P (ix2 t a) = P (ix2 t b) := by rw [Fin.ext e]
  have ang {a b : Fin 32} (A : FVec Ideal S8192x32 .f32) (e : a.val = b.val) : A (ix2 t a) = A (ix2 t b) := by rw [Fin.ext e]
  unfold rope
  by_cases h : n.val % 64 < 32
  · rw [dif_pos h, if_pos h, sub_eq_add_neg, ← mul_neg]
    refine congrArg₂ (· + ·) (congrArg₂ (· * ·) rfl ?_) (congrArg₂ (· * ·) ?_ (congrArg Neg.neg ?_))
    · exact ang C (by dsimp only; omega)
    · exact col (by dsimp only; omega)
    · exact ang R (by dsimp only; omega)
  · refine (dif_neg h).trans (Eq.trans ?_ (if_neg h).symm)
    refine congrArg₂ (· + ·) (congrArg₂ (· * ·) ?_ ?_) (congrArg₂ (· * ·) ?_ ?_)
    · exact col (by dsimp only; omega)
    · exact ang C (by dsimp only; omega)
    · exact col (by dsimp only; omega)
    · exact ang R (by dsimp only; omega)

end Reference

/-- The tiled kernel and the plain forward lines, on the same arguments, leave the same three results. -/
theorem pair : algebraic_Kernel19Ideal_Reference19Ideal := by
  pair_intro
  · run_from Cert.Kernel19Ideal.Gen.run_main m g
  · refine θ_run_mono (Cert.Reference19Ideal.Value.run m' g') ?_
    intro r hr c
    obtain ⟨h0, h1, h2, rest⟩ := hr c
    obtain ⟨e0, e1, e2, e3, e4, e5, e6⟩ := hagree c
    refine ⟨h0.trans ?_, h1.trans ?_, h2.trans ?_, rest⟩
    · refine ((Cert.Reference19Ideal.Read.val_main_v38_eq (F := Ideal) _ _ _ _).trans (ref_mods _ _ _ _)).trans ?_
      rw [e0, e1, e2, e3]
      exact (final7 m c).symm
    · refine ((Cert.Reference19Ideal.Read.val_main_v39_eq (F := Ideal) _ _ _ _ _).trans (ref_proj _ _ _ _ _)).trans ?_
      rw [e0, e1, e2, e3, e4]
      exact (final8 m c).symm
    · refine ((Cert.Reference19Ideal.Read.val_main_v41_eq (F := Ideal) _ _).trans (ref_rope _ _ _ _ _ _ _)).trans ?_
      rw [e0, e1, e2, e3, e4, e5, e6]
      exact (final10 m c).symm

end Cert.MixInFwd
end
-- ==== Proof.SumSmall.lean ====
/- The sums of the small parameters' parts over the eight devices, the loss out of them and one device's columns of the convolution's
   gradient: the kernel adds the eight parts in turn, and the plain lines sum over the devices. -/
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumSmall

section Spec

open Cert.Reference20Ideal Cert.Reference20Ideal.Gen Cert.Reference20Ideal.Read

/-- The sums over the eight devices. -/
def sums (P : FVec Ideal S8x24x1024 .f32) : FVec Ideal S24x1024 .f32 := fun i => ∑ d : Fin 8, P (ix3 d (i 0) (i 1))

/-- The plain lines' sum over the devices. -/
theorem ref_sums (P : FVec Ideal S8x24x1024 .f32) : val_main_v0 (F := Ideal) P = sums P := by
  funext i
  have z : FloatOps.ofBits (F := Ideal) .f32 0x00000000#32 = 0 := Ideal.ofBits_zero_f32
  rw [val_main_v0_apply, val_main_cst_apply, z, zero_add]
  refine Finset.sum_congr rfl fun k _ => congrArg P ?_
  funext a
  match a with
  | ⟨0, _⟩ => rfl
  | ⟨1, _⟩ => rfl
  | ⟨2, _⟩ => rfl

/-- The loss: the squared errors' sum times half of one part in 1024. -/
def loss (P : FVec Ideal S8x24x1024 .f32) : FVec Ideal S_ .f32 :=
  mulf (constant S_ .f32 0x3A000000#32) (val_main_v3 (F := Ideal) P)

/-- One part in 2048. -/
theorem half_mean : FloatOps.ofBits (F := Ideal) .f32 0x3A000000#32 = ((1 / 2048 : ℝ) : EReal) := by
  show Ideal.ofBits .f32 0x3A000000#32 = _
  simp [Ideal.ofBits, Ideal.ieee, -EReal.coe_mul]
  norm_num

/-- One half. -/
theorem half : FloatOps.ofBits (F := Ideal) .f32 0x3F000000#32 = ((1 / 2 : ℝ) : EReal) := by
  show Ideal.ofBits .f32 0x3F000000#32 = _
  simp [Ideal.ofBits, Ideal.ieee, -EReal.coe_mul]
  norm_num

/-- The mean's count. -/
theorem count : FloatOps.ofBits (F := Ideal) .f32 0x44800000#32 = ((1024 : ℝ) : EReal) := by
  show Ideal.ofBits .f32 0x44800000#32 = _
  simp [Ideal.ofBits, Ideal.ieee, -EReal.coe_mul]
  norm_num

/-- Half of a mean over 1024 is the sum times 1/2048. -/
theorem half_of_mean (s : EReal) : ((1 / 2 : ℝ) : EReal) * Ideal.div s ((1024 : ℝ) : EReal) = ((1 / 2048 : ℝ) : EReal) * s := by
  rw [Ideal.div_coe (by norm_num), mul_comm s, ← mul_assoc, ← EReal.coe_mul]
  norm_num

/-- The plain lines' loss. -/
theorem ref_loss (P : FVec Ideal S8x24x1024 .f32) : val_main_v5 (F := Ideal) P = loss P := by
  funext i
  rw [val_main_v5_apply, val_main_v4_apply, val_main_cst_1_apply, val_main_cst_2_apply, half, count]
  refine (half_of_mean _).trans ?_
  show _ = FloatOps.ofBits (F := Ideal) .f32 0x3A000000#32 * _
  rw [half_mean]

end Spec

open Cert.Kernel20Ideal Cert.Kernel20Ideal.Gen

variable (m : (ℓ : Loc nD τ sig) → Buf (Elt Ideal) ℓ)

abbrev aP (c : Dev nD) : FVec Ideal S8x24x1024 .f32 := m ((c : Thread nD τ).loc main_arg0)

/-- The one point shows the whole arrays. -/
theorem at_point : ∀ t : Fin cfg0.N, win0_0.index t = ![0, 0, 0] ∧ win0_1.index t = ![0, 0] :=
  (by decide +kernel : ∀ t : Fin grid0.N, _)

/-- The input's block, read. -/
theorem read_0 (c : Dev nD) (t : Fin cfg0.N) (q : Fin 8) (r : Fin 24) (k : Fin 1024) : iblk m c 0 t (ix3 q r k) = aP m c (ix3 q r k) := by
  blk_point [iblk, V, at_point t]

/-- The body's sum. -/
theorem block1 (c : Dev nD) (t : Fin cfg0.N) (r : Fin 24) (k : Fin 1024) : out0_1 (iblk m c 0 t) (ix2 r k) = sums (aP m c) (ix2 r k) := by
  frame_out
  rw [sums, Fin.sum_univ_eight]
  pointwise [k0_pay1]
  iterate 7 refine congrArg₂ (· + ·) ?_ (read_0 m c t _ r k)
  exact read_0 m c t 0 r k

/-- The windows' arrays are different ones. -/
theorem arrays : Function.Injective (Pipeline.arrRef (cfgs 0).spec) := by
  intro a b h
  revert a b
  decide

/-- The sums' array. -/
theorem final1 (c : Dev nD) : (dats m 0 c).arrAt 1 (cfgs 0).N = sums (aP m c) := by
  refine (dats m 0 c).arrAt_eq_of_covers 1 _ (by decide +kernel) fun t hf y => ?_
  blk_simp
  rw [after0_1]
  obtain ⟨r, k, rfl⟩ : ∃ (r : Fin 24) (k : Fin 1024), y = ix2 r k := ⟨y 0, y 1, (ix2_eta y).symm⟩
  refine (block1 m c t r k).trans (congrArg (sums (aP m c)) ?_)
  blk_ext [at_point t]

/-- The sums as the lines after the call find them. -/
theorem kept (c : Dev nD) : Pipeline.withArrays (cfgs 0).spec c (V0 m c) (fun w => (dats m 0 c).arrAt w (cfgs 0).N) (Proc.devRef .tc main_v0)
    = Cert.Reference20Ideal.Read.val_main_v0 (F := Ideal) (aP m c) :=
  (Pipeline.withArrays_arr _ arrays c _ _ 1).trans ((final1 m c).trans (ref_sums _).symm)

/-- The device's number as the lines after the call find it. -/
theorem kept_arg (c : Dev nD) : Pipeline.withArrays (cfgs 0).spec c (V0 m c) (fun w => (dats m 0 c).arrAt w (cfgs 0).N) (Proc.devRef .tc main_arg1)
    = m ((c : Thread nD τ).loc main_arg1) :=
  (Pipeline.withArrays_of_ne _ c (V0 m c) _ main_arg1 (by exact (by decide : ∀ w, Pipeline.arrRef spec0 w ≠ main_arg1))).trans (V_main_arg1 m c)

/-- The loss, computed from the sums. -/
theorem tail4 (c : Dev nD) : Pipeline.afterTail₀ cfgs (dats m) 0 (V0 m) [hostOps1] c main_v4 = loss (aP m c) := by
  unfold Pipeline.afterTail₀
  simp only [hostOps1, List.flatten_cons, List.flatten_nil, List.append_nil]
  after_results
  rw [kept]
  rfl

/-- The first row the slice takes. -/
theorem start0 (c : Dev nD) : Pipeline.afterTail₀ cfgs (dats m) 0 (V0 m) [hostOps1.take 14] c main_c_3
    = Cert.Reference20Ideal.Read.val_main_c_5 (F := Ideal) := by
  unfold Pipeline.afterTail₀
  simp only [hostOps1, List.take, List.flatten_cons, List.flatten_nil, List.append_nil]
  after_results
  rfl

/-- The first column the slice takes. -/
theorem start1 (c : Dev nD) : Pipeline.afterTail₀ cfgs (dats m) 0 (V0 m) [hostOps1.take 14] c main_v8
    = Cert.Reference20Ideal.Read.val_main_v9 (F := Ideal) (m ((c : Thread nD τ).loc main_arg1)) := by
  unfold Pipeline.afterTail₀
  simp only [hostOps1, List.take, List.flatten_cons, List.flatten_nil, List.append_nil]
  after_results
  rw [kept_arg]
  rfl

/-- One device's columns of the convolution's gradient. -/
theorem tail9 (c : Dev nD) : Pipeline.afterTail₀ cfgs (dats m) 0 (V0 m) [hostOps1] c main_v9
    = Cert.Reference20Ideal.Read.val_main_v10 (F := Ideal) (aP m c) (m ((c : Thread nD τ).loc main_arg1)) := by
  unfold Pipeline.afterTail₀
  simp only [hostOps1, List.flatten_cons, List.flatten_nil, List.append_nil]
  after_results
  rw [kept]
  refine congrArg (fun o => Host.dynamicSlice S3x128 (Cert.Reference20Ideal.Read.val_main_v0 (F := Ideal) (aP m c)) o sliceFits_S24x1024_S3x128)
    (funext fun k => ?_)
  match k with
  | ⟨0, _⟩ => exact congrArg BitVec.toInt (congrFun (start0 m c) (Shape.Idx.first h_S_))
  | ⟨1, _⟩ => exact congrArg BitVec.toInt (congrFun (start1 m c) (Shape.Idx.first h_S_))

/-- The kernel's three results are the plain lines'. -/
theorem pair : algebraic_Kernel20Ideal_Reference20Ideal := by
  pair_intro
  · run_from Cert.Kernel20Ideal.Gen.run_main m g
    · exact Cert.Kernel20Ideal.Gen.W_main_arg1 m (Cert.Kernel20Ideal.Gen.dats m) c
  · refine θ_run_mono (Cert.Reference20Ideal.Value.run m' g') ?_
    intro r hr c
    obtain ⟨h0, h1, h2, rest⟩ := hr c
    obtain ⟨e0, e1⟩ := hagree c
    refine ⟨h0.trans ?_, h1.trans ?_, h2.trans ?_, rest⟩
    · refine ((Cert.Reference20Ideal.Read.val_main_v5_eq (F := Ideal) _).trans (ref_loss _)).trans ?_
      simp only [e0]
      exact (tail4 m c).symm
    · refine ((Cert.Reference20Ideal.Read.val_main_v0_eq (F := Ideal) _).trans (ref_sums _)).trans ?_
      simp only [e0]
      exact (final1 m c).symm
    · refine (Cert.Reference20Ideal.Read.val_main_v10_eq (F := Ideal) _ _).trans ?_
      simp only [e0, e1]
      exact (tail9 m c).symm

end Cert.SumSmall
end
-- ==== Proof.AdamSmallRun.lean ====
/- The optimiser's step of the small parameters, as a run: what the body leaves in each of its results' buffers, the body's triple, and the run of the call and its frame. -/
module

public import proofs.«01_k».proof.Defs
public import proofs.«01_k».proof.Proof.Gen.Kernel21Ideal.Launch
public import proofs.«01_k».proof.Proof.Gen.Kernel21Ideal.Skeleton
public import proofs.«01_k».proof.Proof.Gen.Kernel21Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.Kernel21Ideal Cert.Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- What window `w` shows at point `t`, of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pieces the body reads and writes -/

abbrev piece0 : Rect S24x1024 := Rect.unit (s := S24x1024) ![0, 0] S1x1024.size inb_S24x1024_S1x1024_0_0
abbrev piece1 : Rect S24x1024 := Rect.unit (s := S24x1024) ![1, 0] S1x1024.size inb_S24x1024_S1x1024_1_0
abbrev piece2 : Rect S24x1024 := Rect.unit (s := S24x1024) ![2, 0] S1x1024.size inb_S24x1024_S1x1024_2_0
abbrev piece3 : Rect S24x1024 := Rect.unit (s := S24x1024) ![3, 0] S1x1024.size inb_S24x1024_S1x1024_3_0
abbrev piece4 : Rect S24x1024 := Rect.unit (s := S24x1024) ![4, 0] S1x1024.size inb_S24x1024_S1x1024_4_0
abbrev piece5 : Rect S24x1024 := Rect.unit (s := S24x1024) ![5, 0] S1x1024.size inb_S24x1024_S1x1024_5_0
abbrev piece6 : Rect S24x1024 := Rect.unit (s := S24x1024) ![6, 0] S1x1024.size inb_S24x1024_S1x1024_6_0
abbrev piece7 : Rect S24x1024 := Rect.unit (s := S24x1024) ![7, 0] S1x1024.size inb_S24x1024_S1x1024_7_0
abbrev piece8 : Rect S24x1024 := Rect.unit (s := S24x1024) ![8, 0] S1x1024.size inb_S24x1024_S1x1024_8_0
abbrev piece9 : Rect S1x9216 := Rect.unit (s := S1x9216) ![0, 0] S1x1024.size inb_S1x9216_S1x1024_0_0
abbrev piece10 : Rect S1x9216 := Rect.unit (s := S1x9216) ![0, 1024] S1x1024.size inb_S1x9216_S1x1024_0_1024
abbrev piece11 : Rect S1x9216 := Rect.unit (s := S1x9216) ![0, 2048] S1x1024.size inb_S1x9216_S1x1024_0_2048
abbrev piece12 : Rect S1x9216 := Rect.unit (s := S1x9216) ![0, 3072] S1x1024.size inb_S1x9216_S1x1024_0_3072
abbrev piece13 : Rect S1x9216 := Rect.unit (s := S1x9216) ![0, 4096] S1x1024.size inb_S1x9216_S1x1024_0_4096
abbrev piece14 : Rect S1x9216 := Rect.unit (s := S1x9216) ![0, 5120] S1x1024.size inb_S1x9216_S1x1024_0_5120
abbrev piece15 : Rect S1x9216 := Rect.unit (s := S1x9216) ![0, 6144] S1x1024.size inb_S1x9216_S1x1024_0_6144
abbrev piece16 : Rect S1x9216 := Rect.unit (s := S1x9216) ![0, 7168] S1x1024.size inb_S1x9216_S1x1024_0_7168
abbrev piece17 : Rect S1x9216 := Rect.unit (s := S1x9216) ![0, 8192] S1x1024.size inb_S1x9216_S1x1024_0_8192
abbrev piece18 : Rect S24x1024 := Rect.unit (s := S24x1024) ![9, 0] S1x1024.size inb_S24x1024_S1x1024_9_0
abbrev piece19 : Rect S1x1024 := Rect.unit (s := S1x1024) ![0, 0] S1x1024.size inb_S1x1024_S1x1024_0_0
abbrev piece20 : Rect S24x1024 := Rect.unit (s := S24x1024) ![10, 0] S1x1024.size inb_S24x1024_S1x1024_10_0
abbrev piece21 : Rect S24x1024 := Rect.unit (s := S24x1024) ![11, 0] S1x1024.size inb_S24x1024_S1x1024_11_0
abbrev piece22 : Rect S24x1024 := Rect.unit (s := S24x1024) ![12, 0] S1x1024.size inb_S24x1024_S1x1024_12_0
abbrev piece23 : Rect S3x128 := Rect.unit (s := S3x128) ![0, 0] S3x128.size inb_S3x128_S3x128_0_0
abbrev piece24 : Rect S24x1024 := Rect.unit (s := S24x1024) ![16, 0] S1x16.size inb_S24x1024_S1x16_16_0
abbrev piece25 : Rect S1x16 := Rect.unit (s := S1x16) ![0, 0] S1x16.size inb_S1x16_S1x16_0_0

/-- The nine column pieces cover the modulation's row. -/
theorem cover_nine (p0 p1 p2 p3 p4 p5 p6 p7 p8 : Vec F S1x1024 .f32) (y : S1x9216.Idx) :
    ∃ pc ∈ ([⟨piece17, p0⟩, ⟨piece16, p1⟩, ⟨piece15, p2⟩, ⟨piece14, p3⟩, ⟨piece13, p4⟩, ⟨piece12, p5⟩, ⟨piece11, p6⟩, ⟨piece10, p7⟩,
      ⟨piece9, p8⟩] : List (View.Piece (Elt F) S1x9216 .f32)), y ∈ pc.1.set :=
  View.cover_of_tiled [⟨piece17, p0⟩, ⟨piece16, p1⟩, ⟨piece15, p2⟩, ⟨piece14, p3⟩, ⟨piece13, p4⟩, ⟨piece12, p5⟩, ⟨piece11, p6⟩,
    ⟨piece10, p7⟩, ⟨piece9, p8⟩] S1x1024.size (by rfl) y

/-- The one piece covers a gain's row. -/
theorem cover_row (p0 : Vec F S1x1024 .f32) (y : S1x1024.Idx) :
    ∃ pc ∈ ([⟨piece19, p0⟩] : List (View.Piece (Elt F) S1x1024 .f32)), y ∈ pc.1.set :=
  View.cover_of_tiled [⟨piece19, p0⟩] S1x1024.size (by rfl) y

/-- The one piece covers the convolution's taps. -/
theorem cover_taps (p0 : Vec F S3x128 .f32) (y : S3x128.Idx) :
    ∃ pc ∈ ([⟨piece23, p0⟩] : List (View.Piece (Elt F) S3x128 .f32)), y ∈ pc.1.set :=
  View.cover_of_tiled [⟨piece23, p0⟩] S3x128.size (by rfl) y

/-- The one piece covers the sinks. -/
theorem cover_sinks (p0 : Vec F S1x16 .f32) (y : S1x16.Idx) :
    ∃ pc ∈ ([⟨piece25, p0⟩] : List (View.Piece (Elt F) S1x16 .f32)), y ∈ pc.1.set :=
  View.cover_of_tiled [⟨piece25, p0⟩] S1x16.size (by rfl) y

/-! ## What the body leaves in each result's buffer, of the arguments it depends on (four groups of seven: gradients, updates, first moments, second moments) -/

def o23 (x0 : Vec F S24x1024 .f32) : Vec F S1x9216 .f32 :=
  View.canon [⟨piece17, View.ld x0 piece8⟩,
    ⟨piece16, View.ld x0 piece7⟩,
    ⟨piece15, View.ld x0 piece6⟩,
    ⟨piece14, View.ld x0 piece5⟩,
    ⟨piece13, View.ld x0 piece4⟩,
    ⟨piece12, View.ld x0 piece3⟩,
    ⟨piece11, View.ld x0 piece2⟩,
    ⟨piece10, View.ld x0 piece1⟩,
    ⟨piece9, View.ld x0 piece0⟩]
def o24 (x0 : Vec F S24x1024 .f32) : Vec F S1x1024 .f32 :=
  View.canon [⟨piece19, View.ld x0 piece18⟩]
def o25 (x0 : Vec F S24x1024 .f32) : Vec F S1x1024 .f32 :=
  View.canon [⟨piece19, View.ld x0 piece20⟩]
def o26 (x0 : Vec F S24x1024 .f32) : Vec F S1x1024 .f32 :=
  View.canon [⟨piece19, View.ld x0 piece21⟩]
def o27 (x0 : Vec F S24x1024 .f32) : Vec F S1x1024 .f32 :=
  View.canon [⟨piece19, View.ld x0 piece22⟩]
def o28 (x1 : Vec F S3x128 .f32) : Vec F S3x128 .f32 :=
  View.canon [⟨piece23, View.ld x1 piece23⟩]
def o29 (x0 : Vec F S24x1024 .f32) : Vec F S1x16 .f32 :=
  View.canon [⟨piece25, View.ld x0 piece24⟩]
def o30 (x0 : Vec F S24x1024 .f32) (x2 : Vec F S1x9216 .f32) (x9 : Vec F S1x9216 .f32) (x16 : Vec F S1x9216 .f32) : Vec F S1x9216 .f32 :=
  View.canon [⟨piece17, k0_pay36 (View.ld x0 piece8) (View.ld x2 piece17) (View.ld x9 piece17) (View.ld x16 piece17)⟩,
    ⟨piece16, k0_pay33 (View.ld x0 piece7) (View.ld x2 piece16) (View.ld x9 piece16) (View.ld x16 piece16)⟩,
    ⟨piece15, k0_pay30 (View.ld x0 piece6) (View.ld x2 piece15) (View.ld x9 piece15) (View.ld x16 piece15)⟩,
    ⟨piece14, k0_pay27 (View.ld x0 piece5) (View.ld x2 piece14) (View.ld x9 piece14) (View.ld x16 piece14)⟩,
    ⟨piece13, k0_pay24 (k0_pay22 (View.ld x0 piece4) (View.ld x2 piece13) (View.ld x9 piece13) (View.ld x16 piece13)) (k0_pay23 (F := F))⟩,
    ⟨piece12, k0_pay19 (k0_pay18 (View.ld x0 piece3) (View.ld x2 piece12) (View.ld x9 piece12) (View.ld x16 piece12))⟩,
    ⟨piece11, k0_pay15 (View.ld x2 piece11) (k0_pay13 (View.ld x0 piece2) (View.ld x9 piece11) (View.ld x16 piece11)) (k0_pay14 (F := F))⟩,
    ⟨piece10, k0_pay10 (View.ld x2 piece10) (k0_pay9 (View.ld x0 piece1) (View.ld x9 piece10) (View.ld x16 piece10))⟩,
    ⟨piece9, k0_pay6 (View.ld x2 piece9) (k0_pay3 (View.ld x0 piece0) (View.ld x9 piece9)) (k0_pay4 (View.ld x0 piece0) (View.ld x16 piece9)) (k0_pay5 (F := F))⟩]
def o31 (x0 : Vec F S24x1024 .f32) (x3 : Vec F S1x1024 .f32) (x10 : Vec F S1x1024 .f32) (x17 : Vec F S1x1024 .f32) : Vec F S1x1024 .f32 :=
  View.canon [⟨piece19, k0_pay39 (View.ld x0 piece18) (View.ld x3 piece19) (View.ld x10 piece19) (View.ld x17 piece19)⟩]
def o32 (x0 : Vec F S24x1024 .f32) (x4 : Vec F S1x1024 .f32) (x11 : Vec F S1x1024 .f32) (x18 : Vec F S1x1024 .f32) : Vec F S1x1024 .f32 :=
  View.canon [⟨piece19, k0_pay42 (View.ld x0 piece20) (View.ld x4 piece19) (View.ld x11 piece19) (View.ld x18 piece19)⟩]
def o33 (x0 : Vec F S24x1024 .f32) (x5 : Vec F S1x1024 .f32) (x12 : Vec F S1x1024 .f32) (x19 : Vec F S1x1024 .f32) : Vec F S1x1024 .f32 :=
  View.canon [⟨piece19, k0_pay45 (View.ld x0 piece21) (View.ld x5 piece19) (View.ld x12 piece19) (View.ld x19 piece19)⟩]
def o34 (x0 : Vec F S24x1024 .f32) (x6 : Vec F S1x1024 .f32) (x13 : Vec F S1x1024 .f32) (x20 : Vec F S1x1024 .f32) : Vec F S1x1024 .f32 :=
  View.canon [⟨piece19, k0_pay48 (View.ld x0 piece22) (View.ld x6 piece19) (View.ld x13 piece19) (View.ld x20 piece19)⟩]
def o35 (x1 : Vec F S3x128 .f32) (x7 : Vec F S3x128 .f32) (x14 : Vec F S3x128 .f32) (x21 : Vec F S3x128 .f32) : Vec F S3x128 .f32 :=
  View.canon [⟨piece23, k0_pay51 (View.ld x1 piece23) (View.ld x7 piece23) (View.ld x14 piece23) (View.ld x21 piece23)⟩]
def o36 (x0 : Vec F S24x1024 .f32) (x8 : Vec F S1x16 .f32) (x15 : Vec F S1x16 .f32) (x22 : Vec F S1x16 .f32) : Vec F S1x16 .f32 :=
  View.canon [⟨piece25, k0_pay54 (View.ld x0 piece24) (View.ld x8 piece25) (View.ld x15 piece25) (View.ld x22 piece25)⟩]
def o37 (x0 : Vec F S24x1024 .f32) (x9 : Vec F S1x9216 .f32) : Vec F S1x9216 .f32 :=
  View.canon [⟨piece17, k0_pay34 (View.ld x0 piece8) (View.ld x9 piece17)⟩,
    ⟨piece16, k0_pay31 (View.ld x0 piece7) (View.ld x9 piece16)⟩,
    ⟨piece15, k0_pay28 (View.ld x0 piece6) (View.ld x9 piece15)⟩,
    ⟨piece14, k0_pay25 (View.ld x0 piece5) (View.ld x9 piece14)⟩,
    ⟨piece13, k0_pay20 (View.ld x0 piece4) (View.ld x9 piece13)⟩,
    ⟨piece12, k0_pay16 (View.ld x0 piece3) (View.ld x9 piece12)⟩,
    ⟨piece11, k0_pay11 (View.ld x0 piece2) (View.ld x9 piece11)⟩,
    ⟨piece10, k0_pay7 (View.ld x0 piece1) (View.ld x9 piece10)⟩,
    ⟨piece9, k0_pay1 (View.ld x0 piece0) (View.ld x9 piece9)⟩]
def o38 (x0 : Vec F S24x1024 .f32) (x10 : Vec F S1x1024 .f32) : Vec F S1x1024 .f32 :=
  View.canon [⟨piece19, k0_pay37 (View.ld x0 piece18) (View.ld x10 piece19)⟩]
def o39 (x0 : Vec F S24x1024 .f32) (x11 : Vec F S1x1024 .f32) : Vec F S1x1024 .f32 :=
  View.canon [⟨piece19, k0_pay40 (View.ld x0 piece20) (View.ld x11 piece19)⟩]
def o40 (x0 : Vec F S24x1024 .f32) (x12 : Vec F S1x1024 .f32) : Vec F S1x1024 .f32 :=
  View.canon [⟨piece19, k0_pay43 (View.ld x0 piece21) (View.ld x12 piece19)⟩]
def o41 (x0 : Vec F S24x1024 .f32) (x13 : Vec F S1x1024 .f32) : Vec F S1x1024 .f32 :=
  View.canon [⟨piece19, k0_pay46 (View.ld x0 piece22) (View.ld x13 piece19)⟩]
def o42 (x1 : Vec F S3x128 .f32) (x14 : Vec F S3x128 .f32) : Vec F S3x128 .f32 :=
  View.canon [⟨piece23, k0_pay49 (View.ld x1 piece23) (View.ld x14 piece23)⟩]
def o43 (x0 : Vec F S24x1024 .f32) (x15 : Vec F S1x16 .f32) : Vec F S1x16 .f32 :=
  View.canon [⟨piece25, k0_pay52 (View.ld x0 piece24) (View.ld x15 piece25)⟩]
def o44 (x0 : Vec F S24x1024 .f32) (x16 : Vec F S1x9216 .f32) : Vec F S1x9216 .f32 :=
  View.canon [⟨piece17, k0_pay35 (View.ld x0 piece8) (View.ld x16 piece17)⟩,
    ⟨piece16, k0_pay32 (View.ld x0 piece7) (View.ld x16 piece16)⟩,
    ⟨piece15, k0_pay29 (View.ld x0 piece6) (View.ld x16 piece15)⟩,
    ⟨piece14, k0_pay26 (View.ld x0 piece5) (View.ld x16 piece14)⟩,
    ⟨piece13, k0_pay21 (View.ld x0 piece4) (View.ld x16 piece13)⟩,
    ⟨piece12, k0_pay17 (View.ld x0 piece3) (View.ld x16 piece12)⟩,
    ⟨piece11, k0_pay12 (View.ld x0 piece2) (View.ld x16 piece11)⟩,
    ⟨piece10, k0_pay8 (View.ld x0 piece1) (View.ld x16 piece10)⟩,
    ⟨piece9, k0_pay2 (View.ld x0 piece0) (View.ld x16 piece9)⟩]
def o45 (x0 : Vec F S24x1024 .f32) (x17 : Vec F S1x1024 .f32) : Vec F S1x1024 .f32 :=
  View.canon [⟨piece19, k0_pay38 (View.ld x0 piece18) (View.ld x17 piece19)⟩]
def o46 (x0 : Vec F S24x1024 .f32) (x18 : Vec F S1x1024 .f32) : Vec F S1x1024 .f32 :=
  View.canon [⟨piece19, k0_pay41 (View.ld x0 piece20) (View.ld x18 piece19)⟩]
def o47 (x0 : Vec F S24x1024 .f32) (x19 : Vec F S1x1024 .f32) : Vec F S1x1024 .f32 :=
  View.canon [⟨piece19, k0_pay44 (View.ld x0 piece21) (View.ld x19 piece19)⟩]
def o48 (x0 : Vec F S24x1024 .f32) (x20 : Vec F S1x1024 .f32) : Vec F S1x1024 .f32 :=
  View.canon [⟨piece19, k0_pay47 (View.ld x0 piece22) (View.ld x20 piece19)⟩]
def o49 (x1 : Vec F S3x128 .f32) (x21 : Vec F S3x128 .f32) : Vec F S3x128 .f32 :=
  View.canon [⟨piece23, k0_pay50 (View.ld x1 piece23) (View.ld x21 piece23)⟩]
def o50 (x0 : Vec F S24x1024 .f32) (x22 : Vec F S1x16 .f32) : Vec F S1x16 .f32 :=
  View.canon [⟨piece25, k0_pay53 (View.ld x0 piece24) (View.ld x22 piece25)⟩]

/-! ## The body's triple -/

set_option maxHeartbeats 1000000 in
/-- The body, on whole buffers holding the arguments' blocks, ends with those as they were and each result's buffer at what the definitions above say. -/
theorem sound_kernel (c : Dev nD) (E : Set ℕ) (arg0 : Memref sig .tc .vmem S24x1024 .f32) (harg0 : arg0.IsWhole) (arg1 : Memref sig .tc .vmem S3x128 .f32) (harg1 : arg1.IsWhole) (arg2 : Memref sig .tc .vmem S1x9216 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x128 .f32) (harg7 : arg7.IsWhole) (arg8 : Memref sig .tc .vmem S1x16 .f32) (harg8 : arg8.IsWhole) (arg9 : Memref sig .tc .vmem S1x9216 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S3x128 .f32) (harg14 : arg14.IsWhole) (arg15 : Memref sig .tc .vmem S1x16 .f32) (harg15 : arg15.IsWhole) (arg16 : Memref sig .tc .vmem S1x9216 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S3x128 .f32) (harg21 : arg21.IsWhole) (arg22 : Memref sig .tc .vmem S1x16 .f32) (harg22 : arg22.IsWhole) (arg23 : Memref sig .tc .vmem S1x9216 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S3x128 .f32) (harg28 : arg28.IsWhole) (arg29 : Memref sig .tc .vmem S1x16 .f32) (harg29 : arg29.IsWhole) (arg30 : Memref sig .tc .vmem S1x9216 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S3x128 .f32) (harg35 : arg35.IsWhole) (arg36 : Memref sig .tc .vmem S1x16 .f32) (harg36 : arg36.IsWhole) (arg37 : Memref sig .tc .vmem S1x9216 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S3x128 .f32) (harg42 : arg42.IsWhole) (arg43 : Memref sig .tc .vmem S1x16 .f32) (harg43 : arg43.IsWhole) (arg44 : Memref sig .tc .vmem S1x9216 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x1024 .f32) (harg48 : arg48.IsWhole) (arg49 : Memref sig .tc .vmem S3x128 .f32) (harg49 : arg49.IsWhole) (arg50 : Memref sig .tc .vmem S1x16 .f32) (harg50 : arg50.IsWhole)
    (x0 : Vec F S24x1024 .f32) (x1 : Vec F S3x128 .f32) (x2 : Vec F S1x9216 .f32) (x3 : Vec F S1x1024 .f32) (x4 : Vec F S1x1024 .f32) (x5 : Vec F S1x1024 .f32) (x6 : Vec F S1x1024 .f32) (x7 : Vec F S3x128 .f32) (x8 : Vec F S1x16 .f32) (x9 : Vec F S1x9216 .f32) (x10 : Vec F S1x1024 .f32) (x11 : Vec F S1x1024 .f32) (x12 : Vec F S1x1024 .f32) (x13 : Vec F S1x1024 .f32) (x14 : Vec F S3x128 .f32) (x15 : Vec F S1x16 .f32) (x16 : Vec F S1x9216 .f32) (x17 : Vec F S1x1024 .f32) (x18 : Vec F S1x1024 .f32) (x19 : Vec F S1x1024 .f32) (x20 : Vec F S1x1024 .f32) (x21 : Vec F S3x128 .f32) (x22 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (o23 x0) ∗ owns (c : Thread nD τ) arg24 fullShare (o24 x0) ∗ owns (c : Thread nD τ) arg25 fullShare (o25 x0) ∗ owns (c : Thread nD τ) arg26 fullShare (o26 x0) ∗ owns (c : Thread nD τ) arg27 fullShare (o27 x0) ∗ owns (c : Thread nD τ) arg28 fullShare (o28 x1) ∗ owns (c : Thread nD τ) arg29 fullShare (o29 x0) ∗ owns (c : Thread nD τ) arg30 fullShare (o30 x0 x2 x9 x16) ∗ owns (c : Thread nD τ) arg31 fullShare (o31 x0 x3 x10 x17) ∗ owns (c : Thread nD τ) arg32 fullShare (o32 x0 x4 x11 x18) ∗ owns (c : Thread nD τ) arg33 fullShare (o33 x0 x5 x12 x19) ∗ owns (c : Thread nD τ) arg34 fullShare (o34 x0 x6 x13 x20) ∗ owns (c : Thread nD τ) arg35 fullShare (o35 x1 x7 x14 x21) ∗ owns (c : Thread nD τ) arg36 fullShare (o36 x0 x8 x15 x22) ∗ owns (c : Thread nD τ) arg37 fullShare (o37 x0 x9) ∗ owns (c : Thread nD τ) arg38 fullShare (o38 x0 x10) ∗ owns (c : Thread nD τ) arg39 fullShare (o39 x0 x11) ∗ owns (c : Thread nD τ) arg40 fullShare (o40 x0 x12) ∗ owns (c : Thread nD τ) arg41 fullShare (o41 x0 x13) ∗ owns (c : Thread nD τ) arg42 fullShare (o42 x1 x14) ∗ owns (c : Thread nD τ) arg43 fullShare (o43 x0 x15) ∗ owns (c : Thread nD τ) arg44 fullShare (o44 x0 x16) ∗ owns (c : Thread nD τ) arg45 fullShare (o45 x0 x17) ∗ owns (c : Thread nD τ) arg46 fullShare (o46 x0 x18) ∗ owns (c : Thread nD τ) arg47 fullShare (o47 x0 x19) ∗ owns (c : Thread nD τ) arg48 fullShare (o48 x0 x20) ∗ owns (c : Thread nD τ) arg49 fullShare (o49 x1 x21) ∗ owns (c : Thread nD τ) arg50 fullShare (o50 x0 x22)) -∗ K ⟨⟩))
      ⊢ wp frame (wpE (defs₀ (F := F)) Variants.none c none) E (cc0_adam_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K := by
  simp only [cc0_adam_small_eq_skeleton]; unfold cc0_adam_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    exact View.read_writes_eq_canon _ _ _ (cover_nine _ _ _ _ _ _ _ _ _)
  isplitl [H24]
  · iexists _; isplitr
    swap; · iexact H24
    ipureintro
    exact View.read_writes_eq_canon _ _ _ (cover_row _)
  isplitl [H25]
  · iexists _; isplitr
    swap; · iexact H25
    ipureintro
    exact View.read_writes_eq_canon _ _ _ (cover_row _)
  isplitl [H26]
  · iexists _; isplitr
    swap; · iexact H26
    ipureintro
    exact View.read_writes_eq_canon _ _ _ (cover_row _)
  isplitl [H27]
  · iexists _; isplitr
    swap; · iexact H27
    ipureintro
    exact View.read_writes_eq_canon _ _ _ (cover_row _)
  isplitl [H28]
  · iexists _; isplitr
    swap; · iexact H28
    ipureintro
    exact View.read_writes_eq_canon _ _ _ (cover_taps _)
  isplitl [H29]
  · iexists _; isplitr
    swap; · iexact H29
    ipureintro
    exact View.read_writes_eq_canon _ _ _ (cover_sinks _)
  isplitl [H30]
  · iexists _; isplitr
    swap; · iexact H30
    ipureintro
    exact View.read_writes_eq_canon _ _ _ (cover_nine _ _ _ _ _ _ _ _ _)
  isplitl [H31]
  · iexists _; isplitr
    swap; · iexact H31
    ipureintro
    exact View.read_writes_eq_canon _ _ _ (cover_row _)
  isplitl [H32]
  · iexists _; isplitr
    swap; · iexact H32
    ipureintro
    exact View.read_writes_eq_canon _ _ _ (cover_row _)
  isplitl [H33]
  · iexists _; isplitr
    swap; · iexact H33
    ipureintro
    exact View.read_writes_eq_canon _ _ _ (cover_row _)
  isplitl [H34]
  · iexists _; isplitr
    swap; · iexact H34
    ipureintro
    exact View.read_writes_eq_canon _ _ _ (cover_row _)
  isplitl [H35]
  · iexists _; isplitr
    swap; · iexact H35
    ipureintro
    exact View.read_writes_eq_canon _ _ _ (cover_taps _)
  isplitl [H36]
  · iexists _; isplitr
    swap; · iexact H36
    ipureintro
    exact View.read_writes_eq_canon _ _ _ (cover_sinks _)
  isplitl [H37]
  · iexists _; isplitr
    swap; · iexact H37
    ipureintro
    exact View.read_writes_eq_canon _ _ _ (cover_nine _ _ _ _ _ _ _ _ _)
  isplitl [H38]
  · iexists _; isplitr
    swap; · iexact H38
    ipureintro
    exact View.read_writes_eq_canon _ _ _ (cover_row _)
  isplitl [H39]
  · iexists _; isplitr
    swap; · iexact H39
    ipureintro
    exact View.read_writes_eq_canon _ _ _ (cover_row _)
  isplitl [H40]
  · iexists _; isplitr
    swap; · iexact H40
    ipureintro
    exact View.read_writes_eq_canon _ _ _ (cover_row _)
  isplitl [H41]
  · iexists _; isplitr
    swap; · iexact H41
    ipureintro
    exact View.read_writes_eq_canon _ _ _ (cover_row _)
  isplitl [H42]
  · iexists _; isplitr
    swap; · iexact H42
    ipureintro
    exact View.read_writes_eq_canon _ _ _ (cover_taps _)
  isplitl [H43]
  · iexists _; isplitr
    swap; · iexact H43
    ipureintro
    exact View.read_writes_eq_canon _ _ _ (cover_sinks _)
  isplitl [H44]
  · iexists _; isplitr
    swap; · iexact H44
    ipureintro
    exact View.read_writes_eq_canon _ _ _ (cover_nine _ _ _ _ _ _ _ _ _)
  isplitl [H45]
  · iexists _; isplitr
    swap; · iexact H45
    ipureintro
    exact View.read_writes_eq_canon _ _ _ (cover_row _)
  isplitl [H46]
  · iexists _; isplitr
    swap; · iexact H46
    ipureintro
    exact View.read_writes_eq_canon _ _ _ (cover_row _)
  isplitl [H47]
  · iexists _; isplitr
    swap; · iexact H47
    ipureintro
    exact View.read_writes_eq_canon _ _ _ (cover_row _)
  isplitl [H48]
  · iexists _; isplitr
    swap; · iexact H48
    ipureintro
    exact View.read_writes_eq_canon _ _ _ (cover_row _)
  isplitl [H49]
  · iexists _; isplitr
    swap; · iexact H49
    ipureintro
    exact View.read_writes_eq_canon _ _ _ (cover_taps _)
  iexists _; isplitr
  swap; · iexact H50
  ipureintro
  exact View.read_writes_eq_canon _ _ _ (cover_sinks _)

/-! ## The pipeline's contents, and the body's obligation -/

/-- Each argument's buffer stays at its block; each result's ends at the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => o23 (iblk m c 0 t)
    | ⟨24, _⟩ => o24 (iblk m c 0 t)
    | ⟨25, _⟩ => o25 (iblk m c 0 t)
    | ⟨26, _⟩ => o26 (iblk m c 0 t)
    | ⟨27, _⟩ => o27 (iblk m c 0 t)
    | ⟨28, _⟩ => o28 (iblk m c 1 t)
    | ⟨29, _⟩ => o29 (iblk m c 0 t)
    | ⟨30, _⟩ => o30 (iblk m c 0 t) (iblk m c 2 t) (iblk m c 9 t) (iblk m c 16 t)
    | ⟨31, _⟩ => o31 (iblk m c 0 t) (iblk m c 3 t) (iblk m c 10 t) (iblk m c 17 t)
    | ⟨32, _⟩ => o32 (iblk m c 0 t) (iblk m c 4 t) (iblk m c 11 t) (iblk m c 18 t)
    | ⟨33, _⟩ => o33 (iblk m c 0 t) (iblk m c 5 t) (iblk m c 12 t) (iblk m c 19 t)
    | ⟨34, _⟩ => o34 (iblk m c 0 t) (iblk m c 6 t) (iblk m c 13 t) (iblk m c 20 t)
    | ⟨35, _⟩ => o35 (iblk m c 1 t) (iblk m c 7 t) (iblk m c 14 t) (iblk m c 21 t)
    | ⟨36, _⟩ => o36 (iblk m c 0 t) (iblk m c 8 t) (iblk m c 15 t) (iblk m c 22 t)
    | ⟨37, _⟩ => o37 (iblk m c 0 t) (iblk m c 9 t)
    | ⟨38, _⟩ => o38 (iblk m c 0 t) (iblk m c 10 t)
    | ⟨39, _⟩ => o39 (iblk m c 0 t) (iblk m c 11 t)
    | ⟨40, _⟩ => o40 (iblk m c 0 t) (iblk m c 12 t)
    | ⟨41, _⟩ => o41 (iblk m c 0 t) (iblk m c 13 t)
    | ⟨42, _⟩ => o42 (iblk m c 1 t) (iblk m c 14 t)
    | ⟨43, _⟩ => o43 (iblk m c 0 t) (iblk m c 15 t)
    | ⟨44, _⟩ => o44 (iblk m c 0 t) (iblk m c 16 t)
    | ⟨45, _⟩ => o45 (iblk m c 0 t) (iblk m c 17 t)
    | ⟨46, _⟩ => o46 (iblk m c 0 t) (iblk m c 18 t)
    | ⟨47, _⟩ => o47 (iblk m c 0 t) (iblk m c 19 t)
    | ⟨48, _⟩ => o48 (iblk m c 0 t) (iblk m c 20 t)
    | ⟨49, _⟩ => o49 (iblk m c 1 t) (iblk m c 21 t)
    | ⟨50, _⟩ => o50 (iblk m c 0 t) (iblk m c 22 t)
    | ⟨_ + 51, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = o23 (iblk m c 0 t) := by dsimp only [dats]
theorem after_24 (c : Dev nD) (t : Fin cfg0.N) : (dats m 0 c).after 24 t = o24 (iblk m c 0 t) := by dsimp only [dats]
theorem after_25 (c : Dev nD) (t : Fin cfg0.N) : (dats m 0 c).after 25 t = o25 (iblk m c 0 t) := by dsimp only [dats]
theorem after_26 (c : Dev nD) (t : Fin cfg0.N) : (dats m 0 c).after 26 t = o26 (iblk m c 0 t) := by dsimp only [dats]
theorem after_27 (c : Dev nD) (t : Fin cfg0.N) : (dats m 0 c).after 27 t = o27 (iblk m c 0 t) := by dsimp only [dats]
theorem after_28 (c : Dev nD) (t : Fin cfg0.N) : (dats m 0 c).after 28 t = o28 (iblk m c 1 t) := by dsimp only [dats]
theorem after_29 (c : Dev nD) (t : Fin cfg0.N) : (dats m 0 c).after 29 t = o29 (iblk m c 0 t) := by dsimp only [dats]
theorem after_30 (c : Dev nD) (t : Fin cfg0.N) : (dats m 0 c).after 30 t = o30 (iblk m c 0 t) (iblk m c 2 t) (iblk m c 9 t) (iblk m c 16 t) := by dsimp only [dats]
theorem after_31 (c : Dev nD) (t : Fin cfg0.N) : (dats m 0 c).after 31 t = o31 (iblk m c 0 t) (iblk m c 3 t) (iblk m c 10 t) (iblk m c 17 t) := by dsimp only [dats]
theorem after_32 (c : Dev nD) (t : Fin cfg0.N) : (dats m 0 c).after 32 t = o32 (iblk m c 0 t) (iblk m c 4 t) (iblk m c 11 t) (iblk m c 18 t) := by dsimp only [dats]
theorem after_33 (c : Dev nD) (t : Fin cfg0.N) : (dats m 0 c).after 33 t = o33 (iblk m c 0 t) (iblk m c 5 t) (iblk m c 12 t) (iblk m c 19 t) := by dsimp only [dats]
theorem after_34 (c : Dev nD) (t : Fin cfg0.N) : (dats m 0 c).after 34 t = o34 (iblk m c 0 t) (iblk m c 6 t) (iblk m c 13 t) (iblk m c 20 t) := by dsimp only [dats]
theorem after_35 (c : Dev nD) (t : Fin cfg0.N) : (dats m 0 c).after 35 t = o35 (iblk m c 1 t) (iblk m c 7 t) (iblk m c 14 t) (iblk m c 21 t) := by dsimp only [dats]
theorem after_36 (c : Dev nD) (t : Fin cfg0.N) : (dats m 0 c).after 36 t = o36 (iblk m c 0 t) (iblk m c 8 t) (iblk m c 15 t) (iblk m c 22 t) := by dsimp only [dats]
theorem after_37 (c : Dev nD) (t : Fin cfg0.N) : (dats m 0 c).after 37 t = o37 (iblk m c 0 t) (iblk m c 9 t) := by dsimp only [dats]
theorem after_38 (c : Dev nD) (t : Fin cfg0.N) : (dats m 0 c).after 38 t = o38 (iblk m c 0 t) (iblk m c 10 t) := by dsimp only [dats]
theorem after_39 (c : Dev nD) (t : Fin cfg0.N) : (dats m 0 c).after 39 t = o39 (iblk m c 0 t) (iblk m c 11 t) := by dsimp only [dats]
theorem after_40 (c : Dev nD) (t : Fin cfg0.N) : (dats m 0 c).after 40 t = o40 (iblk m c 0 t) (iblk m c 12 t) := by dsimp only [dats]
theorem after_41 (c : Dev nD) (t : Fin cfg0.N) : (dats m 0 c).after 41 t = o41 (iblk m c 0 t) (iblk m c 13 t) := by dsimp only [dats]
theorem after_42 (c : Dev nD) (t : Fin cfg0.N) : (dats m 0 c).after 42 t = o42 (iblk m c 1 t) (iblk m c 14 t) := by dsimp only [dats]
theorem after_43 (c : Dev nD) (t : Fin cfg0.N) : (dats m 0 c).after 43 t = o43 (iblk m c 0 t) (iblk m c 15 t) := by dsimp only [dats]
theorem after_44 (c : Dev nD) (t : Fin cfg0.N) : (dats m 0 c).after 44 t = o44 (iblk m c 0 t) (iblk m c 16 t) := by dsimp only [dats]
theorem after_45 (c : Dev nD) (t : Fin cfg0.N) : (dats m 0 c).after 45 t = o45 (iblk m c 0 t) (iblk m c 17 t) := by dsimp only [dats]
theorem after_46 (c : Dev nD) (t : Fin cfg0.N) : (dats m 0 c).after 46 t = o46 (iblk m c 0 t) (iblk m c 18 t) := by dsimp only [dats]
theorem after_47 (c : Dev nD) (t : Fin cfg0.N) : (dats m 0 c).after 47 t = o47 (iblk m c 0 t) (iblk m c 19 t) := by dsimp only [dats]
theorem after_48 (c : Dev nD) (t : Fin cfg0.N) : (dats m 0 c).after 48 t = o48 (iblk m c 0 t) (iblk m c 20 t) := by dsimp only [dats]
theorem after_49 (c : Dev nD) (t : Fin cfg0.N) : (dats m 0 c).after 49 t = o49 (iblk m c 1 t) (iblk m c 21 t) := by dsimp only [dats]
theorem after_50 (c : Dev nD) (t : Fin cfg0.N) : (dats m 0 c).after 50 t = o50 (iblk m c 0 t) (iblk m c 22 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]) t d).trans (by unfold Dat.fetched Dat.blockOf iblk; rw [A_eq]; rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]) t d).trans (by unfold Dat.fetched Dat.blockOf iblk; rw [A_eq]; rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]) t d).trans (by unfold Dat.fetched Dat.blockOf iblk; rw [A_eq]; rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]) t d).trans (by unfold Dat.fetched Dat.blockOf iblk; rw [A_eq]; rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]) t d).trans (by unfold Dat.fetched Dat.blockOf iblk; rw [A_eq]; rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]) t d).trans (by unfold Dat.fetched Dat.blockOf iblk; rw [A_eq]; rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]) t d).trans (by unfold Dat.fetched Dat.blockOf iblk; rw [A_eq]; rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]) t d).trans (by unfold Dat.fetched Dat.blockOf iblk; rw [A_eq]; rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]) t d).trans (by unfold Dat.fetched Dat.blockOf iblk; rw [A_eq]; rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]) t d).trans (by unfold Dat.fetched Dat.blockOf iblk; rw [A_eq]; rfl)
theorem before_15 (c : Dev nD) (t : Fin cfg0.N) (d) : (dats m 0 c).before 15 t d = iblk m c 15 t :=
  ((dats m 0 c).before_in_eq_fetched 15 rfl (fun _ => rfl) (fun _ _ _ => rfl)
    (fun t => by rw [after_15]; unfold Dat.blockOf iblk; rw [A_eq]) t d).trans (by unfold Dat.fetched Dat.blockOf iblk; rw [A_eq]; rfl)
theorem before_16 (c : Dev nD) (t : Fin cfg0.N) (d) : (dats m 0 c).before 16 t d = iblk m c 16 t :=
  ((dats m 0 c).before_in_eq_fetched 16 rfl (fun _ => rfl) (fun _ _ _ => rfl)
    (fun t => by rw [after_16]; unfold Dat.blockOf iblk; rw [A_eq]) t d).trans (by unfold Dat.fetched Dat.blockOf iblk; rw [A_eq]; rfl)
theorem before_17 (c : Dev nD) (t : Fin cfg0.N) (d) : (dats m 0 c).before 17 t d = iblk m c 17 t :=
  ((dats m 0 c).before_in_eq_fetched 17 rfl (fun _ => rfl) (fun _ _ _ => rfl)
    (fun t => by rw [after_17]; unfold Dat.blockOf iblk; rw [A_eq]) t d).trans (by unfold Dat.fetched Dat.blockOf iblk; rw [A_eq]; rfl)
theorem before_18 (c : Dev nD) (t : Fin cfg0.N) (d) : (dats m 0 c).before 18 t d = iblk m c 18 t :=
  ((dats m 0 c).before_in_eq_fetched 18 rfl (fun _ => rfl) (fun _ _ _ => rfl)
    (fun t => by rw [after_18]; unfold Dat.blockOf iblk; rw [A_eq]) t d).trans (by unfold Dat.fetched Dat.blockOf iblk; rw [A_eq]; rfl)
theorem before_19 (c : Dev nD) (t : Fin cfg0.N) (d) : (dats m 0 c).before 19 t d = iblk m c 19 t :=
  ((dats m 0 c).before_in_eq_fetched 19 rfl (fun _ => rfl) (fun _ _ _ => rfl)
    (fun t => by rw [after_19]; unfold Dat.blockOf iblk; rw [A_eq]) t d).trans (by unfold Dat.fetched Dat.blockOf iblk; rw [A_eq]; rfl)
theorem before_20 (c : Dev nD) (t : Fin cfg0.N) (d) : (dats m 0 c).before 20 t d = iblk m c 20 t :=
  ((dats m 0 c).before_in_eq_fetched 20 rfl (fun _ => rfl) (fun _ _ _ => rfl)
    (fun t => by rw [after_20]; unfold Dat.blockOf iblk; rw [A_eq]) t d).trans (by unfold Dat.fetched Dat.blockOf iblk; rw [A_eq]; rfl)
theorem before_21 (c : Dev nD) (t : Fin cfg0.N) (d) : (dats m 0 c).before 21 t d = iblk m c 21 t :=
  ((dats m 0 c).before_in_eq_fetched 21 rfl (fun _ => rfl) (fun _ _ _ => rfl)
    (fun t => by rw [after_21]; unfold Dat.blockOf iblk; rw [A_eq]) t d).trans (by unfold Dat.fetched Dat.blockOf iblk; rw [A_eq]; rfl)
theorem before_22 (c : Dev nD) (t : Fin cfg0.N) (d) : (dats m 0 c).before 22 t d = iblk m c 22 t :=
  ((dats m 0 c).before_in_eq_fetched 22 rfl (fun _ => rfl) (fun _ _ _ => rfl)
    (fun t => by rw [after_22]; unfold Dat.blockOf iblk; rw [A_eq]) t d).trans (by unfold Dat.fetched Dat.blockOf iblk; rw [A_eq]; rfl)

/-- The body's resources at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d)))

/-- The body's resources at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t))

set_option maxHeartbeats 8000000 in
/-- The body meets its obligation at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  iexact H50

/-- The body's row of the table of bodies. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 8000000 in
/-- The call runs to the end from any launch: every array at what the contents say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

set_option maxHeartbeats 8000000 in
/-- Every argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11)),
    ((h c).1 12).trans (((dats m 0 c).arrAt_in 12 rfl _).trans (A_eq m c 12)),
    ((h c).1 13).trans (((dats m 0 c).arrAt_in 13 rfl _).trans (A_eq m c 13)),
    ((h c).1 14).trans (((dats m 0 c).arrAt_in 14 rfl _).trans (A_eq m c 14)),
    ((h c).1 15).trans (((dats m 0 c).arrAt_in 15 rfl _).trans (A_eq m c 15)),
    ((h c).1 16).trans (((dats m 0 c).arrAt_in 16 rfl _).trans (A_eq m c 16)),
    ((h c).1 17).trans (((dats m 0 c).arrAt_in 17 rfl _).trans (A_eq m c 17)),
    ((h c).1 18).trans (((dats m 0 c).arrAt_in 18 rfl _).trans (A_eq m c 18)),
    ((h c).1 19).trans (((dats m 0 c).arrAt_in 19 rfl _).trans (A_eq m c 19)),
    ((h c).1 20).trans (((dats m 0 c).arrAt_in 20 rfl _).trans (A_eq m c 20)),
    ((h c).1 21).trans (((dats m 0 c).arrAt_in 21 rfl _).trans (A_eq m c 21)),
    ((h c).1 22).trans (((dats m 0 c).arrAt_in 22 rfl _).trans (A_eq m c 22))⟩) (run_main m ρ)

set_option maxHeartbeats 8000000 in
/-- The frame: the call runs to the end, every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) ∧ r.2.sem = fun _ => 0) :=
  θ_run_and (unchanged m ρ) ((θ_run defs _ _).mono (fun _ h => h.2) (run_quiescent m ρ))

end Cert.AdamSmall

end
-- ==== Proof.AdamSmall.lean ====
/- The optimiser's step of the small parameters: the kernel takes each parameter's gradient out of the packed sums and steps it; the plain lines slice the same sums and step each parameter. -/
module

public import proofs.«01_k».proof.Defs
public import proofs.«01_k».proof.Proof.AdamSmallRun
public import proofs.«01_k».proof.Proof.Gen.Reference21Ideal.Run
public import proofs.«01_k».proof.Proof.Gen.Reference21Ideal.Read
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamSmall

open Cert.AdamW (mean var step)

section Spec

open Cert.Kernel21Ideal

/-- The gradient of the modulation's biases: the first nine rows of the sums, one after the other. -/
def gradMods (G : FVec Ideal S24x1024 .f32) : FVec Ideal S1x9216 .f32 := fun i =>
  G (ix2 ⟨(i 1).val / 1024, by have : (i 1).val < 9216 := (i 1).isLt; omega⟩ ⟨(i 1).val % 1024, by omega⟩)

/-- The gradient of a norm's gains: a row of the sums. -/
def gradRow (r : Fin 24) (G : FVec Ideal S24x1024 .f32) : FVec Ideal S1x1024 .f32 := fun i => G (ix2 r (i 1))

/-- The gradient of the sinks: the first sixteen of a row of the sums. -/
def gradSinks (G : FVec Ideal S24x1024 .f32) : FVec Ideal S1x16 .f32 := fun i =>
  G (ix2 16 ⟨(i 1).val, by have : (i 1).val < 16 := (i 1).isLt; omega⟩)

variable {s : Shape} (W G M V : FVec Ideal s .f32)

/-- The updates. -/
def steps : FVec Ideal s .f32 := fun i => step (W i) (G i) (M i) (V i)

/-- The first moments. -/
def means : FVec Ideal s .f32 := fun i => mean (G i) (M i)

/-- The second moments. -/
def vars : FVec Ideal s .f32 := fun i => var (G i) (V i)

end Spec

section Kernel

open Cert.Kernel21Ideal Cert.Kernel21Ideal.Gen

/-- An entry of the modulation's gradient, by the row of the sums it comes from. -/
theorem mods_at (G : FVec Ideal S24x1024 .f32) (k : Fin 9216) (r : Fin 24) (b : Fin 1024) (h : k.val = 1024 * r.val + b.val) :
    gradMods G (ix2 0 k) = G (ix2 r b) := by
  have hb := b.isLt
  unfold gradMods
  exact congrArg₂ (fun p q => G (ix2 p q)) (Fin.ext (show k.val / 1024 = r.val by omega)) (Fin.ext (show k.val % 1024 = b.val by omega))

/-- What the body leaves of the gradient of the modulation's biases. -/
theorem o23_eq (x0 : FVec Ideal S24x1024 .f32) :
    o23 (F := Ideal) x0 = gradMods x0 := by
  funext y
  obtain ⟨z, k, rfl⟩ : ∃ (z : Fin 1) (k : Fin 9216), y = ix2 z k := ⟨y 0, y 1, (ix2_eta y).symm⟩
  obtain rfl : z = 0 := Subsingleton.elim _ _
  unfold o23
  canon_tiles x hx
  all_goals
    obtain ⟨a, b, rfl⟩ : ∃ (a : Fin 1) (b : Fin 1024), x = ix2 a b := ⟨x 0, x 1, (ix2_eta x).symm⟩
    pointwise []
  case piece0 => exact (mods_at x0 k 8 b hx1).symm
  case piece1 => exact (mods_at x0 k 7 b hx1).symm
  case piece2 => exact (mods_at x0 k 6 b hx1).symm
  case piece3 => exact (mods_at x0 k 5 b hx1).symm
  case piece4 => exact (mods_at x0 k 4 b hx1).symm
  case piece5 => exact (mods_at x0 k 3 b hx1).symm
  case piece6 => exact (mods_at x0 k 2 b hx1).symm
  case piece7 => exact (mods_at x0 k 1 b hx1).symm
  case piece8 => exact (mods_at x0 k 0 b (by simpa using hx1)).symm

/-- What the body leaves of the gradient of the first norm's gains. -/
theorem o24_eq (x0 : FVec Ideal S24x1024 .f32) :
    o24 (F := Ideal) x0 = gradRow 9 x0 := by
  funext y
  obtain ⟨z, k, rfl⟩ : ∃ (z : Fin 1) (k : Fin 1024), y = ix2 z k := ⟨y 0, y 1, (ix2_eta y).symm⟩
  obtain rfl : z = 0 := Subsingleton.elim _ _
  unfold o24
  canon_tiles x hx
  obtain ⟨a, b, rfl⟩ : ∃ (a : Fin 1) (b : Fin 1024), x = ix2 a b := ⟨x 0, x 1, (ix2_eta x).symm⟩
  obtain rfl : k = b := Fin.ext hx1
  pointwise [gradRow]

/-- What the body leaves of the gradient of the mixer norm's gains. -/
theorem o25_eq (x0 : FVec Ideal S24x1024 .f32) :
    o25 (F := Ideal) x0 = gradRow 10 x0 := by
  funext y
  obtain ⟨z, k, rfl⟩ : ∃ (z : Fin 1) (k : Fin 1024), y = ix2 z k := ⟨y 0, y 1, (ix2_eta y).symm⟩
  obtain rfl : z = 0 := Subsingleton.elim _ _
  unfold o25
  canon_tiles x hx
  obtain ⟨a, b, rfl⟩ : ∃ (a : Fin 1) (b : Fin 1024), x = ix2 a b := ⟨x 0, x 1, (ix2_eta x).symm⟩
  obtain rfl : k = b := Fin.ext hx1
  pointwise [gradRow]

/-- What the body leaves of the gradient of the second norm's gains. -/
theorem o26_eq (x0 : FVec Ideal S24x1024 .f32) :
    o26 (F := Ideal) x0 = gradRow 11 x0 := by
  funext y
  obtain ⟨z, k, rfl⟩ : ∃ (z : Fin 1) (k : Fin 1024), y = ix2 z k := ⟨y 0, y 1, (ix2_eta y).symm⟩
  obtain rfl : z = 0 := Subsingleton.elim _ _
  unfold o26
  canon_tiles x hx
  obtain ⟨a, b, rfl⟩ : ∃ (a : Fin 1) (b : Fin 1024), x = ix2 a b := ⟨x 0, x 1, (ix2_eta x).symm⟩
  obtain rfl : k = b := Fin.ext hx1
  pointwise [gradRow]

/-- What the body leaves of the gradient of the final norm's gains. -/
theorem o27_eq (x0 : FVec Ideal S24x1024 .f32) :
    o27 (F := Ideal) x0 = gradRow 12 x0 := by
  funext y
  obtain ⟨z, k, rfl⟩ : ∃ (z : Fin 1) (k : Fin 1024), y = ix2 z k := ⟨y 0, y 1, (ix2_eta y).symm⟩
  obtain rfl : z = 0 := Subsingleton.elim _ _
  unfold o27
  canon_tiles x hx
  obtain ⟨a, b, rfl⟩ : ∃ (a : Fin 1) (b : Fin 1024), x = ix2 a b := ⟨x 0, x 1, (ix2_eta x).symm⟩
  obtain rfl : k = b := Fin.ext hx1
  pointwise [gradRow]

/-- What the body leaves of the gradient of the convolution's taps. -/
theorem o28_eq (x1 : FVec Ideal S3x128 .f32) :
    o28 (F := Ideal) x1 = x1 := by
  funext y
  obtain ⟨r, k, rfl⟩ : ∃ (r : Fin 3) (k : Fin 128), y = ix2 r k := ⟨y 0, y 1, (ix2_eta y).symm⟩
  unfold o28
  canon_tiles x hx
  obtain ⟨a, b, rfl⟩ : ∃ (a : Fin 3) (b : Fin 128), x = ix2 a b := ⟨x 0, x 1, (ix2_eta x).symm⟩
  obtain rfl : r = a := Fin.ext hx0
  obtain rfl : k = b := Fin.ext hx1
  pointwise []

/-- What the body leaves of the gradient of the sinks. -/
theorem o29_eq (x0 : FVec Ideal S24x1024 .f32) :
    o29 (F := Ideal) x0 = gradSinks x0 := by
  funext y
  obtain ⟨z, k, rfl⟩ : ∃ (z : Fin 1) (k : Fin 16), y = ix2 z k := ⟨y 0, y 1, (ix2_eta y).symm⟩
  obtain rfl : z = 0 := Subsingleton.elim _ _
  unfold o29
  canon_tiles x hx
  obtain ⟨a, b, rfl⟩ : ∃ (a : Fin 1) (b : Fin 16), x = ix2 a b := ⟨x 0, x 1, (ix2_eta x).symm⟩
  obtain rfl : k = b := Fin.ext hx1
  pointwise [gradSinks]

/-- What the body leaves of the updates of the modulation's biases. -/
theorem o30_eq (x0 : FVec Ideal S24x1024 .f32) (x2 : FVec Ideal S1x9216 .f32) (x9 : FVec Ideal S1x9216 .f32) (x16 : FVec Ideal S1x9216 .f32) :
    o30 (F := Ideal) x0 x2 x9 x16 = steps x2 (gradMods x0) x9 x16 := by
  funext y
  obtain ⟨z, k, rfl⟩ : ∃ (z : Fin 1) (k : Fin 9216), y = ix2 z k := ⟨y 0, y 1, (ix2_eta y).symm⟩
  obtain rfl : z = 0 := Subsingleton.elim _ _
  unfold o30
  canon_tiles x hx
  all_goals
    obtain ⟨a, b, rfl⟩ : ∃ (a : Fin 1) (b : Fin 1024), x = ix2 a b := ⟨x 0, x 1, (ix2_eta x).symm⟩
    pointwise [k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, steps, step, mean, var]
  case piece0 => rw [mods_at x0 k 8 b hx1, show (⟨8192 + b.val, by omega⟩ : Fin 9216) = k from Fin.ext hx1.symm]
  case piece1 => rw [mods_at x0 k 7 b hx1, show (⟨7168 + b.val, by omega⟩ : Fin 9216) = k from Fin.ext hx1.symm]
  case piece2 => rw [mods_at x0 k 6 b hx1, show (⟨6144 + b.val, by omega⟩ : Fin 9216) = k from Fin.ext hx1.symm]
  case piece3 => rw [mods_at x0 k 5 b hx1, show (⟨5120 + b.val, by omega⟩ : Fin 9216) = k from Fin.ext hx1.symm]
  case piece4 => rw [mods_at x0 k 4 b hx1, show (⟨4096 + b.val, by omega⟩ : Fin 9216) = k from Fin.ext hx1.symm]
  case piece5 => rw [mods_at x0 k 3 b hx1, show (⟨3072 + b.val, by omega⟩ : Fin 9216) = k from Fin.ext hx1.symm]
  case piece6 => rw [mods_at x0 k 2 b hx1, show (⟨2048 + b.val, by omega⟩ : Fin 9216) = k from Fin.ext hx1.symm]
  case piece7 => rw [mods_at x0 k 1 b hx1, show (⟨1024 + b.val, by omega⟩ : Fin 9216) = k from Fin.ext hx1.symm]
  case piece8 => rw [mods_at x0 k 0 b (by simpa using hx1), show (⟨b.val, by omega⟩ : Fin 9216) = k from Fin.ext hx1.symm]

/-- What the body leaves of the updates of the first norm's gains. -/
theorem o31_eq (x0 : FVec Ideal S24x1024 .f32) (x3 : FVec Ideal S1x1024 .f32) (x10 : FVec Ideal S1x1024 .f32) (x17 : FVec Ideal S1x1024 .f32) :
    o31 (F := Ideal) x0 x3 x10 x17 = steps x3 (gradRow 9 x0) x10 x17 := by
  funext y
  obtain ⟨z, k, rfl⟩ : ∃ (z : Fin 1) (k : Fin 1024), y = ix2 z k := ⟨y 0, y 1, (ix2_eta y).symm⟩
  obtain rfl : z = 0 := Subsingleton.elim _ _
  unfold o31
  canon_tiles x hx
  obtain ⟨a, b, rfl⟩ : ∃ (a : Fin 1) (b : Fin 1024), x = ix2 a b := ⟨x 0, x 1, (ix2_eta x).symm⟩
  obtain rfl : k = b := Fin.ext hx1
  pointwise [k0_pay39, k0_pay37, k0_pay38, k0_pay40, k0_pay41, k0_pay42, k0_pay43, k0_pay44, k0_pay45, k0_pay46, k0_pay47, k0_pay48, k0_pay49, k0_pay50, k0_pay51, k0_pay52, k0_pay53, k0_pay54, gradRow, steps, step, mean, var]

/-- What the body leaves of the updates of the mixer norm's gains. -/
theorem o32_eq (x0 : FVec Ideal S24x1024 .f32) (x4 : FVec Ideal S1x1024 .f32) (x11 : FVec Ideal S1x1024 .f32) (x18 : FVec Ideal S1x1024 .f32) :
    o32 (F := Ideal) x0 x4 x11 x18 = steps x4 (gradRow 10 x0) x11 x18 := by
  funext y
  obtain ⟨z, k, rfl⟩ : ∃ (z : Fin 1) (k : Fin 1024), y = ix2 z k := ⟨y 0, y 1, (ix2_eta y).symm⟩
  obtain rfl : z = 0 := Subsingleton.elim _ _
  unfold o32
  canon_tiles x hx
  obtain ⟨a, b, rfl⟩ : ∃ (a : Fin 1) (b : Fin 1024), x = ix2 a b := ⟨x 0, x 1, (ix2_eta x).symm⟩
  obtain rfl : k = b := Fin.ext hx1
  pointwise [k0_pay42, k0_pay37, k0_pay38, k0_pay39, k0_pay40, k0_pay41, k0_pay43, k0_pay44, k0_pay45, k0_pay46, k0_pay47, k0_pay48, k0_pay49, k0_pay50, k0_pay51, k0_pay52, k0_pay53, k0_pay54, gradRow, steps, step, mean, var]

/-- What the body leaves of the updates of the second norm's gains. -/
theorem o33_eq (x0 : FVec Ideal S24x1024 .f32) (x5 : FVec Ideal S1x1024 .f32) (x12 : FVec Ideal S1x1024 .f32) (x19 : FVec Ideal S1x1024 .f32) :
    o33 (F := Ideal) x0 x5 x12 x19 = steps x5 (gradRow 11 x0) x12 x19 := by
  funext y
  obtain ⟨z, k, rfl⟩ : ∃ (z : Fin 1) (k : Fin 1024), y = ix2 z k := ⟨y 0, y 1, (ix2_eta y).symm⟩
  obtain rfl : z = 0 := Subsingleton.elim _ _
  unfold o33
  canon_tiles x hx
  obtain ⟨a, b, rfl⟩ : ∃ (a : Fin 1) (b : Fin 1024), x = ix2 a b := ⟨x 0, x 1, (ix2_eta x).symm⟩
  obtain rfl : k = b := Fin.ext hx1
  pointwise [k0_pay45, k0_pay37, k0_pay38, k0_pay39, k0_pay40, k0_pay41, k0_pay42, k0_pay43, k0_pay44, k0_pay46, k0_pay47, k0_pay48, k0_pay49, k0_pay50, k0_pay51, k0_pay52, k0_pay53, k0_pay54, gradRow, steps, step, mean, var]

/-- What the body leaves of the updates of the final norm's gains. -/
theorem o34_eq (x0 : FVec Ideal S24x1024 .f32) (x6 : FVec Ideal S1x1024 .f32) (x13 : FVec Ideal S1x1024 .f32) (x20 : FVec Ideal S1x1024 .f32) :
    o34 (F := Ideal) x0 x6 x13 x20 = steps x6 (gradRow 12 x0) x13 x20 := by
  funext y
  obtain ⟨z, k, rfl⟩ : ∃ (z : Fin 1) (k : Fin 1024), y = ix2 z k := ⟨y 0, y 1, (ix2_eta y).symm⟩
  obtain rfl : z = 0 := Subsingleton.elim _ _
  unfold o34
  canon_tiles x hx
  obtain ⟨a, b, rfl⟩ : ∃ (a : Fin 1) (b : Fin 1024), x = ix2 a b := ⟨x 0, x 1, (ix2_eta x).symm⟩
  obtain rfl : k = b := Fin.ext hx1
  pointwise [k0_pay48, k0_pay37, k0_pay38, k0_pay39, k0_pay40, k0_pay41, k0_pay42, k0_pay43, k0_pay44, k0_pay45, k0_pay46, k0_pay47, k0_pay49, k0_pay50, k0_pay51, k0_pay52, k0_pay53, k0_pay54, gradRow, steps, step, mean, var]

/-- What the body leaves of the updates of the convolution's taps. -/
theorem o35_eq (x1 : FVec Ideal S3x128 .f32) (x7 : FVec Ideal S3x128 .f32) (x14 : FVec Ideal S3x128 .f32) (x21 : FVec Ideal S3x128 .f32) :
    o35 (F := Ideal) x1 x7 x14 x21 = steps x7 x1 x14 x21 := by
  funext y
  obtain ⟨r, k, rfl⟩ : ∃ (r : Fin 3) (k : Fin 128), y = ix2 r k := ⟨y 0, y 1, (ix2_eta y).symm⟩
  unfold o35
  canon_tiles x hx
  obtain ⟨a, b, rfl⟩ : ∃ (a : Fin 3) (b : Fin 128), x = ix2 a b := ⟨x 0, x 1, (ix2_eta x).symm⟩
  obtain rfl : r = a := Fin.ext hx0
  obtain rfl : k = b := Fin.ext hx1
  pointwise [k0_pay51, k0_pay37, k0_pay38, k0_pay39, k0_pay40, k0_pay41, k0_pay42, k0_pay43, k0_pay44, k0_pay45, k0_pay46, k0_pay47, k0_pay48, k0_pay49, k0_pay50, k0_pay52, k0_pay53, k0_pay54, steps, step, mean, var]

/-- What the body leaves of the updates of the sinks. -/
theorem o36_eq (x0 : FVec Ideal S24x1024 .f32) (x8 : FVec Ideal S1x16 .f32) (x15 : FVec Ideal S1x16 .f32) (x22 : FVec Ideal S1x16 .f32) :
    o36 (F := Ideal) x0 x8 x15 x22 = steps x8 (gradSinks x0) x15 x22 := by
  funext y
  obtain ⟨z, k, rfl⟩ : ∃ (z : Fin 1) (k : Fin 16), y = ix2 z k := ⟨y 0, y 1, (ix2_eta y).symm⟩
  obtain rfl : z = 0 := Subsingleton.elim _ _
  unfold o36
  canon_tiles x hx
  obtain ⟨a, b, rfl⟩ : ∃ (a : Fin 1) (b : Fin 16), x = ix2 a b := ⟨x 0, x 1, (ix2_eta x).symm⟩
  obtain rfl : k = b := Fin.ext hx1
  pointwise [k0_pay54, k0_pay37, k0_pay38, k0_pay39, k0_pay40, k0_pay41, k0_pay42, k0_pay43, k0_pay44, k0_pay45, k0_pay46, k0_pay47, k0_pay48, k0_pay49, k0_pay50, k0_pay51, k0_pay52, k0_pay53, gradSinks, steps, step, mean, var]

/-- What the body leaves of the first moments of the modulation's biases. -/
theorem o37_eq (x0 : FVec Ideal S24x1024 .f32) (x9 : FVec Ideal S1x9216 .f32) :
    o37 (F := Ideal) x0 x9 = means (gradMods x0) x9 := by
  funext y
  obtain ⟨z, k, rfl⟩ : ∃ (z : Fin 1) (k : Fin 9216), y = ix2 z k := ⟨y 0, y 1, (ix2_eta y).symm⟩
  obtain rfl : z = 0 := Subsingleton.elim _ _
  unfold o37
  canon_tiles x hx
  all_goals
    obtain ⟨a, b, rfl⟩ : ∃ (a : Fin 1) (b : Fin 1024), x = ix2 a b := ⟨x 0, x 1, (ix2_eta x).symm⟩
    pointwise [k0_pay34, k0_pay31, k0_pay28, k0_pay25, k0_pay20, k0_pay16, k0_pay11, k0_pay7, k0_pay1, means, mean]
  case piece0 => rw [mods_at x0 k 8 b hx1, show (⟨8192 + b.val, by omega⟩ : Fin 9216) = k from Fin.ext hx1.symm]
  case piece1 => rw [mods_at x0 k 7 b hx1, show (⟨7168 + b.val, by omega⟩ : Fin 9216) = k from Fin.ext hx1.symm]
  case piece2 => rw [mods_at x0 k 6 b hx1, show (⟨6144 + b.val, by omega⟩ : Fin 9216) = k from Fin.ext hx1.symm]
  case piece3 => rw [mods_at x0 k 5 b hx1, show (⟨5120 + b.val, by omega⟩ : Fin 9216) = k from Fin.ext hx1.symm]
  case piece4 => rw [mods_at x0 k 4 b hx1, show (⟨4096 + b.val, by omega⟩ : Fin 9216) = k from Fin.ext hx1.symm]
  case piece5 => rw [mods_at x0 k 3 b hx1, show (⟨3072 + b.val, by omega⟩ : Fin 9216) = k from Fin.ext hx1.symm]
  case piece6 => rw [mods_at x0 k 2 b hx1, show (⟨2048 + b.val, by omega⟩ : Fin 9216) = k from Fin.ext hx1.symm]
  case piece7 => rw [mods_at x0 k 1 b hx1, show (⟨1024 + b.val, by omega⟩ : Fin 9216) = k from Fin.ext hx1.symm]
  case piece8 => rw [mods_at x0 k 0 b (by simpa using hx1), show (⟨b.val, by omega⟩ : Fin 9216) = k from Fin.ext hx1.symm]

/-- What the body leaves of the first moments of the first norm's gains. -/
theorem o38_eq (x0 : FVec Ideal S24x1024 .f32) (x10 : FVec Ideal S1x1024 .f32) :
    o38 (F := Ideal) x0 x10 = means (gradRow 9 x0) x10 := by
  funext y
  obtain ⟨z, k, rfl⟩ : ∃ (z : Fin 1) (k : Fin 1024), y = ix2 z k := ⟨y 0, y 1, (ix2_eta y).symm⟩
  obtain rfl : z = 0 := Subsingleton.elim _ _
  unfold o38
  canon_tiles x hx
  obtain ⟨a, b, rfl⟩ : ∃ (a : Fin 1) (b : Fin 1024), x = ix2 a b := ⟨x 0, x 1, (ix2_eta x).symm⟩
  obtain rfl : k = b := Fin.ext hx1
  pointwise [k0_pay37, gradRow, means, mean]

/-- What the body leaves of the first moments of the mixer norm's gains. -/
theorem o39_eq (x0 : FVec Ideal S24x1024 .f32) (x11 : FVec Ideal S1x1024 .f32) :
    o39 (F := Ideal) x0 x11 = means (gradRow 10 x0) x11 := by
  funext y
  obtain ⟨z, k, rfl⟩ : ∃ (z : Fin 1) (k : Fin 1024), y = ix2 z k := ⟨y 0, y 1, (ix2_eta y).symm⟩
  obtain rfl : z = 0 := Subsingleton.elim _ _
  unfold o39
  canon_tiles x hx
  obtain ⟨a, b, rfl⟩ : ∃ (a : Fin 1) (b : Fin 1024), x = ix2 a b := ⟨x 0, x 1, (ix2_eta x).symm⟩
  obtain rfl : k = b := Fin.ext hx1
  pointwise [k0_pay40, gradRow, means, mean]

/-- What the body leaves of the first moments of the second norm's gains. -/
theorem o40_eq (x0 : FVec Ideal S24x1024 .f32) (x12 : FVec Ideal S1x1024 .f32) :
    o40 (F := Ideal) x0 x12 = means (gradRow 11 x0) x12 := by
  funext y
  obtain ⟨z, k, rfl⟩ : ∃ (z : Fin 1) (k : Fin 1024), y = ix2 z k := ⟨y 0, y 1, (ix2_eta y).symm⟩
  obtain rfl : z = 0 := Subsingleton.elim _ _
  unfold o40
  canon_tiles x hx
  obtain ⟨a, b, rfl⟩ : ∃ (a : Fin 1) (b : Fin 1024), x = ix2 a b := ⟨x 0, x 1, (ix2_eta x).symm⟩
  obtain rfl : k = b := Fin.ext hx1
  pointwise [k0_pay43, gradRow, means, mean]

/-- What the body leaves of the first moments of the final norm's gains. -/
theorem o41_eq (x0 : FVec Ideal S24x1024 .f32) (x13 : FVec Ideal S1x1024 .f32) :
    o41 (F := Ideal) x0 x13 = means (gradRow 12 x0) x13 := by
  funext y
  obtain ⟨z, k, rfl⟩ : ∃ (z : Fin 1) (k : Fin 1024), y = ix2 z k := ⟨y 0, y 1, (ix2_eta y).symm⟩
  obtain rfl : z = 0 := Subsingleton.elim _ _
  unfold o41
  canon_tiles x hx
  obtain ⟨a, b, rfl⟩ : ∃ (a : Fin 1) (b : Fin 1024), x = ix2 a b := ⟨x 0, x 1, (ix2_eta x).symm⟩
  obtain rfl : k = b := Fin.ext hx1
  pointwise [k0_pay46, gradRow, means, mean]

/-- What the body leaves of the first moments of the convolution's taps. -/
theorem o42_eq (x1 : FVec Ideal S3x128 .f32) (x14 : FVec Ideal S3x128 .f32) :
    o42 (F := Ideal) x1 x14 = means x1 x14 := by
  funext y
  obtain ⟨r, k, rfl⟩ : ∃ (r : Fin 3) (k : Fin 128), y = ix2 r k := ⟨y 0, y 1, (ix2_eta y).symm⟩
  unfold o42
  canon_tiles x hx
  obtain ⟨a, b, rfl⟩ : ∃ (a : Fin 3) (b : Fin 128), x = ix2 a b := ⟨x 0, x 1, (ix2_eta x).symm⟩
  obtain rfl : r = a := Fin.ext hx0
  obtain rfl : k = b := Fin.ext hx1
  pointwise [k0_pay49, means, mean]

/-- What the body leaves of the first moments of the sinks. -/
theorem o43_eq (x0 : FVec Ideal S24x1024 .f32) (x15 : FVec Ideal S1x16 .f32) :
    o43 (F := Ideal) x0 x15 = means (gradSinks x0) x15 := by
  funext y
  obtain ⟨z, k, rfl⟩ : ∃ (z : Fin 1) (k : Fin 16), y = ix2 z k := ⟨y 0, y 1, (ix2_eta y).symm⟩
  obtain rfl : z = 0 := Subsingleton.elim _ _
  unfold o43
  canon_tiles x hx
  obtain ⟨a, b, rfl⟩ : ∃ (a : Fin 1) (b : Fin 16), x = ix2 a b := ⟨x 0, x 1, (ix2_eta x).symm⟩
  obtain rfl : k = b := Fin.ext hx1
  pointwise [k0_pay52, gradSinks, means, mean]

/-- What the body leaves of the second moments of the modulation's biases. -/
theorem o44_eq (x0 : FVec Ideal S24x1024 .f32) (x16 : FVec Ideal S1x9216 .f32) :
    o44 (F := Ideal) x0 x16 = vars (gradMods x0) x16 := by
  funext y
  obtain ⟨z, k, rfl⟩ : ∃ (z : Fin 1) (k : Fin 9216), y = ix2 z k := ⟨y 0, y 1, (ix2_eta y).symm⟩
  obtain rfl : z = 0 := Subsingleton.elim _ _
  unfold o44
  canon_tiles x hx
  all_goals
    obtain ⟨a, b, rfl⟩ : ∃ (a : Fin 1) (b : Fin 1024), x = ix2 a b := ⟨x 0, x 1, (ix2_eta x).symm⟩
    pointwise [k0_pay35, k0_pay32, k0_pay29, k0_pay26, k0_pay21, k0_pay17, k0_pay12, k0_pay8, k0_pay2, vars, var]
  case piece0 => rw [mods_at x0 k 8 b hx1, show (⟨8192 + b.val, by omega⟩ : Fin 9216) = k from Fin.ext hx1.symm]
  case piece1 => rw [mods_at x0 k 7 b hx1, show (⟨7168 + b.val, by omega⟩ : Fin 9216) = k from Fin.ext hx1.symm]
  case piece2 => rw [mods_at x0 k 6 b hx1, show (⟨6144 + b.val, by omega⟩ : Fin 9216) = k from Fin.ext hx1.symm]
  case piece3 => rw [mods_at x0 k 5 b hx1, show (⟨5120 + b.val, by omega⟩ : Fin 9216) = k from Fin.ext hx1.symm]
  case piece4 => rw [mods_at x0 k 4 b hx1, show (⟨4096 + b.val, by omega⟩ : Fin 9216) = k from Fin.ext hx1.symm]
  case piece5 => rw [mods_at x0 k 3 b hx1, show (⟨3072 + b.val, by omega⟩ : Fin 9216) = k from Fin.ext hx1.symm]
  case piece6 => rw [mods_at x0 k 2 b hx1, show (⟨2048 + b.val, by omega⟩ : Fin 9216) = k from Fin.ext hx1.symm]
  case piece7 => rw [mods_at x0 k 1 b hx1, show (⟨1024 + b.val, by omega⟩ : Fin 9216) = k from Fin.ext hx1.symm]
  case piece8 => rw [mods_at x0 k 0 b (by simpa using hx1), show (⟨b.val, by omega⟩ : Fin 9216) = k from Fin.ext hx1.symm]

/-- What the body leaves of the second moments of the first norm's gains. -/
theorem o45_eq (x0 : FVec Ideal S24x1024 .f32) (x17 : FVec Ideal S1x1024 .f32) :
    o45 (F := Ideal) x0 x17 = vars (gradRow 9 x0) x17 := by
  funext y
  obtain ⟨z, k, rfl⟩ : ∃ (z : Fin 1) (k : Fin 1024), y = ix2 z k := ⟨y 0, y 1, (ix2_eta y).symm⟩
  obtain rfl : z = 0 := Subsingleton.elim _ _
  unfold o45
  canon_tiles x hx
  obtain ⟨a, b, rfl⟩ : ∃ (a : Fin 1) (b : Fin 1024), x = ix2 a b := ⟨x 0, x 1, (ix2_eta x).symm⟩
  obtain rfl : k = b := Fin.ext hx1
  pointwise [k0_pay38, gradRow, vars, var]

/-- What the body leaves of the second moments of the mixer norm's gains. -/
theorem o46_eq (x0 : FVec Ideal S24x1024 .f32) (x18 : FVec Ideal S1x1024 .f32) :
    o46 (F := Ideal) x0 x18 = vars (gradRow 10 x0) x18 := by
  funext y
  obtain ⟨z, k, rfl⟩ : ∃ (z : Fin 1) (k : Fin 1024), y = ix2 z k := ⟨y 0, y 1, (ix2_eta y).symm⟩
  obtain rfl : z = 0 := Subsingleton.elim _ _
  unfold o46
  canon_tiles x hx
  obtain ⟨a, b, rfl⟩ : ∃ (a : Fin 1) (b : Fin 1024), x = ix2 a b := ⟨x 0, x 1, (ix2_eta x).symm⟩
  obtain rfl : k = b := Fin.ext hx1
  pointwise [k0_pay41, gradRow, vars, var]

/-- What the body leaves of the second moments of the second norm's gains. -/
theorem o47_eq (x0 : FVec Ideal S24x1024 .f32) (x19 : FVec Ideal S1x1024 .f32) :
    o47 (F := Ideal) x0 x19 = vars (gradRow 11 x0) x19 := by
  funext y
  obtain ⟨z, k, rfl⟩ : ∃ (z : Fin 1) (k : Fin 1024), y = ix2 z k := ⟨y 0, y 1, (ix2_eta y).symm⟩
  obtain rfl : z = 0 := Subsingleton.elim _ _
  unfold o47
  canon_tiles x hx
  obtain ⟨a, b, rfl⟩ : ∃ (a : Fin 1) (b : Fin 1024), x = ix2 a b := ⟨x 0, x 1, (ix2_eta x).symm⟩
  obtain rfl : k = b := Fin.ext hx1
  pointwise [k0_pay44, gradRow, vars, var]

/-- What the body leaves of the second moments of the final norm's gains. -/
theorem o48_eq (x0 : FVec Ideal S24x1024 .f32) (x20 : FVec Ideal S1x1024 .f32) :
    o48 (F := Ideal) x0 x20 = vars (gradRow 12 x0) x20 := by
  funext y
  obtain ⟨z, k, rfl⟩ : ∃ (z : Fin 1) (k : Fin 1024), y = ix2 z k := ⟨y 0, y 1, (ix2_eta y).symm⟩
  obtain rfl : z = 0 := Subsingleton.elim _ _
  unfold o48
  canon_tiles x hx
  obtain ⟨a, b, rfl⟩ : ∃ (a : Fin 1) (b : Fin 1024), x = ix2 a b := ⟨x 0, x 1, (ix2_eta x).symm⟩
  obtain rfl : k = b := Fin.ext hx1
  pointwise [k0_pay47, gradRow, vars, var]

/-- What the body leaves of the second moments of the convolution's taps. -/
theorem o49_eq (x1 : FVec Ideal S3x128 .f32) (x21 : FVec Ideal S3x128 .f32) :
    o49 (F := Ideal) x1 x21 = vars x1 x21 := by
  funext y
  obtain ⟨r, k, rfl⟩ : ∃ (r : Fin 3) (k : Fin 128), y = ix2 r k := ⟨y 0, y 1, (ix2_eta y).symm⟩
  unfold o49
  canon_tiles x hx
  obtain ⟨a, b, rfl⟩ : ∃ (a : Fin 3) (b : Fin 128), x = ix2 a b := ⟨x 0, x 1, (ix2_eta x).symm⟩
  obtain rfl : r = a := Fin.ext hx0
  obtain rfl : k = b := Fin.ext hx1
  pointwise [k0_pay50, vars, var]

/-- What the body leaves of the second moments of the sinks. -/
theorem o50_eq (x0 : FVec Ideal S24x1024 .f32) (x22 : FVec Ideal S1x16 .f32) :
    o50 (F := Ideal) x0 x22 = vars (gradSinks x0) x22 := by
  funext y
  obtain ⟨z, k, rfl⟩ : ∃ (z : Fin 1) (k : Fin 16), y = ix2 z k := ⟨y 0, y 1, (ix2_eta y).symm⟩
  obtain rfl : z = 0 := Subsingleton.elim _ _
  unfold o50
  canon_tiles x hx
  obtain ⟨a, b, rfl⟩ : ∃ (a : Fin 1) (b : Fin 16), x = ix2 a b := ⟨x 0, x 1, (ix2_eta x).symm⟩
  obtain rfl : k = b := Fin.ext hx1
  pointwise [k0_pay53, gradSinks, vars, var]

variable (m : (ℓ : Loc nD τ sig) → Buf (Elt Ideal) ℓ)

/-- The argument arrays. -/
abbrev a0 (c : Dev nD) : FVec Ideal S24x1024 .f32 := m ((c : Thread nD τ).loc main_arg0)
abbrev a1 (c : Dev nD) : FVec Ideal S3x128 .f32 := m ((c : Thread nD τ).loc main_arg1)
abbrev a2 (c : Dev nD) : FVec Ideal S1x9216 .f32 := m ((c : Thread nD τ).loc main_arg2)
abbrev a3 (c : Dev nD) : FVec Ideal S1x1024 .f32 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)
abbrev a6 (c : Dev nD) : FVec Ideal S1x1024 .f32 := m ((c : Thread nD τ).loc main_arg6)
abbrev a7 (c : Dev nD) : FVec Ideal S3x128 .f32 := m ((c : Thread nD τ).loc main_arg7)
abbrev a8 (c : Dev nD) : FVec Ideal S1x16 .f32 := m ((c : Thread nD τ).loc main_arg8)
abbrev a9 (c : Dev nD) : FVec Ideal S1x9216 .f32 := m ((c : Thread nD τ).loc main_arg9)
abbrev a10 (c : Dev nD) : FVec Ideal S1x1024 .f32 := m ((c : Thread nD τ).loc main_arg10)
abbrev a11 (c : Dev nD) : FVec Ideal S1x1024 .f32 := m ((c : Thread nD τ).loc main_arg11)
abbrev a12 (c : Dev nD) : FVec Ideal S1x1024 .f32 := m ((c : Thread nD τ).loc main_arg12)
abbrev a13 (c : Dev nD) : FVec Ideal S1x1024 .f32 := m ((c : Thread nD τ).loc main_arg13)
abbrev a14 (c : Dev nD) : FVec Ideal S3x128 .f32 := m ((c : Thread nD τ).loc main_arg14)
abbrev a15 (c : Dev nD) : FVec Ideal S1x16 .f32 := m ((c : Thread nD τ).loc main_arg15)
abbrev a16 (c : Dev nD) : FVec Ideal S1x9216 .f32 := m ((c : Thread nD τ).loc main_arg16)
abbrev a17 (c : Dev nD) : FVec Ideal S1x1024 .f32 := m ((c : Thread nD τ).loc main_arg17)
abbrev a18 (c : Dev nD) : FVec Ideal S1x1024 .f32 := m ((c : Thread nD τ).loc main_arg18)
abbrev a19 (c : Dev nD) : FVec Ideal S1x1024 .f32 := m ((c : Thread nD τ).loc main_arg19)
abbrev a20 (c : Dev nD) : FVec Ideal S1x1024 .f32 := m ((c : Thread nD τ).loc main_arg20)
abbrev a21 (c : Dev nD) : FVec Ideal S3x128 .f32 := m ((c : Thread nD τ).loc main_arg21)
abbrev a22 (c : Dev nD) : FVec Ideal S1x16 .f32 := m ((c : Thread nD τ).loc main_arg22)

/-- Windows 0 to 12 show their whole arrays. -/
theorem at_a : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

/-- Windows 13 to 25 show their whole arrays. -/
theorem at_b : ∀ t : Fin cfg0.N, win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![0, 0]
    ∧ win0_25.index t = ![0, 0] :=
  (by decide +kernel : ∀ t : Fin grid0.N, _)

/-- Windows 26 to 38 show their whole arrays. -/
theorem at_c : ∀ t : Fin cfg0.N, win0_26.index t = ![0, 0] ∧ win0_27.index t = ![0, 0] ∧ win0_28.index t = ![0, 0] ∧ win0_29.index t = ![0, 0]
    ∧ win0_30.index t = ![0, 0] ∧ win0_31.index t = ![0, 0] ∧ win0_32.index t = ![0, 0] ∧ win0_33.index t = ![0, 0]
    ∧ win0_34.index t = ![0, 0] ∧ win0_35.index t = ![0, 0] ∧ win0_36.index t = ![0, 0] ∧ win0_37.index t = ![0, 0]
    ∧ win0_38.index t = ![0, 0] :=
  (by decide +kernel : ∀ t : Fin grid0.N, _)

/-- Windows 39 to 50 show their whole arrays. -/
theorem at_d : ∀ t : Fin cfg0.N, win0_39.index t = ![0, 0] ∧ win0_40.index t = ![0, 0] ∧ win0_41.index t = ![0, 0] ∧ win0_42.index t = ![0, 0]
    ∧ win0_43.index t = ![0, 0] ∧ win0_44.index t = ![0, 0] ∧ win0_45.index t = ![0, 0] ∧ win0_46.index t = ![0, 0]
    ∧ win0_47.index t = ![0, 0] ∧ win0_48.index t = ![0, 0] ∧ win0_49.index t = ![0, 0] ∧ win0_50.index t = ![0, 0] :=
  (by decide +kernel : ∀ t : Fin grid0.N, _)

theorem read_0 (c : Dev nD) (t : Fin cfg0.N) : iblk m c 0 t = a0 m c := by
  funext y
  obtain ⟨r, k, rfl⟩ : ∃ (r : Fin 24) (k : Fin 1024), y = ix2 r k := ⟨y 0, y 1, (ix2_eta y).symm⟩
  blk_point [iblk, V, at_a t, at_b t, at_c t, at_d t]

theorem read_1 (c : Dev nD) (t : Fin cfg0.N) : iblk m c 1 t = a1 m c := by
  funext y
  obtain ⟨r, k, rfl⟩ : ∃ (r : Fin 3) (k : Fin 128), y = ix2 r k := ⟨y 0, y 1, (ix2_eta y).symm⟩
  blk_point [iblk, V, at_a t, at_b t, at_c t, at_d t]

theorem read_2 (c : Dev nD) (t : Fin cfg0.N) : iblk m c 2 t = a2 m c := by
  funext y
  obtain ⟨r, k, rfl⟩ : ∃ (r : Fin 1) (k : Fin 9216), y = ix2 r k := ⟨y 0, y 1, (ix2_eta y).symm⟩
  blk_point [iblk, V, at_a t, at_b t, at_c t, at_d t]

theorem read_3 (c : Dev nD) (t : Fin cfg0.N) : iblk m c 3 t = a3 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_4 (c : Dev nD) (t : Fin cfg0.N) : iblk m c 4 t = a4 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_5 (c : Dev nD) (t : Fin cfg0.N) : iblk m c 5 t = a5 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_6 (c : Dev nD) (t : Fin cfg0.N) : iblk m c 6 t = a6 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_7 (c : Dev nD) (t : Fin cfg0.N) : iblk m c 7 t = a7 m c := by
  funext y
  obtain ⟨r, k, rfl⟩ : ∃ (r : Fin 3) (k : Fin 128), y = ix2 r k := ⟨y 0, y 1, (ix2_eta y).symm⟩
  blk_point [iblk, V, at_a t, at_b t, at_c t, at_d t]

theorem read_8 (c : Dev nD) (t : Fin cfg0.N) : iblk m c 8 t = a8 m c := by
  funext y
  obtain ⟨r, k, rfl⟩ : ∃ (r : Fin 1) (k : Fin 16), y = ix2 r k := ⟨y 0, y 1, (ix2_eta y).symm⟩
  blk_point [iblk, V, at_a t, at_b t, at_c t, at_d t]

theorem read_9 (c : Dev nD) (t : Fin cfg0.N) : iblk m c 9 t = a9 m c := by
  funext y
  obtain ⟨r, k, rfl⟩ : ∃ (r : Fin 1) (k : Fin 9216), y = ix2 r k := ⟨y 0, y 1, (ix2_eta y).symm⟩
  blk_point [iblk, V, at_a t, at_b t, at_c t, at_d t]

theorem read_10 (c : Dev nD) (t : Fin cfg0.N) : iblk m c 10 t = a10 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_11 (c : Dev nD) (t : Fin cfg0.N) : iblk m c 11 t = a11 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_12 (c : Dev nD) (t : Fin cfg0.N) : iblk m c 12 t = a12 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_13 (c : Dev nD) (t : Fin cfg0.N) : iblk m c 13 t = a13 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_14 (c : Dev nD) (t : Fin cfg0.N) : iblk m c 14 t = a14 m c := by
  funext y
  obtain ⟨r, k, rfl⟩ : ∃ (r : Fin 3) (k : Fin 128), y = ix2 r k := ⟨y 0, y 1, (ix2_eta y).symm⟩
  blk_point [iblk, V, at_a t, at_b t, at_c t, at_d t]

theorem read_15 (c : Dev nD) (t : Fin cfg0.N) : iblk m c 15 t = a15 m c := by
  funext y
  obtain ⟨r, k, rfl⟩ : ∃ (r : Fin 1) (k : Fin 16), y = ix2 r k := ⟨y 0, y 1, (ix2_eta y).symm⟩
  blk_point [iblk, V, at_a t, at_b t, at_c t, at_d t]

theorem read_16 (c : Dev nD) (t : Fin cfg0.N) : iblk m c 16 t = a16 m c := by
  funext y
  obtain ⟨r, k, rfl⟩ : ∃ (r : Fin 1) (k : Fin 9216), y = ix2 r k := ⟨y 0, y 1, (ix2_eta y).symm⟩
  blk_point [iblk, V, at_a t, at_b t, at_c t, at_d t]

theorem read_17 (c : Dev nD) (t : Fin cfg0.N) : iblk m c 17 t = a17 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_18 (c : Dev nD) (t : Fin cfg0.N) : iblk m c 18 t = a18 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_19 (c : Dev nD) (t : Fin cfg0.N) : iblk m c 19 t = a19 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_20 (c : Dev nD) (t : Fin cfg0.N) : iblk m c 20 t = a20 m c := by
  funext y
  obtain ⟨r, k, rfl⟩ : ∃ (r : Fin 1) (k : Fin 1024), y = ix2 r k := ⟨y 0, y 1, (ix2_eta y).symm⟩
  blk_point [iblk, V, at_a t, at_b t, at_c t, at_d t]

theorem read_21 (c : Dev nD) (t : Fin cfg0.N) : iblk m c 21 t = a21 m c := by
  funext y
  obtain ⟨r, k, rfl⟩ : ∃ (r : Fin 3) (k : Fin 128), y = ix2 r k := ⟨y 0, y 1, (ix2_eta y).symm⟩
  blk_point [iblk, V, at_a t, at_b t, at_c t, at_d t]

theorem read_22 (c : Dev nD) (t : Fin cfg0.N) : iblk m c 22 t = a22 m c := by
  funext y
  obtain ⟨r, k, rfl⟩ : ∃ (r : Fin 1) (k : Fin 16), y = ix2 r k := ⟨y 0, y 1, (ix2_eta y).symm⟩
  blk_point [iblk, V, at_a t, at_b t, at_c t, at_d t]

/-- The gradient of the modulation's biases. -/
theorem final23 (c : Dev nD) : (dats m 0 c).arrAt 23 (cfgs 0).N = gradMods (a0 m c) := by
  refine (dats m 0 c).arrAt_eq_of_covers 23 _ (by decide +kernel) fun t hf y => ?_
  blk_simp
  rw [after_23, read_0, o23_eq]
  refine congrArg (gradMods (a0 m c)) ?_
  obtain ⟨r, k, rfl⟩ : ∃ (r : Fin 1) (k : Fin 9216), y = ix2 r k := ⟨y 0, y 1, (ix2_eta y).symm⟩
  blk_ext [at_a t, at_b t, at_c t, at_d t]

/-- The gradient of the first norm's gains. -/
theorem final24 (c : Dev nD) : (dats m 0 c).arrAt 24 (cfgs 0).N = gradRow 9 (a0 m c) := by
  refine (dats m 0 c).arrAt_eq_of_covers 24 _ (by decide +kernel) fun t hf y => ?_
  blk_simp
  rw [after_24, read_0, o24_eq]
  refine congrArg (gradRow 9 (a0 m c)) ?_
  obtain ⟨r, k, rfl⟩ : ∃ (r : Fin 1) (k : Fin 1024), y = ix2 r k := ⟨y 0, y 1, (ix2_eta y).symm⟩
  blk_ext [at_a t, at_b t, at_c t, at_d t]

/-- The gradient of the mixer norm's gains. -/
theorem final25 (c : Dev nD) : (dats m 0 c).arrAt 25 (cfgs 0).N = gradRow 10 (a0 m c) := by
  refine (dats m 0 c).arrAt_eq_of_covers 25 _ (by decide +kernel) fun t hf y => ?_
  blk_simp
  rw [after_25, read_0, o25_eq]
  refine congrArg (gradRow 10 (a0 m c)) ?_
  obtain ⟨r, k, rfl⟩ : ∃ (r : Fin 1) (k : Fin 1024), y = ix2 r k := ⟨y 0, y 1, (ix2_eta y).symm⟩
  blk_ext [at_a t, at_b t, at_c t, at_d t]

/-- The gradient of the second norm's gains. -/
theorem final26 (c : Dev nD) : (dats m 0 c).arrAt 26 (cfgs 0).N = gradRow 11 (a0 m c) := by
  refine (dats m 0 c).arrAt_eq_of_covers 26 _ (by decide +kernel) fun t hf y => ?_
  blk_simp
  rw [after_26, read_0, o26_eq]
  refine congrArg (gradRow 11 (a0 m c)) ?_
  obtain ⟨r, k, rfl⟩ : ∃ (r : Fin 1) (k : Fin 1024), y = ix2 r k := ⟨y 0, y 1, (ix2_eta y).symm⟩
  blk_ext [at_a t, at_b t, at_c t, at_d t]

/-- The gradient of the final norm's gains. -/
theorem final27 (c : Dev nD) : (dats m 0 c).arrAt 27 (cfgs 0).N = gradRow 12 (a0 m c) := by
  refine (dats m 0 c).arrAt_eq_of_covers 27 _ (by decide +kernel) fun t hf y => ?_
  blk_simp
  rw [after_27, read_0, o27_eq]
  refine congrArg (gradRow 12 (a0 m c)) ?_
  obtain ⟨r, k, rfl⟩ : ∃ (r : Fin 1) (k : Fin 1024), y = ix2 r k := ⟨y 0, y 1, (ix2_eta y).symm⟩
  blk_ext [at_a t, at_b t, at_c t, at_d t]

/-- The gradient of the convolution's taps. -/
theorem final28 (c : Dev nD) : (dats m 0 c).arrAt 28 (cfgs 0).N = a1 m c := by
  refine (dats m 0 c).arrAt_eq_of_covers 28 _ (by decide +kernel) fun t hf y => ?_
  blk_simp
  rw [after_28, read_1, o28_eq]
  refine congrArg (a1 m c) ?_
  obtain ⟨r, k, rfl⟩ : ∃ (r : Fin 3) (k : Fin 128), y = ix2 r k := ⟨y 0, y 1, (ix2_eta y).symm⟩
  blk_ext [at_a t, at_b t, at_c t, at_d t]

/-- The gradient of the sinks. -/
theorem final29 (c : Dev nD) : (dats m 0 c).arrAt 29 (cfgs 0).N = gradSinks (a0 m c) := by
  refine (dats m 0 c).arrAt_eq_of_covers 29 _ (by decide +kernel) fun t hf y => ?_
  blk_simp
  rw [after_29, read_0, o29_eq]
  refine congrArg (gradSinks (a0 m c)) ?_
  obtain ⟨r, k, rfl⟩ : ∃ (r : Fin 1) (k : Fin 16), y = ix2 r k := ⟨y 0, y 1, (ix2_eta y).symm⟩
  blk_ext [at_a t, at_b t, at_c t, at_d t]

/-- The updates of the modulation's biases. -/
theorem final30 (c : Dev nD) : (dats m 0 c).arrAt 30 (cfgs 0).N = steps (a2 m c) (gradMods (a0 m c)) (a9 m c) (a16 m c) := by
  refine (dats m 0 c).arrAt_eq_of_covers 30 _ (by decide +kernel) fun t hf y => ?_
  blk_simp
  rw [after_30, read_0, read_2, read_9, read_16, o30_eq]
  refine congrArg (steps (a2 m c) (gradMods (a0 m c)) (a9 m c) (a16 m c)) ?_
  obtain ⟨r, k, rfl⟩ : ∃ (r : Fin 1) (k : Fin 9216), y = ix2 r k := ⟨y 0, y 1, (ix2_eta y).symm⟩
  blk_ext [at_a t, at_b t, at_c t, at_d t]

/-- The updates of the first norm's gains. -/
theorem final31 (c : Dev nD) : (dats m 0 c).arrAt 31 (cfgs 0).N = steps (a3 m c) (gradRow 9 (a0 m c)) (a10 m c) (a17 m c) := by
  refine (dats m 0 c).arrAt_eq_of_covers 31 _ (by decide +kernel) fun t hf y => ?_
  blk_simp
  rw [after_31, read_0, read_3, read_10, read_17, o31_eq]
  refine congrArg (steps (a3 m c) (gradRow 9 (a0 m c)) (a10 m c) (a17 m c)) ?_
  obtain ⟨r, k, rfl⟩ : ∃ (r : Fin 1) (k : Fin 1024), y = ix2 r k := ⟨y 0, y 1, (ix2_eta y).symm⟩
  blk_ext [at_a t, at_b t, at_c t, at_d t]

/-- The updates of the mixer norm's gains. -/
theorem final32 (c : Dev nD) : (dats m 0 c).arrAt 32 (cfgs 0).N = steps (a4 m c) (gradRow 10 (a0 m c)) (a11 m c) (a18 m c) := by
  refine (dats m 0 c).arrAt_eq_of_covers 32 _ (by decide +kernel) fun t hf y => ?_
  blk_simp
  rw [after_32, read_0, read_4, read_11, read_18, o32_eq]
  refine congrArg (steps (a4 m c) (gradRow 10 (a0 m c)) (a11 m c) (a18 m c)) ?_
  obtain ⟨r, k, rfl⟩ : ∃ (r : Fin 1) (k : Fin 1024), y = ix2 r k := ⟨y 0, y 1, (ix2_eta y).symm⟩
  blk_ext [at_a t, at_b t, at_c t, at_d t]

/-- The updates of the second norm's gains. -/
theorem final33 (c : Dev nD) : (dats m 0 c).arrAt 33 (cfgs 0).N = steps (a5 m c) (gradRow 11 (a0 m c)) (a12 m c) (a19 m c) := by
  refine (dats m 0 c).arrAt_eq_of_covers 33 _ (by decide +kernel) fun t hf y => ?_
  blk_simp
  rw [after_33, read_0, read_5, read_12, read_19, o33_eq]
  refine congrArg (steps (a5 m c) (gradRow 11 (a0 m c)) (a12 m c) (a19 m c)) ?_
  obtain ⟨r, k, rfl⟩ : ∃ (r : Fin 1) (k : Fin 1024), y = ix2 r k := ⟨y 0, y 1, (ix2_eta y).symm⟩
  blk_ext [at_a t, at_b t, at_c t, at_d t]

/-- The updates of the final norm's gains. -/
theorem final34 (c : Dev nD) : (dats m 0 c).arrAt 34 (cfgs 0).N = steps (a6 m c) (gradRow 12 (a0 m c)) (a13 m c) (a20 m c) := by
  refine (dats m 0 c).arrAt_eq_of_covers 34 _ (by decide +kernel) fun t hf y => ?_
  blk_simp
  rw [after_34, read_0, read_6, read_13, read_20, o34_eq]
  refine congrArg (steps (a6 m c) (gradRow 12 (a0 m c)) (a13 m c) (a20 m c)) ?_
  obtain ⟨r, k, rfl⟩ : ∃ (r : Fin 1) (k : Fin 1024), y = ix2 r k := ⟨y 0, y 1, (ix2_eta y).symm⟩
  blk_ext [at_a t, at_b t, at_c t, at_d t]

/-- The updates of the convolution's taps. -/
theorem final35 (c : Dev nD) : (dats m 0 c).arrAt 35 (cfgs 0).N = steps (a7 m c) (a1 m c) (a14 m c) (a21 m c) := by
  refine (dats m 0 c).arrAt_eq_of_covers 35 _ (by decide +kernel) fun t hf y => ?_
  blk_simp
  rw [after_35, read_1, read_7, read_14, read_21, o35_eq]
  refine congrArg (steps (a7 m c) (a1 m c) (a14 m c) (a21 m c)) ?_
  obtain ⟨r, k, rfl⟩ : ∃ (r : Fin 3) (k : Fin 128), y = ix2 r k := ⟨y 0, y 1, (ix2_eta y).symm⟩
  blk_ext [at_a t, at_b t, at_c t, at_d t]

/-- The updates of the sinks. -/
theorem final36 (c : Dev nD) : (dats m 0 c).arrAt 36 (cfgs 0).N = steps (a8 m c) (gradSinks (a0 m c)) (a15 m c) (a22 m c) := by
  refine (dats m 0 c).arrAt_eq_of_covers 36 _ (by decide +kernel) fun t hf y => ?_
  blk_simp
  rw [after_36, read_0, read_8, read_15, read_22, o36_eq]
  refine congrArg (steps (a8 m c) (gradSinks (a0 m c)) (a15 m c) (a22 m c)) ?_
  obtain ⟨r, k, rfl⟩ : ∃ (r : Fin 1) (k : Fin 16), y = ix2 r k := ⟨y 0, y 1, (ix2_eta y).symm⟩
  blk_ext [at_a t, at_b t, at_c t, at_d t]

/-- The first moments of the modulation's biases. -/
theorem final37 (c : Dev nD) : (dats m 0 c).arrAt 37 (cfgs 0).N = means (gradMods (a0 m c)) (a9 m c) := by
  refine (dats m 0 c).arrAt_eq_of_covers 37 _ (by decide +kernel) fun t hf y => ?_
  blk_simp
  rw [after_37, read_0, read_9, o37_eq]
  refine congrArg (means (gradMods (a0 m c)) (a9 m c)) ?_
  obtain ⟨r, k, rfl⟩ : ∃ (r : Fin 1) (k : Fin 9216), y = ix2 r k := ⟨y 0, y 1, (ix2_eta y).symm⟩
  blk_ext [at_a t, at_b t, at_c t, at_d t]

/-- The first moments of the first norm's gains. -/
theorem final38 (c : Dev nD) : (dats m 0 c).arrAt 38 (cfgs 0).N = means (gradRow 9 (a0 m c)) (a10 m c) := by
  refine (dats m 0 c).arrAt_eq_of_covers 38 _ (by decide +kernel) fun t hf y => ?_
  blk_simp
  rw [after_38, read_0, read_10, o38_eq]
  refine congrArg (means (gradRow 9 (a0 m c)) (a10 m c)) ?_
  obtain ⟨r, k, rfl⟩ : ∃ (r : Fin 1) (k : Fin 1024), y = ix2 r k := ⟨y 0, y 1, (ix2_eta y).symm⟩
  blk_ext [at_a t, at_b t, at_c t, at_d t]

/-- The first moments of the mixer norm's gains. -/
theorem final39 (c : Dev nD) : (dats m 0 c).arrAt 39 (cfgs 0).N = means (gradRow 10 (a0 m c)) (a11 m c) := by
  refine (dats m 0 c).arrAt_eq_of_covers 39 _ (by decide +kernel) fun t hf y => ?_
  blk_simp
  rw [after_39, read_0, read_11, o39_eq]
  refine congrArg (means (gradRow 10 (a0 m c)) (a11 m c)) ?_
  obtain ⟨r, k, rfl⟩ : ∃ (r : Fin 1) (k : Fin 1024), y = ix2 r k := ⟨y 0, y 1, (ix2_eta y).symm⟩
  blk_ext [at_a t, at_b t, at_c t, at_d t]

/-- The first moments of the second norm's gains. -/
theorem final40 (c : Dev nD) : (dats m 0 c).arrAt 40 (cfgs 0).N = means (gradRow 11 (a0 m c)) (a12 m c) := by
  refine (dats m 0 c).arrAt_eq_of_covers 40 _ (by decide +kernel) fun t hf y => ?_
  blk_simp
  rw [after_40, read_0, read_12, o40_eq]
  refine congrArg (means (gradRow 11 (a0 m c)) (a12 m c)) ?_
  obtain ⟨r, k, rfl⟩ : ∃ (r : Fin 1) (k : Fin 1024), y = ix2 r k := ⟨y 0, y 1, (ix2_eta y).symm⟩
  blk_ext [at_a t, at_b t, at_c t, at_d t]

/-- The first moments of the final norm's gains. -/
theorem final41 (c : Dev nD) : (dats m 0 c).arrAt 41 (cfgs 0).N = means (gradRow 12 (a0 m c)) (a13 m c) := by
  refine (dats m 0 c).arrAt_eq_of_covers 41 _ (by decide +kernel) fun t hf y => ?_
  blk_simp
  rw [after_41, read_0, read_13, o41_eq]
  refine congrArg (means (gradRow 12 (a0 m c)) (a13 m c)) ?_
  obtain ⟨r, k, rfl⟩ : ∃ (r : Fin 1) (k : Fin 1024), y = ix2 r k := ⟨y 0, y 1, (ix2_eta y).symm⟩
  blk_ext [at_a t, at_b t, at_c t, at_d t]

/-- The first moments of the convolution's taps. -/
theorem final42 (c : Dev nD) : (dats m 0 c).arrAt 42 (cfgs 0).N = means (a1 m c) (a14 m c) := by
  refine (dats m 0 c).arrAt_eq_of_covers 42 _ (by decide +kernel) fun t hf y => ?_
  blk_simp
  rw [after_42, read_1, read_14, o42_eq]
  refine congrArg (means (a1 m c) (a14 m c)) ?_
  obtain ⟨r, k, rfl⟩ : ∃ (r : Fin 3) (k : Fin 128), y = ix2 r k := ⟨y 0, y 1, (ix2_eta y).symm⟩
  blk_ext [at_a t, at_b t, at_c t, at_d t]

/-- The first moments of the sinks. -/
theorem final43 (c : Dev nD) : (dats m 0 c).arrAt 43 (cfgs 0).N = means (gradSinks (a0 m c)) (a15 m c) := by
  refine (dats m 0 c).arrAt_eq_of_covers 43 _ (by decide +kernel) fun t hf y => ?_
  blk_simp
  rw [after_43, read_0, read_15, o43_eq]
  refine congrArg (means (gradSinks (a0 m c)) (a15 m c)) ?_
  obtain ⟨r, k, rfl⟩ : ∃ (r : Fin 1) (k : Fin 16), y = ix2 r k := ⟨y 0, y 1, (ix2_eta y).symm⟩
  blk_ext [at_a t, at_b t, at_c t, at_d t]

/-- The second moments of the modulation's biases. -/
theorem final44 (c : Dev nD) : (dats m 0 c).arrAt 44 (cfgs 0).N = vars (gradMods (a0 m c)) (a16 m c) := by
  refine (dats m 0 c).arrAt_eq_of_covers 44 _ (by decide +kernel) fun t hf y => ?_
  blk_simp
  rw [after_44, read_0, read_16, o44_eq]
  refine congrArg (vars (gradMods (a0 m c)) (a16 m c)) ?_
  obtain ⟨r, k, rfl⟩ : ∃ (r : Fin 1) (k : Fin 9216), y = ix2 r k := ⟨y 0, y 1, (ix2_eta y).symm⟩
  blk_ext [at_a t, at_b t, at_c t, at_d t]

/-- The second moments of the first norm's gains. -/
theorem final45 (c : Dev nD) : (dats m 0 c).arrAt 45 (cfgs 0).N = vars (gradRow 9 (a0 m c)) (a17 m c) := by
  refine (dats m 0 c).arrAt_eq_of_covers 45 _ (by decide +kernel) fun t hf y => ?_
  blk_simp
  rw [after_45, read_0, read_17, o45_eq]
  refine congrArg (vars (gradRow 9 (a0 m c)) (a17 m c)) ?_
  obtain ⟨r, k, rfl⟩ : ∃ (r : Fin 1) (k : Fin 1024), y = ix2 r k := ⟨y 0, y 1, (ix2_eta y).symm⟩
  blk_ext [at_a t, at_b t, at_c t, at_d t]

/-- The second moments of the mixer norm's gains. -/
theorem final46 (c : Dev nD) : (dats m 0 c).arrAt 46 (cfgs 0).N = vars (gradRow 10 (a0 m c)) (a18 m c) := by
  refine (dats m 0 c).arrAt_eq_of_covers 46 _ (by decide +kernel) fun t hf y => ?_
  blk_simp
  rw [after_46, read_0, read_18, o46_eq]
  refine congrArg (vars (gradRow 10 (a0 m c)) (a18 m c)) ?_
  obtain ⟨r, k, rfl⟩ : ∃ (r : Fin 1) (k : Fin 1024), y = ix2 r k := ⟨y 0, y 1, (ix2_eta y).symm⟩
  blk_ext [at_a t, at_b t, at_c t, at_d t]

/-- The second moments of the second norm's gains. -/
theorem final47 (c : Dev nD) : (dats m 0 c).arrAt 47 (cfgs 0).N = vars (gradRow 11 (a0 m c)) (a19 m c) := by
  refine (dats m 0 c).arrAt_eq_of_covers 47 _ (by decide +kernel) fun t hf y => ?_
  blk_simp
  rw [after_47, read_0, read_19, o47_eq]
  refine congrArg (vars (gradRow 11 (a0 m c)) (a19 m c)) ?_
  obtain ⟨r, k, rfl⟩ : ∃ (r : Fin 1) (k : Fin 1024), y = ix2 r k := ⟨y 0, y 1, (ix2_eta y).symm⟩
  blk_ext [at_a t, at_b t, at_c t, at_d t]

/-- The second moments of the final norm's gains. -/
theorem final48 (c : Dev nD) : (dats m 0 c).arrAt 48 (cfgs 0).N = vars (gradRow 12 (a0 m c)) (a20 m c) := by
  refine (dats m 0 c).arrAt_eq_of_covers 48 _ (by decide +kernel) fun t hf y => ?_
  blk_simp
  rw [after_48, read_0, read_20, o48_eq]
  refine congrArg (vars (gradRow 12 (a0 m c)) (a20 m c)) ?_
  obtain ⟨r, k, rfl⟩ : ∃ (r : Fin 1) (k : Fin 1024), y = ix2 r k := ⟨y 0, y 1, (ix2_eta y).symm⟩
  blk_ext [at_a t, at_b t, at_c t, at_d t]

/-- The second moments of the convolution's taps. -/
theorem final49 (c : Dev nD) : (dats m 0 c).arrAt 49 (cfgs 0).N = vars (a1 m c) (a21 m c) := by
  refine (dats m 0 c).arrAt_eq_of_covers 49 _ (by decide +kernel) fun t hf y => ?_
  blk_simp
  rw [after_49, read_1, read_21, o49_eq]
  refine congrArg (vars (a1 m c) (a21 m c)) ?_
  obtain ⟨r, k, rfl⟩ : ∃ (r : Fin 3) (k : Fin 128), y = ix2 r k := ⟨y 0, y 1, (ix2_eta y).symm⟩
  blk_ext [at_a t, at_b t, at_c t, at_d t]

/-- The second moments of the sinks. -/
theorem final50 (c : Dev nD) : (dats m 0 c).arrAt 50 (cfgs 0).N = vars (gradSinks (a0 m c)) (a22 m c) := by
  refine (dats m 0 c).arrAt_eq_of_covers 50 _ (by decide +kernel) fun t hf y => ?_
  blk_simp
  rw [after_50, read_0, read_22, o50_eq]
  refine congrArg (vars (gradSinks (a0 m c)) (a22 m c)) ?_
  obtain ⟨r, k, rfl⟩ : ∃ (r : Fin 1) (k : Fin 16), y = ix2 r k := ⟨y 0, y 1, (ix2_eta y).symm⟩
  blk_ext [at_a t, at_b t, at_c t, at_d t]

end Kernel

section Reference

open Cert.Kernel21Ideal Cert.Reference21Ideal.Read

/-- The reference's gradient of the modulation's biases. -/
theorem ref_1 (x0 : FVec Ideal S24x1024 .f32) : val_main_v1 (F := Ideal) x0 = gradMods x0 := by
  funext i
  obtain ⟨z, k, rfl⟩ : ∃ (z : Fin 1) (k : Fin 9216), i = ix2 z k := ⟨i 0, i 1, (ix2_eta i).symm⟩
  obtain rfl : z = 0 := Subsingleton.elim _ _
  pointwise [val_main_v1, val_main_v0, gradMods]

/-- The reference's gradient of the first norm's gains. -/
theorem ref_2 (x0 : FVec Ideal S24x1024 .f32) : val_main_v2 (F := Ideal) x0 = gradRow 9 x0 := by
  funext i
  obtain ⟨z, k, rfl⟩ : ∃ (z : Fin 1) (k : Fin 1024), i = ix2 z k := ⟨i 0, i 1, (ix2_eta i).symm⟩
  obtain rfl : z = 0 := Subsingleton.elim _ _
  pointwise [val_main_v2, gradRow]

/-- The reference's gradient of the mixer norm's gains. -/
theorem ref_3 (x0 : FVec Ideal S24x1024 .f32) : val_main_v3 (F := Ideal) x0 = gradRow 10 x0 := by
  funext i
  obtain ⟨z, k, rfl⟩ : ∃ (z : Fin 1) (k : Fin 1024), i = ix2 z k := ⟨i 0, i 1, (ix2_eta i).symm⟩
  obtain rfl : z = 0 := Subsingleton.elim _ _
  pointwise [val_main_v3, gradRow]

/-- The reference's gradient of the second norm's gains. -/
theorem ref_4 (x0 : FVec Ideal S24x1024 .f32) : val_main_v4 (F := Ideal) x0 = gradRow 11 x0 := by
  funext i
  obtain ⟨z, k, rfl⟩ : ∃ (z : Fin 1) (k : Fin 1024), i = ix2 z k := ⟨i 0, i 1, (ix2_eta i).symm⟩
  obtain rfl : z = 0 := Subsingleton.elim _ _
  pointwise [val_main_v4, gradRow]

/-- The reference's gradient of the final norm's gains. -/
theorem ref_5 (x0 : FVec Ideal S24x1024 .f32) : val_main_v5 (F := Ideal) x0 = gradRow 12 x0 := by
  funext i
  obtain ⟨z, k, rfl⟩ : ∃ (z : Fin 1) (k : Fin 1024), i = ix2 z k := ⟨i 0, i 1, (ix2_eta i).symm⟩
  obtain rfl : z = 0 := Subsingleton.elim _ _
  pointwise [val_main_v5, gradRow]

/-- The reference's gradient of the sinks. -/
theorem ref_6 (x0 : FVec Ideal S24x1024 .f32) : val_main_v6 (F := Ideal) x0 = gradSinks x0 := by
  funext i
  obtain ⟨z, k, rfl⟩ : ∃ (z : Fin 1) (k : Fin 16), i = ix2 z k := ⟨i 0, i 1, (ix2_eta i).symm⟩
  obtain rfl : z = 0 := Subsingleton.elim _ _
  pointwise [val_main_v6, gradSinks]

/-- The reference's first moments of the modulation's biases. -/
theorem ref_11 (x0 : FVec Ideal S24x1024 .f32) (x9 : FVec Ideal S1x9216 .f32) :
    val_main_v11 (F := Ideal) x0 x9 = means (gradMods x0) x9 := by
  have h : val_main_v11 (F := Ideal) x0 x9 = means (val_main_v1 (F := Ideal) x0) x9 := by
    funext i
    rfl
  rw [h, ref_1]

/-- The reference's first moments of the first norm's gains. -/
theorem ref_35 (x0 : FVec Ideal S24x1024 .f32) (x10 : FVec Ideal S1x1024 .f32) :
    val_main_v35 (F := Ideal) x0 x10 = means (gradRow 9 x0) x10 := by
  have h : val_main_v35 (F := Ideal) x0 x10 = means (val_main_v2 (F := Ideal) x0) x10 := by
    funext i
    rfl
  rw [h, ref_2]

/-- The reference's first moments of the mixer norm's gains. -/
theorem ref_59 (x0 : FVec Ideal S24x1024 .f32) (x11 : FVec Ideal S1x1024 .f32) :
    val_main_v59 (F := Ideal) x0 x11 = means (gradRow 10 x0) x11 := by
  have h : val_main_v59 (F := Ideal) x0 x11 = means (val_main_v3 (F := Ideal) x0) x11 := by
    funext i
    rfl
  rw [h, ref_3]

/-- The reference's first moments of the second norm's gains. -/
theorem ref_83 (x0 : FVec Ideal S24x1024 .f32) (x12 : FVec Ideal S1x1024 .f32) :
    val_main_v83 (F := Ideal) x0 x12 = means (gradRow 11 x0) x12 := by
  have h : val_main_v83 (F := Ideal) x0 x12 = means (val_main_v4 (F := Ideal) x0) x12 := by
    funext i
    rfl
  rw [h, ref_4]

/-- The reference's first moments of the final norm's gains. -/
theorem ref_107 (x0 : FVec Ideal S24x1024 .f32) (x13 : FVec Ideal S1x1024 .f32) :
    val_main_v107 (F := Ideal) x0 x13 = means (gradRow 12 x0) x13 := by
  have h : val_main_v107 (F := Ideal) x0 x13 = means (val_main_v5 (F := Ideal) x0) x13 := by
    funext i
    rfl
  rw [h, ref_5]

/-- The reference's first moments of the convolution's taps. -/
theorem ref_131 (x1 : FVec Ideal S3x128 .f32) (x14 : FVec Ideal S3x128 .f32) :
    val_main_v131 (F := Ideal) x1 x14 = means x1 x14 := by
  have h : val_main_v131 (F := Ideal) x1 x14 = means x1 x14 := by
    funext i
    rfl
  exact h

/-- The reference's first moments of the sinks. -/
theorem ref_155 (x0 : FVec Ideal S24x1024 .f32) (x15 : FVec Ideal S1x16 .f32) :
    val_main_v155 (F := Ideal) x0 x15 = means (gradSinks x0) x15 := by
  have h : val_main_v155 (F := Ideal) x0 x15 = means (val_main_v6 (F := Ideal) x0) x15 := by
    funext i
    rfl
  rw [h, ref_6]

/-- The reference's second moments of the modulation's biases. -/
theorem ref_17 (x0 : FVec Ideal S24x1024 .f32) (x16 : FVec Ideal S1x9216 .f32) :
    val_main_v17 (F := Ideal) x0 x16 = vars (gradMods x0) x16 := by
  have h : val_main_v17 (F := Ideal) x0 x16 = vars (val_main_v1 (F := Ideal) x0) x16 := by
    funext i
    rfl
  rw [h, ref_1]

/-- The reference's second moments of the first norm's gains. -/
theorem ref_41 (x0 : FVec Ideal S24x1024 .f32) (x17 : FVec Ideal S1x1024 .f32) :
    val_main_v41 (F := Ideal) x0 x17 = vars (gradRow 9 x0) x17 := by
  have h : val_main_v41 (F := Ideal) x0 x17 = vars (val_main_v2 (F := Ideal) x0) x17 := by
    funext i
    rfl
  rw [h, ref_2]

/-- The reference's second moments of the mixer norm's gains. -/
theorem ref_65 (x0 : FVec Ideal S24x1024 .f32) (x18 : FVec Ideal S1x1024 .f32) :
    val_main_v65 (F := Ideal) x0 x18 = vars (gradRow 10 x0) x18 := by
  have h : val_main_v65 (F := Ideal) x0 x18 = vars (val_main_v3 (F := Ideal) x0) x18 := by
    funext i
    rfl
  rw [h, ref_3]

/-- The reference's second moments of the second norm's gains. -/
theorem ref_89 (x0 : FVec Ideal S24x1024 .f32) (x19 : FVec Ideal S1x1024 .f32) :
    val_main_v89 (F := Ideal) x0 x19 = vars (gradRow 11 x0) x19 := by
  have h : val_main_v89 (F := Ideal) x0 x19 = vars (val_main_v4 (F := Ideal) x0) x19 := by
    funext i
    rfl
  rw [h, ref_4]

/-- The reference's second moments of the final norm's gains. -/
theorem ref_113 (x0 : FVec Ideal S24x1024 .f32) (x20 : FVec Ideal S1x1024 .f32) :
    val_main_v113 (F := Ideal) x0 x20 = vars (gradRow 12 x0) x20 := by
  have h : val_main_v113 (F := Ideal) x0 x20 = vars (val_main_v5 (F := Ideal) x0) x20 := by
    funext i
    rfl
  rw [h, ref_5]

/-- The reference's second moments of the convolution's taps. -/
theorem ref_137 (x1 : FVec Ideal S3x128 .f32) (x21 : FVec Ideal S3x128 .f32) :
    val_main_v137 (F := Ideal) x1 x21 = vars x1 x21 := by
  have h : val_main_v137 (F := Ideal) x1 x21 = vars x1 x21 := by
    funext i
    rfl
  exact h

/-- The reference's second moments of the sinks. -/
theorem ref_161 (x0 : FVec Ideal S24x1024 .f32) (x22 : FVec Ideal S1x16 .f32) :
    val_main_v161 (F := Ideal) x0 x22 = vars (gradSinks x0) x22 := by
  have h : val_main_v161 (F := Ideal) x0 x22 = vars (val_main_v6 (F := Ideal) x0) x22 := by
    funext i
    rfl
  rw [h, ref_6]

/-- The reference's updates of the modulation's biases. -/
theorem ref_30 (x0 : FVec Ideal S24x1024 .f32) (x2 : FVec Ideal S1x9216 .f32) (x9 : FVec Ideal S1x9216 .f32) (x16 : FVec Ideal S1x9216 .f32) :
    val_main_v30 (F := Ideal) x0 x2 x9 x16 = steps x2 (gradMods x0) x9 x16 := by
  have h : val_main_v30 (F := Ideal) x0 x2 x9 x16 = steps x2 (val_main_v1 (F := Ideal) x0) x9 x16 := by
    funext i
    rfl
  rw [h, ref_1]

/-- The reference's updates of the first norm's gains. -/
theorem ref_54 (x0 : FVec Ideal S24x1024 .f32) (x3 : FVec Ideal S1x1024 .f32) (x10 : FVec Ideal S1x1024 .f32) (x17 : FVec Ideal S1x1024 .f32) :
    val_main_v54 (F := Ideal) x0 x3 x10 x17 = steps x3 (gradRow 9 x0) x10 x17 := by
  have h : val_main_v54 (F := Ideal) x0 x3 x10 x17 = steps x3 (val_main_v2 (F := Ideal) x0) x10 x17 := by
    funext i
    rfl
  rw [h, ref_2]

/-- The reference's updates of the mixer norm's gains. -/
theorem ref_78 (x0 : FVec Ideal S24x1024 .f32) (x4 : FVec Ideal S1x1024 .f32) (x11 : FVec Ideal S1x1024 .f32) (x18 : FVec Ideal S1x1024 .f32) :
    val_main_v78 (F := Ideal) x0 x4 x11 x18 = steps x4 (gradRow 10 x0) x11 x18 := by
  have h : val_main_v78 (F := Ideal) x0 x4 x11 x18 = steps x4 (val_main_v3 (F := Ideal) x0) x11 x18 := by
    funext i
    rfl
  rw [h, ref_3]

/-- The reference's updates of the second norm's gains. -/
theorem ref_102 (x0 : FVec Ideal S24x1024 .f32) (x5 : FVec Ideal S1x1024 .f32) (x12 : FVec Ideal S1x1024 .f32) (x19 : FVec Ideal S1x1024 .f32) :
    val_main_v102 (F := Ideal) x0 x5 x12 x19 = steps x5 (gradRow 11 x0) x12 x19 := by
  have h : val_main_v102 (F := Ideal) x0 x5 x12 x19 = steps x5 (val_main_v4 (F := Ideal) x0) x12 x19 := by
    funext i
    rfl
  rw [h, ref_4]

/-- The reference's updates of the final norm's gains. -/
theorem ref_126 (x0 : FVec Ideal S24x1024 .f32) (x6 : FVec Ideal S1x1024 .f32) (x13 : FVec Ideal S1x1024 .f32) (x20 : FVec Ideal S1x1024 .f32) :
    val_main_v126 (F := Ideal) x0 x6 x13 x20 = steps x6 (gradRow 12 x0) x13 x20 := by
  have h : val_main_v126 (F := Ideal) x0 x6 x13 x20 = steps x6 (val_main_v5 (F := Ideal) x0) x13 x20 := by
    funext i
    rfl
  rw [h, ref_5]

/-- The reference's updates of the convolution's taps. -/
theorem ref_150 (x1 : FVec Ideal S3x128 .f32) (x7 : FVec Ideal S3x128 .f32) (x14 : FVec Ideal S3x128 .f32) (x21 : FVec Ideal S3x128 .f32) :
    val_main_v150 (F := Ideal) x1 x7 x14 x21 = steps x7 x1 x14 x21 := by
  have h : val_main_v150 (F := Ideal) x1 x7 x14 x21 = steps x7 x1 x14 x21 := by
    funext i
    rfl
  exact h

/-- The reference's updates of the sinks. -/
theorem ref_174 (x0 : FVec Ideal S24x1024 .f32) (x8 : FVec Ideal S1x16 .f32) (x15 : FVec Ideal S1x16 .f32) (x22 : FVec Ideal S1x16 .f32) :
    val_main_v174 (F := Ideal) x0 x8 x15 x22 = steps x8 (gradSinks x0) x15 x22 := by
  have h : val_main_v174 (F := Ideal) x0 x8 x15 x22 = steps x8 (val_main_v6 (F := Ideal) x0) x15 x22 := by
    funext i
    rfl
  rw [h, ref_6]

end Reference

end Cert.AdamSmall
end
-- ==== Proof.AdamSmallPair.lean ====
/- The optimiser's step of the small parameters: the kernel's run and the plain lines' run set side by side. -/
module

public import proofs.«01_k».proof.Defs
public import proofs.«01_k».proof.Proof.AdamSmall
public import proofs.«01_k».proof.Proof.Gen.Kernel21
public import Idealize.ShloMosaic.Lib.Claim

@[expose] public section

set_option maxRecDepth 16384

noncomputable section

open Idealize.ShloMosaic Idealize.ShloMosaic.TcCoe Idealize.SL.Sem

namespace Cert.AdamSmall

open Cert.Kernel21Ideal Cert.Kernel21Ideal.Gen

set_option maxHeartbeats 40000000 in
/-- The packed kernel and the plain optimiser's lines, on the same arguments, leave the same twenty-eight results. -/
theorem pair : algebraic_Kernel21Ideal_Reference21Ideal := by
  intro m g m' g' hpre hagree
  refine ⟨fun c => gradMods (a0 m c),
    fun c => gradRow 9 (a0 m c),
    fun c => gradRow 10 (a0 m c),
    fun c => gradRow 11 (a0 m c),
    fun c => gradRow 12 (a0 m c),
    fun c => a1 m c,
    fun c => gradSinks (a0 m c),
    fun c => steps (a2 m c) (gradMods (a0 m c)) (a9 m c) (a16 m c),
    fun c => steps (a3 m c) (gradRow 9 (a0 m c)) (a10 m c) (a17 m c),
    fun c => steps (a4 m c) (gradRow 10 (a0 m c)) (a11 m c) (a18 m c),
    fun c => steps (a5 m c) (gradRow 11 (a0 m c)) (a12 m c) (a19 m c),
    fun c => steps (a6 m c) (gradRow 12 (a0 m c)) (a13 m c) (a20 m c),
    fun c => steps (a7 m c) (a1 m c) (a14 m c) (a21 m c),
    fun c => steps (a8 m c) (gradSinks (a0 m c)) (a15 m c) (a22 m c),
    fun c => means (gradMods (a0 m c)) (a9 m c),
    fun c => means (gradRow 9 (a0 m c)) (a10 m c),
    fun c => means (gradRow 10 (a0 m c)) (a11 m c),
    fun c => means (gradRow 11 (a0 m c)) (a12 m c),
    fun c => means (gradRow 12 (a0 m c)) (a13 m c),
    fun c => means (a1 m c) (a14 m c),
    fun c => means (gradSinks (a0 m c)) (a15 m c),
    fun c => vars (gradMods (a0 m c)) (a16 m c),
    fun c => vars (gradRow 9 (a0 m c)) (a17 m c),
    fun c => vars (gradRow 10 (a0 m c)) (a18 m c),
    fun c => vars (gradRow 11 (a0 m c)) (a19 m c),
    fun c => vars (gradRow 12 (a0 m c)) (a20 m c),
    fun c => vars (a1 m c) (a21 m c),
    fun c => vars (gradSinks (a0 m c)) (a22 m c), ?_, ?_⟩
  · refine θ_run_mono (run_main m g) ?_
    intro r hr c
    exact ⟨((hr c).1 23).trans (final23 m c),
      ((hr c).1 24).trans (final24 m c),
      ((hr c).1 25).trans (final25 m c),
      ((hr c).1 26).trans (final26 m c),
      ((hr c).1 27).trans (final27 m c),
      ((hr c).1 28).trans (final28 m c),
      ((hr c).1 29).trans (final29 m c),
      ((hr c).1 30).trans (final30 m c),
      ((hr c).1 31).trans (final31 m c),
      ((hr c).1 32).trans (final32 m c),
      ((hr c).1 33).trans (final33 m c),
      ((hr c).1 34).trans (final34 m c),
      ((hr c).1 35).trans (final35 m c),
      ((hr c).1 36).trans (final36 m c),
      ((hr c).1 37).trans (final37 m c),
      ((hr c).1 38).trans (final38 m c),
      ((hr c).1 39).trans (final39 m c),
      ((hr c).1 40).trans (final40 m c),
      ((hr c).1 41).trans (final41 m c),
      ((hr c).1 42).trans (final42 m c),
      ((hr c).1 43).trans (final43 m c),
      ((hr c).1 44).trans (final44 m c),
      ((hr c).1 45).trans (final45 m c),
      ((hr c).1 46).trans (final46 m c),
      ((hr c).1 47).trans (final47 m c),
      ((hr c).1 48).trans (final48 m c),
      ((hr c).1 49).trans (final49 m c),
      ((hr c).1 50).trans (final50 m c),
      ((hr c).1 0).trans (((dats m 0 c).arrAt_in 0 rfl _).trans (A_eq m c 0)),
      ((hr c).1 1).trans (((dats m 0 c).arrAt_in 1 rfl _).trans (A_eq m c 1)),
      ((hr c).1 2).trans (((dats m 0 c).arrAt_in 2 rfl _).trans (A_eq m c 2)),
      ((hr c).1 3).trans (((dats m 0 c).arrAt_in 3 rfl _).trans (A_eq m c 3)),
      ((hr c).1 4).trans (((dats m 0 c).arrAt_in 4 rfl _).trans (A_eq m c 4)),
      ((hr c).1 5).trans (((dats m 0 c).arrAt_in 5 rfl _).trans (A_eq m c 5)),
      ((hr c).1 6).trans (((dats m 0 c).arrAt_in 6 rfl _).trans (A_eq m c 6)),
      ((hr c).1 7).trans (((dats m 0 c).arrAt_in 7 rfl _).trans (A_eq m c 7)),
      ((hr c).1 8).trans (((dats m 0 c).arrAt_in 8 rfl _).trans (A_eq m c 8)),
      ((hr c).1 9).trans (((dats m 0 c).arrAt_in 9 rfl _).trans (A_eq m c 9)),
      ((hr c).1 10).trans (((dats m 0 c).arrAt_in 10 rfl _).trans (A_eq m c 10)),
      ((hr c).1 11).trans (((dats m 0 c).arrAt_in 11 rfl _).trans (A_eq m c 11)),
      ((hr c).1 12).trans (((dats m 0 c).arrAt_in 12 rfl _).trans (A_eq m c 12)),
      ((hr c).1 13).trans (((dats m 0 c).arrAt_in 13 rfl _).trans (A_eq m c 13)),
      ((hr c).1 14).trans (((dats m 0 c).arrAt_in 14 rfl _).trans (A_eq m c 14)),
      ((hr c).1 15).trans (((dats m 0 c).arrAt_in 15 rfl _).trans (A_eq m c 15)),
      ((hr c).1 16).trans (((dats m 0 c).arrAt_in 16 rfl _).trans (A_eq m c 16)),
      ((hr c).1 17).trans (((dats m 0 c).arrAt_in 17 rfl _).trans (A_eq m c 17)),
      ((hr c).1 18).trans (((dats m 0 c).arrAt_in 18 rfl _).trans (A_eq m c 18)),
      ((hr c).1 19).trans (((dats m 0 c).arrAt_in 19 rfl _).trans (A_eq m c 19)),
      ((hr c).1 20).trans (((dats m 0 c).arrAt_in 20 rfl _).trans (A_eq m c 20)),
      ((hr c).1 21).trans (((dats m 0 c).arrAt_in 21 rfl _).trans (A_eq m c 21)),
      ((hr c).1 22).trans (((dats m 0 c).arrAt_in 22 rfl _).trans (A_eq m c 22))⟩
  · refine θ_run_mono (Cert.Reference21Ideal.Value.run m' g') ?_
    intro r hr c
    obtain ⟨h0, h1, h2, h3, h4, h5, h6, h7, h8, h9, h10, h11, h12, h13, h14, h15, h16, h17, h18, h19, h20, h21, h22, h23, h24, h25, h26, h27, rest⟩ := hr c
    obtain ⟨e0, e1, e2, e3, e4, e5, e6, e7, e8, e9, e10, e11, e12, e13, e14, e15, e16, e17, e18, e19, e20, e21, e22⟩ := hagree c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, rest⟩
    · refine ((Cert.Reference21Ideal.Read.val_main_v1_eq (F := Ideal) (StableHlo.launchContents m' c)).trans (ref_1 _)).trans ?_
      simp only [a0, ← e0]
    · refine ((Cert.Reference21Ideal.Read.val_main_v2_eq (F := Ideal) (StableHlo.launchContents m' c)).trans (ref_2 _)).trans ?_
      simp only [a0, ← e0]
    · refine ((Cert.Reference21Ideal.Read.val_main_v3_eq (F := Ideal) (StableHlo.launchContents m' c)).trans (ref_3 _)).trans ?_
      simp only [a0, ← e0]
    · refine ((Cert.Reference21Ideal.Read.val_main_v4_eq (F := Ideal) (StableHlo.launchContents m' c)).trans (ref_4 _)).trans ?_
      simp only [a0, ← e0]
    · refine ((Cert.Reference21Ideal.Read.val_main_v5_eq (F := Ideal) (StableHlo.launchContents m' c)).trans (ref_5 _)).trans ?_
      simp only [a0, ← e0]
    · exact e1
    · refine ((Cert.Reference21Ideal.Read.val_main_v6_eq (F := Ideal) (StableHlo.launchContents m' c)).trans (ref_6 _)).trans ?_
      simp only [a0, ← e0]
    · refine ((Cert.Reference21Ideal.Read.val_main_v30_eq (F := Ideal) (StableHlo.launchContents m' c)).trans (ref_30 _ _ _ _)).trans ?_
      simp only [a0, a2, a9, a16, ← e0, ← e2, ← e9, ← e16]
    · refine ((Cert.Reference21Ideal.Read.val_main_v54_eq (F := Ideal) (StableHlo.launchContents m' c)).trans (ref_54 _ _ _ _)).trans ?_
      simp only [a0, a3, a10, a17, ← e0, ← e3, ← e10, ← e17]
    · refine ((Cert.Reference21Ideal.Read.val_main_v78_eq (F := Ideal) (StableHlo.launchContents m' c)).trans (ref_78 _ _ _ _)).trans ?_
      simp only [a0, a4, a11, a18, ← e0, ← e4, ← e11, ← e18]
    · refine ((Cert.Reference21Ideal.Read.val_main_v102_eq (F := Ideal) (StableHlo.launchContents m' c)).trans (ref_102 _ _ _ _)).trans ?_
      simp only [a0, a5, a12, a19, ← e0, ← e5, ← e12, ← e19]
    · refine ((Cert.Reference21Ideal.Read.val_main_v126_eq (F := Ideal) (StableHlo.launchContents m' c)).trans (ref_126 _ _ _ _)).trans ?_
      simp only [a0, a6, a13, a20, ← e0, ← e6, ← e13, ← e20]
    · refine ((Cert.Reference21Ideal.Read.val_main_v150_eq (F := Ideal) (StableHlo.launchContents m' c)).trans (ref_150 _ _ _ _)).trans ?_
      simp only [a1, a7, a14, a21, ← e1, ← e7, ← e14, ← e21]
    · refine ((Cert.Reference21Ideal.Read.val_main_v174_eq (F := Ideal) (StableHlo.launchContents m' c)).trans (ref_174 _ _ _ _)).trans ?_
      simp only [a0, a8, a15, a22, ← e0, ← e8, ← e15, ← e22]
    · refine ((Cert.Reference21Ideal.Read.val_main_v11_eq (F := Ideal) (StableHlo.launchContents m' c)).trans (ref_11 _ _)).trans ?_
      simp only [a0, a9, ← e0, ← e9]
    · refine ((Cert.Reference21Ideal.Read.val_main_v35_eq (F := Ideal) (StableHlo.launchContents m' c)).trans (ref_35 _ _)).trans ?_
      simp only [a0, a10, ← e0, ← e10]
    · refine ((Cert.Reference21Ideal.Read.val_main_v59_eq (F := Ideal) (StableHlo.launchContents m' c)).trans (ref_59 _ _)).trans ?_
      simp only [a0, a11, ← e0, ← e11]
    · refine ((Cert.Reference21Ideal.Read.val_main_v83_eq (F := Ideal) (StableHlo.launchContents m' c)).trans (ref_83 _ _)).trans ?_
      simp only [a0, a12, ← e0, ← e12]
    · refine ((Cert.Reference21Ideal.Read.val_main_v107_eq (F := Ideal) (StableHlo.launchContents m' c)).trans (ref_107 _ _)).trans ?_
      simp only [a0, a13, ← e0, ← e13]
    · refine ((Cert.Reference21Ideal.Read.val_main_v131_eq (F := Ideal) (StableHlo.launchContents m' c)).trans (ref_131 _ _)).trans ?_
      simp only [a1, a14, ← e1, ← e14]
    · refine ((Cert.Reference21Ideal.Read.val_main_v155_eq (F := Ideal) (StableHlo.launchContents m' c)).trans (ref_155 _ _)).trans ?_
      simp only [a0, a15, ← e0, ← e15]
    · refine ((Cert.Reference21Ideal.Read.val_main_v17_eq (F := Ideal) (StableHlo.launchContents m' c)).trans (ref_17 _ _)).trans ?_
      simp only [a0, a16, ← e0, ← e16]
    · refine ((Cert.Reference21Ideal.Read.val_main_v41_eq (F := Ideal) (StableHlo.launchContents m' c)).trans (ref_41 _ _)).trans ?_
      simp only [a0, a17, ← e0, ← e17]
    · refine ((Cert.Reference21Ideal.Read.val_main_v65_eq (F := Ideal) (StableHlo.launchContents m' c)).trans (ref_65 _ _)).trans ?_
      simp only [a0, a18, ← e0, ← e18]
    · refine ((Cert.Reference21Ideal.Read.val_main_v89_eq (F := Ideal) (StableHlo.launchContents m' c)).trans (ref_89 _ _)).trans ?_
      simp only [a0, a19, ← e0, ← e19]
    · refine ((Cert.Reference21Ideal.Read.val_main_v113_eq (F := Ideal) (StableHlo.launchContents m' c)).trans (ref_113 _ _)).trans ?_
      simp only [a0, a20, ← e0, ← e20]
    · refine ((Cert.Reference21Ideal.Read.val_main_v137_eq (F := Ideal) (StableHlo.launchContents m' c)).trans (ref_137 _ _)).trans ?_
      simp only [a1, a21, ← e1, ← e21]
    · refine ((Cert.Reference21Ideal.Read.val_main_v161_eq (F := Ideal) (StableHlo.launchContents m' c)).trans (ref_161 _ _)).trans ?_
      simp only [a0, a22, ← e0, ← e22]

end Cert.AdamSmall
end
-- ==== Proof.AdaGrad.lean ====
/- The gradient of the modulation's weights, one device's columns: the kernel adds the eight conditioning rows' outer products
   in turn, and the plain gradient contracts over the rows. -/
module

public import proofs.«01_k».proof.Defs
public import proofs.«01_k».proof.Proof.Gen.Kernel22Ideal.Frame
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdaGrad

section Spec

open Cert.Reference22Ideal Cert.Reference22Ideal.Gen Cert.Reference22Ideal.Read

variable (C : FVec Ideal S8x1024 .f32) (G : FVec Ideal S8x1152 .f32)

/-- The gradient of the weights: over the conditioning rows, the row through the gated linear unit times the cotangent. -/
def grad : FVec Ideal S1024x1152 .f32 := fun i =>
  ∑ q : Fin 8, C (ix2 q (i 0)) * Ideal.logistic (C (ix2 q (i 0))) * G (ix2 q (i 1))

/-- The constant one. -/
theorem one_eq : FloatOps.ofBits (F := Ideal) .f32 0x3F800000#32 = (1 : EReal) := by
  show Ideal.ofBits .f32 0x3F800000#32 = _
  simp [Ideal.ofBits, Ideal.ieee, -EReal.coe_mul]
  norm_num

/-- The plain line's gated linear unit. -/
theorem ref_act (q : Fin 8) (k : Fin 1024) : val_main_v1 (F := Ideal) C (ix2 q k) = C (ix2 q k) * Ideal.logistic (C (ix2 q k)) := by
  rw [val_main_v1_apply, val_main_call0_v5_apply, val_main_call0_v4_apply, val_main_call0_v3_apply, val_main_call0_v2_apply,
    val_main_call0_v1_apply, val_main_call0_v0_apply, val_main_call0_cst_apply, val_main_call0_cst_0_apply, one_eq]
  rfl

/-- The plain gradient. -/
theorem ref_grad : val_main_v4 (F := Ideal) C G = grad C G := by
  funext i
  obtain ⟨r, d, rfl⟩ : ∃ (r : Fin 1024) (d : Fin 1152), i = ix2 r d := ⟨i 0, i 1, (ix2_eta i).symm⟩
  pointwise [val_main_v4, val_main_v3]
  simp only [ref_act]
  exact Finset.sum_congr rfl fun q _ => mul_comm _ _

end Spec

open Cert.Kernel22Ideal Cert.Kernel22Ideal.Gen

variable (m : (ℓ : Loc nD τ sig) → Buf (Elt Ideal) ℓ)

abbrev aC (c : Dev nD) : FVec Ideal S8x1024 .f32 := m ((c : Thread nD τ).loc main_arg0)
abbrev aG (c : Dev nD) : FVec Ideal S8x1152 .f32 := m ((c : Thread nD τ).loc main_arg1)

/-- The one point shows the whole arrays. -/
theorem at_point : ∀ t : Fin cfg0.N, win0_0.index t = ![0, 0] ∧ win0_1.index t = ![0, 0] ∧ win0_2.index t = ![0, 0] :=
  (by decide +kernel : ∀ t : Fin grid0.N, _)

/-- The conditioning rows' block is transposed. -/
theorem read_0 (c : Dev nD) (t : Fin cfg0.N) (k : Fin 1024) (q : Fin 8) : iblk m c 0 t (ix2 k q) = aC m c (ix2 q k) := by
  blk_point [iblk, at_point t]

theorem read_1 (c : Dev nD) (t : Fin cfg0.N) (q : Fin 8) (d : Fin 1152) : iblk m c 1 t (ix2 q d) = aG m c (ix2 q d) := by
  blk_point [iblk, V, at_point t]

/-- What the body writes to its block. -/
theorem block2 (c : Dev nD) (t : Fin cfg0.N) (k : Fin 1024) (d : Fin 1152) :
    out0_2 (iblk m c 0 t) (iblk m c 1 t) (ix2 k d) = grad (aC m c) (aG m c) (ix2 k d) := by
  frame_out
  rw [grad, Fin.sum_univ_eight]
  pointwise [k0_pay1, k0_pay2, k0_pay3, k0_pay4]
  have p (q : Fin 8) : (show EReal from iblk m c 0 t (ix2 k q)) * Ideal.logistic (iblk m c 0 t (ix2 k q)) * (show EReal from iblk m c 1 t (ix2 q d))
      = aC m c (ix2 q k) * Ideal.logistic (aC m c (ix2 q k)) * aG m c (ix2 q d) :=
    congrArg₂ (· * ·) (congrArg (fun a : EReal => a * Ideal.logistic a) (read_0 m c t k q)) (read_1 m c t q d)
  iterate 7 refine congrArg₂ (· + ·) ?_ (p _)
  exact p 0

/-- The result array. -/
theorem final2 (c : Dev nD) : (dats m 0 c).arrAt 2 (cfgs 0).N = grad (aC m c) (aG m c) := by
  refine (dats m 0 c).arrAt_eq_of_covers 2 _ (by decide +kernel) fun t hf y => ?_
  blk_simp
  rw [after0_2]
  obtain ⟨r, d, rfl⟩ : ∃ (r : Fin 1024) (d : Fin 1152), y = ix2 r d := ⟨y 0, y 1, (ix2_eta y).symm⟩
  refine (block2 m c t r d).trans (congrArg (grad (aC m c) (aG m c)) ?_)
  blk_ext [at_point t]

/-- The kernel and the plain gradient, on the same arguments, leave the same result. -/
theorem pair : algebraic_Kernel22Ideal_Reference22Ideal := by
  pair_intro
  · run_from Cert.Kernel22Ideal.Gen.run_main m g
  · refine θ_run_mono (Cert.Reference22Ideal.Value.run m' g') ?_
    intro r hr c
    obtain ⟨h0, rest⟩ := hr c
    obtain ⟨e0, e1⟩ := hagree c
    refine ⟨h0.trans ?_, rest⟩
    refine ((Cert.Reference22Ideal.Read.val_main_v4_eq (F := Ideal) _ _).trans (ref_grad _ _)).trans ?_
    rw [e0, e1]
    exact (final2 m c).symm

end Cert.AdaGrad
end
-- ==== Proof.AdaMods.lean ====
/- The modulation columns one device computes for every conditioning row: what the single-block kernel leaves in its result
   array, and the plain forward line, are the same array. -/
module

public import proofs.«01_k».proof.Defs
public import proofs.«01_k».proof.Proof.Gen.Kernel23Ideal.Frame
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdaMods

section Spec

open Cert.Reference23Ideal Cert.Reference23Ideal.Gen Cert.Reference23Ideal.Read

variable (C : FVec Ideal S8x1024 .f32) (W : FVec Ideal S1024x1152 .f32) (B : FVec Ideal S1x1152 .f32)

/-- A conditioning row through the gated linear unit, times the weights, with the bias. -/
def mods : FVec Ideal S8x1152 .f32 := fun i =>
  (∑ k : Fin 1024, C (ix2 (i 0) k) * Ideal.logistic (C (ix2 (i 0) k)) * W (ix2 k (i 1))) + B (ix2 0 (i 1))

/-- The constant one. -/
theorem one_eq : FloatOps.ofBits (F := Ideal) .f32 0x3F800000#32 = (1 : EReal) := by
  show Ideal.ofBits .f32 0x3F800000#32 = _
  simp [Ideal.ofBits, Ideal.ieee, -EReal.coe_mul]
  norm_num

/-- The plain line's gated linear unit. -/
theorem ref_act (r : Fin 8) (k : Fin 1024) : val_main_v0 (F := Ideal) C (ix2 r k) = C (ix2 r k) * Ideal.logistic (C (ix2 r k)) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply, one_eq]
  rfl

/-- The plain forward line. -/
theorem ref_mods : val_main_v3 (F := Ideal) C W B = mods C W B := by
  funext i
  obtain ⟨r, d, rfl⟩ : ∃ (r : Fin 8) (d : Fin 1152), i = ix2 r d := ⟨i 0, i 1, (ix2_eta i).symm⟩
  pointwise [val_main_v3, val_main_v2, val_main_v1]
  simp only [ref_act]
  rfl

end Spec

open Cert.Kernel23Ideal Cert.Kernel23Ideal.Gen

variable (m : (ℓ : Loc nD τ sig) → Buf (Elt Ideal) ℓ)

abbrev aC (c : Dev nD) : FVec Ideal S8x1024 .f32 := m ((c : Thread nD τ).loc main_arg0)
abbrev aW (c : Dev nD) : FVec Ideal S1024x1152 .f32 := m ((c : Thread nD τ).loc main_arg1)
abbrev aB (c : Dev nD) : FVec Ideal S1x1152 .f32 := m ((c : Thread nD τ).loc main_arg2)

/-- The one point shows the whole arrays. -/
theorem at_point : ∀ t : Fin cfg0.N, win0_0.index t = ![0, 0] ∧ win0_1.index t = ![0, 0] ∧ win0_2.index t = ![0, 0]
    ∧ win0_3.index t = ![0, 0] :=
  (by decide +kernel : ∀ t : Fin grid0.N, _)

theorem read_0 (c : Dev nD) (t : Fin cfg0.N) (r : Fin 8) (k : Fin 1024) : iblk m c 0 t (ix2 r k) = aC m c (ix2 r k) := by
  blk_point [iblk, V, at_point t]

theorem read_1 (c : Dev nD) (t : Fin cfg0.N) (k : Fin 1024) (d : Fin 1152) : iblk m c 1 t (ix2 k d) = aW m c (ix2 k d) := by
  blk_point [iblk, V, at_point t]

theorem read_2 (c : Dev nD) (t : Fin cfg0.N) (d : Fin 1152) : iblk m c 2 t (ix2 0 d) = aB m c (ix2 0 d) := by
  blk_point [iblk, V, at_point t]

/-- What the body writes to its block. -/
theorem block3 (c : Dev nD) (t : Fin cfg0.N) (r : Fin 8) (d : Fin 1152) :
    out0_3 (iblk m c 0 t) (iblk m c 1 t) (iblk m c 2 t) (ix2 r d) = mods (aC m c) (aW m c) (aB m c) (ix2 r d) := by
  frame_out
  rw [mods]
  pointwise [k0_pay1]
  refine congrArg₂ (· + ·) (Finset.sum_congr rfl fun k _ => ?_) (read_2 m c t d)
  exact congrArg₂ (· * ·) (congrArg (fun a : EReal => a * Ideal.logistic a) (read_0 m c t r k)) (read_1 m c t k d)

/-- The result array. -/
theorem final3 (c : Dev nD) : (dats m 0 c).arrAt 3 (cfgs 0).N = mods (aC m c) (aW m c) (aB m c) := by
  refine (dats m 0 c).arrAt_eq_of_covers 3 _ (by decide +kernel) fun t hf y => ?_
  blk_simp
  rw [after0_3]
  obtain ⟨r, d, rfl⟩ : ∃ (r : Fin 8) (d : Fin 1152), y = ix2 r d := ⟨y 0, y 1, (ix2_eta y).symm⟩
  refine (block3 m c t r d).trans (congrArg (mods (aC m c) (aW m c) (aB m c)) ?_)
  blk_ext [at_point t]

/-- The kernel and the plain forward line, on the same arguments, leave the same result. -/
theorem pair : algebraic_Kernel23Ideal_Reference23Ideal := by
  pair_intro
  · run_from Cert.Kernel23Ideal.Gen.run_main m g
  · refine θ_run_mono (Cert.Reference23Ideal.Value.run m' g') ?_
    intro r hr c
    obtain ⟨h0, rest⟩ := hr c
    obtain ⟨e0, e1, e2⟩ := hagree c
    refine ⟨h0.trans ?_, rest⟩
    refine ((Cert.Reference23Ideal.Read.val_main_v3_eq (F := Ideal) _ _ _).trans (ref_mods _ _ _)).trans ?_
    rw [e0, e1, e2]
    exact (final3 m c).symm

end Cert.AdaMods
end
-- ==== Proof.MixMidFwd.lean ====
/- The middle of the mixer: the gated convolution, the two branches' projections, their gated sum, the output projection and the
   residual.  What the tiled kernel leaves in its six result arrays, and the plain forward lines' own terms, are the same. -/
module

public import proofs.«01_k».proof.Defs
public import proofs.«01_k».proof.Proof.Gen.Kernel12Ideal.Frame
public import proofs.«01_k».proof.Proof.Gen.Reference12Ideal.Run
public import proofs.«01_k».proof.Proof.Gen.Reference12Ideal.Read
public import proofs.«01_k».proof.Proof.Silu
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixMidFwd

open Cert.Silu (gate half gate_eq)

/-- A choice on the equality of two small words is a choice on the equality of the numbers. -/
theorem select_word {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

section Spec

open Cert.Kernel12Ideal

/-- The arguments: the input projection, the attention's output, the three weights, the convolution's three rows, the stream and
    its gain. -/
structure Args where
  P : FVec Ideal S8192x6656 .bf16
  A : FVec Ideal S8192x1024 .bf16
  C : FVec Ideal S1024x1024 .bf16
  B : FVec Ideal S1024x1024 .bf16
  O : FVec Ideal S1024x1024 .bf16
  W : FVec Ideal S3x1024 .f32
  X : FVec Ideal S8192x1024 .f32
  G : FVec Ideal S1x1024 .f32

/-- The convolution's input, the product of two columns of the projection, at token `t` (zero past the last token). -/
def cu (P : FVec Ideal S8192x6656 .bf16) (t : ℕ) (d : Fin 1024) : EReal :=
  if h : t < 8192 then P (ix2 ⟨t, h⟩ ⟨1024 + d.val, by omega⟩) * P (ix2 ⟨t, h⟩ ⟨2048 + d.val, by omega⟩) else 0

/-- The convolution's input `k` tokens before token `t`, zero before the first token. -/
def cuBack (P : FVec Ideal S8192x6656 .bf16) (k t : ℕ) (d : Fin 1024) : EReal := if t < k then 0 else cu P (t - k) d

variable (a : Args)

/-- The convolution's output at a token. -/
def cv (t : Fin 8192) (d : Fin 1024) : EReal :=
  a.W (ix2 0 d) * cuBack a.P 2 t.val d + a.W (ix2 1 d) * cuBack a.P 1 t.val d + a.W (ix2 2 d) * cuBack a.P 0 t.val d

/-- The gated convolution. -/
def gc (t : Fin 8192) (d : Fin 1024) : EReal := a.P (ix2 t ⟨d.val, by omega⟩) * cv a t d

/-- The convolution branch's projection. -/
def yc (t : Fin 8192) (d : Fin 1024) : EReal := ∑ k : Fin 1024, gc a t k * a.C (ix2 k d)

/-- The attention branch's projection. -/
def ya (t : Fin 8192) (d : Fin 1024) : EReal := ∑ k : Fin 1024, a.A (ix2 t k) * a.B (ix2 k d)

/-- The two branches through their gates, added. -/
def mg (t : Fin 8192) (d : Fin 1024) : EReal :=
  gate (a.P (ix2 t ⟨4608 + d.val, by omega⟩)) * yc a t d + gate (a.P (ix2 t ⟨5632 + d.val, by omega⟩)) * ya a t d

/-- The output projection. -/
def op (t : Fin 8192) (d : Fin 1024) : EReal := ∑ k : Fin 1024, mg a t k * a.O (ix2 k d)

/-- The stream after the mixer. -/
def st (t : Fin 8192) (d : Fin 1024) : EReal := a.X (ix2 t d) + a.G (ix2 0 d) * op a t d

/-- A function of tokens and features as an array. -/
def rows (f : Fin 8192 → Fin 1024 → EReal) : S8192x1024.Idx → EReal := fun i => f (i 0) (i 1)

end Spec

section Payloads

open Cert.Kernel12Ideal Cert.Kernel12Ideal.Gen

variable {P : FVec Ideal S8192x6656 .bf16} {i : grid0.Coords} {c u b : FVec Ideal S512x1024 .bf16} {hc hu : FVec Ideal S16x1024 .bf16}

/-- Two blocks hold the convolution's input at the rows of block `i`, and two short blocks hold it at the two rows
    before. -/
structure Input (P : FVec Ideal S8192x6656 .bf16) (i : grid0.Coords) (c u : FVec Ideal S512x1024 .bf16) (hc hu : FVec Ideal S16x1024 .bf16) : Prop where
  row : ∀ r d, c (ix2 r d) * u (ix2 r d) = cu P (512 * (i 0).val + r.val) d
  one : 0 < (i 0).val → ∀ d, hc (ix2 15 d) * hu (ix2 15 d) = cu P (512 * (i 0).val - 1) d
  two : 0 < (i 0).val → ∀ d, hc (ix2 14 d) * hu (ix2 14 d) = cu P (512 * (i 0).val - 2) d

theorem cu_congr {a b : ℕ} {d : Fin 1024} (e : a = b) : cu P a d = cu P b d := by rw [e]

theorem coord_lt (i : grid0.Coords) : (i 0).val < 16 := (i 0).isLt

/-- The rotated input with its first row replaced is the input one token before. -/
theorem shift_one (h : Input P i c u hc hu) (r d) :
    k0_pay8 (F := Ideal) i c u hc hu (ix2 r d) = cuBack P 1 (512 * (i 0).val + r.val) d := by
  have hi := coord_lt i
  pointwise [k0_pay8, k0_pay7, k0_pay6, k0_pay5]
  have e0 := select_word (α := EReal) (i 0).val 0 (by omega) (by omega)
  have er := select_word (α := EReal) r.val 0 (by omega) (by omega)
  simp only [Scalar.cmpi, e0, er, h.row, cuBack]
  split_ifs <;> first | (exfalso; omega) | exact (rfl : (0 : EReal) = 0) | exact cu_congr (by omega) | exact (h.one (by omega) d).trans (cu_congr (by omega))

/-- The input rotated by two with its first two rows replaced is the input two tokens before. -/
theorem shift_two (h : Input P i c u hc hu) (r d) :
    k0_pay9 (F := Ideal) i c u hc hu (ix2 r d) = cuBack P 2 (512 * (i 0).val + r.val) d := by
  have hi := coord_lt i
  pointwise [k0_pay9, k0_pay7, k0_pay6, k0_pay5]
  have e0 := select_word (α := EReal) (i 0).val 0 (by omega) (by omega)
  have er := select_word (α := EReal) r.val 0 (by omega) (by omega)
  have er1 := select_word (α := EReal) r.val 1 (by omega) (by omega)
  simp only [Scalar.cmpi, e0, er, er1, h.row, cuBack]
  split_ifs <;> first | (exfalso; omega) | exact (rfl : (0 : EReal) = 0) | exact cu_congr (by omega) | exact (h.one (by omega) d).trans (cu_congr (by omega)) | exact (h.two (by omega) d).trans (cu_congr (by omega))

/-- The input itself. -/
theorem shift_zero (h : Input P i c u hc hu) (r d) :
    k0_pay5 (F := Ideal) c u (ix2 r d) = cuBack P 0 (512 * (i 0).val + r.val) d := by
  pointwise [k0_pay5]
  exact h.row r d

/-- The body's gated convolution. -/
theorem gc_at (h : Input P i c u hc hu) (w0 w1 w2 : FVec Ideal S1x1024 .f32) (r d) :
    k0_pay10 (F := Ideal) (k0_pay5 c u) (k0_pay8 i c u hc hu) (k0_pay9 i c u hc hu) w0 w1 w2 b (ix2 r d)
      = b (ix2 r d) * (w0 (ix2 0 d) * cuBack P 2 (512 * (i 0).val + r.val) d + w1 (ix2 0 d) * cuBack P 1 (512 * (i 0).val + r.val) d
        + w2 (ix2 0 d) * cuBack P 0 (512 * (i 0).val + r.val) d) := by
  rw [← shift_zero h, ← shift_one h, ← shift_two h]
  pointwise [k0_pay10]

variable {v6 v26 v39 v60 v63 v71 x : FVec Ideal S512x1024 .f32} {w0 w1 w2 g : FVec Ideal S1x1024 .f32} {q : FVec Ideal S1024x1024 .bf16}
  {y0 y1 z0 z1 : FVec Ideal S512x512 .bf16}

/-- The body's first product. -/
theorem yc_at (r d) : k0_pay11 (F := Ideal) v6 v26 v39 w0 w1 w2 b q (ix2 r d)
    = ∑ k : Fin 1024, k0_pay10 (F := Ideal) v6 v26 v39 w0 w1 w2 b (ix2 r k) * q (ix2 k d) := by
  pointwise [k0_pay11]

/-- The body's second product. -/
theorem ya_at (r d) : k0_pay12 (F := Ideal) b q (ix2 r d) = ∑ k : Fin 1024, b (ix2 r k) * q (ix2 k d) := by
  pointwise [k0_pay12]

/-- Two half blocks side by side. -/
def wide (z0 z1 : FVec Ideal S512x512 .bf16) (r : Fin 512) (d : Fin 1024) : EReal :=
  if h : d.val < 512 then z0 (ix2 r ⟨d.val, h⟩) else z1 (ix2 r ⟨d.val - 512, by omega⟩)

/-- The body's gated sum. -/
theorem mg_at (r d) : k0_pay1 (F := Ideal) v60 v63 (k0_pay15 z0 z1) y0 y1 (ix2 r d)
    = gate (wide z0 z1 r d) * v60 (ix2 r d) + gate (wide y0 y1 r d) * v63 (ix2 r d) := by
  unfold gate wide
  pointwise [k0_pay1, k0_pay15]

/-- The body's third product. -/
theorem op_at (r d) : k0_pay2 (F := Ideal) v60 v63 v71 y0 y1 q (ix2 r d)
    = ∑ k : Fin 1024, k0_pay1 (F := Ideal) v60 v63 v71 y0 y1 (ix2 r k) * q (ix2 k d) := by
  pointwise [k0_pay2]

/-- The body's residual. -/
theorem st_at (r d) : k0_pay4 (F := Ideal) v60 v63 v71 y0 y1 q x g (ix2 r d)
    = x (ix2 r d) + g (ix2 0 d) * k0_pay2 (F := Ideal) v60 v63 v71 y0 y1 q (ix2 r d) := by
  pointwise [k0_pay4]

/-- The rounded copies of the products hold the same numbers. -/
theorem yc_copy (r d) : k0_pay13 (F := Ideal) v6 v26 v39 w0 w1 w2 b q (ix2 r d) = k0_pay11 (F := Ideal) v6 v26 v39 w0 w1 w2 b q (ix2 r d) := by
  pointwise [k0_pay13]

theorem ya_copy (r d) : k0_pay14 (F := Ideal) b q (ix2 r d) = k0_pay12 (F := Ideal) b q (ix2 r d) := by
  pointwise [k0_pay14]

theorem op_copy (r d) : k0_pay3 (F := Ideal) v60 v63 v71 y0 y1 q (ix2 r d) = k0_pay2 (F := Ideal) v60 v63 v71 y0 y1 q (ix2 r d) := by
  pointwise [k0_pay3]

end Payloads

section Kernel

open Cert.Kernel12Ideal Cert.Kernel12Ideal.Gen

variable (m : (ℓ : Loc nD τ sig) → Buf (Elt Ideal) ℓ)

/-- The block each window shows at each point. -/
theorem at_a : ∀ t : Fin cfg0.N, win0_0.index t = ![t.val, 0] ∧ win0_1.index t = ![t.val, 1] ∧ win0_2.index t = ![t.val, 2]
    ∧ win0_3.index t = ![t.val * 32 - 1, 1] ∧ win0_4.index t = ![t.val * 32 - 1, 2] ∧ win0_5.index t = ![t.val, 9]
    ∧ win0_6.index t = ![t.val, 10] ∧ win0_7.index t = ![t.val, 11] ∧ win0_8.index t = ![t.val, 12] ∧ win0_9.index t = ![t.val, 0] :=
  (by decide +kernel : ∀ t : Fin grid0.N, _)

theorem at_b : ∀ t : Fin cfg0.N, win0_10.index t = ![0, 0] ∧ win0_11.index t = ![0, 0] ∧ win0_12.index t = ![0, 0]
    ∧ win0_13.index t = ![0, 0] ∧ win0_14.index t = ![t.val, 0] ∧ win0_15.index t = ![0, 0] :=
  (by decide +kernel : ∀ t : Fin grid0.N, _)

theorem at_c : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![t.val, 0] :=
  (by decide +kernel : ∀ t : Fin grid0.N, _)

theorem at_coord : ∀ t : Fin cfg0.N, (grid0.coords t 0).val = t.val :=
  (by decide +kernel : ∀ t : Fin grid0.N, _)

/-- The arguments on device `c`. -/
def args (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7)⟩

/-- The token of a row of a block. -/
def tok (t : Fin cfg0.N) (r : Fin 512) : Fin 8192 := ⟨512 * t.val + r.val, by have : t.val < 16 := t.isLt; omega⟩

/-! The blocks' entries, read from the arguments. -/

theorem read_0 (c : Dev nD) (t : Fin cfg0.N) (r : Fin 512) (d : Fin 1024) :
    X0_0 m c t (ix2 r d) = (args m c).P (ix2 (tok t r) ⟨d.val, by omega⟩) := by
  have ht : t.val < 16 := t.isLt
  unfold X0_0 Pipeline.Window.fill tok args
  rw [dif_pos (moved0_0 t _)]
  blk_point [iblk, V, at_a t]

theorem read_1 (c : Dev nD) (t : Fin cfg0.N) (r : Fin 512) (d : Fin 1024) :
    X0_1 m c t (ix2 r d) = (args m c).P (ix2 (tok t r) ⟨1024 + d.val, by omega⟩) := by
  have ht : t.val < 16 := t.isLt
  unfold X0_1 Pipeline.Window.fill tok args
  rw [dif_pos (moved0_1 t _)]
  blk_point [iblk, V, at_a t]

theorem read_2 (c : Dev nD) (t : Fin cfg0.N) (r : Fin 512) (d : Fin 1024) :
    X0_2 m c t (ix2 r d) = (args m c).P (ix2 (tok t r) ⟨2048 + d.val, by omega⟩) := by
  have ht : t.val < 16 := t.isLt
  unfold X0_2 Pipeline.Window.fill tok args
  rw [dif_pos (moved0_2 t _)]
  blk_point [iblk, V, at_a t]

theorem read_3 (c : Dev nD) (t : Fin cfg0.N) (r : Fin 16) (d : Fin 1024) :
    X0_3 m c t (ix2 r d) = (args m c).P (ix2 ⟨512 * t.val - 16 + r.val, by have : t.val < 16 := t.isLt; omega⟩ ⟨1024 + d.val, by omega⟩) := by
  have ht : t.val < 16 := t.isLt
  unfold X0_3 Pipeline.Window.fill args
  rw [dif_pos (moved0_3 t _)]
  blk_point [iblk, V, at_a t]

theorem read_4 (c : Dev nD) (t : Fin cfg0.N) (r : Fin 16) (d : Fin 1024) :
    X0_4 m c t (ix2 r d) = (args m c).P (ix2 ⟨512 * t.val - 16 + r.val, by have : t.val < 16 := t.isLt; omega⟩ ⟨2048 + d.val, by omega⟩) := by
  have ht : t.val < 16 := t.isLt
  unfold X0_4 Pipeline.Window.fill args
  rw [dif_pos (moved0_4 t _)]
  blk_point [iblk, V, at_a t]

theorem read_5 (c : Dev nD) (t : Fin cfg0.N) (r : Fin 512) (d : Fin 512) :
    iblk m c 5 t (ix2 r d) = (args m c).P (ix2 (tok t r) ⟨4608 + d.val, by omega⟩) := by
  have ht : t.val < 16 := t.isLt
  unfold tok args
  blk_point [iblk, V, at_a t]

theorem read_6 (c : Dev nD) (t : Fin cfg0.N) (r : Fin 512) (d : Fin 512) :
    iblk m c 6 t (ix2 r d) = (args m c).P (ix2 (tok t r) ⟨5120 + d.val, by omega⟩) := by
  have ht : t.val < 16 := t.isLt
  unfold tok args
  blk_point [iblk, V, at_a t]

theorem read_7 (c : Dev nD) (t : Fin cfg0.N) (r : Fin 512) (d : Fin 512) :
    iblk m c 7 t (ix2 r d) = (args m c).P (ix2 (tok t r) ⟨5632 + d.val, by omega⟩) := by
  have ht : t.val < 16 := t.isLt
  unfold tok args
  blk_point [iblk, V, at_a t]

theorem read_8 (c : Dev nD) (t : Fin cfg0.N) (r : Fin 512) (d : Fin 512) :
    iblk m c 8 t (ix2 r d) = (args m c).P (ix2 (tok t r) ⟨6144 + d.val, by omega⟩) := by
  have ht : t.val < 16 := t.isLt
  unfold tok args
  blk_point [iblk, V, at_a t]

theorem read_9 (c : Dev nD) (t : Fin cfg0.N) (r : Fin 512) (d : Fin 1024) : iblk m c 9 t (ix2 r d) = (args m c).A (ix2 (tok t r) d) := by
  have ht : t.val < 16 := t.isLt
  unfold tok args
  blk_point [iblk, V, at_a t]

theorem read_10 (c : Dev nD) (t : Fin cfg0.N) (k d : Fin 1024) : iblk m c 10 t (ix2 k d) = (args m c).C (ix2 k d) := by
  unfold args
  blk_point [iblk, V, at_b t]

theorem read_11 (c : Dev nD) (t : Fin cfg0.N) (k d : Fin 1024) : iblk m c 11 t (ix2 k d) = (args m c).B (ix2 k d) := by
  unfold args
  blk_point [iblk, V, at_b t]

theorem read_12 (c : Dev nD) (t : Fin cfg0.N) (k d : Fin 1024) : iblk m c 12 t (ix2 k d) = (args m c).O (ix2 k d) := by
  unfold args
  blk_point [iblk, V, at_b t]

theorem read_14 (c : Dev nD) (t : Fin cfg0.N) (r : Fin 512) (d : Fin 1024) : iblk m c 14 t (ix2 r d) = (args m c).X (ix2 (tok t r) d) := by
  have ht : t.val < 16 := t.isLt
  unfold tok args
  blk_point [iblk, V, at_b t]

theorem read_15 (c : Dev nD) (t : Fin cfg0.N) (d : Fin 1024) : iblk m c 15 t (ix2 0 d) = (args m c).G (ix2 0 d) := by
  unfold args
  blk_point [iblk, V, at_b t]

/-- The padded weights hold the weights in their first three rows and zeros below. -/
theorem entry_w (c : Dev nD) (r : Fin 8) (d : Fin 1024) :
    V m c main_v0 (ix2 r d) = if h : r.val < 3 then (args m c).W (ix2 ⟨r.val, h⟩ d) else 0 := by
  have e : V m c main_v0 = pad S8x1024 ![0, 0] ![5, 0] ![0, 0] (args m c).W (sitofp .f32 (constantI S_ 32 0#32)) pads_S3x1024_S8x1024_050_000 h_S_ := by
    simp only [V, hostOps0, hostOps0_1, List.flatten_cons, List.flatten_nil, List.append_nil, List.cons_append, List.nil_append]
    after_results
    try rfl
  rw [e]
  pointwise []
  split_ifs
  · rfl
  · show (((0#32).toInt : ℝ) : EReal) = 0
    norm_num

theorem read_13 (c : Dev nD) (t : Fin cfg0.N) (r : Fin 8) (d : Fin 1024) :
    iblk m c 13 t (ix2 r d) = if h : r.val < 3 then (args m c).W (ix2 ⟨r.val, h⟩ d) else 0 := by
  rw [← entry_w]
  unfold iblk
  blk_point [at_b t]

/-- The first, second and third row of the weights. -/
theorem row_w (c : Dev nD) (t : Fin cfg0.N) (d : Fin 1024) :
    View.ld (Val := Elt Ideal) (iblk m c 13 t) (Rect.unit ![0, 0] ![1, 1024] inb_S8x1024_S1x1024_0_0) (ix2 0 d) = (args m c).W (ix2 0 d)
    ∧ View.ld (Val := Elt Ideal) (iblk m c 13 t) (Rect.unit ![1, 0] ![1, 1024] inb_S8x1024_S1x1024_1_0) (ix2 0 d) = (args m c).W (ix2 1 d)
    ∧ View.ld (Val := Elt Ideal) (iblk m c 13 t) (Rect.unit ![2, 0] ![1, 1024] inb_S8x1024_S1x1024_2_0) (ix2 0 d) = (args m c).W (ix2 2 d) := by
  have e (r : Fin 8) (h : r.val < 3) : iblk m c 13 t (ix2 r d) = (args m c).W (ix2 ⟨r.val, h⟩ d) := (read_13 m c t r d).trans (dif_pos h)
  refine ⟨?_, ?_, ?_⟩
  · refine Eq.trans ?_ (e 0 (by decide)); pointwise []
  · refine Eq.trans ?_ (e 1 (by decide)); pointwise []
  · refine Eq.trans ?_ (e 2 (by decide)); pointwise []

/-- The blocks hold the convolution's input. -/
theorem input_at (c : Dev nD) (t : Fin cfg0.N) :
    Input (args m c).P (grid0.coords t) (X0_1 m c t) (X0_2 m c t) (X0_3 m c t) (X0_4 m c t) := by
  have ht : t.val < 16 := t.isLt
  have hn := at_coord t
  refine ⟨fun r d => ?_, fun h0 d => ?_, fun h0 d => ?_⟩
  · rw [read_1, read_2, cu, dif_pos (by omega)]
    simp only [hn, tok]
  · rw [read_3, read_4, cu, dif_pos (by omega)]
    have e : 512 * t.val - 16 + (15 : Fin 16).val = 512 * (grid0.coords t 0).val - 1 := by
      rw [show (15 : Fin 16).val = 15 from rfl]; omega
    simp only [e]
  · rw [read_3, read_4, cu, dif_pos (by omega)]
    have e : 512 * t.val - 16 + (14 : Fin 16).val = 512 * (grid0.coords t 0).val - 2 := by
      rw [show (14 : Fin 16).val = 14 from rfl]; omega
    simp only [e]

/-- The two gates' columns, each in two half blocks. -/
theorem wide_c (c : Dev nD) (t : Fin cfg0.N) (r : Fin 512) (d : Fin 1024) :
    wide (iblk m c 5 t) (iblk m c 6 t) r d = (args m c).P (ix2 (tok t r) ⟨4608 + d.val, by omega⟩) := by
  unfold wide
  split_ifs with h
  · exact read_5 m c t r ⟨d.val, h⟩
  · exact (read_6 m c t r ⟨d.val - 512, by omega⟩).trans (congrArg (fun k => (args m c).P (ix2 (tok t r) k)) (Fin.ext (by simp only []; omega)))

theorem wide_a (c : Dev nD) (t : Fin cfg0.N) (r : Fin 512) (d : Fin 1024) :
    wide (iblk m c 7 t) (iblk m c 8 t) r d = (args m c).P (ix2 (tok t r) ⟨5632 + d.val, by omega⟩) := by
  unfold wide
  split_ifs with h
  · exact read_7 m c t r ⟨d.val, h⟩
  · exact (read_8 m c t r ⟨d.val - 512, by omega⟩).trans (congrArg (fun k => (args m c).P (ix2 (tok t r) k)) (Fin.ext (by simp only []; omega)))

/-- The body's gated convolution, as it stands in the body's later terms. -/
abbrev bodyGc (c : Dev nD) (t : Fin cfg0.N) : FVec Ideal S512x1024 .bf16 :=
  k0_pay10 (F := Ideal) (k0_pay5 (X0_1 m c t) (X0_2 m c t)) (k0_pay8 (grid0.coords t) (X0_1 m c t) (X0_2 m c t) (X0_3 m c t) (X0_4 m c t))
    (k0_pay9 (grid0.coords t) (X0_1 m c t) (X0_2 m c t) (X0_3 m c t) (X0_4 m c t))
    (View.ld (Val := Elt Ideal) (iblk m c 13 t) (Rect.unit ![0, 0] ![1, 1024] inb_S8x1024_S1x1024_0_0))
    (View.ld (Val := Elt Ideal) (iblk m c 13 t) (Rect.unit ![1, 0] ![1, 1024] inb_S8x1024_S1x1024_1_0))
    (View.ld (Val := Elt Ideal) (iblk m c 13 t) (Rect.unit ![2, 0] ![1, 1024] inb_S8x1024_S1x1024_2_0)) (X0_0 m c t)

/-- The body's convolution branch. -/
abbrev bodyYc (c : Dev nD) (t : Fin cfg0.N) : FVec Ideal S512x1024 .f32 :=
  k0_pay11 (F := Ideal) (k0_pay5 (X0_1 m c t) (X0_2 m c t)) (k0_pay8 (grid0.coords t) (X0_1 m c t) (X0_2 m c t) (X0_3 m c t) (X0_4 m c t))
    (k0_pay9 (grid0.coords t) (X0_1 m c t) (X0_2 m c t) (X0_3 m c t) (X0_4 m c t))
    (View.ld (Val := Elt Ideal) (iblk m c 13 t) (Rect.unit ![0, 0] ![1, 1024] inb_S8x1024_S1x1024_0_0))
    (View.ld (Val := Elt Ideal) (iblk m c 13 t) (Rect.unit ![1, 0] ![1, 1024] inb_S8x1024_S1x1024_1_0))
    (View.ld (Val := Elt Ideal) (iblk m c 13 t) (Rect.unit ![2, 0] ![1, 1024] inb_S8x1024_S1x1024_2_0)) (X0_0 m c t) (iblk m c 10 t)

theorem body_gc (c : Dev nD) (t : Fin cfg0.N) (r : Fin 512) (d : Fin 1024) : bodyGc m c t (ix2 r d) = gc (args m c) (tok t r) d := by
  rw [bodyGc, gc_at (input_at m c t), (row_w m c t d).1, (row_w m c t d).2.1, (row_w m c t d).2.2, read_0, at_coord]
  rfl

theorem body_yc (c : Dev nD) (t : Fin cfg0.N) (r : Fin 512) (d : Fin 1024) : bodyYc m c t (ix2 r d) = yc (args m c) (tok t r) d := by
  rw [bodyYc, yc_at]
  exact Finset.sum_congr rfl fun k _ => congrArg₂ (· * ·) (body_gc m c t r k) (read_10 m c t k d)

theorem body_ya (c : Dev nD) (t : Fin cfg0.N) (r : Fin 512) (d : Fin 1024) :
    k0_pay12 (F := Ideal) (iblk m c 9 t) (iblk m c 11 t) (ix2 r d) = ya (args m c) (tok t r) d := by
  rw [ya_at]
  exact Finset.sum_congr rfl fun k _ => congrArg₂ (· * ·) (read_9 m c t r k) (read_11 m c t k d)

theorem body_mg (c : Dev nD) (t : Fin cfg0.N) (r : Fin 512) (d : Fin 1024) :
    k0_pay1 (F := Ideal) (bodyYc m c t) (k0_pay12 (F := Ideal) (iblk m c 9 t) (iblk m c 11 t)) (k0_pay15 (iblk m c 5 t) (iblk m c 6 t))
      (iblk m c 7 t) (iblk m c 8 t) (ix2 r d) = mg (args m c) (tok t r) d := by
  rw [mg_at, wide_c, wide_a, body_yc, body_ya]
  rfl

theorem body_op (c : Dev nD) (t : Fin cfg0.N) (r : Fin 512) (d : Fin 1024) :
    k0_pay2 (F := Ideal) (bodyYc m c t) (k0_pay12 (F := Ideal) (iblk m c 9 t) (iblk m c 11 t)) (k0_pay15 (iblk m c 5 t) (iblk m c 6 t))
      (iblk m c 7 t) (iblk m c 8 t) (iblk m c 12 t) (ix2 r d) = op (args m c) (tok t r) d := by
  rw [op_at]
  exact Finset.sum_congr rfl fun k _ => congrArg₂ (· * ·) (body_mg m c t r k) (read_12 m c t k d)

/-- What a point writes to its six blocks. -/
theorem block16 (c : Dev nD) (t : Fin cfg0.N) (r : Fin 512) (d : Fin 1024) : (outsAt0 m c t).1 (ix2 r d) = st (args m c) (tok t r) d := by
  unfold outsAt0 out0_A_16
  frame_out
  exact (st_at r d).trans (congrArg₂ (· + ·) (read_14 m c t r d) (congrArg₂ (· * ·) (read_15 m c t d) (body_op m c t r d)))

theorem block17 (c : Dev nD) (t : Fin cfg0.N) (r : Fin 512) (d : Fin 1024) : (outsAt0 m c t).2.1 (ix2 r d) = gc (args m c) (tok t r) d := by
  unfold outsAt0 out0_A_17
  frame_out
  exact body_gc m c t r d

theorem block18 (c : Dev nD) (t : Fin cfg0.N) (r : Fin 512) (d : Fin 1024) : (outsAt0 m c t).2.2.1 (ix2 r d) = yc (args m c) (tok t r) d := by
  unfold outsAt0 out0_A_18
  frame_out
  exact (yc_copy r d).trans (body_yc m c t r d)

theorem block19 (c : Dev nD) (t : Fin cfg0.N) (r : Fin 512) (d : Fin 1024) : (outsAt0 m c t).2.2.2.1 (ix2 r d) = ya (args m c) (tok t r) d := by
  unfold outsAt0 out0_A_19
  frame_out
  exact (ya_copy r d).trans (body_ya m c t r d)

theorem block20 (c : Dev nD) (t : Fin cfg0.N) (r : Fin 512) (d : Fin 1024) : (outsAt0 m c t).2.2.2.2.1 (ix2 r d) = mg (args m c) (tok t r) d := by
  unfold outsAt0 out0_A_20
  frame_out
  exact body_mg m c t r d

theorem block21 (c : Dev nD) (t : Fin cfg0.N) (r : Fin 512) (d : Fin 1024) : (outsAt0 m c t).2.2.2.2.2 (ix2 r d) = op (args m c) (tok t r) d := by
  unfold outsAt0 out0_A_21
  frame_out
  exact (op_copy r d).trans (body_op m c t r d)

/-! The six result arrays. -/

theorem final16 (c : Dev nD) : (dats m 0 c).arrAt 16 (cfgs 0).N = rows (st (args m c)) := by
  refine (dats m 0 c).arrAt_eq_of_covers 16 _ (by decide +kernel) fun t hf y => ?_
  blk_simp
  rw [after0_16]
  obtain ⟨r, d, rfl⟩ : ∃ (r : Fin 512) (d : Fin 1024), y = ix2 r d := ⟨y 0, y 1, (ix2_eta y).symm⟩
  refine (block16 m c t r d).trans ?_
  show rows (st (args m c)) (ix2 (tok t r) d) = _
  congr 1
  unfold tok
  blk_ext [at_c t]

theorem final17 (c : Dev nD) : (dats m 0 c).arrAt 17 (cfgs 0).N = rows (gc (args m c)) := by
  refine (dats m 0 c).arrAt_eq_of_covers 17 _ (by decide +kernel) fun t hf y => ?_
  blk_simp
  rw [after0_17]
  obtain ⟨r, d, rfl⟩ : ∃ (r : Fin 512) (d : Fin 1024), y = ix2 r d := ⟨y 0, y 1, (ix2_eta y).symm⟩
  refine (block17 m c t r d).trans ?_
  show rows (gc (args m c)) (ix2 (tok t r) d) = _
  congr 1
  unfold tok
  blk_ext [at_c t]

theorem final18 (c : Dev nD) : (dats m 0 c).arrAt 18 (cfgs 0).N = rows (yc (args m c)) := by
  refine (dats m 0 c).arrAt_eq_of_covers 18 _ (by decide +kernel) fun t hf y => ?_
  blk_simp
  rw [after0_18]
  obtain ⟨r, d, rfl⟩ : ∃ (r : Fin 512) (d : Fin 1024), y = ix2 r d := ⟨y 0, y 1, (ix2_eta y).symm⟩
  refine (block18 m c t r d).trans ?_
  show rows (yc (args m c)) (ix2 (tok t r) d) = _
  congr 1
  unfold tok
  blk_ext [at_c t]

theorem final19 (c : Dev nD) : (dats m 0 c).arrAt 19 (cfgs 0).N = rows (ya (args m c)) := by
  refine (dats m 0 c).arrAt_eq_of_covers 19 _ (by decide +kernel) fun t hf y => ?_
  blk_simp
  rw [after0_19]
  obtain ⟨r, d, rfl⟩ : ∃ (r : Fin 512) (d : Fin 1024), y = ix2 r d := ⟨y 0, y 1, (ix2_eta y).symm⟩
  refine (block19 m c t r d).trans ?_
  show rows (ya (args m c)) (ix2 (tok t r) d) = _
  congr 1
  unfold tok
  blk_ext [at_c t]

theorem final20 (c : Dev nD) : (dats m 0 c).arrAt 20 (cfgs 0).N = rows (mg (args m c)) := by
  refine (dats m 0 c).arrAt_eq_of_covers 20 _ (by decide +kernel) fun t hf y => ?_
  blk_simp
  rw [after0_20]
  obtain ⟨r, d, rfl⟩ : ∃ (r : Fin 512) (d : Fin 1024), y = ix2 r d := ⟨y 0, y 1, (ix2_eta y).symm⟩
  refine (block20 m c t r d).trans ?_
  show rows (mg (args m c)) (ix2 (tok t r) d) = _
  congr 1
  unfold tok
  blk_ext [at_c t]

theorem final21 (c : Dev nD) : (dats m 0 c).arrAt 21 (cfgs 0).N = rows (op (args m c)) := by
  refine (dats m 0 c).arrAt_eq_of_covers 21 _ (by decide +kernel) fun t hf y => ?_
  blk_simp
  rw [after0_21]
  obtain ⟨r, d, rfl⟩ : ∃ (r : Fin 512) (d : Fin 1024), y = ix2 r d := ⟨y 0, y 1, (ix2_eta y).symm⟩
  refine (block21 m c t r d).trans ?_
  show rows (op (args m c)) (ix2 (tok t r) d) = _
  congr 1
  unfold tok
  blk_ext [at_c t]

end Kernel

section Reference

open Cert.Reference12Ideal.Read

variable (a : Args)

/-- The plain lines' input of the convolution. -/
theorem ref_in (t : Fin 8192) (d : Fin 1024) : val_main_v4 (F := Ideal) a.P (ix2 t d) = cu a.P t.val d := by
  obtain ⟨t, ht⟩ := t
  pointwise [val_main_v4, val_main_v3, val_main_v2, val_main_v0, cu]
  simp only [dif_pos ht]
  first | done | congr 3 <;> exact congrArg _ (Fin.ext (by first | omega | (simp; omega)))

/-- The padded input read from the first row: the input two positions back. -/
theorem ref_two (t : Fin 8192) (d : Fin 1024) : val_main_v7 (F := Ideal) a.P (ix2 t d) = cuBack a.P 2 t.val d := by
  pointwise [val_main_v7, val_main_v6, val_main_v5, val_main_cst, cuBack]
  split_ifs <;> first | rfl | (exfalso; omega) | exact ref_in a _ d

/-- Read from the second row: the input one position back. -/
theorem ref_one (t : Fin 8192) (d : Fin 1024) : val_main_v13 (F := Ideal) a.P (ix2 t d) = cuBack a.P 1 t.val d := by
  pointwise [val_main_v13, val_main_v6, val_main_v5, val_main_cst, cuBack]
  by_cases h : t.val < 1
  · simp only [dif_pos (show 1 + t.val < 2 by omega), if_pos h]
  · simp only [dif_neg (show ¬ 1 + t.val < 2 by omega), if_neg h]
    exact (ref_in a _ d).trans (congrArg (cu a.P · d) (by dsimp only; omega))

/-- Read from the third row: the input itself. -/
theorem ref_zero (t : Fin 8192) (d : Fin 1024) : val_main_v20 (F := Ideal) a.P (ix2 t d) = cuBack a.P 0 t.val d := by
  pointwise [val_main_v20, val_main_v6, val_main_v5, val_main_cst, cuBack]
  exact (ref_in a _ d).trans (congrArg (cu a.P · d) (by dsimp only))

/-- The plain lines' convolution. -/
theorem ref_cv (t : Fin 8192) (d : Fin 1024) : val_main_v26 (F := Ideal) a.P a.W (ix2 t d) = cv a t d := by
  unfold cv
  rw [← ref_zero, ← ref_one, ← ref_two]
  pointwise [val_main_v26, val_main_v25, val_main_v24, val_main_v23, val_main_v22, val_main_v21, val_main_v19, val_main_v18, val_main_v17, val_main_v16, val_main_v15, val_main_v14, val_main_v12, val_main_v11, val_main_v10, val_main_v9, val_main_v8]
  simp only [mul_comm]

/-- The plain lines' gated convolution. -/
theorem ref_gc (t : Fin 8192) (d : Fin 1024) : val_main_v27 (F := Ideal) a.P a.W (ix2 t d) = gc a t d := by
  rw [gc, ← ref_cv]
  pointwise [val_main_v27, val_main_v1, val_main_v0]

/-- The plain lines' convolution branch. -/
theorem ref_yc (t : Fin 8192) (d : Fin 1024) : val_main_v29 (F := Ideal) a.P a.C a.W (ix2 t d) = yc a t d := by
  pointwise [val_main_v29, val_main_v28]
  simp only [ref_gc]
  rfl

/-- The plain lines' attention branch. -/
theorem ref_ya (t : Fin 8192) (d : Fin 1024) : val_main_v32 (F := Ideal) a.A a.B (ix2 t d) = ya a t d := by
  pointwise [val_main_v32, val_main_v31, val_main_v30]
  rfl

/-- The plain lines' gated sum. -/
theorem ref_mg (t : Fin 8192) (d : Fin 1024) : val_main_v49 (F := Ideal) a.P a.A a.C a.B a.W (ix2 t d) = mg a t d := by
  rw [mg, ← gate_eq, ← gate_eq, ← ref_yc, ← ref_ya]
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v0, val_main_cst_0, val_main_cst_1, val_main_cst_2, val_main_cst_3]

/-- The plain lines' output projection. -/
theorem ref_op (t : Fin 8192) (d : Fin 1024) : val_main_v51 (F := Ideal) a.P a.A a.C a.B a.O a.W (ix2 t d) = op a t d := by
  pointwise [val_main_v51, val_main_v50]
  simp only [ref_mg]
  rfl

/-! The six results of the plain lines. -/

theorem ref_0 : val_main_v54 (F := Ideal) a.P a.A a.C a.B a.O a.W a.X a.G = rows (st a) := by
  funext i
  obtain ⟨t, d, rfl⟩ : ∃ (t : Fin 8192) (d : Fin 1024), i = ix2 t d := ⟨i 0, i 1, (ix2_eta i).symm⟩
  show _ = st a t d
  rw [st, ← ref_op]
  pointwise [val_main_v54, val_main_v53, val_main_v52]

theorem ref_1 : val_main_v55 (F := Ideal) a.P a.W = rows (gc a) := by
  funext i
  obtain ⟨t, d, rfl⟩ : ∃ (t : Fin 8192) (d : Fin 1024), i = ix2 t d := ⟨i 0, i 1, (ix2_eta i).symm⟩
  exact ref_gc a t d

theorem ref_2 : val_main_v56 (F := Ideal) a.P a.C a.W = rows (yc a) := by
  funext i
  obtain ⟨t, d, rfl⟩ : ∃ (t : Fin 8192) (d : Fin 1024), i = ix2 t d := ⟨i 0, i 1, (ix2_eta i).symm⟩
  exact ref_yc a t d

theorem ref_3 : val_main_v57 (F := Ideal) a.A a.B = rows (ya a) := by
  funext i
  obtain ⟨t, d, rfl⟩ : ∃ (t : Fin 8192) (d : Fin 1024), i = ix2 t d := ⟨i 0, i 1, (ix2_eta i).symm⟩
  exact ref_ya a t d

theorem ref_4 : val_main_v58 (F := Ideal) a.P a.A a.C a.B a.W = rows (mg a) := by
  funext i
  obtain ⟨t, d, rfl⟩ : ∃ (t : Fin 8192) (d : Fin 1024), i = ix2 t d := ⟨i 0, i 1, (ix2_eta i).symm⟩
  exact ref_mg a t d

theorem ref_5 : val_main_v59 (F := Ideal) a.P a.A a.C a.B a.O a.W = rows (op a) := by
  funext i
  obtain ⟨t, d, rfl⟩ : ∃ (t : Fin 8192) (d : Fin 1024), i = ix2 t d := ⟨i 0, i 1, (ix2_eta i).symm⟩
  exact ref_op a t d

open Cert.Reference12Ideal in
/-- The plain lines' arguments on a device. -/
def rargs (m' : (ℓ : Loc nD τ sig) → Buf (Elt Ideal) ℓ) (c : Dev nD) : Args :=
  ⟨m' ((c : Thread nD τ).loc main_arg0), m' ((c : Thread nD τ).loc main_arg1), m' ((c : Thread nD τ).loc main_arg2),
   m' ((c : Thread nD τ).loc main_arg3), m' ((c : Thread nD τ).loc main_arg4), m' ((c : Thread nD τ).loc main_arg5),
   m' ((c : Thread nD τ).loc main_arg6), m' ((c : Thread nD τ).loc main_arg7)⟩

end Reference

set_option maxHeartbeats 1000000 in
/-- The tiled kernel and the plain forward lines, on the same arguments, leave the same six results. -/
theorem pair : algebraic_Kernel12Ideal_Reference12Ideal := by
  intro m g m' g' hpre hagree
  refine ⟨fun c => rows (st (args m c)), fun c => rows (gc (args m c)), fun c => rows (yc (args m c)), fun c => rows (ya (args m c)), fun c => rows (mg (args m c)), fun c => rows (op (args m c)), ?_, ?_⟩
  · refine θ_run_mono (θ_run_and (Cert.Kernel12Ideal.Gen.run_main m g) (Cert.Kernel12Ideal.Gen.unchanged m g)) ?_
    rintro r ⟨hr, hu⟩ c
    exact ⟨((hr c).1 16).trans (final16 m c), ((hr c).1 17).trans (final17 m c), ((hr c).1 18).trans (final18 m c), ((hr c).1 19).trans (final19 m c), ((hr c).1 20).trans (final20 m c), ((hr c).1 21).trans (final21 m c), hu c⟩
  · refine θ_run_mono (Cert.Reference12Ideal.Value.run m' g') ?_
    intro r hr c
    obtain ⟨h0, h1, h2, h3, h4, h5, rest⟩ := hr c
    obtain ⟨e0, e1, e2, e3, e4, e5, e6, e7⟩ := hagree c
    have e : rargs m' c = args m c := by
      unfold rargs args
      rw [e0, e1, e2, e3, e4, e5, e6, e7]
    refine ⟨h0.trans ?_, h1.trans ?_, h2.trans ?_, h3.trans ?_, h4.trans ?_, h5.trans ?_, rest⟩
    · exact (Cert.Reference12Ideal.Read.val_main_v54_eq (F := Ideal) m' c).trans ((ref_0 (rargs m' c)).trans (congrArg (fun a => rows (st a)) e))
    · exact (Cert.Reference12Ideal.Read.val_main_v55_eq (F := Ideal) _ _).trans ((ref_1 (rargs m' c)).trans (congrArg (fun a => rows (gc a)) e))
    · exact (Cert.Reference12Ideal.Read.val_main_v56_eq (F := Ideal) _ _ _).trans ((ref_2 (rargs m' c)).trans (congrArg (fun a => rows (yc a)) e))
    · exact (Cert.Reference12Ideal.Read.val_main_v57_eq (F := Ideal) _ _).trans ((ref_3 (rargs m' c)).trans (congrArg (fun a => rows (ya a)) e))
    · exact (Cert.Reference12Ideal.Read.val_main_v58_eq (F := Ideal) _ _ _ _ _).trans ((ref_4 (rargs m' c)).trans (congrArg (fun a => rows (mg a)) e))
    · exact (Cert.Reference12Ideal.Read.val_main_v59_eq (F := Ideal) _ _ _ _ _ _).trans ((ref_5 (rargs m' c)).trans (congrArg (fun a => rows (op a)) e))

end Cert.MixMidFwd
end
-- ==== Proof.AdamSmallBits.lean ====
/- The frame of the small parameters' step at the machine's own floats: the two programs are the same text. -/
module

public import proofs.«01_k».proof.Defs
public import proofs.«01_k».proof.Proof.AdamSmallRun
public import proofs.«01_k».proof.Proof.Gen.Kernel21
public import Idealize.ShloMosaic.Lib.Claim

@[expose] public section

set_option maxRecDepth 16384

noncomputable section

open Idealize.ShloMosaic Idealize.ShloMosaic.TcCoe Idealize.SL.Sem

namespace Cert.AdamSmall

set_option maxHeartbeats 40000000 in
/-- The two bodies are one text. -/
theorem body_eq : Cert.Kernel21Ideal.cc0_adam_small (F := Bits) = Cert.Kernel21.cc0_adam_small := rfl

set_option maxHeartbeats 40000000 in
/-- The two tables of bodies agree, label by label. -/
theorem bodies : Cert.Kernel21Ideal.defs₀ (F := Bits) = Cert.Kernel21.defs₀ := by
  unfold Cert.Kernel21Ideal.defs₀ Cert.Kernel21.defs₀
  refine congrArg Defs.onTc ?_
  funext l a
  match l, a with
  | 0, (t, s) => rfl

set_option maxHeartbeats 40000000 in
/-- The frame at the machine's own floats. -/
theorem frame_bits : Cert.quiescent_Kernel21 := by
  intro m ρ _
  have h := frame (F := Bits) m ρ
  unfold Cert.Kernel21Ideal.defs at h
  rw [bodies] at h
  exact h

end Cert.AdamSmall
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21
public import proofs.«01_k».proof.Proof.Gen.Kernel21Ideal
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.ConvBwd
public import proofs.«01_k».proof.Proof.UpDx
public import proofs.«01_k».proof.Proof.MixInDx
public import proofs.«01_k».proof.Proof.UpDw
public import proofs.«01_k».proof.Proof.MixInDw
public import proofs.«01_k».proof.Proof.MixOutDw
public import proofs.«01_k».proof.Proof.UpFwd
public import proofs.«01_k».proof.Proof.DownFwd
public import proofs.«01_k».proof.Proof.AdamUp
public import proofs.«01_k».proof.Proof.AdamDown
public import proofs.«01_k».proof.Proof.AdamIn
public import proofs.«01_k».proof.Proof.AdamOut
public import proofs.«01_k».proof.Proof.AdamAda
public import proofs.«01_k».proof.Proof.FinalFfn
public import proofs.«01_k».proof.Proof.MixInFwd
public import proofs.«01_k».proof.Proof.SumSmall
public import proofs.«01_k».proof.Proof.AdamSmallPair
public import proofs.«01_k».proof.Proof.AdaGrad
public import proofs.«01_k».proof.Proof.AdaMods
public import proofs.«01_k».proof.Proof.MixMidFwd
public import proofs.«01_k».proof.Proof.AdamSmallBits
public import proofs.«01_k».proof.Proof.Gen.ReferenceIdeal.Read
public import proofs.«01_k».proof.Proof.Gen.Reference2Ideal.Read
public import proofs.«01_k».proof.Proof.Gen.Reference5Ideal.Read
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference12Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Gen.Reference20Ideal.Read
public import proofs.«01_k».proof.Proof.Gen.Reference21Ideal.Read
public import proofs.«01_k».proof.Proof.Gen.Reference22Ideal.Read
public import proofs.«01_k».proof.Proof.Gen.Reference23Ideal.Read
public import Idealize.ShloMosaic.Adequacy
public import Idealize.ShloMosaic.Init
public import Idealize.ShloMosaic.Lib.Quiescent

@[expose] public section

noncomputable section

namespace Cert.Proof

open Idealize.ShloMosaic Idealize.SL.Sem

/-- The plain reference 1 ends with its arguments unchanged and no semaphore held. -/
theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The plain reference 2 ends with its arguments unchanged and no semaphore held. -/
theorem quiescent_Reference2Ideal : quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The plain reference 5 ends with its arguments unchanged and no semaphore held. -/
theorem quiescent_Reference5Ideal : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The plain reference 4 ends with its arguments unchanged and no semaphore held. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The plain reference 6 ends with its arguments unchanged and no semaphore held. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The plain reference 7 ends with its arguments unchanged and no semaphore held. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The plain reference 8 ends with its arguments unchanged and no semaphore held. -/
theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The plain reference 9 ends with its arguments unchanged and no semaphore held. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The plain reference 14 ends with its arguments unchanged and no semaphore held. -/
theorem quiescent_Reference14Ideal : quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The plain reference 15 ends with its arguments unchanged and no semaphore held. -/
theorem quiescent_Reference15Ideal : quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The plain reference 16 ends with its arguments unchanged and no semaphore held. -/
theorem quiescent_Reference16Ideal : quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The plain reference 17 ends with its arguments unchanged and no semaphore held. -/
theorem quiescent_Reference17Ideal : quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The plain reference 18 ends with its arguments unchanged and no semaphore held. -/
theorem quiescent_Reference18Ideal : quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The plain reference 10 ends with its arguments unchanged and no semaphore held. -/
theorem quiescent_Reference10Ideal : quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

/-- The plain reference 19 ends with its arguments unchanged and no semaphore held. -/
theorem quiescent_Reference19Ideal : quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The plain reference 20 ends with its arguments unchanged and no semaphore held. -/
theorem quiescent_Reference20Ideal : quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- The plain reference 21 ends with its arguments unchanged and no semaphore held. -/
theorem quiescent_Reference21Ideal : quiescent_Reference21Ideal := fun m ρ _ =>
  (θ_run Cert.Reference21Ideal.defs _ _).mono (fun r h => ⟨fun c => (h c).2.2.2.2.2.2.2.2.2.2.2.2.2.2.2.2.2.2.2.2.2.2.2.2.2.2.2.2, sem_eq_zero_of_no_sems (by decide) r.2⟩)
    (Cert.Reference21Ideal.Value.run (F := Ideal) m ρ)

/-- The plain reference 22 ends with its arguments unchanged and no semaphore held. -/
theorem quiescent_Reference22Ideal : quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- The plain reference 23 ends with its arguments unchanged and no semaphore held. -/
theorem quiescent_Reference23Ideal : quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The plain reference 12 ends with its arguments unchanged and no semaphore held. -/
theorem quiescent_Reference12Ideal : quiescent_Reference12Ideal := fun m ρ _ =>
  (θ_run Cert.Reference12Ideal.defs _ _).mono (fun r h => ⟨fun c => (h c).2.2.2.2.2.2, sem_eq_zero_of_no_sems (by decide) r.2⟩)
    (Cert.Reference12Ideal.Value.run (F := Ideal) m ρ)

/-- Everything claimed. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel5.Gen.facts,
  Cert.Kernel5Ideal.Gen.facts,
  Cert.Reference5Ideal.Gen.facts,
  Cert.Kernel4.Gen.facts,
  Cert.Kernel4Ideal.Gen.facts,
  Cert.Reference4Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel10.Gen.facts,
  Cert.Kernel10Ideal.Gen.facts,
  Cert.Reference10Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel12.Gen.facts,
  Cert.Kernel12Ideal.Gen.facts,
  Cert.Reference12Ideal.Gen.facts,
  fun m ρ _ => Cert.Kernel.Gen.frame m ρ,
  fun m ρ _ => Cert.KernelIdeal.Gen.frame m ρ,
  quiescent_ReferenceIdeal,
  fun m ρ _ => Cert.Kernel2.Gen.frame m ρ,
  fun m ρ _ => Cert.Kernel2Ideal.Gen.frame m ρ,
  quiescent_Reference2Ideal,
  fun m ρ _ => Cert.Kernel5.Gen.frame m ρ,
  fun m ρ _ => Cert.Kernel5Ideal.Gen.frame m ρ,
  quiescent_Reference5Ideal,
  fun m ρ _ => Cert.Kernel4.Gen.frame m ρ,
  fun m ρ _ => Cert.Kernel4Ideal.Gen.frame m ρ,
  quiescent_Reference4Ideal,
  fun m ρ _ => Cert.Kernel6.Gen.frame m ρ,
  fun m ρ _ => Cert.Kernel6Ideal.Gen.frame m ρ,
  quiescent_Reference6Ideal,
  fun m ρ _ => Cert.Kernel7.Gen.frame m ρ,
  fun m ρ _ => Cert.Kernel7Ideal.Gen.frame m ρ,
  quiescent_Reference7Ideal,
  fun m ρ _ => Cert.Kernel8.Gen.frame m ρ,
  fun m ρ _ => Cert.Kernel8Ideal.Gen.frame m ρ,
  quiescent_Reference8Ideal,
  fun m ρ _ => Cert.Kernel9.Gen.frame m ρ,
  fun m ρ _ => Cert.Kernel9Ideal.Gen.frame m ρ,
  quiescent_Reference9Ideal,
  fun m ρ _ => Cert.Kernel14.Gen.frame m ρ,
  fun m ρ _ => Cert.Kernel14Ideal.Gen.frame m ρ,
  quiescent_Reference14Ideal,
  fun m ρ _ => Cert.Kernel15.Gen.frame m ρ,
  fun m ρ _ => Cert.Kernel15Ideal.Gen.frame m ρ,
  quiescent_Reference15Ideal,
  fun m ρ _ => Cert.Kernel16.Gen.frame m ρ,
  fun m ρ _ => Cert.Kernel16Ideal.Gen.frame m ρ,
  quiescent_Reference16Ideal,
  fun m ρ _ => Cert.Kernel17.Gen.frame m ρ,
  fun m ρ _ => Cert.Kernel17Ideal.Gen.frame m ρ,
  quiescent_Reference17Ideal,
  fun m ρ _ => Cert.Kernel18.Gen.frame m ρ,
  fun m ρ _ => Cert.Kernel18Ideal.Gen.frame m ρ,
  quiescent_Reference18Ideal,
  fun m ρ _ => Cert.Kernel10.Gen.frame m ρ,
  fun m ρ _ => Cert.Kernel10Ideal.Gen.frame m ρ,
  quiescent_Reference10Ideal,
  fun m ρ _ => Cert.Kernel19.Gen.frame m ρ,
  fun m ρ _ => Cert.Kernel19Ideal.Gen.frame m ρ,
  quiescent_Reference19Ideal,
  fun m ρ _ => Cert.Kernel20.Gen.frame m ρ,
  fun m ρ _ => Cert.Kernel20Ideal.Gen.frame m ρ,
  quiescent_Reference20Ideal,
  Cert.AdamSmall.frame_bits,
  fun m ρ _ => Cert.AdamSmall.frame m ρ,
  quiescent_Reference21Ideal,
  fun m ρ _ => Cert.Kernel22.Gen.frame m ρ,
  fun m ρ _ => Cert.Kernel22Ideal.Gen.frame m ρ,
  quiescent_Reference22Ideal,
  fun m ρ _ => Cert.Kernel23.Gen.frame m ρ,
  fun m ρ _ => Cert.Kernel23Ideal.Gen.frame m ρ,
  quiescent_Reference23Ideal,
  fun m ρ _ => Cert.Kernel12.Gen.frame m ρ,
  fun m ρ _ => Cert.Kernel12Ideal.Gen.frame m ρ,
  quiescent_Reference12Ideal,
  (trivial : preserves_Kernel_KernelIdeal),
  Cert.ConvBwd.pair,
  (trivial : preserves_Kernel2_Kernel2Ideal),
  Cert.UpDx.pair,
  (trivial : preserves_Kernel5_Kernel5Ideal),
  Cert.MixInDx.pair,
  (trivial : preserves_Kernel4_Kernel4Ideal),
  Cert.UpDw.pair,
  (trivial : preserves_Kernel6_Kernel6Ideal),
  Cert.MixInDw.pair,
  (trivial : preserves_Kernel7_Kernel7Ideal),
  Cert.MixOutDw.pair,
  (trivial : preserves_Kernel8_Kernel8Ideal),
  Cert.UpFwd.pair,
  (trivial : preserves_Kernel9_Kernel9Ideal),
  Cert.DownFwd.pair,
  (trivial : preserves_Kernel14_Kernel14Ideal),
  Cert.AdamUp.pair,
  (trivial : preserves_Kernel15_Kernel15Ideal),
  Cert.AdamDown.pair,
  (trivial : preserves_Kernel16_Kernel16Ideal),
  Cert.AdamIn.pair,
  (trivial : preserves_Kernel17_Kernel17Ideal),
  Cert.AdamOut.pair,
  (trivial : preserves_Kernel18_Kernel18Ideal),
  Cert.AdamAda.pair,
  (trivial : preserves_Kernel10_Kernel10Ideal),
  Cert.FinalFfn.pair,
  (trivial : preserves_Kernel19_Kernel19Ideal),
  Cert.MixInFwd.pair,
  (trivial : preserves_Kernel20_Kernel20Ideal),
  Cert.SumSmall.pair,
  (trivial : preserves_Kernel21_Kernel21Ideal),
  Cert.AdamSmall.pair,
  (trivial : preserves_Kernel22_Kernel22Ideal),
  Cert.AdaGrad.pair,
  (trivial : preserves_Kernel23_Kernel23Ideal),
  Cert.AdaMods.pair,
  (trivial : preserves_Kernel12_Kernel12Ideal),
  Cert.MixMidFwd.pair⟩

end Cert.Proof

end
